-- ==== Defs.lean ====
def Pre_Kernel [hPre_args_ok : Cert.Pre_args_ok.Facts] (m : (ℓ : Loc Cert.Kernel.nD Cert.Kernel.τ Cert.Kernel.sig) → Buf (Elt Bits) ℓ) : Prop :=
  ∀ c : Dev Cert.Kernel.nD,
    (Cert.Pre_args_ok.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_args_ok : Cert.Pre_args_ok.Facts] (m : (ℓ : Loc Cert.KernelIdeal.nD Cert.KernelIdeal.τ Cert.KernelIdeal.sig) → Buf (Elt Ideal) ℓ) : Prop :=
  ∀ c : Dev Cert.KernelIdeal.nD,
    (Cert.Pre_args_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_args_ok [hPre_args_ok : Cert.Pre_args_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_args_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Squares (m : (ℓ : Loc Cert.Squares.nD Cert.Squares.τ Cert.Squares.sig) → Buf (Elt Bits) ℓ) : Prop :=
  True

def Pre_SquaresIdeal (m : (ℓ : Loc Cert.SquaresIdeal.nD Cert.SquaresIdeal.τ Cert.SquaresIdeal.sig) → Buf (Elt Ideal) ℓ) : Prop :=
  True

def Pre_SquaresReferenceIdeal (m : (ℓ : Loc Cert.SquaresReferenceIdeal.nD Cert.SquaresReferenceIdeal.τ Cert.SquaresReferenceIdeal.sig) → Buf (Elt Ideal) ℓ) : Prop :=
  True

def Pre_SquaresSampled (m : (ℓ : Loc Cert.SquaresSampled.nD Cert.SquaresSampled.τ Cert.SquaresSampled.sig) → Buf (Elt Bits) ℓ) : Prop :=
  True

def Pre_SquaresSampledIdeal (m : (ℓ : Loc Cert.SquaresSampledIdeal.nD Cert.SquaresSampledIdeal.τ Cert.SquaresSampledIdeal.sig) → Buf (Elt Ideal) ℓ) : Prop :=
  True

def Pre_SquaresSampledReferenceIdeal (m : (ℓ : Loc Cert.SquaresSampledReferenceIdeal.nD Cert.SquaresSampledReferenceIdeal.τ Cert.SquaresSampledReferenceIdeal.sig) → Buf (Elt Ideal) ℓ) : Prop :=
  True

def Pre_Distances (m : (ℓ : Loc Cert.Distances.nD Cert.Distances.τ Cert.Distances.sig) → Buf (Elt Bits) ℓ) : Prop :=
  True

def Pre_DistancesIdeal (m : (ℓ : Loc Cert.DistancesIdeal.nD Cert.DistancesIdeal.τ Cert.DistancesIdeal.sig) → Buf (Elt Ideal) ℓ) : Prop :=
  True

def Pre_DistancesReferenceIdeal (m : (ℓ : Loc Cert.DistancesReferenceIdeal.nD Cert.DistancesReferenceIdeal.τ Cert.DistancesReferenceIdeal.sig) → Buf (Elt Ideal) ℓ) : Prop :=
  True

def quiescent_Kernel [hKernel : Cert.Kernel.Facts] [hPre_args_ok : Cert.Pre_args_ok.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_args_ok : Cert.Pre_args_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_args_ok [hReferenceIdeal : Cert.ReferenceIdeal.Facts] [hPre_args_ok : Cert.Pre_args_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_args_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Squares [hSquares : Cert.Squares.Facts] : Prop :=
  ∀ (m : (ℓ : Loc Cert.Squares.nD Cert.Squares.τ Cert.Squares.sig) → Buf (Elt Bits) ℓ) (g : Dev Cert.Squares.nD → PrngReg), Pre_Squares m →
    θ_run (Cert.Squares.defs (F := Bits)) (onTc (τ := Cert.Squares.τ) (Cert.Squares.main (F := Bits))) ⟨m, fun _ => 0, g⟩ (fun r => (∀ c : Dev Cert.Squares.nD,
      r.2.mem ((c.tc : Thread Cert.Squares.nD Cert.Squares.τ).loc Cert.Squares.main_arg0) = m ((c.tc : Thread Cert.Squares.nD Cert.Squares.τ).loc Cert.Squares.main_arg0))
      ∧ r.2.sem = fun _ => 0)

def quiescent_SquaresIdeal [hSquaresIdeal : Cert.SquaresIdeal.Facts] : Prop :=
  ∀ (m : (ℓ : Loc Cert.SquaresIdeal.nD Cert.SquaresIdeal.τ Cert.SquaresIdeal.sig) → Buf (Elt Ideal) ℓ) (g : Dev Cert.SquaresIdeal.nD → PrngReg), Pre_SquaresIdeal m →
    θ_run (Cert.SquaresIdeal.defs (F := Ideal)) (onTc (τ := Cert.SquaresIdeal.τ) (Cert.SquaresIdeal.main (F := Ideal))) ⟨m, fun _ => 0, g⟩ (fun r => (∀ c : Dev Cert.SquaresIdeal.nD,
      r.2.mem ((c.tc : Thread Cert.SquaresIdeal.nD Cert.SquaresIdeal.τ).loc Cert.SquaresIdeal.main_arg0) = m ((c.tc : Thread Cert.SquaresIdeal.nD Cert.SquaresIdeal.τ).loc Cert.SquaresIdeal.main_arg0))
      ∧ r.2.sem = fun _ => 0)

def quiescent_SquaresReferenceIdeal [hSquaresReferenceIdeal : Cert.SquaresReferenceIdeal.Facts] : Prop :=
  ∀ (m : (ℓ : Loc Cert.SquaresReferenceIdeal.nD Cert.SquaresReferenceIdeal.τ Cert.SquaresReferenceIdeal.sig) → Buf (Elt Ideal) ℓ) (g : Dev Cert.SquaresReferenceIdeal.nD → PrngReg), Pre_SquaresReferenceIdeal m →
    θ_run (Cert.SquaresReferenceIdeal.defs (F := Ideal)) (onTc (τ := Cert.SquaresReferenceIdeal.τ) (Cert.SquaresReferenceIdeal.main (F := Ideal))) ⟨m, fun _ => 0, g⟩ (fun r => (∀ c : Dev Cert.SquaresReferenceIdeal.nD,
      r.2.mem ((c.tc : Thread Cert.SquaresReferenceIdeal.nD Cert.SquaresReferenceIdeal.τ).loc Cert.SquaresReferenceIdeal.main_arg0) = m ((c.tc : Thread Cert.SquaresReferenceIdeal.nD Cert.SquaresReferenceIdeal.τ).loc Cert.SquaresReferenceIdeal.main_arg0))
      ∧ r.2.sem = fun _ => 0)

def quiescent_SquaresSampled [hSquaresSampled : Cert.SquaresSampled.Facts] : Prop :=
  ∀ (m : (ℓ : Loc Cert.SquaresSampled.nD Cert.SquaresSampled.τ Cert.SquaresSampled.sig) → Buf (Elt Bits) ℓ) (g : Dev Cert.SquaresSampled.nD → PrngReg), Pre_SquaresSampled m →
    θ_run (Cert.SquaresSampled.defs (F := Bits)) (onTc (τ := Cert.SquaresSampled.τ) (Cert.SquaresSampled.main (F := Bits))) ⟨m, fun _ => 0, g⟩ (fun r => (∀ c : Dev Cert.SquaresSampled.nD,
      r.2.mem ((c.tc : Thread Cert.SquaresSampled.nD Cert.SquaresSampled.τ).loc Cert.SquaresSampled.main_arg0) = m ((c.tc : Thread Cert.SquaresSampled.nD Cert.SquaresSampled.τ).loc Cert.SquaresSampled.main_arg0))
      ∧ r.2.sem = fun _ => 0)

def quiescent_SquaresSampledIdeal [hSquaresSampledIdeal : Cert.SquaresSampledIdeal.Facts] : Prop :=
  ∀ (m : (ℓ : Loc Cert.SquaresSampledIdeal.nD Cert.SquaresSampledIdeal.τ Cert.SquaresSampledIdeal.sig) → Buf (Elt Ideal) ℓ) (g : Dev Cert.SquaresSampledIdeal.nD → PrngReg), Pre_SquaresSampledIdeal m →
    θ_run (Cert.SquaresSampledIdeal.defs (F := Ideal)) (onTc (τ := Cert.SquaresSampledIdeal.τ) (Cert.SquaresSampledIdeal.main (F := Ideal))) ⟨m, fun _ => 0, g⟩ (fun r => (∀ c : Dev Cert.SquaresSampledIdeal.nD,
      r.2.mem ((c.tc : Thread Cert.SquaresSampledIdeal.nD Cert.SquaresSampledIdeal.τ).loc Cert.SquaresSampledIdeal.main_arg0) = m ((c.tc : Thread Cert.SquaresSampledIdeal.nD Cert.SquaresSampledIdeal.τ).loc Cert.SquaresSampledIdeal.main_arg0))
      ∧ r.2.sem = fun _ => 0)

def quiescent_SquaresSampledReferenceIdeal [hSquaresSampledReferenceIdeal : Cert.SquaresSampledReferenceIdeal.Facts] : Prop :=
  ∀ (m : (ℓ : Loc Cert.SquaresSampledReferenceIdeal.nD Cert.SquaresSampledReferenceIdeal.τ Cert.SquaresSampledReferenceIdeal.sig) → Buf (Elt Ideal) ℓ) (g : Dev Cert.SquaresSampledReferenceIdeal.nD → PrngReg), Pre_SquaresSampledReferenceIdeal m →
    θ_run (Cert.SquaresSampledReferenceIdeal.defs (F := Ideal)) (onTc (τ := Cert.SquaresSampledReferenceIdeal.τ) (Cert.SquaresSampledReferenceIdeal.main (F := Ideal))) ⟨m, fun _ => 0, g⟩ (fun r => (∀ c : Dev Cert.SquaresSampledReferenceIdeal.nD,
      r.2.mem ((c.tc : Thread Cert.SquaresSampledReferenceIdeal.nD Cert.SquaresSampledReferenceIdeal.τ).loc Cert.SquaresSampledReferenceIdeal.main_arg0) = m ((c.tc : Thread Cert.SquaresSampledReferenceIdeal.nD Cert.SquaresSampledReferenceIdeal.τ).loc Cert.SquaresSampledReferenceIdeal.main_arg0))
      ∧ r.2.sem = fun _ => 0)

def quiescent_Distances [hDistances : Cert.Distances.Facts] : Prop :=
  ∀ (m : (ℓ : Loc Cert.Distances.nD Cert.Distances.τ Cert.Distances.sig) → Buf (Elt Bits) ℓ) (g : Dev Cert.Distances.nD → PrngReg), Pre_Distances m →
    θ_run (Cert.Distances.defs (F := Bits)) (onTc (τ := Cert.Distances.τ) (Cert.Distances.main (F := Bits))) ⟨m, fun _ => 0, g⟩ (fun r => (∀ c : Dev Cert.Distances.nD,
      r.2.mem ((c.tc : Thread Cert.Distances.nD Cert.Distances.τ).loc Cert.Distances.main_arg0) = m ((c.tc : Thread Cert.Distances.nD Cert.Distances.τ).loc Cert.Distances.main_arg0)
      ∧ r.2.mem ((c.tc : Thread Cert.Distances.nD Cert.Distances.τ).loc Cert.Distances.main_arg1) = m ((c.tc : Thread Cert.Distances.nD Cert.Distances.τ).loc Cert.Distances.main_arg1)
      ∧ r.2.mem ((c.tc : Thread Cert.Distances.nD Cert.Distances.τ).loc Cert.Distances.main_arg2) = m ((c.tc : Thread Cert.Distances.nD Cert.Distances.τ).loc Cert.Distances.main_arg2)
      ∧ r.2.mem ((c.tc : Thread Cert.Distances.nD Cert.Distances.τ).loc Cert.Distances.main_arg3) = m ((c.tc : Thread Cert.Distances.nD Cert.Distances.τ).loc Cert.Distances.main_arg3))
      ∧ r.2.sem = fun _ => 0)

def quiescent_DistancesIdeal [hDistancesIdeal : Cert.DistancesIdeal.Facts] : Prop :=
  ∀ (m : (ℓ : Loc Cert.DistancesIdeal.nD Cert.DistancesIdeal.τ Cert.DistancesIdeal.sig) → Buf (Elt Ideal) ℓ) (g : Dev Cert.DistancesIdeal.nD → PrngReg), Pre_DistancesIdeal m →
    θ_run (Cert.DistancesIdeal.defs (F := Ideal)) (onTc (τ := Cert.DistancesIdeal.τ) (Cert.DistancesIdeal.main (F := Ideal))) ⟨m, fun _ => 0, g⟩ (fun r => (∀ c : Dev Cert.DistancesIdeal.nD,
      r.2.mem ((c.tc : Thread Cert.DistancesIdeal.nD Cert.DistancesIdeal.τ).loc Cert.DistancesIdeal.main_arg0) = m ((c.tc : Thread Cert.DistancesIdeal.nD Cert.DistancesIdeal.τ).loc Cert.DistancesIdeal.main_arg0)
      ∧ r.2.mem ((c.tc : Thread Cert.DistancesIdeal.nD Cert.DistancesIdeal.τ).loc Cert.DistancesIdeal.main_arg1) = m ((c.tc : Thread Cert.DistancesIdeal.nD Cert.DistancesIdeal.τ).loc Cert.DistancesIdeal.main_arg1)
      ∧ r.2.mem ((c.tc : Thread Cert.DistancesIdeal.nD Cert.DistancesIdeal.τ).loc Cert.DistancesIdeal.main_arg2) = m ((c.tc : Thread Cert.DistancesIdeal.nD Cert.DistancesIdeal.τ).loc Cert.DistancesIdeal.main_arg2)
      ∧ r.2.mem ((c.tc : Thread Cert.DistancesIdeal.nD Cert.DistancesIdeal.τ).loc Cert.DistancesIdeal.main_arg3) = m ((c.tc : Thread Cert.DistancesIdeal.nD Cert.DistancesIdeal.τ).loc Cert.DistancesIdeal.main_arg3))
      ∧ r.2.sem = fun _ => 0)

def quiescent_DistancesReferenceIdeal [hDistancesReferenceIdeal : Cert.DistancesReferenceIdeal.Facts] : Prop :=
  ∀ (m : (ℓ : Loc Cert.DistancesReferenceIdeal.nD Cert.DistancesReferenceIdeal.τ Cert.DistancesReferenceIdeal.sig) → Buf (Elt Ideal) ℓ) (g : Dev Cert.DistancesReferenceIdeal.nD → PrngReg), Pre_DistancesReferenceIdeal m →
    θ_run (Cert.DistancesReferenceIdeal.defs (F := Ideal)) (onTc (τ := Cert.DistancesReferenceIdeal.τ) (Cert.DistancesReferenceIdeal.main (F := Ideal))) ⟨m, fun _ => 0, g⟩ (fun r => (∀ c : Dev Cert.DistancesReferenceIdeal.nD,
      r.2.mem ((c.tc : Thread Cert.DistancesReferenceIdeal.nD Cert.DistancesReferenceIdeal.τ).loc Cert.DistancesReferenceIdeal.main_arg0) = m ((c.tc : Thread Cert.DistancesReferenceIdeal.nD Cert.DistancesReferenceIdeal.τ).loc Cert.DistancesReferenceIdeal.main_arg0)
      ∧ r.2.mem ((c.tc : Thread Cert.DistancesReferenceIdeal.nD Cert.DistancesReferenceIdeal.τ).loc Cert.DistancesReferenceIdeal.main_arg1) = m ((c.tc : Thread Cert.DistancesReferenceIdeal.nD Cert.DistancesReferenceIdeal.τ).loc Cert.DistancesReferenceIdeal.main_arg1)
      ∧ r.2.mem ((c.tc : Thread Cert.DistancesReferenceIdeal.nD Cert.DistancesReferenceIdeal.τ).loc Cert.DistancesReferenceIdeal.main_arg2) = m ((c.tc : Thread Cert.DistancesReferenceIdeal.nD Cert.DistancesReferenceIdeal.τ).loc Cert.DistancesReferenceIdeal.main_arg2)
      ∧ r.2.mem ((c.tc : Thread Cert.DistancesReferenceIdeal.nD Cert.DistancesReferenceIdeal.τ).loc Cert.DistancesReferenceIdeal.main_arg3) = m ((c.tc : Thread Cert.DistancesReferenceIdeal.nD Cert.DistancesReferenceIdeal.τ).loc Cert.DistancesReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_args_ok : Cert.Pre_args_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_arg2)) (v1 : (c : Dev Cert.KernelIdeal.nD) → Buf (Elt Ideal) ((c.tc : Thread Cert.KernelIdeal.nD Cert.KernelIdeal.τ).loc Cert.KernelIdeal.main_v11)) (v2 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_arg2) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_v44) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg2) = v0 c
          ∧ r.2.mem ((c.tc : Thread Cert.ReferenceIdeal.nD Cert.ReferenceIdeal.τ).loc Cert.ReferenceIdeal.main_v1) = v1 c
          ∧ r.2.mem ((c.tc : Thread Cert.ReferenceIdeal.nD Cert.ReferenceIdeal.τ).loc Cert.ReferenceIdeal.main_v37) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Squares_SquaresIdeal : Prop :=
  True

def algebraic_SquaresIdeal_SquaresReferenceIdeal [hSquaresIdeal : Cert.SquaresIdeal.Facts] [hSquaresReferenceIdeal : Cert.SquaresReferenceIdeal.Facts] : Prop :=
  ∀ (m : (ℓ : Loc Cert.SquaresIdeal.nD Cert.SquaresIdeal.τ Cert.SquaresIdeal.sig) → Buf (Elt Ideal) ℓ) (g : Dev Cert.SquaresIdeal.nD → PrngReg)
    (m' : (ℓ : Loc Cert.SquaresReferenceIdeal.nD Cert.SquaresReferenceIdeal.τ Cert.SquaresReferenceIdeal.sig) → Buf (Elt Ideal) ℓ) (g' : Dev Cert.SquaresReferenceIdeal.nD → PrngReg), Pre_SquaresIdeal m →
    (∀ c : Dev Cert.SquaresIdeal.nD,
      m' ((c.tc : Thread Cert.SquaresReferenceIdeal.nD Cert.SquaresReferenceIdeal.τ).loc Cert.SquaresReferenceIdeal.main_arg0) = m ((c.tc : Thread Cert.SquaresIdeal.nD Cert.SquaresIdeal.τ).loc Cert.SquaresIdeal.main_arg0)) →
    ∃ (v0 : (c : Dev Cert.SquaresIdeal.nD) → Buf (Elt Ideal) ((c.tc : Thread Cert.SquaresIdeal.nD Cert.SquaresIdeal.τ).loc Cert.SquaresIdeal.main_v1)),
      θ_run (Cert.SquaresIdeal.defs (F := Ideal)) (onTc (τ := Cert.SquaresIdeal.τ) (Cert.SquaresIdeal.main (F := Ideal))) ⟨m, fun _ => 0, g⟩ (fun r => ∀ c : Dev Cert.SquaresIdeal.nD,
          r.2.mem ((c.tc : Thread Cert.SquaresIdeal.nD Cert.SquaresIdeal.τ).loc Cert.SquaresIdeal.main_v1) = v0 c
          ∧ r.2.mem ((c.tc : Thread Cert.SquaresIdeal.nD Cert.SquaresIdeal.τ).loc Cert.SquaresIdeal.main_arg0) = m ((c.tc : Thread Cert.SquaresIdeal.nD Cert.SquaresIdeal.τ).loc Cert.SquaresIdeal.main_arg0))
      ∧ θ_run (Cert.SquaresReferenceIdeal.defs (F := Ideal)) (onTc (τ := Cert.SquaresReferenceIdeal.τ) (Cert.SquaresReferenceIdeal.main (F := Ideal))) ⟨m', fun _ => 0, g'⟩ (fun r => ∀ c : Dev Cert.SquaresReferenceIdeal.nD,
          r.2.mem ((c.tc : Thread Cert.SquaresReferenceIdeal.nD Cert.SquaresReferenceIdeal.τ).loc Cert.SquaresReferenceIdeal.main_v2) = v0 c
          ∧ r.2.mem ((c.tc : Thread Cert.SquaresReferenceIdeal.nD Cert.SquaresReferenceIdeal.τ).loc Cert.SquaresReferenceIdeal.main_arg0) = m' ((c.tc : Thread Cert.SquaresReferenceIdeal.nD Cert.SquaresReferenceIdeal.τ).loc Cert.SquaresReferenceIdeal.main_arg0))

def preserves_SquaresSampled_SquaresSampledIdeal : Prop :=
  True

def algebraic_SquaresSampledIdeal_SquaresSampledReferenceIdeal [hSquaresSampledIdeal : Cert.SquaresSampledIdeal.Facts] [hSquaresSampledReferenceIdeal : Cert.SquaresSampledReferenceIdeal.Facts] : Prop :=
  ∀ (m : (ℓ : Loc Cert.SquaresSampledIdeal.nD Cert.SquaresSampledIdeal.τ Cert.SquaresSampledIdeal.sig) → Buf (Elt Ideal) ℓ) (g : Dev Cert.SquaresSampledIdeal.nD → PrngReg)
    (m' : (ℓ : Loc Cert.SquaresSampledReferenceIdeal.nD Cert.SquaresSampledReferenceIdeal.τ Cert.SquaresSampledReferenceIdeal.sig) → Buf (Elt Ideal) ℓ) (g' : Dev Cert.SquaresSampledReferenceIdeal.nD → PrngReg), Pre_SquaresSampledIdeal m →
    (∀ c : Dev Cert.SquaresSampledIdeal.nD,
      m' ((c.tc : Thread Cert.SquaresSampledReferenceIdeal.nD Cert.SquaresSampledReferenceIdeal.τ).loc Cert.SquaresSampledReferenceIdeal.main_arg0) = m ((c.tc : Thread Cert.SquaresSampledIdeal.nD Cert.SquaresSampledIdeal.τ).loc Cert.SquaresSampledIdeal.main_arg0)) →
    ∃ (v0 : (c : Dev Cert.SquaresSampledIdeal.nD) → Buf (Elt Ideal) ((c.tc : Thread Cert.SquaresSampledIdeal.nD Cert.SquaresSampledIdeal.τ).loc Cert.SquaresSampledIdeal.main_v1)),
      θ_run (Cert.SquaresSampledIdeal.defs (F := Ideal)) (onTc (τ := Cert.SquaresSampledIdeal.τ) (Cert.SquaresSampledIdeal.main (F := Ideal))) ⟨m, fun _ => 0, g⟩ (fun r => ∀ c : Dev Cert.SquaresSampledIdeal.nD,
          r.2.mem ((c.tc : Thread Cert.SquaresSampledIdeal.nD Cert.SquaresSampledIdeal.τ).loc Cert.SquaresSampledIdeal.main_v1) = v0 c
          ∧ r.2.mem ((c.tc : Thread Cert.SquaresSampledIdeal.nD Cert.SquaresSampledIdeal.τ).loc Cert.SquaresSampledIdeal.main_arg0) = m ((c.tc : Thread Cert.SquaresSampledIdeal.nD Cert.SquaresSampledIdeal.τ).loc Cert.SquaresSampledIdeal.main_arg0))
      ∧ θ_run (Cert.SquaresSampledReferenceIdeal.defs (F := Ideal)) (onTc (τ := Cert.SquaresSampledReferenceIdeal.τ) (Cert.SquaresSampledReferenceIdeal.main (F := Ideal))) ⟨m', fun _ => 0, g'⟩ (fun r => ∀ c : Dev Cert.SquaresSampledReferenceIdeal.nD,
          r.2.mem ((c.tc : Thread Cert.SquaresSampledReferenceIdeal.nD Cert.SquaresSampledReferenceIdeal.τ).loc Cert.SquaresSampledReferenceIdeal.main_v2) = v0 c
          ∧ r.2.mem ((c.tc : Thread Cert.SquaresSampledReferenceIdeal.nD Cert.SquaresSampledReferenceIdeal.τ).loc Cert.SquaresSampledReferenceIdeal.main_arg0) = m' ((c.tc : Thread Cert.SquaresSampledReferenceIdeal.nD Cert.SquaresSampledReferenceIdeal.τ).loc Cert.SquaresSampledReferenceIdeal.main_arg0))

def preserves_Distances_DistancesIdeal : Prop :=
  True

def algebraic_DistancesIdeal_DistancesReferenceIdeal [hDistancesIdeal : Cert.DistancesIdeal.Facts] [hDistancesReferenceIdeal : Cert.DistancesReferenceIdeal.Facts] : Prop :=
  ∀ (m : (ℓ : Loc Cert.DistancesIdeal.nD Cert.DistancesIdeal.τ Cert.DistancesIdeal.sig) → Buf (Elt Ideal) ℓ) (g : Dev Cert.DistancesIdeal.nD → PrngReg)
    (m' : (ℓ : Loc Cert.DistancesReferenceIdeal.nD Cert.DistancesReferenceIdeal.τ Cert.DistancesReferenceIdeal.sig) → Buf (Elt Ideal) ℓ) (g' : Dev Cert.DistancesReferenceIdeal.nD → PrngReg), Pre_DistancesIdeal m →
    (∀ c : Dev Cert.DistancesIdeal.nD,
      m' ((c.tc : Thread Cert.DistancesReferenceIdeal.nD Cert.DistancesReferenceIdeal.τ).loc Cert.DistancesReferenceIdeal.main_arg0) = m ((c.tc : Thread Cert.DistancesIdeal.nD Cert.DistancesIdeal.τ).loc Cert.DistancesIdeal.main_arg0)
      ∧ m' ((c.tc : Thread Cert.DistancesReferenceIdeal.nD Cert.DistancesReferenceIdeal.τ).loc Cert.DistancesReferenceIdeal.main_arg1) = m ((c.tc : Thread Cert.DistancesIdeal.nD Cert.DistancesIdeal.τ).loc Cert.DistancesIdeal.main_arg1)
      ∧ m' ((c.tc : Thread Cert.DistancesReferenceIdeal.nD Cert.DistancesReferenceIdeal.τ).loc Cert.DistancesReferenceIdeal.main_arg2) = m ((c.tc : Thread Cert.DistancesIdeal.nD Cert.DistancesIdeal.τ).loc Cert.DistancesIdeal.main_arg2)
      ∧ m' ((c.tc : Thread Cert.DistancesReferenceIdeal.nD Cert.DistancesReferenceIdeal.τ).loc Cert.DistancesReferenceIdeal.main_arg3) = m ((c.tc : Thread Cert.DistancesIdeal.nD Cert.DistancesIdeal.τ).loc Cert.DistancesIdeal.main_arg3)) →
    ∃ (v0 : (c : Dev Cert.DistancesIdeal.nD) → Buf (Elt Ideal) ((c.tc : Thread Cert.DistancesIdeal.nD Cert.DistancesIdeal.τ).loc Cert.DistancesIdeal.main_v1)),
      θ_run (Cert.DistancesIdeal.defs (F := Ideal)) (onTc (τ := Cert.DistancesIdeal.τ) (Cert.DistancesIdeal.main (F := Ideal))) ⟨m, fun _ => 0, g⟩ (fun r => ∀ c : Dev Cert.DistancesIdeal.nD,
          r.2.mem ((c.tc : Thread Cert.DistancesIdeal.nD Cert.DistancesIdeal.τ).loc Cert.DistancesIdeal.main_v1) = v0 c
          ∧ r.2.mem ((c.tc : Thread Cert.DistancesIdeal.nD Cert.DistancesIdeal.τ).loc Cert.DistancesIdeal.main_arg0) = m ((c.tc : Thread Cert.DistancesIdeal.nD Cert.DistancesIdeal.τ).loc Cert.DistancesIdeal.main_arg0)
          ∧ r.2.mem ((c.tc : Thread Cert.DistancesIdeal.nD Cert.DistancesIdeal.τ).loc Cert.DistancesIdeal.main_arg1) = m ((c.tc : Thread Cert.DistancesIdeal.nD Cert.DistancesIdeal.τ).loc Cert.DistancesIdeal.main_arg1)
          ∧ r.2.mem ((c.tc : Thread Cert.DistancesIdeal.nD Cert.DistancesIdeal.τ).loc Cert.DistancesIdeal.main_arg2) = m ((c.tc : Thread Cert.DistancesIdeal.nD Cert.DistancesIdeal.τ).loc Cert.DistancesIdeal.main_arg2)
          ∧ r.2.mem ((c.tc : Thread Cert.DistancesIdeal.nD Cert.DistancesIdeal.τ).loc Cert.DistancesIdeal.main_arg3) = m ((c.tc : Thread Cert.DistancesIdeal.nD Cert.DistancesIdeal.τ).loc Cert.DistancesIdeal.main_arg3))
      ∧ θ_run (Cert.DistancesReferenceIdeal.defs (F := Ideal)) (onTc (τ := Cert.DistancesReferenceIdeal.τ) (Cert.DistancesReferenceIdeal.main (F := Ideal))) ⟨m', fun _ => 0, g'⟩ (fun r => ∀ c : Dev Cert.DistancesReferenceIdeal.nD,
          r.2.mem ((c.tc : Thread Cert.DistancesReferenceIdeal.nD Cert.DistancesReferenceIdeal.τ).loc Cert.DistancesReferenceIdeal.main_v7) = v0 c
          ∧ r.2.mem ((c.tc : Thread Cert.DistancesReferenceIdeal.nD Cert.DistancesReferenceIdeal.τ).loc Cert.DistancesReferenceIdeal.main_arg0) = m' ((c.tc : Thread Cert.DistancesReferenceIdeal.nD Cert.DistancesReferenceIdeal.τ).loc Cert.DistancesReferenceIdeal.main_arg0)
          ∧ r.2.mem ((c.tc : Thread Cert.DistancesReferenceIdeal.nD Cert.DistancesReferenceIdeal.τ).loc Cert.DistancesReferenceIdeal.main_arg1) = m' ((c.tc : Thread Cert.DistancesReferenceIdeal.nD Cert.DistancesReferenceIdeal.τ).loc Cert.DistancesReferenceIdeal.main_arg1)
          ∧ r.2.mem ((c.tc : Thread Cert.DistancesReferenceIdeal.nD Cert.DistancesReferenceIdeal.τ).loc Cert.DistancesReferenceIdeal.main_arg2) = m' ((c.tc : Thread Cert.DistancesReferenceIdeal.nD Cert.DistancesReferenceIdeal.τ).loc Cert.DistancesReferenceIdeal.main_arg2)
          ∧ r.2.mem ((c.tc : Thread Cert.DistancesReferenceIdeal.nD Cert.DistancesReferenceIdeal.τ).loc Cert.DistancesReferenceIdeal.main_arg3) = m' ((c.tc : Thread Cert.DistancesReferenceIdeal.nD Cert.DistancesReferenceIdeal.τ).loc Cert.DistancesReferenceIdeal.main_arg3))

def Claim : Prop :=
  ∃ (hKernel : Cert.Kernel.Facts) (hKernelIdeal : Cert.KernelIdeal.Facts) (hReferenceIdeal : Cert.ReferenceIdeal.Facts) (hSquares : Cert.Squares.Facts) (hSquaresIdeal : Cert.SquaresIdeal.Facts) (hSquaresReferenceIdeal : Cert.SquaresReferenceIdeal.Facts) (hSquaresSampled : Cert.SquaresSampled.Facts) (hSquaresSampledIdeal : Cert.SquaresSampledIdeal.Facts) (hSquaresSampledReferenceIdeal : Cert.SquaresSampledReferenceIdeal.Facts) (hDistances : Cert.Distances.Facts) (hDistancesIdeal : Cert.DistancesIdeal.Facts) (hDistancesReferenceIdeal : Cert.DistancesReferenceIdeal.Facts) (hPre_args_ok : Cert.Pre_args_ok.Facts),
    quiescent_Kernel (hKernel := hKernel) (hPre_args_ok := hPre_args_ok)
    ∧ quiescent_KernelIdeal (hKernelIdeal := hKernelIdeal) (hPre_args_ok := hPre_args_ok)
    ∧ quiescent_ReferenceIdeal (hReferenceIdeal := hReferenceIdeal)
    ∧ quiescent_ReferenceIdeal_pre_args_ok (hReferenceIdeal := hReferenceIdeal) (hPre_args_ok := hPre_args_ok)
    ∧ quiescent_Squares (hSquares := hSquares)
    ∧ quiescent_SquaresIdeal (hSquaresIdeal := hSquaresIdeal)
    ∧ quiescent_SquaresReferenceIdeal (hSquaresReferenceIdeal := hSquaresReferenceIdeal)
    ∧ quiescent_SquaresSampled (hSquaresSampled := hSquaresSampled)
    ∧ quiescent_SquaresSampledIdeal (hSquaresSampledIdeal := hSquaresSampledIdeal)
    ∧ quiescent_SquaresSampledReferenceIdeal (hSquaresSampledReferenceIdeal := hSquaresSampledReferenceIdeal)
    ∧ quiescent_Distances (hDistances := hDistances)
    ∧ quiescent_DistancesIdeal (hDistancesIdeal := hDistancesIdeal)
    ∧ quiescent_DistancesReferenceIdeal (hDistancesReferenceIdeal := hDistancesReferenceIdeal)
    ∧ preserves_Kernel_KernelIdeal
    ∧ algebraic_KernelIdeal_ReferenceIdeal (hKernelIdeal := hKernelIdeal) (hReferenceIdeal := hReferenceIdeal) (hPre_args_ok := hPre_args_ok)
    ∧ preserves_Squares_SquaresIdeal
    ∧ algebraic_SquaresIdeal_SquaresReferenceIdeal (hSquaresIdeal := hSquaresIdeal) (hSquaresReferenceIdeal := hSquaresReferenceIdeal)
    ∧ preserves_SquaresSampled_SquaresSampledIdeal
    ∧ algebraic_SquaresSampledIdeal_SquaresSampledReferenceIdeal (hSquaresSampledIdeal := hSquaresSampledIdeal) (hSquaresSampledReferenceIdeal := hSquaresSampledReferenceIdeal)
    ∧ preserves_Distances_DistancesIdeal
    ∧ algebraic_DistancesIdeal_DistancesReferenceIdeal (hDistancesIdeal := hDistancesIdeal) (hDistancesReferenceIdeal := hDistancesReferenceIdeal)
-- ==== Pre_args_ok.lean ====
abbrev S4x8192x3 : Shape := ⟨3, ![4, 8192, 3]⟩
abbrev S4x8192x384 : Shape := ⟨3, ![4, 8192, 384]⟩
abbrev S4x1024 : Shape := ⟨2, ![4, 1024]⟩
abbrev S4x1024x24 : Shape := ⟨3, ![4, 1024, 24]⟩
abbrev S1x1x1x384 : Shape := ⟨4, ![1, 1, 1, 384]⟩
abbrev S_ : Shape := ⟨0, ![]⟩

class Facts : Prop where
  bcast_S_S4x1024 : S_.BroadcastsInDim S4x1024 (![] : Fin 0 → Fin S4x1024.rank)
  reducesTo_S4x1024_S_d0_1 : S4x1024.ReducesTo [0, 1] S_
  h_S_ : 0 < S_.numel
  bcast_S_S4x1024x24 : S_.BroadcastsInDim S4x1024x24 (![] : Fin 0 → Fin S4x1024x24.rank)
  reducesTo_S4x1024x24_S_d0_1_2 : S4x1024x24.ReducesTo [0, 1, 2] S_
  bcast_S_S4x8192x384 : S_.BroadcastsInDim S4x8192x384 (![] : Fin 0 → Fin S4x8192x384.rank)
  reducesTo_S4x8192x384_S_d0_1_2 : S4x8192x384.ReducesTo [0, 1, 2] S_
  bcast_S_S1x1x1x384 : S_.BroadcastsInDim S1x1x1x384 (![] : Fin 0 → Fin S1x1x1x384.rank)
  reducesTo_S1x1x1x384_S_d0_1_2_3 : S1x1x1x384.ReducesTo [0, 1, 2, 3] S_

variable [Facts]

def fn_part1 {F : FTy → Type} [FloatOps F] (main_arg4 : FVec F S1x1x1x384 .f32) (main_v12 : IVec S_ 1) (main_v15 : IVec S4x8192x384 1) (main_c_5 : IVec S_ 1) : IVec S_ 1 :=
  let main_v16 : IVec S_ 1 := (fun x v => Host.reduce IntOp.andi x v reducesTo_S4x8192x384_S_d0_1_2 h_S_) main_v15 main_c_5
  let main_v17 : IVec S_ 1 := andi main_v12 main_v16
  let main_v18 : FVec F S1x1x1x384 .f32 := Host.absf main_arg4
  let main_cst_6 : FVec F S_ .f32 := constant S_ .f32 0x7F800000#32
  let main_v19 : FVec F S1x1x1x384 .f32 := broadcastInDim S1x1x1x384 ![] bcast_S_S1x1x1x384 main_cst_6
  let main_v20 : IVec S1x1x1x384 1 := cmpf .olt main_v18 main_v19
  let main_c_7 : IVec S_ 1 := constantI S_ 1 1#1
  let main_v21 : IVec S_ 1 := (fun x v => Host.reduce IntOp.andi x v reducesTo_S1x1x1x384_S_d0_1_2_3 h_S_) main_v20 main_c_7
  let main_v22 : IVec S_ 1 := andi main_v17 main_v21
  main_v22

def fn {F : FTy → Type} [FloatOps F] (main_arg0 : FVec F S4x8192x3 .f32) (main_arg1 : FVec F S4x8192x384 .f32) (main_arg2 : IVec S4x1024 32) (main_arg3 : IVec S4x1024x24 32) (main_arg4 : FVec F S1x1x1x384 .f32) (main_arg5 : FVec F S1x1x1x384 .f32) : IVec S_ 1 :=
  let main_c : IVec S_ 32 := constantI S_ 32 0#32
  let main_v0 : IVec S4x1024 32 := broadcastInDim S4x1024 ![] bcast_S_S4x1024 main_c
  let main_v1 : IVec S4x1024 1 := cmpi .sge main_arg2 main_v0
  let main_c_0 : IVec S_ 32 := constantI S_ 32 8192#32
  let main_v2 : IVec S4x1024 32 := broadcastInDim S4x1024 ![] bcast_S_S4x1024 main_c_0
  let main_v3 : IVec S4x1024 1 := cmpi .slt main_arg2 main_v2
  let main_v4 : IVec S4x1024 1 := andi main_v1 main_v3
  let main_c_1 : IVec S_ 1 := constantI S_ 1 1#1
  let main_v5 : IVec S_ 1 := (fun x v => Host.reduce IntOp.andi x v reducesTo_S4x1024_S_d0_1 h_S_) main_v4 main_c_1
  let main_c_2 : IVec S_ 32 := constantI S_ 32 0#32
  let main_v6 : IVec S4x1024x24 32 := broadcastInDim S4x1024x24 ![] bcast_S_S4x1024x24 main_c_2
  let main_v7 : IVec S4x1024x24 1 := cmpi .sge main_arg3 main_v6
  let main_c_3 : IVec S_ 32 := constantI S_ 32 8192#32
  let main_v8 : IVec S4x1024x24 32 := broadcastInDim S4x1024x24 ![] bcast_S_S4x1024x24 main_c_3
  let main_v9 : IVec S4x1024x24 1 := cmpi .slt main_arg3 main_v8
  let main_v10 : IVec S4x1024x24 1 := andi main_v7 main_v9
  let main_c_4 : IVec S_ 1 := constantI S_ 1 1#1
  let main_v11 : IVec S_ 1 := (fun x v => Host.reduce IntOp.andi x v reducesTo_S4x1024x24_S_d0_1_2 h_S_) main_v10 main_c_4
  let main_v12 : IVec S_ 1 := andi main_v5 main_v11
  let main_v13 : FVec F S4x8192x384 .f32 := Host.absf main_arg1
  let main_cst : FVec F S_ .f32 := constant S_ .f32 0x7F800000#32
  let main_v14 : FVec F S4x8192x384 .f32 := broadcastInDim S4x8192x384 ![] bcast_S_S4x8192x384 main_cst
  let main_v15 : IVec S4x8192x384 1 := cmpf .olt main_v13 main_v14
  let main_c_5 : IVec S_ 1 := constantI S_ 1 1#1
  fn_part1 (F := F) main_arg4 main_v12 main_v15 main_c_5
-- ==== Kernel.lean ====
abbrev S4x8192x3 : Shape := ⟨3, ![4, 8192, 3]⟩
abbrev S4x8192x384 : Shape := ⟨3, ![4, 8192, 384]⟩
abbrev S4x1024 : Shape := ⟨2, ![4, 1024]⟩
abbrev S4x1024x24 : Shape := ⟨3, ![4, 1024, 24]⟩
abbrev S1x1x1x384 : Shape := ⟨4, ![1, 1, 1, 384]⟩
abbrev S32768x384 : Shape := ⟨2, ![32768, 384]⟩
abbrev S_ : Shape := ⟨0, ![]⟩
abbrev S4x8192x128 : Shape := ⟨3, ![4, 8192, 128]⟩
abbrev S32768x128 : Shape := ⟨2, ![32768, 128]⟩
abbrev S4 : Shape := ⟨1, ![4]⟩
abbrev S4x1 : Shape := ⟨2, ![4, 1]⟩
abbrev S4096 : Shape := ⟨1, ![4096]⟩
abbrev S4096x384 : Shape := ⟨2, ![4096, 384]⟩
abbrev S12288 : Shape := ⟨1, ![12288]⟩
abbrev S16 : Shape := ⟨1, ![16]⟩
abbrev S16x384 : Shape := ⟨2, ![16, 384]⟩
abbrev S16x128 : Shape := ⟨2, ![16, 128]⟩
abbrev S48 : Shape := ⟨1, ![48]⟩
abbrev S4x1024x3 : Shape := ⟨3, ![4, 1024, 3]⟩
abbrev S4096x24 : Shape := ⟨2, ![4096, 24]⟩
abbrev S4096x32 : Shape := ⟨2, ![4096, 32]⟩
abbrev S4096x1 : Shape := ⟨2, ![4096, 1]⟩
abbrev S32x16 : Shape := ⟨2, ![32, 16]⟩
abbrev S32 : Shape := ⟨1, ![32]⟩
abbrev S24x384 : Shape := ⟨2, ![24, 384]⟩
abbrev S384 : Shape := ⟨1, ![384]⟩
abbrev S1x32 : Shape := ⟨2, ![1, 32]⟩
abbrev S24x128 : Shape := ⟨2, ![24, 128]⟩
abbrev S24 : Shape := ⟨1, ![24]⟩
abbrev S1x384 : Shape := ⟨2, ![1, 384]⟩
abbrev S1x16 : Shape := ⟨2, ![1, 16]⟩
abbrev S4x8x16 : Shape := ⟨3, ![4, 8, 16]⟩
abbrev S4x8x1 : Shape := ⟨3, ![4, 8, 1]⟩
abbrev S4x8 : Shape := ⟨2, ![4, 8]⟩
abbrev S4096x24x768 : Shape := ⟨3, ![4096, 24, 768]⟩
abbrev S24x768 : Shape := ⟨2, ![24, 768]⟩
abbrev S1x24x768 : Shape := ⟨3, ![1, 24, 768]⟩
abbrev S4x1024x24x768 : Shape := ⟨4, ![4, 1024, 24, 768]⟩

abbrev nBuf : Table → Nat
  | .hbm => 83
  | .local .scVector .vmem => 23
  | _ => 0

abbrev bufTy : (tb : Table) → Fin (nBuf tb) → BufTy
  | .hbm, ⟨0, _⟩ => ⟨S4x8192x3, .f32⟩
  | .hbm, ⟨1, _⟩ => ⟨S4x8192x384, .f32⟩
  | .hbm, ⟨2, _⟩ => ⟨S4x1024, .i32⟩
  | .hbm, ⟨3, _⟩ => ⟨S4x1024x24, .i32⟩
  | .hbm, ⟨4, _⟩ => ⟨S1x1x1x384, .f32⟩
  | .hbm, ⟨5, _⟩ => ⟨S1x1x1x384, .f32⟩
  | .hbm, ⟨6, _⟩ => ⟨S32768x384, .f32⟩
  | .hbm, ⟨7, _⟩ => ⟨S_, .i32⟩
  | .hbm, ⟨8, _⟩ => ⟨S_, .f32⟩
  | .hbm, ⟨9, _⟩ => ⟨S4x8192x128, .f32⟩
  | .hbm, ⟨10, _⟩ => ⟨S32768x128, .f32⟩
  | .hbm, ⟨11, _⟩ => ⟨S4, .i32⟩
  | .hbm, ⟨12, _⟩ => ⟨S_, .i32⟩
  | .hbm, ⟨13, _⟩ => ⟨S4, .i32⟩
  | .hbm, ⟨14, _⟩ => ⟨S4, .i32⟩
  | .hbm, ⟨15, _⟩ => ⟨S4x1, .i32⟩
  | .hbm, ⟨16, _⟩ => ⟨S4x1024, .i32⟩
  | .hbm, ⟨17, _⟩ => ⟨S4x1024, .i32⟩
  | .hbm, ⟨18, _⟩ => ⟨S4096, .i32⟩
  | .hbm, ⟨19, _⟩ => ⟨S4096x384, .f32⟩
  | .hbm, ⟨20, _⟩ => ⟨S12288, .f32⟩
  | .hbm, ⟨21, _⟩ => ⟨S4x1024x3, .f32⟩
  | .hbm, ⟨22, _⟩ => ⟨S4096x24, .i32⟩
  | .hbm, ⟨23, _⟩ => ⟨S_, .i32⟩
  | .hbm, ⟨24, _⟩ => ⟨S_, .i32⟩
  | .hbm, ⟨25, _⟩ => ⟨S4096x32, .i32⟩
  | .hbm, ⟨26, _⟩ => ⟨S4096, .i32⟩
  | .hbm, ⟨27, _⟩ => ⟨S_, .i32⟩
  | .hbm, ⟨28, _⟩ => ⟨S_, .i32⟩
  | .hbm, ⟨29, _⟩ => ⟨S4096, .i32⟩
  | .hbm, ⟨30, _⟩ => ⟨S4096, .i32⟩
  | .hbm, ⟨31, _⟩ => ⟨S4096, .i32⟩
  | .hbm, ⟨32, _⟩ => ⟨S_, .i32⟩
  | .hbm, ⟨33, _⟩ => ⟨S4096, .i32⟩
  | .hbm, ⟨34, _⟩ => ⟨S4096, .i1⟩
  | .hbm, ⟨35, _⟩ => ⟨S4096, .i32⟩
  | .hbm, ⟨36, _⟩ => ⟨S4096, .i32⟩
  | .hbm, ⟨37, _⟩ => ⟨S_, .i32⟩
  | .hbm, ⟨38, _⟩ => ⟨S4096, .i32⟩
  | .hbm, ⟨39, _⟩ => ⟨S4096, .i1⟩
  | .hbm, ⟨40, _⟩ => ⟨S4096, .i1⟩
  | .hbm, ⟨41, _⟩ => ⟨S_, .i32⟩
  | .hbm, ⟨42, _⟩ => ⟨S4096, .i32⟩
  | .hbm, ⟨43, _⟩ => ⟨S4096, .i32⟩
  | .hbm, ⟨44, _⟩ => ⟨S4096, .i32⟩
  | .hbm, ⟨45, _⟩ => ⟨S_, .i32⟩
  | .hbm, ⟨46, _⟩ => ⟨S4096, .i32⟩
  | .hbm, ⟨47, _⟩ => ⟨S4096, .i32⟩
  | .hbm, ⟨48, _⟩ => ⟨S4096x1, .i32⟩
  | .hbm, ⟨49, _⟩ => ⟨S4096x32, .i32⟩
  | .hbm, ⟨50, _⟩ => ⟨S4096x32, .i32⟩
  | .hbm, ⟨51, _⟩ => ⟨S32x16, .f32⟩
  | .hbm, ⟨52, _⟩ => ⟨S4x8x16, .f32⟩
  | .hbm, ⟨53, _⟩ => ⟨S4x8x1, .f32⟩
  | .hbm, ⟨54, _⟩ => ⟨S4x8, .f32⟩
  | .hbm, ⟨55, _⟩ => ⟨S_, .f32⟩
  | .hbm, ⟨56, _⟩ => ⟨S4, .f32⟩
  | .hbm, ⟨57, _⟩ => ⟨S4x8x1, .f32⟩
  | .hbm, ⟨58, _⟩ => ⟨S4x8, .f32⟩
  | .hbm, ⟨59, _⟩ => ⟨S_, .f32⟩
  | .hbm, ⟨60, _⟩ => ⟨S4, .f32⟩
  | .hbm, ⟨61, _⟩ => ⟨S4, .f32⟩
  | .hbm, ⟨62, _⟩ => ⟨S_, .f32⟩
  | .hbm, ⟨63, _⟩ => ⟨S4, .f32⟩
  | .hbm, ⟨64, _⟩ => ⟨S4, .f32⟩
  | .hbm, ⟨65, _⟩ => ⟨S4, .f32⟩
  | .hbm, ⟨66, _⟩ => ⟨S_, .f32⟩
  | .hbm, ⟨67, _⟩ => ⟨S4, .f32⟩
  | .hbm, ⟨68, _⟩ => ⟨S4, .f32⟩
  | .hbm, ⟨69, _⟩ => ⟨S4, .f32⟩
  | .hbm, ⟨70, _⟩ => ⟨S_, .f32⟩
  | .hbm, ⟨71, _⟩ => ⟨S4, .f32⟩
  | .hbm, ⟨72, _⟩ => ⟨S4, .f32⟩
  | .hbm, ⟨73, _⟩ => ⟨S_, .f32⟩
  | .hbm, ⟨74, _⟩ => ⟨S4, .f32⟩
  | .hbm, ⟨75, _⟩ => ⟨S4, .f32⟩
  | .hbm, ⟨76, _⟩ => ⟨S_, .i32⟩
  | .hbm, ⟨77, _⟩ => ⟨S_, .f32⟩
  | .hbm, ⟨78, _⟩ => ⟨S16, .f32⟩
  | .hbm, ⟨79, _⟩ => ⟨S384, .f32⟩
  | .hbm, ⟨80, _⟩ => ⟨S384, .f32⟩
  | .hbm, ⟨81, _⟩ => ⟨S4096x24x768, .f32⟩
  | .hbm, ⟨82, _⟩ => ⟨S4x1024x24x768, .f32⟩
  | .local .scVector .vmem, ⟨0, _⟩ => ⟨S16, .i32⟩
  | .local .scVector .vmem, ⟨1, _⟩ => ⟨S16x384, .f32⟩
  | .local .scVector .vmem, ⟨2, _⟩ => ⟨S16x128, .f32⟩
  | .local .scVector .vmem, ⟨3, _⟩ => ⟨S48, .f32⟩
  | .local .scVector .vmem, ⟨4, _⟩ => ⟨S32, .i32⟩
  | .local .scVector .vmem, ⟨5, _⟩ => ⟨S32, .i32⟩
  | .local .scVector .vmem, ⟨6, _⟩ => ⟨S24x384, .f32⟩
  | .local .scVector .vmem, ⟨7, _⟩ => ⟨S24x384, .f32⟩
  | .local .scVector .vmem, ⟨8, _⟩ => ⟨S384, .f32⟩
  | .local .scVector .vmem, ⟨9, _⟩ => ⟨S384, .f32⟩
  | .local .scVector .vmem, ⟨10, _⟩ => ⟨S16, .f32⟩
  | .local .scVector .vmem, ⟨11, _⟩ => ⟨S32, .i32⟩
  | .local .scVector .vmem, ⟨12, _⟩ => ⟨S32, .i32⟩
  | .local .scVector .vmem, ⟨13, _⟩ => ⟨S24x384, .f32⟩
  | .local .scVector .vmem, ⟨14, _⟩ => ⟨S24x384, .f32⟩
  | .local .scVector .vmem, ⟨15, _⟩ => ⟨S384, .f32⟩
  | .local .scVector .vmem, ⟨16, _⟩ => ⟨S384, .f32⟩
  | .local .scVector .vmem, ⟨17, _⟩ => ⟨S384, .f32⟩
  | .local .scVector .vmem, ⟨18, _⟩ => ⟨S384, .f32⟩
  | .local .scVector .vmem, ⟨19, _⟩ => ⟨S384, .f32⟩
  | .local .scVector .vmem, ⟨20, _⟩ => ⟨S16, .f32⟩
  | .local .scVector .vmem, ⟨21, _⟩ => ⟨S24x768, .f32⟩
  | .local .scVector .vmem, ⟨22, _⟩ => ⟨S24x768, .f32⟩
  | _, _ => ⟨S4x8192x3, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 37 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | ⟨30, _⟩ => false
  | ⟨31, _⟩ => false
  | ⟨32, _⟩ => false
  | ⟨33, _⟩ => false
  | ⟨34, _⟩ => false
  | ⟨35, _⟩ => false
  | ⟨36, _⟩ => false
  | _ => false

abbrev sig : RefSig :=
  ofTables nBuf rfl bufTy 4 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev main_v11 : Ref sig .tc := ⟨.hbm, 21, rfl⟩
abbrev main_v12 : Ref sig .tc := ⟨.hbm, 22, rfl⟩
abbrev main_c_1 : Ref sig .tc := ⟨.hbm, 23, rfl⟩
abbrev main_call1_v0 : Ref sig .tc := ⟨.hbm, 24, rfl⟩
abbrev main_v13 : Ref sig .tc := ⟨.hbm, 25, rfl⟩
abbrev main_v14 : Ref sig .tc := ⟨.hbm, 26, rfl⟩
abbrev main_c_2 : Ref sig .tc := ⟨.hbm, 27, rfl⟩
abbrev main_call2_v0 : Ref sig .tc := ⟨.hbm, 28, rfl⟩
abbrev main_call2_v1 : Ref sig .tc := ⟨.hbm, 29, rfl⟩
abbrev main_call2_v2 : Ref sig .tc := ⟨.hbm, 30, rfl⟩
abbrev main_call2_v3 : Ref sig .tc := ⟨.hbm, 31, rfl⟩
abbrev main_call2_v4 : Ref sig .tc := ⟨.hbm, 32, rfl⟩
abbrev main_call2_v5 : Ref sig .tc := ⟨.hbm, 33, rfl⟩
abbrev main_call2_v6 : Ref sig .tc := ⟨.hbm, 34, rfl⟩
abbrev main_call2_v7 : Ref sig .tc := ⟨.hbm, 35, rfl⟩
abbrev main_call2_v8 : Ref sig .tc := ⟨.hbm, 36, rfl⟩
abbrev main_call2_c : Ref sig .tc := ⟨.hbm, 37, rfl⟩
abbrev main_call2_v9 : Ref sig .tc := ⟨.hbm, 38, rfl⟩
abbrev main_call2_v10 : Ref sig .tc := ⟨.hbm, 39, rfl⟩
abbrev main_call2_v11 : Ref sig .tc := ⟨.hbm, 40, rfl⟩
abbrev main_call2_c_0 : Ref sig .tc := ⟨.hbm, 41, rfl⟩
abbrev main_call2_v12 : Ref sig .tc := ⟨.hbm, 42, rfl⟩
abbrev main_call2_v13 : Ref sig .tc := ⟨.hbm, 43, rfl⟩
abbrev main_v15 : Ref sig .tc := ⟨.hbm, 44, rfl⟩
abbrev main_c_3 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_cst : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_cst_4 : Ref sig .tc := ⟨.hbm, 59, rfl⟩
abbrev main_v28 : Ref sig .tc := ⟨.hbm, 60, rfl⟩
abbrev main_v29 : Ref sig .tc := ⟨.hbm, 61, rfl⟩
abbrev main_cst_5 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_cst_6 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_cst_7 : Ref sig .tc := ⟨.hbm, 70, rfl⟩
abbrev main_v36 : Ref sig .tc := ⟨.hbm, 71, rfl⟩
abbrev main_v37 : Ref sig .tc := ⟨.hbm, 72, rfl⟩
abbrev main_cst_8 : Ref sig .tc := ⟨.hbm, 73, rfl⟩
abbrev main_v38 : Ref sig .tc := ⟨.hbm, 74, rfl⟩
abbrev main_v39 : Ref sig .tc := ⟨.hbm, 75, rfl⟩
abbrev main_c_9 : Ref sig .tc := ⟨.hbm, 76, rfl⟩
abbrev main_call3_v0 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v0_scv : Ref sig .scVector := ⟨.hbm, 6, rfl⟩
abbrev main_v2_scv : Ref sig .scVector := ⟨.hbm, 10, rfl⟩
abbrev main_v9_scv : Ref sig .scVector := ⟨.hbm, 18, rfl⟩
abbrev main_v10_0_scv : Ref sig .scVector := ⟨.hbm, 19, rfl⟩
abbrev main_v10_1_scv : Ref sig .scVector := ⟨.hbm, 20, rfl⟩
abbrev main_v20_scv : Ref sig .scVector := ⟨.hbm, 50, rfl⟩
abbrev main_v21_scv : Ref sig .scVector := ⟨.hbm, 51, rfl⟩
abbrev main_v41_scv : Ref sig .scVector := ⟨.hbm, 79, rfl⟩
abbrev main_v42_scv : Ref sig .scVector := ⟨.hbm, 80, rfl⟩
abbrev main_v40_scv : Ref sig .scVector := ⟨.hbm, 78, rfl⟩
abbrev main_v43_scv : Ref sig .scVector := ⟨.hbm, 81, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_scratch0 : Ref sig .scVector := ⟨.vmem, 4, rfl⟩
abbrev cc1_scratch1 : Ref sig .scVector := ⟨.vmem, 5, rfl⟩
abbrev cc1_scratch2 : Ref sig .scVector := ⟨.vmem, 6, rfl⟩
abbrev cc1_scratch3 : Ref sig .scVector := ⟨.vmem, 7, rfl⟩
abbrev cc1_scratch4 : Ref sig .scVector := ⟨.vmem, 8, rfl⟩
abbrev cc1_scratch5 : Ref sig .scVector := ⟨.vmem, 9, rfl⟩
abbrev cc1_scratch6 : Ref sig .scVector := ⟨.vmem, 10, rfl⟩
abbrev cc2_scratch0 : Ref sig .scVector := ⟨.vmem, 11, rfl⟩
abbrev cc2_scratch1 : Ref sig .scVector := ⟨.vmem, 12, rfl⟩
abbrev cc2_scratch2 : Ref sig .scVector := ⟨.vmem, 13, rfl⟩
abbrev cc2_scratch3 : Ref sig .scVector := ⟨.vmem, 14, rfl⟩
abbrev cc2_scratch4 : Ref sig .scVector := ⟨.vmem, 15, rfl⟩
abbrev cc2_scratch5 : Ref sig .scVector := ⟨.vmem, 16, rfl⟩
abbrev cc2_scratch6 : Ref sig .scVector := ⟨.vmem, 17, rfl⟩
abbrev cc2_scratch7 : Ref sig .scVector := ⟨.vmem, 18, rfl⟩
abbrev cc2_scratch8 : Ref sig .scVector := ⟨.vmem, 19, rfl⟩
abbrev cc2_scratch9 : Ref sig .scVector := ⟨.vmem, 20, rfl⟩
abbrev cc2_scratch10 : Ref sig .scVector := ⟨.vmem, 21, rfl⟩
abbrev cc2_scratch11 : Ref sig .scVector := ⟨.vmem, 22, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c8_i32 : BitVec 32 := 8#32
  let v3 : BitVec 32 := Scalar.addi c0_i32_0 c8_i32
  let c1_i32 : BitVec 32 := 1#32
  ⟨c0_i32_0, v3, c1_i32⟩
def k0_off1 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v4 : BitVec 32 := Scalar.muli v1 c128_i32
  let c0_i32_0 : BitVec 32 := 0#32
  let c1_i32 : BitVec 32 := 1#32
  let arg15 : BitVec 32 := Scf.iv c0_i32_0 c1_i32 k0_t1
  let c16_i32 : BitVec 32 := 16#32
  let v5 : BitVec 32 := Scalar.muli arg15 c16_i32
  let v6 : BitVec 32 := Scalar.addi v4 v5
  ![v6.toNat]
def k0_off2 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v4 : BitVec 32 := Scalar.muli v1 c128_i32
  let c0_i32_0 : BitVec 32 := 0#32
  let c1_i32 : BitVec 32 := 1#32
  let arg15 : BitVec 32 := Scf.iv c0_i32_0 c1_i32 k0_t1
  let c16_i32 : BitVec 32 := 16#32
  let v5 : BitVec 32 := Scalar.muli arg15 c16_i32
  let v6 : BitVec 32 := Scalar.addi v4 v5
  let c0_i32_41_r1 : BitVec 32 := 0#32
  ![v6.toNat, 0]

def k0_chk1 (v2 : IVec S16 32) (v24 : IVec S16 32) : Prop :=
  (∀ a x, ((![v2, v24] : Fin 2 → IVec S16 32) a x).toNat < S16x128.size a)
theorem k0_idx1_inb : ∀ (v2 : IVec S16 32) (v24 : IVec S16 32) (k0_hw1 : k0_chk1 v2 v24), ∀ a x, ((![v2, v24] : Fin 2 → IVec S16 32) a x).toNat < S16x128.size a := fun v2 v24 k0_hw1 => k0_hw1

def k0_chk2 (v29 : IVec S16 32) : Prop :=
  (∀ a x, ((![v29] : Fin 1 → IVec S16 32) a x).toNat < S48.size a)
theorem k0_idx2_inb : ∀ (v29 : IVec S16 32) (k0_hw2 : k0_chk2 v29), ∀ a x, ((![v29] : Fin 1 → IVec S16 32) a x).toNat < S48.size a := fun v29 k0_hw2 => k0_hw2

def k0_chk3 (v2 : IVec S16 32) (v33 : IVec S16 32) : Prop :=
  (∀ a x, ((![v2, v33] : Fin 2 → IVec S16 32) a x).toNat < S16x128.size a)
theorem k0_idx3_inb : ∀ (v2 : IVec S16 32) (v33 : IVec S16 32) (k0_hw3 : k0_chk3 v2 v33), ∀ a x, ((![v2, v33] : Fin 2 → IVec S16 32) a x).toNat < S16x128.size a := fun v2 v33 k0_hw3 => k0_hw3

def k0_chk4 (v38 : IVec S16 32) : Prop :=
  (∀ a x, ((![v38] : Fin 1 → IVec S16 32) a x).toNat < S48.size a)
theorem k0_idx4_inb : ∀ (v38 : IVec S16 32) (k0_hw4 : k0_chk4 v38), ∀ a x, ((![v38] : Fin 1 → IVec S16 32) a x).toNat < S48.size a := fun v38 k0_hw4 => k0_hw4

def k0_chk5 (v2 : IVec S16 32) (v42 : IVec S16 32) : Prop :=
  (∀ a x, ((![v2, v42] : Fin 2 → IVec S16 32) a x).toNat < S16x128.size a)
theorem k0_idx5_inb : ∀ (v2 : IVec S16 32) (v42 : IVec S16 32) (k0_hw5 : k0_chk5 v2 v42), ∀ a x, ((![v2, v42] : Fin 2 → IVec S16 32) a x).toNat < S16x128.size a := fun v2 v42 k0_hw5 => k0_hw5

def k0_chk6 (v47 : IVec S16 32) : Prop :=
  (∀ a x, ((![v47] : Fin 1 → IVec S16 32) a x).toNat < S48.size a)
theorem k0_idx6_inb : ∀ (v47 : IVec S16 32) (k0_hw6 : k0_chk6 v47), ∀ a x, ((![v47] : Fin 1 → IVec S16 32) a x).toNat < S48.size a := fun v47 k0_hw6 => k0_hw6
def k0_off3 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v4 : BitVec 32 := Scalar.muli v1 c128_i32
  let c0_i32_0 : BitVec 32 := 0#32
  let c1_i32 : BitVec 32 := 1#32
  let arg15 : BitVec 32 := Scf.iv c0_i32_0 c1_i32 k0_t1
  let c16_i32 : BitVec 32 := 16#32
  let v5 : BitVec 32 := Scalar.muli arg15 c16_i32
  let v6 : BitVec 32 := Scalar.addi v4 v5
  let c3_i32_40 : BitVec 32 := 3#32
  let v48 : BitVec 32 := Scalar.muli v6 c3_i32_40
  ![v48.toNat]
abbrev grid1 : Pipeline.Grid := ⟨2, ![2, 16], ![false, false]⟩

def k1_off1 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c0_i32_49_r0 : BitVec 32 := 0#32
  ![v3.toNat, 0]
def k1_off2 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c0_i32_49_r1 : BitVec 32 := 0#32
  ![v3.toNat, 0]
@[reducible] def k1_t1_loop : Scf.Loop 32 :=
  let c0_i32_29 : BitVec 32 := 0#32
  let c64_i32 : BitVec 32 := 64#32
  let v24 : BitVec 32 := Scalar.addi c0_i32_29 c64_i32
  let c1_i32_30 : BitVec 32 := 1#32
  ⟨c0_i32_29, v24, c1_i32_30⟩
def k1_off3 (i : grid1.Coords) (k1_t1 : Fin k1_t1_loop.trips) (c1_i32_50 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c2_i32_49 : BitVec 32 := 2#32
  let c0_i32_29 : BitVec 32 := 0#32
  let c1_i32_30 : BitVec 32 := 1#32
  let arg21 : BitVec 32 := Scf.iv c0_i32_29 c1_i32_30 k1_t1
  let v75 : BitVec 32 := Scalar.muli c2_i32_49 arg21
  let v76 : BitVec 32 := Scalar.addi v3 v75
  let v77 : BitVec 32 := Scalar.addi v76 c1_i32_50
  let c128_i32_0 : BitVec 32 := 128#32
  let v4 : BitVec 32 := Scalar.addi v3 c128_i32_0
  let c1_i32 : BitVec 32 := 1#32
  let v5 : BitVec 32 := Scalar.subi v4 c1_i32
  let v78 : BitVec 32 := Scalar.minsi v77 v5
  let c0_i32_127_r2 : BitVec 32 := 0#32
  ![v78.toNat, 0]
def k1_off4 (i : grid1.Coords) (k1_t1 : Fin k1_t1_loop.trips) (c1_i32_50 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c2_i32_49 : BitVec 32 := 2#32
  let c0_i32_29 : BitVec 32 := 0#32
  let c1_i32_30 : BitVec 32 := 1#32
  let arg21 : BitVec 32 := Scf.iv c0_i32_29 c1_i32_30 k1_t1
  let v75 : BitVec 32 := Scalar.muli c2_i32_49 arg21
  let v76 : BitVec 32 := Scalar.addi v3 v75
  let v77 : BitVec 32 := Scalar.addi v76 c1_i32_50
  let c128_i32_0 : BitVec 32 := 128#32
  let v4 : BitVec 32 := Scalar.addi v3 c128_i32_0
  let c1_i32 : BitVec 32 := 1#32
  let v5 : BitVec 32 := Scalar.subi v4 c1_i32
  let v78 : BitVec 32 := Scalar.minsi v77 v5
  let c0_i32_67 : BitVec 32 := 0#32
  ![v78.toNat, 0]
@[reducible] def k1_t2_loop : Scf.Loop 32 :=
  let c0_i32_69 : BitVec 32 := 0#32
  let c24_i32 : BitVec 32 := 24#32
  let v94 : BitVec 32 := Scalar.addi c0_i32_69 c24_i32
  let c1_i32_70 : BitVec 32 := 1#32
  ⟨c0_i32_69, v94, c1_i32_70⟩
def k1_off5 (k1_t2 : Fin k1_t2_loop.trips) : Fin 1 → Nat :=
  let c0_i32_69 : BitVec 32 := 0#32
  let c1_i32_70 : BitVec 32 := 1#32
  let arg24 : BitVec 32 := Scf.iv c0_i32_69 c1_i32_70 k1_t2
  let c16_i32 : BitVec 32 := 16#32
  let v137 : BitVec 32 := Scalar.muli arg24 c16_i32
  let v138 : Index := Scalar.indexCast v137
  ![v138.toNat]
@[reducible] def k1_t3_loop : Scf.Loop 32 :=
  let c0_i32_127 : BitVec 32 := 0#32
  let c24_i32_128 : BitVec 32 := 24#32
  let v140 : BitVec 32 := Scalar.addi c0_i32_127 c24_i32_128
  let c1_i32_129 : BitVec 32 := 1#32
  ⟨c0_i32_127, v140, c1_i32_129⟩
def k1_off6 (k1_t2 : Fin k1_t2_loop.trips) (k1_t3 : Fin k1_t3_loop.trips) : Fin 2 → Nat :=
  let c0_i32_127 : BitVec 32 := 0#32
  let c1_i32_129 : BitVec 32 := 1#32
  let arg27 : BitVec 32 := Scf.iv c0_i32_127 c1_i32_129 k1_t3
  let v143 : Index := Scalar.indexCast arg27
  let c0_i32_69 : BitVec 32 := 0#32
  let c1_i32_70 : BitVec 32 := 1#32
  let arg24 : BitVec 32 := Scf.iv c0_i32_69 c1_i32_70 k1_t2
  let c16_i32_131 : BitVec 32 := 16#32
  let v142 : BitVec 32 := Scalar.muli arg24 c16_i32_131
  let v144 : Index := Scalar.indexCast v142
  ![v143.toNat, v144.toNat]
@[reducible] def k1_t4_loop : Scf.Loop 32 :=
  let c0_i32_106 : BitVec 32 := 0#32
  let c24_i32_107 : BitVec 32 := 24#32
  let v122 : BitVec 32 := Scalar.addi c0_i32_106 c24_i32_107
  let c1_i32_108 : BitVec 32 := 1#32
  ⟨c0_i32_106, v122, c1_i32_108⟩
def k1_off7 (k1_t4 : Fin k1_t4_loop.trips) : Fin 1 → Nat :=
  let c0_i32_106 : BitVec 32 := 0#32
  let c1_i32_108 : BitVec 32 := 1#32
  let arg24 : BitVec 32 := Scf.iv c0_i32_106 c1_i32_108 k1_t4
  let c16_i32 : BitVec 32 := 16#32
  let v137 : BitVec 32 := Scalar.muli arg24 c16_i32
  let v138 : Index := Scalar.indexCast v137
  ![v138.toNat]
@[reducible] def k1_t5_loop : Scf.Loop 32 :=
  let c0_i32_127 : BitVec 32 := 0#32
  let c24_i32_128 : BitVec 32 := 24#32
  let v140 : BitVec 32 := Scalar.addi c0_i32_127 c24_i32_128
  let c1_i32_129 : BitVec 32 := 1#32
  ⟨c0_i32_127, v140, c1_i32_129⟩
def k1_off8 (k1_t4 : Fin k1_t4_loop.trips) (k1_t5 : Fin k1_t5_loop.trips) : Fin 2 → Nat :=
  let c0_i32_127 : BitVec 32 := 0#32
  let c1_i32_129 : BitVec 32 := 1#32
  let arg27 : BitVec 32 := Scf.iv c0_i32_127 c1_i32_129 k1_t5
  let v143 : Index := Scalar.indexCast arg27
  let c0_i32_106 : BitVec 32 := 0#32
  let c1_i32_108 : BitVec 32 := 1#32
  let arg24 : BitVec 32 := Scf.iv c0_i32_106 c1_i32_108 k1_t4
  let c16_i32_131 : BitVec 32 := 16#32
  let v142 : BitVec 32 := Scalar.muli arg24 c16_i32_131
  let v144 : Index := Scalar.indexCast v142
  ![v143.toNat, v144.toNat]

def k1_chk1 (v31 : IVec S16 32) : Prop :=
  (∀ a x, ((![v31] : Fin 1 → IVec S16 32) a x).toNat < S16.size a)
theorem k1_idx1_inb : ∀ (v31 : IVec S16 32) (k1_hw1 : k1_chk1 v31), ∀ a x, ((![v31] : Fin 1 → IVec S16 32) a x).toNat < S16.size a := fun v31 k1_hw1 => k1_hw1

def k1_chk2 (v36 : IVec S16 32) : Prop :=
  (∀ a x, ((![v36] : Fin 1 → IVec S16 32) a x).toNat < S16.size a)
theorem k1_idx2_inb : ∀ (v36 : IVec S16 32) (k1_hw2 : k1_chk2 v36), ∀ a x, ((![v36] : Fin 1 → IVec S16 32) a x).toNat < S16.size a := fun v36 k1_hw2 => k1_hw2

def k1_chk3 (v41 : IVec S16 32) : Prop :=
  (∀ a x, ((![v41] : Fin 1 → IVec S16 32) a x).toNat < S16.size a)
theorem k1_idx3_inb : ∀ (v41 : IVec S16 32) (k1_hw3 : k1_chk3 v41), ∀ a x, ((![v41] : Fin 1 → IVec S16 32) a x).toNat < S16.size a := fun v41 k1_hw3 => k1_hw3

def k1_chk4 (v46 : IVec S16 32) : Prop :=
  (∀ a x, ((![v46] : Fin 1 → IVec S16 32) a x).toNat < S16.size a)
theorem k1_idx4_inb : ∀ (v46 : IVec S16 32) (k1_hw4 : k1_chk4 v46), ∀ a x, ((![v46] : Fin 1 → IVec S16 32) a x).toNat < S16.size a := fun v46 k1_hw4 => k1_hw4

def k1_chk5 (v55 : IVec S16 32) : Prop :=
  (∀ a x, ((![v55] : Fin 1 → IVec S16 32) a x).toNat < S16.size a)
theorem k1_idx5_inb : ∀ (v55 : IVec S16 32) (k1_hw5 : k1_chk5 v55), ∀ a x, ((![v55] : Fin 1 → IVec S16 32) a x).toNat < S16.size a := fun v55 k1_hw5 => k1_hw5

def k1_chk6 (v60 : IVec S16 32) : Prop :=
  (∀ a x, ((![v60] : Fin 1 → IVec S16 32) a x).toNat < S16.size a)
theorem k1_idx6_inb : ∀ (v60 : IVec S16 32) (k1_hw6 : k1_chk6 v60), ∀ a x, ((![v60] : Fin 1 → IVec S16 32) a x).toNat < S16.size a := fun v60 k1_hw6 => k1_hw6

def k1_chk7 (v65 : IVec S16 32) : Prop :=
  (∀ a x, ((![v65] : Fin 1 → IVec S16 32) a x).toNat < S16.size a)
theorem k1_idx7_inb : ∀ (v65 : IVec S16 32) (k1_hw7 : k1_chk7 v65), ∀ a x, ((![v65] : Fin 1 → IVec S16 32) a x).toNat < S16.size a := fun v65 k1_hw7 => k1_hw7

def k1_chk8 (v70 : IVec S16 32) : Prop :=
  (∀ a x, ((![v70] : Fin 1 → IVec S16 32) a x).toNat < S16.size a)
theorem k1_idx8_inb : ∀ (v70 : IVec S16 32) (k1_hw8 : k1_chk8 v70), ∀ a x, ((![v70] : Fin 1 → IVec S16 32) a x).toNat < S16.size a := fun v70 k1_hw8 => k1_hw8
def k1_off9 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_49_r4 : BitVec 32 := 0#32
  ![v1.toNat, 0]
abbrev grid2 : Pipeline.Grid := ⟨2, ![2, 16], ![false, false]⟩

def k2_chk1 (v26 : IVec S16 32) : Prop :=
  (∀ a x, ((![v26] : Fin 1 → IVec S16 32) a x).toNat < S16.size a)
theorem k2_idx1_inb : ∀ (v26 : IVec S16 32) (k2_hw1 : k2_chk1 v26), ∀ a x, ((![v26] : Fin 1 → IVec S16 32) a x).toNat < S16.size a := fun v26 k2_hw1 => k2_hw1
@[reducible] def k2_t1_loop : Scf.Loop 32 :=
  let c0_i32_8 : BitVec 32 := 0#32
  let c24_i32 : BitVec 32 := 24#32
  let v28 : BitVec 32 := Scalar.addi c0_i32_8 c24_i32
  let c1_i32_9 : BitVec 32 := 1#32
  ⟨c0_i32_8, v28, c1_i32_9⟩
def k2_off1 (k2_t1 : Fin k2_t1_loop.trips) : Fin 1 → Nat :=
  let c0_i32_8 : BitVec 32 := 0#32
  let c1_i32_9 : BitVec 32 := 1#32
  let arg31 : BitVec 32 := Scf.iv c0_i32_8 c1_i32_9 k2_t1
  let c16_i32 : BitVec 32 := 16#32
  let v48 : BitVec 32 := Scalar.muli arg31 c16_i32
  let v49 : Index := Scalar.indexCast v48
  ![v49.toNat]
def k2_off2 (i : grid2.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v19 : BitVec 32 := Scalar.muli v1 c128_i32
  let c0_i32_44_r3 : BitVec 32 := 0#32
  ![v19.toNat, 0]
def k2_off3 (i : grid2.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v19 : BitVec 32 := Scalar.muli v1 c128_i32
  let c0_i32_44_r4 : BitVec 32 := 0#32
  ![v19.toNat, 0]
@[reducible] def k2_t2_loop : Scf.Loop 32 :=
  let c0_i32_41 : BitVec 32 := 0#32
  let c64_i32 : BitVec 32 := 64#32
  let v47 : BitVec 32 := Scalar.addi c0_i32_41 c64_i32
  let c1_i32_42 : BitVec 32 := 1#32
  ⟨c0_i32_41, v47, c1_i32_42⟩
def k2_off4 (i : grid2.Coords) (k2_t2 : Fin k2_t2_loop.trips) (c1_i32_45 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v19 : BitVec 32 := Scalar.muli v1 c128_i32
  let c2_i32_44 : BitVec 32 := 2#32
  let c0_i32_41 : BitVec 32 := 0#32
  let c1_i32_42 : BitVec 32 := 1#32
  let arg31 : BitVec 32 := Scf.iv c0_i32_41 c1_i32_42 k2_t2
  let v48 : BitVec 32 := Scalar.muli c2_i32_44 arg31
  let v49 : BitVec 32 := Scalar.addi v19 v48
  let v50 : BitVec 32 := Scalar.addi v49 c1_i32_45
  let c128_i32_4 : BitVec 32 := 128#32
  let v20 : BitVec 32 := Scalar.addi v19 c128_i32_4
  let c1_i32_5 : BitVec 32 := 1#32
  let v21 : BitVec 32 := Scalar.subi v20 c1_i32_5
  let v51 : BitVec 32 := Scalar.minsi v50 v21
  let c0_i32_142_r5 : BitVec 32 := 0#32
  ![v51.toNat, 0]
def k2_off5 (i : grid2.Coords) (k2_t2 : Fin k2_t2_loop.trips) (c1_i32_45 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v19 : BitVec 32 := Scalar.muli v1 c128_i32
  let c2_i32_44 : BitVec 32 := 2#32
  let c0_i32_41 : BitVec 32 := 0#32
  let c1_i32_42 : BitVec 32 := 1#32
  let arg31 : BitVec 32 := Scf.iv c0_i32_41 c1_i32_42 k2_t2
  let v48 : BitVec 32 := Scalar.muli c2_i32_44 arg31
  let v49 : BitVec 32 := Scalar.addi v19 v48
  let v50 : BitVec 32 := Scalar.addi v49 c1_i32_45
  let c128_i32_4 : BitVec 32 := 128#32
  let v20 : BitVec 32 := Scalar.addi v19 c128_i32_4
  let c1_i32_5 : BitVec 32 := 1#32
  let v21 : BitVec 32 := Scalar.subi v20 c1_i32_5
  let v51 : BitVec 32 := Scalar.minsi v50 v21
  let c0_i32_62 : BitVec 32 := 0#32
  ![v51.toNat, 0]
@[reducible] def k2_t3_loop : Scf.Loop 32 :=
  let c0_i32_65 : BitVec 32 := 0#32
  let c24_i32_66 : BitVec 32 := 24#32
  let v67 : BitVec 32 := Scalar.addi c0_i32_65 c24_i32_66
  let c1_i32_67 : BitVec 32 := 1#32
  ⟨c0_i32_65, v67, c1_i32_67⟩
def k2_off6 (k2_t3 : Fin k2_t3_loop.trips) : Fin 1 → Nat :=
  let c0_i32_65 : BitVec 32 := 0#32
  let c1_i32_67 : BitVec 32 := 1#32
  let arg32 : BitVec 32 := Scf.iv c0_i32_65 c1_i32_67 k2_t3
  let c16_i32 : BitVec 32 := 16#32
  let v125 : BitVec 32 := Scalar.muli arg32 c16_i32
  let v126 : Index := Scalar.indexCast v125
  ![v126.toNat]
@[reducible] def k2_t4_loop : Scf.Loop 32 :=
  let c0_i32_145 : BitVec 32 := 0#32
  let c24_i32_146 : BitVec 32 := 24#32
  let v136 : BitVec 32 := Scalar.addi c0_i32_145 c24_i32_146
  let c1_i32_147 : BitVec 32 := 1#32
  ⟨c0_i32_145, v136, c1_i32_147⟩
def k2_off7 (k2_t3 : Fin k2_t3_loop.trips) (k2_t4 : Fin k2_t4_loop.trips) : Fin 2 → Nat :=
  let c0_i32_145 : BitVec 32 := 0#32
  let c1_i32_147 : BitVec 32 := 1#32
  let arg33 : BitVec 32 := Scf.iv c0_i32_145 c1_i32_147 k2_t4
  let v138 : Index := Scalar.indexCast arg33
  let c0_i32_65 : BitVec 32 := 0#32
  let c1_i32_67 : BitVec 32 := 1#32
  let arg32 : BitVec 32 := Scf.iv c0_i32_65 c1_i32_67 k2_t3
  let c16_i32_149 : BitVec 32 := 16#32
  let v137 : BitVec 32 := Scalar.muli arg32 c16_i32_149
  let v139 : Index := Scalar.indexCast v137
  ![v138.toNat, v139.toNat]
def k2_off8 (k2_t3 : Fin k2_t3_loop.trips) (k2_t4 : Fin k2_t4_loop.trips) : Fin 2 → Nat :=
  let c0_i32_145 : BitVec 32 := 0#32
  let c1_i32_147 : BitVec 32 := 1#32
  let arg33 : BitVec 32 := Scf.iv c0_i32_145 c1_i32_147 k2_t4
  let v144 : Index := Scalar.indexCast arg33
  let c0_i32_65 : BitVec 32 := 0#32
  let c1_i32_67 : BitVec 32 := 1#32
  let arg32 : BitVec 32 := Scf.iv c0_i32_65 c1_i32_67 k2_t3
  let c16_i32_150 : BitVec 32 := 16#32
  let v143 : BitVec 32 := Scalar.muli arg32 c16_i32_150
  let v145 : Index := Scalar.indexCast v143
  ![v144.toNat, v145.toNat]
def k2_off9 (k2_t3 : Fin k2_t3_loop.trips) (k2_t4 : Fin k2_t4_loop.trips) : Fin 2 → Nat :=
  let c0_i32_145 : BitVec 32 := 0#32
  let c1_i32_147 : BitVec 32 := 1#32
  let arg33 : BitVec 32 := Scf.iv c0_i32_145 c1_i32_147 k2_t4
  let v149 : Index := Scalar.indexCast arg33
  let c384_i32 : BitVec 32 := 384#32
  let c0_i32_65 : BitVec 32 := 0#32
  let c1_i32_67 : BitVec 32 := 1#32
  let arg32 : BitVec 32 := Scf.iv c0_i32_65 c1_i32_67 k2_t3
  let c16_i32_151 : BitVec 32 := 16#32
  let v147 : BitVec 32 := Scalar.muli arg32 c16_i32_151
  let v148 : BitVec 32 := Scalar.addi c384_i32 v147
  let v150 : Index := Scalar.indexCast v148
  ![v149.toNat, v150.toNat]
def k2_off10 (i : grid2.Coords) (k2_t2 : Fin k2_t2_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v19 : BitVec 32 := Scalar.muli v1 c128_i32
  let c2_i32_44 : BitVec 32 := 2#32
  let c0_i32_41 : BitVec 32 := 0#32
  let c1_i32_42 : BitVec 32 := 1#32
  let arg31 : BitVec 32 := Scf.iv c0_i32_41 c1_i32_42 k2_t2
  let v48 : BitVec 32 := Scalar.muli c2_i32_44 arg31
  let v49 : BitVec 32 := Scalar.addi v19 v48
  let c0_i32_69 : BitVec 32 := 0#32
  let c0_i32_70 : BitVec 32 := 0#32
  ![v49.toNat, 0, 0]
@[reducible] def k2_t5_loop : Scf.Loop 32 :=
  let c0_i32_108 : BitVec 32 := 0#32
  let c24_i32_109 : BitVec 32 := 24#32
  let v98 : BitVec 32 := Scalar.addi c0_i32_108 c24_i32_109
  let c1_i32_110 : BitVec 32 := 1#32
  ⟨c0_i32_108, v98, c1_i32_110⟩
def k2_off11 (k2_t5 : Fin k2_t5_loop.trips) : Fin 1 → Nat :=
  let c0_i32_108 : BitVec 32 := 0#32
  let c1_i32_110 : BitVec 32 := 1#32
  let arg32 : BitVec 32 := Scf.iv c0_i32_108 c1_i32_110 k2_t5
  let c16_i32 : BitVec 32 := 16#32
  let v125 : BitVec 32 := Scalar.muli arg32 c16_i32
  let v126 : Index := Scalar.indexCast v125
  ![v126.toNat]
@[reducible] def k2_t6_loop : Scf.Loop 32 :=
  let c0_i32_145 : BitVec 32 := 0#32
  let c24_i32_146 : BitVec 32 := 24#32
  let v136 : BitVec 32 := Scalar.addi c0_i32_145 c24_i32_146
  let c1_i32_147 : BitVec 32 := 1#32
  ⟨c0_i32_145, v136, c1_i32_147⟩
def k2_off12 (k2_t5 : Fin k2_t5_loop.trips) (k2_t6 : Fin k2_t6_loop.trips) : Fin 2 → Nat :=
  let c0_i32_145 : BitVec 32 := 0#32
  let c1_i32_147 : BitVec 32 := 1#32
  let arg33 : BitVec 32 := Scf.iv c0_i32_145 c1_i32_147 k2_t6
  let v138 : Index := Scalar.indexCast arg33
  let c0_i32_108 : BitVec 32 := 0#32
  let c1_i32_110 : BitVec 32 := 1#32
  let arg32 : BitVec 32 := Scf.iv c0_i32_108 c1_i32_110 k2_t5
  let c16_i32_149 : BitVec 32 := 16#32
  let v137 : BitVec 32 := Scalar.muli arg32 c16_i32_149
  let v139 : Index := Scalar.indexCast v137
  ![v138.toNat, v139.toNat]
def k2_off13 (k2_t5 : Fin k2_t5_loop.trips) (k2_t6 : Fin k2_t6_loop.trips) : Fin 2 → Nat :=
  let c0_i32_145 : BitVec 32 := 0#32
  let c1_i32_147 : BitVec 32 := 1#32
  let arg33 : BitVec 32 := Scf.iv c0_i32_145 c1_i32_147 k2_t6
  let v144 : Index := Scalar.indexCast arg33
  let c0_i32_108 : BitVec 32 := 0#32
  let c1_i32_110 : BitVec 32 := 1#32
  let arg32 : BitVec 32 := Scf.iv c0_i32_108 c1_i32_110 k2_t5
  let c16_i32_150 : BitVec 32 := 16#32
  let v143 : BitVec 32 := Scalar.muli arg32 c16_i32_150
  let v145 : Index := Scalar.indexCast v143
  ![v144.toNat, v145.toNat]
def k2_off14 (k2_t5 : Fin k2_t5_loop.trips) (k2_t6 : Fin k2_t6_loop.trips) : Fin 2 → Nat :=
  let c0_i32_145 : BitVec 32 := 0#32
  let c1_i32_147 : BitVec 32 := 1#32
  let arg33 : BitVec 32 := Scf.iv c0_i32_145 c1_i32_147 k2_t6
  let v149 : Index := Scalar.indexCast arg33
  let c384_i32 : BitVec 32 := 384#32
  let c0_i32_108 : BitVec 32 := 0#32
  let c1_i32_110 : BitVec 32 := 1#32
  let arg32 : BitVec 32 := Scf.iv c0_i32_108 c1_i32_110 k2_t5
  let c16_i32_151 : BitVec 32 := 16#32
  let v147 : BitVec 32 := Scalar.muli arg32 c16_i32_151
  let v148 : BitVec 32 := Scalar.addi c384_i32 v147
  let v150 : Index := Scalar.indexCast v148
  ![v149.toNat, v150.toNat]
def k2_off15 (i : grid2.Coords) (k2_t2 : Fin k2_t2_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v19 : BitVec 32 := Scalar.muli v1 c128_i32
  let c2_i32_44 : BitVec 32 := 2#32
  let c0_i32_41 : BitVec 32 := 0#32
  let c1_i32_42 : BitVec 32 := 1#32
  let arg31 : BitVec 32 := Scf.iv c0_i32_41 c1_i32_42 k2_t2
  let v48 : BitVec 32 := Scalar.muli c2_i32_44 arg31
  let v49 : BitVec 32 := Scalar.addi v19 v48
  let c1_i32_112 : BitVec 32 := 1#32
  let v99 : BitVec 32 := Scalar.addi v49 c1_i32_112
  let c0_i32_113 : BitVec 32 := 0#32
  let c0_i32_114 : BitVec 32 := 0#32
  ![v99.toNat, 0, 0]
abbrev scKind : Fin 3 → Kind := fun | 0 => .scVector | 1 => .scVector | 2 => .scVector | ⟨_ + 3, h⟩ => absurd h (Nat.not_lt.2 (Nat.le_add_left _ _))
abbrev scNCore : Fin 3 → Nat := fun | 0 => 2 | 1 => 2 | 2 => 2 | ⟨_ + 3, h⟩ => absurd h (Nat.not_lt.2 (Nat.le_add_left _ _))
abbrev scNSub : Fin 3 → Nat := fun | 0 => 16 | 1 => 16 | 2 => 16 | ⟨_ + 3, h⟩ => absurd h (Nat.not_lt.2 (Nat.le_add_left _ _))
-- ==== ReferenceIdeal.lean ====
abbrev S4x8192x3 : Shape := ⟨3, ![4, 8192, 3]⟩
abbrev S4x8192x384 : Shape := ⟨3, ![4, 8192, 384]⟩
abbrev S4x1024 : Shape := ⟨2, ![4, 1024]⟩
abbrev S4x1024x24 : Shape := ⟨3, ![4, 1024, 24]⟩
abbrev S1x1x1x384 : Shape := ⟨4, ![1, 1, 1, 384]⟩
abbrev S4x1024x1 : Shape := ⟨3, ![4, 1024, 1]⟩
abbrev S_ : Shape := ⟨0, ![]⟩
abbrev S1 : Shape := ⟨1, ![1]⟩
abbrev S1x1x1 : Shape := ⟨3, ![1, 1, 1]⟩
abbrev S4x1024x3 : Shape := ⟨3, ![4, 1024, 3]⟩
abbrev S4x1024x384 : Shape := ⟨3, ![4, 1024, 384]⟩
abbrev S4 : Shape := ⟨1, ![4]⟩
abbrev S4x1x1 : Shape := ⟨3, ![4, 1, 1]⟩
abbrev S4x1024x24x1 : Shape := ⟨4, ![4, 1024, 24, 1]⟩
abbrev S4x1024x24x2 : Shape := ⟨4, ![4, 1024, 24, 2]⟩
abbrev S4x1024x24x384 : Shape := ⟨4, ![4, 1024, 24, 384]⟩
abbrev S4x1024x1x384 : Shape := ⟨4, ![4, 1024, 1, 384]⟩
abbrev S4x9437184 : Shape := ⟨2, ![4, 9437184]⟩
abbrev S4x1 : Shape := ⟨2, ![4, 1]⟩
abbrev S4x1x1x1 : Shape := ⟨4, ![4, 1, 1, 1]⟩
abbrev S4x1024x24x768 : Shape := ⟨4, ![4, 1024, 24, 768]⟩

abbrev nBuf : Space → Nat
  | .hbm => 114
  | .vmem => 0
  | .smem => 0
  | _ => 0

abbrev bufTy : (tb : Table) → Fin (tcTables nBuf tb) → BufTy
  | .hbm, ⟨0, _⟩ => ⟨S4x8192x3, .f32⟩
  | .hbm, ⟨1, _⟩ => ⟨S4x8192x384, .f32⟩
  | .hbm, ⟨2, _⟩ => ⟨S4x1024, .i32⟩
  | .hbm, ⟨3, _⟩ => ⟨S4x1024x24, .i32⟩
  | .hbm, ⟨4, _⟩ => ⟨S1x1x1x384, .f32⟩
  | .hbm, ⟨5, _⟩ => ⟨S1x1x1x384, .f32⟩
  | .hbm, ⟨6, _⟩ => ⟨S4x1024x1, .i32⟩
  | .hbm, ⟨7, _⟩ => ⟨S_, .i32⟩
  | .hbm, ⟨8, _⟩ => ⟨S4x1024x1, .i32⟩
  | .hbm, ⟨9, _⟩ => ⟨S4x1024x1, .i1⟩
  | .hbm, ⟨10, _⟩ => ⟨S_, .i32⟩
  | .hbm, ⟨11, _⟩ => ⟨S4x1024x1, .i32⟩
  | .hbm, ⟨12, _⟩ => ⟨S4x1024x1, .i32⟩
  | .hbm, ⟨13, _⟩ => ⟨S4x1024x1, .i32⟩
  | .hbm, ⟨14, _⟩ => ⟨S1, .i32⟩
  | .hbm, ⟨15, _⟩ => ⟨S_, .i32⟩
  | .hbm, ⟨16, _⟩ => ⟨S4x1024x1, .i32⟩
  | .hbm, ⟨17, _⟩ => ⟨S4x1024x1, .i1⟩
  | .hbm, ⟨18, _⟩ => ⟨S1x1x1, .i32⟩
  | .hbm, ⟨19, _⟩ => ⟨S4x1024x1, .i32⟩
  | .hbm, ⟨20, _⟩ => ⟨S4x1024x1, .i1⟩
  | .hbm, ⟨21, _⟩ => ⟨S4x1024x1, .i1⟩
  | .hbm, ⟨22, _⟩ => ⟨S_, .i1⟩
  | .hbm, ⟨23, _⟩ => ⟨S4x1024, .i1⟩
  | .hbm, ⟨24, _⟩ => ⟨S4x1024x3, .f32⟩
  | .hbm, ⟨25, _⟩ => ⟨S4x1024x3, .i1⟩
  | .hbm, ⟨26, _⟩ => ⟨S_, .f32⟩
  | .hbm, ⟨27, _⟩ => ⟨S4x1024x3, .f32⟩
  | .hbm, ⟨28, _⟩ => ⟨S4x1024x3, .f32⟩
  | .hbm, ⟨29, _⟩ => ⟨S4x1024x1, .i32⟩
  | .hbm, ⟨30, _⟩ => ⟨S_, .i32⟩
  | .hbm, ⟨31, _⟩ => ⟨S4x1024x1, .i32⟩
  | .hbm, ⟨32, _⟩ => ⟨S4x1024x1, .i1⟩
  | .hbm, ⟨33, _⟩ => ⟨S_, .i32⟩
  | .hbm, ⟨34, _⟩ => ⟨S4x1024x1, .i32⟩
  | .hbm, ⟨35, _⟩ => ⟨S4x1024x1, .i32⟩
  | .hbm, ⟨36, _⟩ => ⟨S4x1024x1, .i32⟩
  | .hbm, ⟨37, _⟩ => ⟨S1, .i32⟩
  | .hbm, ⟨38, _⟩ => ⟨S_, .i32⟩
  | .hbm, ⟨39, _⟩ => ⟨S4x1024x1, .i32⟩
  | .hbm, ⟨40, _⟩ => ⟨S4x1024x1, .i1⟩
  | .hbm, ⟨41, _⟩ => ⟨S1x1x1, .i32⟩
  | .hbm, ⟨42, _⟩ => ⟨S4x1024x1, .i32⟩
  | .hbm, ⟨43, _⟩ => ⟨S4x1024x1, .i1⟩
  | .hbm, ⟨44, _⟩ => ⟨S4x1024x1, .i1⟩
  | .hbm, ⟨45, _⟩ => ⟨S_, .i1⟩
  | .hbm, ⟨46, _⟩ => ⟨S4x1024, .i1⟩
  | .hbm, ⟨47, _⟩ => ⟨S4x1024x384, .f32⟩
  | .hbm, ⟨48, _⟩ => ⟨S4x1024x384, .i1⟩
  | .hbm, ⟨49, _⟩ => ⟨S_, .f32⟩
  | .hbm, ⟨50, _⟩ => ⟨S4x1024x384, .f32⟩
  | .hbm, ⟨51, _⟩ => ⟨S4x1024x384, .f32⟩
  | .hbm, ⟨52, _⟩ => ⟨S4, .i32⟩
  | .hbm, ⟨53, _⟩ => ⟨S4x1x1, .i32⟩
  | .hbm, ⟨54, _⟩ => ⟨S_, .i32⟩
  | .hbm, ⟨55, _⟩ => ⟨S4x1x1, .i32⟩
  | .hbm, ⟨56, _⟩ => ⟨S4x1x1, .i1⟩
  | .hbm, ⟨57, _⟩ => ⟨S_, .i32⟩
  | .hbm, ⟨58, _⟩ => ⟨S4x1x1, .i32⟩
  | .hbm, ⟨59, _⟩ => ⟨S4x1x1, .i32⟩
  | .hbm, ⟨60, _⟩ => ⟨S4x1x1, .i32⟩
  | .hbm, ⟨61, _⟩ => ⟨S_, .i32⟩
  | .hbm, ⟨62, _⟩ => ⟨S4x1024x24, .i32⟩
  | .hbm, ⟨63, _⟩ => ⟨S4x1024x24, .i1⟩
  | .hbm, ⟨64, _⟩ => ⟨S_, .i32⟩
  | .hbm, ⟨65, _⟩ => ⟨S4x1024x24, .i32⟩
  | .hbm, ⟨66, _⟩ => ⟨S4x1024x24, .i32⟩
  | .hbm, ⟨67, _⟩ => ⟨S4x1024x24, .i32⟩
  | .hbm, ⟨68, _⟩ => ⟨S4x1024x24, .i32⟩
  | .hbm, ⟨69, _⟩ => ⟨S4x1024x24x1, .i32⟩
  | .hbm, ⟨70, _⟩ => ⟨S4x1024x24x1, .i32⟩
  | .hbm, ⟨71, _⟩ => ⟨S4x1024x24x2, .i32⟩
  | .hbm, ⟨72, _⟩ => ⟨S4x1024x24x384, .f32⟩
  | .hbm, ⟨73, _⟩ => ⟨S4x1024x1x384, .f32⟩
  | .hbm, ⟨74, _⟩ => ⟨S4x1024x24x384, .f32⟩
  | .hbm, ⟨75, _⟩ => ⟨S4x1024x24x384, .f32⟩
  | .hbm, ⟨76, _⟩ => ⟨S4x9437184, .f32⟩
  | .hbm, ⟨77, _⟩ => ⟨S_, .i32⟩
  | .hbm, ⟨78, _⟩ => ⟨S_, .f32⟩
  | .hbm, ⟨79, _⟩ => ⟨S4, .f32⟩
  | .hbm, ⟨80, _⟩ => ⟨S4x1, .f32⟩
  | .hbm, ⟨81, _⟩ => ⟨S_, .f32⟩
  | .hbm, ⟨82, _⟩ => ⟨S4x1, .f32⟩
  | .hbm, ⟨83, _⟩ => ⟨S4x1, .f32⟩
  | .hbm, ⟨84, _⟩ => ⟨S4x9437184, .f32⟩
  | .hbm, ⟨85, _⟩ => ⟨S4x9437184, .f32⟩
  | .hbm, ⟨86, _⟩ => ⟨S4x9437184, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S4, .f32⟩
  | .hbm, ⟨92, _⟩ => ⟨S4, .f32⟩
  | .hbm, ⟨93, _⟩ => ⟨S4, .f32⟩
  | .hbm, ⟨94, _⟩ => ⟨S_, .f32⟩
  | .hbm, ⟨95, _⟩ => ⟨S_, .i1⟩
  | .hbm, ⟨96, _⟩ => ⟨S_, .f32⟩
  | .hbm, ⟨97, _⟩ => ⟨S_, .f32⟩
  | .hbm, ⟨98, _⟩ => ⟨S4, .f32⟩
  | .hbm, ⟨99, _⟩ => ⟨S4, .f32⟩
  | .hbm, ⟨100, _⟩ => ⟨S4, .f32⟩
  | .hbm, ⟨101, _⟩ => ⟨S4x1x1x1, .f32⟩
  | .hbm, ⟨102, _⟩ => ⟨S_, .f32⟩
  | .hbm, ⟨103, _⟩ => ⟨S4x1x1x1, .f32⟩
  | .hbm, ⟨104, _⟩ => ⟨S4x1x1x1, .f32⟩
  | .hbm, ⟨105, _⟩ => ⟨S4x1024x24x384, .f32⟩
  | .hbm, ⟨106, _⟩ => ⟨S4x1024x24x384, .f32⟩
  | .hbm, ⟨107, _⟩ => ⟨S4x1024x24x384, .f32⟩
  | .hbm, ⟨108, _⟩ => ⟨S4x1024x24x384, .f32⟩
  | .hbm, ⟨109, _⟩ => ⟨S4x1024x24x384, .f32⟩
  | .hbm, ⟨110, _⟩ => ⟨S4x1024x24x384, .f32⟩
  | .hbm, ⟨111, _⟩ => ⟨S4x1024x1x384, .f32⟩
  | .hbm, ⟨112, _⟩ => ⟨S4x1024x24x384, .f32⟩
  | .hbm, ⟨113, _⟩ => ⟨S4x1024x24x768, .f32⟩
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_c_1 : Ref sig .tc := ⟨.hbm, 14, rfl⟩
abbrev main_call0_c_2 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_c_3 : Ref sig .tc := ⟨.hbm, 22, rfl⟩
abbrev main_call0_v11 : Ref sig .tc := ⟨.hbm, 23, rfl⟩
abbrev main_call0_v12 : Ref sig .tc := ⟨.hbm, 24, rfl⟩
abbrev main_call0_v13 : Ref sig .tc := ⟨.hbm, 25, rfl⟩
abbrev main_call0_cst : Ref sig .tc := ⟨.hbm, 26, rfl⟩
abbrev main_call0_v14 : Ref sig .tc := ⟨.hbm, 27, rfl⟩
abbrev main_v1 : Ref sig .tc := ⟨.hbm, 28, rfl⟩
abbrev main_v2 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_c_1 : Ref sig .tc := ⟨.hbm, 37, rfl⟩
abbrev main_call1_c_2 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_c_3 : Ref sig .tc := ⟨.hbm, 45, rfl⟩
abbrev main_call1_v11 : Ref sig .tc := ⟨.hbm, 46, rfl⟩
abbrev main_call1_v12 : Ref sig .tc := ⟨.hbm, 47, rfl⟩
abbrev main_call1_v13 : Ref sig .tc := ⟨.hbm, 48, rfl⟩
abbrev main_call1_cst : Ref sig .tc := ⟨.hbm, 49, rfl⟩
abbrev main_call1_v14 : Ref sig .tc := ⟨.hbm, 50, rfl⟩
abbrev main_v3 : Ref sig .tc := ⟨.hbm, 51, rfl⟩
abbrev main_v4 : Ref sig .tc := ⟨.hbm, 52, rfl⟩
abbrev main_v5 : Ref sig .tc := ⟨.hbm, 53, rfl⟩
abbrev main_c : Ref sig .tc := ⟨.hbm, 54, rfl⟩
abbrev main_v6 : Ref sig .tc := ⟨.hbm, 55, rfl⟩
abbrev main_v7 : Ref sig .tc := ⟨.hbm, 56, rfl⟩
abbrev main_c_0 : Ref sig .tc := ⟨.hbm, 57, rfl⟩
abbrev main_v8 : Ref sig .tc := ⟨.hbm, 58, rfl⟩
abbrev main_v9 : Ref sig .tc := ⟨.hbm, 59, rfl⟩
abbrev main_v10 : Ref sig .tc := ⟨.hbm, 60, rfl⟩
abbrev main_c_1 : Ref sig .tc := ⟨.hbm, 61, rfl⟩
abbrev main_v11 : Ref sig .tc := ⟨.hbm, 62, rfl⟩
abbrev main_v12 : Ref sig .tc := ⟨.hbm, 63, rfl⟩
abbrev main_c_2 : Ref sig .tc := ⟨.hbm, 64, rfl⟩
abbrev main_v13 : Ref sig .tc := ⟨.hbm, 65, rfl⟩
abbrev main_v14 : Ref sig .tc := ⟨.hbm, 66, rfl⟩
abbrev main_v15 : Ref sig .tc := ⟨.hbm, 67, rfl⟩
abbrev main_v16 : Ref sig .tc := ⟨.hbm, 68, rfl⟩
abbrev main_v17 : Ref sig .tc := ⟨.hbm, 69, rfl⟩
abbrev main_v18 : Ref sig .tc := ⟨.hbm, 70, rfl⟩
abbrev main_v19 : Ref sig .tc := ⟨.hbm, 71, rfl⟩
abbrev main_v20 : Ref sig .tc := ⟨.hbm, 72, rfl⟩
abbrev main_v21 : Ref sig .tc := ⟨.hbm, 73, rfl⟩
abbrev main_v22 : Ref sig .tc := ⟨.hbm, 74, rfl⟩
abbrev main_v23 : Ref sig .tc := ⟨.hbm, 75, rfl⟩
abbrev main_v24 : Ref sig .tc := ⟨.hbm, 76, rfl⟩
abbrev main_c_3 : Ref sig .tc := ⟨.hbm, 77, rfl⟩
abbrev main_call2_call0_cst : Ref sig .tc := ⟨.hbm, 78, rfl⟩
abbrev main_call2_call0_v0 : Ref sig .tc := ⟨.hbm, 79, rfl⟩
abbrev main_call2_call0_v1 : Ref sig .tc := ⟨.hbm, 80, rfl⟩
abbrev main_call2_call0_cst_0 : Ref sig .tc := ⟨.hbm, 81, rfl⟩
abbrev main_call2_call0_v2 : Ref sig .tc := ⟨.hbm, 82, rfl⟩
abbrev main_call2_call0_v3 : Ref sig .tc := ⟨.hbm, 83, rfl⟩
abbrev main_call2_call0_v4 : Ref sig .tc := ⟨.hbm, 84, rfl⟩
abbrev main_call2_call0_v5 : Ref sig .tc := ⟨.hbm, 85, rfl⟩
abbrev main_call2_call0_v6 : Ref sig .tc := ⟨.hbm, 86, rfl⟩
abbrev main_call2_call0_v7 : Ref sig .tc := ⟨.hbm, 87, rfl⟩
abbrev main_call2_call0_cst_1 : Ref sig .tc := ⟨.hbm, 88, rfl⟩
abbrev main_call2_call0_v8 : Ref sig .tc := ⟨.hbm, 89, rfl⟩
abbrev main_call2_call0_cst_2 : Ref sig .tc := ⟨.hbm, 90, rfl⟩
abbrev main_call2_call0_v9 : Ref sig .tc := ⟨.hbm, 91, rfl⟩
abbrev main_call2_call0_v10 : Ref sig .tc := ⟨.hbm, 92, rfl⟩
abbrev main_call2_call0_v11 : Ref sig .tc := ⟨.hbm, 93, rfl⟩
abbrev main_call2_call0_cst_3 : Ref sig .tc := ⟨.hbm, 94, rfl⟩
abbrev main_call2_call0_v12 : Ref sig .tc := ⟨.hbm, 95, rfl⟩
abbrev main_call2_call0_cst_4 : Ref sig .tc := ⟨.hbm, 96, rfl⟩
abbrev main_call2_call0_call0_v0 : Ref sig .tc := ⟨.hbm, 97, rfl⟩
abbrev main_call2_call0_call0_v1 : Ref sig .tc := ⟨.hbm, 98, rfl⟩
abbrev main_call2_v0 : Ref sig .tc := ⟨.hbm, 99, rfl⟩
abbrev main_v25 : Ref sig .tc := ⟨.hbm, 100, rfl⟩
abbrev main_v26 : Ref sig .tc := ⟨.hbm, 101, rfl⟩
abbrev main_cst : Ref sig .tc := ⟨.hbm, 102, rfl⟩
abbrev main_v27 : Ref sig .tc := ⟨.hbm, 103, rfl⟩
abbrev main_v28 : Ref sig .tc := ⟨.hbm, 104, rfl⟩
abbrev main_v29 : Ref sig .tc := ⟨.hbm, 105, rfl⟩
abbrev main_v30 : Ref sig .tc := ⟨.hbm, 106, rfl⟩
abbrev main_v31 : Ref sig .tc := ⟨.hbm, 107, rfl⟩
abbrev main_v32 : Ref sig .tc := ⟨.hbm, 108, rfl⟩
abbrev main_v33 : Ref sig .tc := ⟨.hbm, 109, rfl⟩
abbrev main_v34 : Ref sig .tc := ⟨.hbm, 110, rfl⟩
abbrev main_v35 : Ref sig .tc := ⟨.hbm, 111, rfl⟩
abbrev main_v36 : Ref sig .tc := ⟨.hbm, 112, rfl⟩
abbrev main_v37 : Ref sig .tc := ⟨.hbm, 113, rfl⟩

abbrev nD : Nat := 1
abbrev τ : Topo := Topo.v7x

variable {F : FTy → Type} [FloatOps F]
-- ==== Squares.lean ====
abbrev S4x8192x3 : Shape := ⟨3, ![4, 8192, 3]⟩
abbrev S4x3x8192 : Shape := ⟨3, ![4, 3, 8192]⟩
abbrev S4x1x8192 : Shape := ⟨3, ![4, 1, 8192]⟩
abbrev S1x3x8192 : Shape := ⟨3, ![1, 3, 8192]⟩
abbrev S1x1x8192 : Shape := ⟨3, ![1, 1, 8192]⟩
abbrev S8192 : Shape := ⟨1, ![8192]⟩
abbrev S1x8192 : Shape := ⟨2, ![1, 8192]⟩

abbrev nBuf : Space → Nat
  | .hbm => 3
  | .vmem => 4
  | .smem => 0
  | _ => 0

abbrev bufTy : (tb : Table) → Fin (tcTables nBuf tb) → BufTy
  | .hbm, ⟨0, _⟩ => ⟨S4x8192x3, .f32⟩
  | .hbm, ⟨1, _⟩ => ⟨S4x3x8192, .f32⟩
  | .hbm, ⟨2, _⟩ => ⟨S4x1x8192, .f32⟩
  | .local _ .vmem, ⟨0, _⟩ => ⟨S1x3x8192, .f32⟩
  | .local _ .vmem, ⟨1, _⟩ => ⟨S1x3x8192, .f32⟩
  | .local _ .vmem, ⟨2, _⟩ => ⟨S1x1x8192, .f32⟩
  | .local _ .vmem, ⟨3, _⟩ => ⟨S1x1x8192, .f32⟩
  | _, _ => ⟨S4x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SquaresReferenceIdeal.lean ====
abbrev S4x8192x3 : Shape := ⟨3, ![4, 8192, 3]⟩
abbrev S_ : Shape := ⟨0, ![]⟩
abbrev S4x8192 : Shape := ⟨2, ![4, 8192]⟩
abbrev S4x1x8192 : Shape := ⟨3, ![4, 1, 8192]⟩

abbrev nBuf : Space → Nat
  | .hbm => 5
  | .vmem => 0
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S_, .f32⟩
  | .hbm, ⟨3, _⟩ => ⟨S4x8192, .f32⟩
  | .hbm, ⟨4, _⟩ => ⟨S4x1x8192, .f32⟩
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== SquaresSampled.lean ====
abbrev S4x1024x3 : Shape := ⟨3, ![4, 1024, 3]⟩
abbrev S4x3x1024 : Shape := ⟨3, ![4, 3, 1024]⟩
abbrev S4x1x1024 : Shape := ⟨3, ![4, 1, 1024]⟩
abbrev S1x3x1024 : Shape := ⟨3, ![1, 3, 1024]⟩
abbrev S1x1x1024 : Shape := ⟨3, ![1, 1, 1024]⟩
abbrev S1024 : Shape := ⟨1, ![1024]⟩
abbrev S1x1024 : Shape := ⟨2, ![1, 1024]⟩

abbrev nBuf : Space → Nat
  | .hbm => 3
  | .vmem => 4
  | .smem => 0
  | _ => 0

abbrev bufTy : (tb : Table) → Fin (tcTables nBuf tb) → BufTy
  | .hbm, ⟨0, _⟩ => ⟨S4x1024x3, .f32⟩
  | .hbm, ⟨1, _⟩ => ⟨S4x3x1024, .f32⟩
  | .hbm, ⟨2, _⟩ => ⟨S4x1x1024, .f32⟩
  | .local _ .vmem, ⟨0, _⟩ => ⟨S1x3x1024, .f32⟩
  | .local _ .vmem, ⟨1, _⟩ => ⟨S1x3x1024, .f32⟩
  | .local _ .vmem, ⟨2, _⟩ => ⟨S1x1x1024, .f32⟩
  | .local _ .vmem, ⟨3, _⟩ => ⟨S1x1x1024, .f32⟩
  | _, _ => ⟨S4x1024x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SquaresSampledReferenceIdeal.lean ====
abbrev S4x1024x3 : Shape := ⟨3, ![4, 1024, 3]⟩
abbrev S_ : Shape := ⟨0, ![]⟩
abbrev S4x1024 : Shape := ⟨2, ![4, 1024]⟩
abbrev S4x1x1024 : Shape := ⟨3, ![4, 1, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4x1024x3, .f32⟩
  | .hbm, ⟨1, _⟩ => ⟨S4x1024x3, .f32⟩
  | .hbm, ⟨2, _⟩ => ⟨S_, .f32⟩
  | .hbm, ⟨3, _⟩ => ⟨S4x1024, .f32⟩
  | .hbm, ⟨4, _⟩ => ⟨S4x1x1024, .f32⟩
  | _, _ => ⟨S4x1024x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Distances.lean ====
abbrev S4x1024x3 : Shape := ⟨3, ![4, 1024, 3]⟩
abbrev S4x8192x3 : Shape := ⟨3, ![4, 8192, 3]⟩
abbrev S4x1x8192 : Shape := ⟨3, ![4, 1, 8192]⟩
abbrev S4x1024x1 : Shape := ⟨3, ![4, 1024, 1]⟩
abbrev S4x3x8192 : Shape := ⟨3, ![4, 3, 8192]⟩
abbrev S4x1024x8192 : Shape := ⟨3, ![4, 1024, 8192]⟩
abbrev S1x256x3 : Shape := ⟨3, ![1, 256, 3]⟩
abbrev S1x3x2048 : Shape := ⟨3, ![1, 3, 2048]⟩
abbrev S1x1x2048 : Shape := ⟨3, ![1, 1, 2048]⟩
abbrev S1x256x1 : Shape := ⟨3, ![1, 256, 1]⟩
abbrev S1x256x2048 : Shape := ⟨3, ![1, 256, 2048]⟩
abbrev S256x3 : Shape := ⟨2, ![256, 3]⟩
abbrev S3x2048 : Shape := ⟨2, ![3, 2048]⟩
abbrev S256x2048 : Shape := ⟨2, ![256, 2048]⟩
abbrev S1x2048 : Shape := ⟨2, ![1, 2048]⟩
abbrev S256x1 : Shape := ⟨2, ![256, 1]⟩

abbrev nBuf : Space → Nat
  | .hbm => 6
  | .vmem => 10
  | .smem => 0
  | _ => 0

abbrev bufTy : (tb : Table) → Fin (tcTables nBuf tb) → BufTy
  | .hbm, ⟨0, _⟩ => ⟨S4x1024x3, .f32⟩
  | .hbm, ⟨1, _⟩ => ⟨S4x8192x3, .f32⟩
  | .hbm, ⟨2, _⟩ => ⟨S4x1x8192, .f32⟩
  | .hbm, ⟨3, _⟩ => ⟨S4x1024x1, .f32⟩
  | .hbm, ⟨4, _⟩ => ⟨S4x3x8192, .f32⟩
  | .hbm, ⟨5, _⟩ => ⟨S4x1024x8192, .f32⟩
  | .local _ .vmem, ⟨0, _⟩ => ⟨S1x256x3, .f32⟩
  | .local _ .vmem, ⟨1, _⟩ => ⟨S1x256x3, .f32⟩
  | .local _ .vmem, ⟨2, _⟩ => ⟨S1x3x2048, .f32⟩
  | .local _ .vmem, ⟨3, _⟩ => ⟨S1x3x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x256x1, .f32⟩
  | .local _ .vmem, ⟨7, _⟩ => ⟨S1x256x1, .f32⟩
  | .local _ .vmem, ⟨8, _⟩ => ⟨S1x256x2048, .f32⟩
  | .local _ .vmem, ⟨9, _⟩ => ⟨S1x256x2048, .f32⟩
  | _, _ => ⟨S4x1024x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 4, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x256x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x3x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== DistancesReferenceIdeal.lean ====
abbrev S4x1024x3 : Shape := ⟨3, ![4, 1024, 3]⟩
abbrev S4x8192x3 : Shape := ⟨3, ![4, 8192, 3]⟩
abbrev S4x1x8192 : Shape := ⟨3, ![4, 1, 8192]⟩
abbrev S4x1024x1 : Shape := ⟨3, ![4, 1024, 1]⟩
abbrev S4x3x8192 : Shape := ⟨3, ![4, 3, 8192]⟩
abbrev S4x1024x8192 : Shape := ⟨3, ![4, 1024, 8192]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S4x1024x3, .f32⟩
  | .hbm, ⟨1, _⟩ => ⟨S4x8192x3, .f32⟩
  | .hbm, ⟨2, _⟩ => ⟨S4x1x8192, .f32⟩
  | .hbm, ⟨3, _⟩ => ⟨S4x1024x1, .f32⟩
  | .hbm, ⟨4, _⟩ => ⟨S4x3x8192, .f32⟩
  | .hbm, ⟨5, _⟩ => ⟨S4x1024x8192, .f32⟩
  | .hbm, ⟨6, _⟩ => ⟨S4x1024x8192, .f32⟩
  | .hbm, ⟨7, _⟩ => ⟨S4x1024x8192, .f32⟩
  | .hbm, ⟨8, _⟩ => ⟨S4x1024x8192, .f32⟩
  | .hbm, ⟨9, _⟩ => ⟨S_, .f32⟩
  | .hbm, ⟨10, _⟩ => ⟨S4x1024x8192, .f32⟩
  | .hbm, ⟨11, _⟩ => ⟨S4x1024x8192, .f32⟩
  | .hbm, ⟨12, _⟩ => ⟨S4x1024x8192, .f32⟩
  | _, _ => ⟨S4x1024x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Proof.Base.lean ====
/-
  The three SparseCore calls of the kernel, as the launch theorem sees the program, and the rules one tile's body is
  walked with: a copy whose landing is stated by the contents it leaves (`wp_copy`), a wait (`wp_await`), the gather of a
  block of rows by a list of row numbers (`wp_rows`), and the splitting of a buffer along a function of its index
  (`pointsTo_fibres`).
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.SparseCore.FromWhole
public import Idealize.ShloMosaic.Lib.StableHlo.Run
public import Idealize.ShloMosaic.Lib.Pipeline.Kit
public import Idealize.ShloMosaic.Lib.Pointwise.Index
public import Idealize.ShloMosaic.Lib.Tactic
public import proofs.«01_k».proof.Proof.Gen.KernelIdeal
public import proofs.«01_k».proof.Proof.Gen.KernelIdeal.Skeleton

@[expose] public section

noncomputable section

namespace Cert.Proof.Tiles

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 3 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the transfers' counters -/

abbrev UH : Type := URounds (GSem nD τ sig) ℕ
abbrev UU : Type := UH × Counters

local notation "𝕄" => MT nD τ sig (HIx 3) (Elt F) ℕ UU ℕ

abbrev EH : Emb UH (MT nD τ sig (HIx 3) (Elt F) ℕ UU ℕ) := embL

/-! ## Splitting a buffer along a function of its index -/

section Fibres

/-- A buffer held at a share is held, at that share, at each value of a function of its index. -/
theorem pointsTo_fibres {ι : Type} [Fintype ι] [DecidableEq ι] {ℓ : Loc nD τ sig} (cls : Idx ℓ → ι) (q : PosShare TreeShare) (f : Buf (Elt F) ℓ) :
    (ℓ ↦{q} f : sProp 𝕄) = bigSep Finset.univ fun k : ι => ℓ ↦[Finset.univ.filter fun x => cls x = k]{q} f := by
  have hd : ∀ a ∈ (Finset.univ : Finset ι), ∀ b ∈ (Finset.univ : Finset ι), a ≠ b →
      Disjoint (Finset.univ.filter fun x => cls x = a) (Finset.univ.filter fun x => cls x = b) := by
    intro a _ b _ h
    rw [Finset.disjoint_left]
    intro x hx hy
    exact h ((Finset.mem_filter.mp hx).2.symm.trans (Finset.mem_filter.mp hy).2)
  have hc : (Finset.univ : Finset ι).biUnion (fun k : ι => Finset.univ.filter fun x => cls x = k) = Finset.univ :=
    Finset.eq_univ_of_forall fun x => Finset.mem_biUnion.mpr ⟨cls x, Finset.mem_univ _, Finset.mem_filter.mpr ⟨Finset.mem_univ _, rfl⟩⟩
  rw [← pointsTo_biUnion (ℓ := ℓ) Finset.univ (fun k : ι => Finset.univ.filter fun x => cls x = k) hd, hc]

theorem bigSep_fin_three (Φ : Fin 3 → sProp 𝕄) : bigSep Finset.univ Φ = iprop(Φ 0 ∗ Φ 1 ∗ Φ 2) := by
  rw [bigSep_univ_succ, bigSep_univ_succ, bigSep_univ_of_subsingleton (0 : Fin 1)]; rfl

theorem bigSep_fin_four (Φ : Fin 4 → sProp 𝕄) : bigSep Finset.univ Φ = iprop(Φ 0 ∗ Φ 1 ∗ Φ 2 ∗ Φ 3) := by
  rw [bigSep_univ_succ, bigSep_fin_three]; rfl

/-- A buffer held at a share, as three shares of it. -/
theorem pointsTo_three {ℓ : Loc nD τ sig} (q : PosShare TreeShare) (f : Buf (Elt F) ℓ) :
    (ℓ ↦{q} f : sProp 𝕄) = iprop((ℓ ↦{pieceOf q 3 (by decide) 0} f) ∗ (ℓ ↦{pieceOf q 3 (by decide) 1} f)
      ∗ ℓ ↦{pieceOf q 3 (by decide) 2} f) := by
  rw [pointsTo_piecesOf Finset.univ f (o := 3) (by decide) q, bigSep_fin_three]

end Fibres

/-! ## The rules of a tile's walk -/

section Rules

variable [FloatOps F]
variable (d : Dev nD) (cc : Fin τ.nSC) (ii : Fin τ.nSub)
variable {O : CellTallies nD τ sig (HIx 3)} {W : Waits sig (HIx 3)}
variable {α : Type} {Q : α → sProp (MT nD τ sig (HIx 3) (Elt F) ℕ UU ℕ)} {sp sp' : Space} {s s₀ si : Shape} {e : EltTy} {a : Nat}

/-- What the tile owes, with every wait it has recorded beyond `W` a wait at the bottom level. -/
def owesN (thr : Thread nD τ) (O : CellTallies nD τ sig (HIx 3)) (W : Waits sig (HIx 3)) : sProp 𝕄 :=
  iprop(∃ W', ⌜∀ p ∈ W', p ∈ W ∨ p.2 = none⌝ ∗ owes thr O W')

/-- A transfer on its way, of `N` units on the tile's cell `sem`, to deliver `R`. -/
abbrev Fl (thr : Thread nD τ) (sem : DmaSem sig) (N : ℕ) (R : sProp 𝕄) : sProp 𝕄 :=
  Transfers.Flight (countersEmb : UEmb Counters (MT nD τ sig (HIx 3) (Elt F) ℕ UU ℕ)) thr (.dma sem) (none : HIx 3) N R

/-- A view written where `G` reads as the payload holds `G` there. -/
theorem write_agree {κ : Kind} (v : View sig κ sp s e) (f G : v.ty.Contents (Elt F)) (w : s.Idx → Elt F e)
    (h : ∀ x, v.read (Elt F) G x = w x) : ∀ i ∈ v.set, v.write (Elt F) f w Finset.univ i = G i := by
  intro i hi
  obtain ⟨x, -, rfl⟩ := Finset.mem_map.mp hi
  rw [View.write_emb_of_mem _ _ (Finset.mem_univ x), ← h x, View.read_apply, cast_cast, cast_eq]

/-- The same of the elements held. -/
theorem pts_write (v : View sig .scVector sp s e) (f G : Buf (Elt F) (v.loc (V d cc ii))) (w : s.Idx → Elt F e)
    (h : ∀ x, v.read (Elt F) G x = w x) :
    (v.loc (V d cc ii) ↦[v.set]{fullShare} v.write (Elt F) f w Finset.univ : sProp 𝕄) = v.loc (V d cc ii) ↦[v.set]{fullShare} G :=
  pointsTo_congr (write_agree v f G w h)

/-- A copy between this tile's buffers and the arrays, the source at any share of the whole of it, the target's elements
    held outright: what it will deliver is the target's elements at `G`, where `G` read through the target is the source. -/
theorem wp_copy {src : Memref sig .scVector sp s e} {dst : Memref sig .scVector sp' s e} {sem : DmaSem sig}
    {h1 : src.view.WordExact} {h2 : dst.view.WordExact} {h3 : DmaTarget.Typed (nD := nD) (τ := τ) (p := .scVector cc ii) sp (.dma sem) (.here dst)}
    {k : PUnit → Prog (TpuEff nD τ sig (Elt F) Λ₀ (.scVector cc ii)) α} {q : PosShare TreeShare}
    {fs : Buf (Elt F) (src.view.loc (V d cc ii))} {fd : Buf (Elt F) (dst.view.loc (V d cc ii))}
    (G : Buf (Elt F) (dst.view.loc (V d cc ii))) (hs : 0 < s.numel)
    (hG : ∀ x, dst.view.read (Elt F) G x = src.view.read (Elt F) fs x) :
    iprop((src.view.loc (V d cc ii) ↦{q} fs) ∗ (dst.view.loc (V d cc ii) ↦[dst.view.set]{fullShare} fd) ∗ semVal (V d cc ii, SemLoc.dma sem) 0)
      ⊢ iprop((Fl (V d cc ii) sem dst.view.dmaCredit
                iprop((dst.view.loc (V d cc ii) ↦[dst.view.set]{fullShare} G) ∗ (src.view.loc (V d cc ii) ↦{q} fs))
              -∗ wp frame (wpE (defs₀ (F := F)) 𝒱₀ (V d cc ii) none) Set.univ (k ⟨⟩) Q)
          -∗ wp frame (wpE (defs₀ (F := F)) 𝒱₀ (V d cc ii) none) Set.univ
              (Prog.lift (TpuEff.enqueueDma src (.here dst) (.dma sem) h1 h2 h3) >>= k) Q) := by
  rw [Prog.bind_lift]
  iintro H Hk
  iapply (Transfers.wp_dmaFromWhole countersEmb 𝒱₀ (V d cc ii) none (via := .same) (none : HIx 3) dst.view.dmaCredit rfl (View.amount_pos dst.view (.dma sem) hs) subset_rfl) $$ H
  iintro Hfl
  iapply Hk
  ihave Hfl' := (Entails.of_eq (congrArg (fun P : sProp 𝕄 => Fl (V d cc ii) sem dst.view.dmaCredit
      iprop(P ∗ (src.view.loc (V d cc ii) ↦{q} fs))) (pts_write (F := F) d cc ii dst.view fd G _ hG))) $$ Hfl
  iexact Hfl'

/-- The wait of a copy on its way. -/
theorem wp_await {s' : Shape} {e' : EltTy} {sem : DmaSem sig}
    {srcw : Memref sig .scVector sp' s' e'} {dstw : Memref sig .scVector sp s e} {h1 : srcw.view.WordExact} {h2 : dstw.view.WordExact}
    {k : PUnit → Prog (TpuEff nD τ sig (Elt F) Λ₀ (.scVector cc ii)) α} {N : ℕ} (hN : dstw.view.dmaCredit = N) {R : sProp 𝕄} :
    iprop(Fl (V d cc ii) sem N R ∗ owesN (V d cc ii) O W ∗ Transfers.MayWaits (V d cc ii) (none : HIx 3) O)
      ⊢ iprop((iprop(R ∗ semVal (V d cc ii, SemLoc.dma sem) 0 ∗ owesN (V d cc ii) O W)
              -∗ wp frame (wpE (defs₀ (F := F)) 𝒱₀ (V d cc ii) none) Set.univ (k ⟨⟩) Q)
          -∗ wp frame (wpE (defs₀ (F := F)) 𝒱₀ (V d cc ii) none) Set.univ (Prog.lift (TpuEff.waitDma2 sem srcw dstw h1 h2) >>= k) Q) := by
  rw [Prog.bind_lift]
  unfold owesN
  iintro ⟨Hfl, ⟨%W', %hW', HO⟩, Hmw⟩ Hk
  iapply (Transfers.wp_waitLocalO countersEmb 𝒱₀ (V d cc ii) none (none : HIx 3) hN) $$ [Hfl HO Hmw]
  · isplitl [Hfl]; · iexact Hfl
    isplitl [HO]; · iexact HO
    iapply (Transfers.MayWaits.elim (SemLoc.dma sem)) $$ Hmw
  iintro ⟨HR, Hv, HO⟩
  iapply Hk
  isplitl [HR]; · iexact HR
  isplitl [Hv]; · iexact Hv
  iexists _; isplitr
  swap; · iexact HO
  ipureintro; intro p hp
  rcases Finset.mem_insert.mp hp with hp | hp
  · exact .inr (hp ▸ rfl)
  · exact hW' p hp

/-- The gather of rows by a list: the table and the list at any shares, whole; the target's elements outright; it will
    deliver the target's elements at `G`, where `G` read through the target is the table at the rows the list names. -/
theorem wp_rows {src : Memref sig .scVector sp s₀ e} {dst : Memref sig .scVector .vmem s e} {hg : s₀.Gathers a s}
    {offs : Memref sig .scVector .vmem si .i32} {hn : si.numel = s.size hg.axis'} {sem : DmaSem sig}
    {hp : (V d cc ii).2.kind = .scVector} {hsrc : src.view.WordExact} {he : e.bits = 32} {hsp : sp = .hbm ∨ sp = .shared} {hr : s₀.StreamRows a}
    {k : PUnit → Prog (TpuEff nD τ sig (Elt F) Λ₀ (.scVector cc ii)) α}
    {q qo : PosShare TreeShare} {fs : Buf (Elt F) (src.view.loc (V d cc ii))} {fd : Buf (Elt F) (dst.view.loc (V d cc ii))}
    {fo : Buf (Elt F) (offs.view.loc (V d cc ii))}
    (G : Buf (Elt F) (dst.view.loc (V d cc ii)))
    (hN : ∑ j, (dst.slice (s.rowRect hg.axis' j) (s.stride_rowRect hg.axis' j)).view.dmaCredit = dst.view.dmaCredit)
    (hs : 0 < s.numel) (hin : ∀ x, (offs.view.read (Elt F) fo x).toNat < s₀.size hg.axis)
    (hG : ∀ x, dst.view.read (Elt F) G x
      = src.view.read (Elt F) fs (hg.idx (SparseCore.rows (offs.view.read (Elt F) fo) hn hin) x)) :
    iprop((src.view.loc (V d cc ii) ↦{q} fs) ∗ (dst.view.loc (V d cc ii) ↦[dst.view.set]{fullShare} fd)
        ∗ (offs.view.loc (V d cc ii) ↦{qo} fo) ∗ semVal (V d cc ii, SemLoc.dma sem) 0)
      ⊢ iprop((Fl (V d cc ii) sem dst.view.dmaCredit
                iprop((dst.view.loc (V d cc ii) ↦[dst.view.set]{fullShare} G)
                  ∗ (src.view.loc (V d cc ii) ↦{q} fs) ∗ (offs.view.loc (V d cc ii) ↦{qo} fo))
              -∗ wp frame (wpE (defs₀ (F := F)) 𝒱₀ (V d cc ii) none) Set.univ (k ⟨⟩) Q)
          -∗ wp frame (wpE (defs₀ (F := F)) 𝒱₀ (V d cc ii) none) Set.univ
              (SparseCore.enqueueIndirectGather hp src dst hg offs hn sem hsrc he hsp hr >>= k) Q) := by
  iintro ⟨Hs, Hd, Ho, Hv⟩ Hk
  ihave ⟨Hs, Hsr⟩ := (pointsTo_split_subset (Finset.subset_univ src.view.set)).1 $$ Hs
  ihave ⟨Ho, Hor⟩ := (pointsTo_split_subset (Finset.subset_univ offs.view.set)).1 $$ Ho
  iapply (SparseCore.wp_indirectGatherLocal countersEmb 𝒱₀ (V d cc ii) none (hg := hg) (none : HIx 3) dst.view.dmaCredit hN hs hin) $$ [Hs Hd Ho Hv]
  · iframe Hs Hd Ho Hv
  iintro Hf
  iapply Hk
  ihave Hf := (Entails.of_eq (congrArg (fun P : sProp 𝕄 => Fl (V d cc ii) sem dst.view.dmaCredit
      iprop(P ∗ (src.view.loc (V d cc ii) ↦[src.view.set]{q} fs) ∗ (offs.view.loc (V d cc ii) ↦[offs.view.set]{qo} fo)))
      (pts_write (F := F) d cc ii dst.view fd G (SparseCore.gatherPayload hg (src.view.read (Elt F) fs) (SparseCore.rows (offs.view.read (Elt F) fo) hn hin)) hG))) $$ Hf
  iapply (Transfers.Flight_mono countersEmb (V d cc ii) (D := iprop(((src.view.loc (V d cc ii) ↦[Finset.univ \ src.view.set]{q} fs)
      ∗ (offs.view.loc (V d cc ii) ↦[Finset.univ \ offs.view.set]{qo} fo))
      ∗ ((dst.view.loc (V d cc ii) ↦[dst.view.set]{fullShare} G)
        ∗ (src.view.loc (V d cc ii) ↦[src.view.set]{q} fs) ∗ (offs.view.loc (V d cc ii) ↦[offs.view.set]{qo} fo)))) (by
    iintro ⟨⟨Hsr, Hor⟩, Hd, Hs, Ho⟩
    isplitl [Hd]; · iexact Hd
    isplitl [Hs Hsr]
    · iapply ((pointsTo_split_subset (Finset.subset_univ src.view.set)).2)
      iframe Hs Hsr
    iapply ((pointsTo_split_subset (Finset.subset_univ offs.view.set)).2)
    iframe Ho Hor))
  iapply (Transfers.Flight_frame countersEmb (V d cc ii))
  iframe Hsr Hor Hf

end Rules

end Cert.Proof.Tiles

end
-- ==== Proof.Steps.lean ====
/-
  What the three tile bodies share: the scratch buffers and semaphores a call uses, taken out of all the tile has
  (`sems_peel`, `bufs_peel`); the windows of an array that a tile writes one after the other (`win_take`); and the gather
  of whole rows of 384 columns as three gathers of 128 columns each (`wp_three`, `cols_split`).
-/
module

public import proofs.«01_k».proof.Proof.Base

@[expose] public section

noncomputable section

namespace Cert.Proof.Tiles

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 3) (Elt F) ℕ UU ℕ

/-! ## A call's own scratch -/

/-- The members of a list one after the other, then the rest. -/
def chain {I : Type} (Φ : I → sProp (MT nD τ sig (HIx 3) (Elt F) ℕ UU ℕ)) :
    List I → sProp (MT nD τ sig (HIx 3) (Elt F) ℕ UU ℕ) → sProp (MT nD τ sig (HIx 3) (Elt F) ℕ UU ℕ)
  | [], R => R
  | i :: l, R => iprop(Φ i ∗ chain Φ l R)

theorem bigSep_peel {I : Type} [DecidableEq I] (Φ : I → sProp (MT nD τ sig (HIx 3) (Elt F) ℕ UU ℕ)) :
    ∀ (l : List I) (s : Finset I), l.Nodup → (∀ i ∈ l, i ∈ s) → bigSep s Φ = chain Φ l (bigSep (s \ l.toFinset) Φ)
  | [], s, _, _ => by simp [chain]
  | i :: l, s, hn, hs => by
    have hi : i ∈ s := hs i List.mem_cons_self
    rw [SparseCore.bigSep_erase' hi, bigSep_peel Φ l (s.erase i) (List.nodup_cons.mp hn).2 (fun j hj =>
      Finset.mem_erase.mpr ⟨fun e => (List.nodup_cons.mp hn).1 (e ▸ hj), hs j (List.mem_cons_of_mem _ hj)⟩)]
    have e : s.erase i \ l.toFinset = s \ (i :: l).toFinset := by
      ext j; simp [Finset.mem_sdiff, Finset.mem_erase, not_or]; tauto
    rw [e]; rfl

/-- A tile's semaphores at zero: those of a list, then the rest. -/
theorem sems_peel (d : Dev nD) (c : Fin τ.nSC) (i : Fin τ.nSub) (l : List (DmaSem sig)) (hn : l.Nodup)
    (hs : ∀ x ∈ l, (SemLoc.dma x : SemLoc sig).isScoped .scVector = true) :
    (ownSems0 (V d c i) : sProp 𝕄)
      = chain (fun g => semVal g 0) (l.map fun x => ((V d c i, SemLoc.dma x) : GSem nD τ sig))
          (bigSep (ownCells (V d c i) \ (l.map fun x => ((V d c i, SemLoc.dma x) : GSem nD τ sig)).toFinset) fun g => semVal g 0) := by
  unfold SparseCore.Cfg.ownSems0
  refine bigSep_peel _ _ _ (hn.map fun x y h => ?_) fun g hg => ?_
  · injection h with _ h; injection h
  · obtain ⟨x, hx, rfl⟩ := List.mem_map.mp hg
    exact mem_ownCells.mpr ⟨rfl, hs x hx⟩

/-- A tile's buffers at some contents: those of a list, then the rest. -/
theorem bufs_peel (d : Dev nD) (c : Fin τ.nSC) (i : Fin τ.nSub) (l : List (Ref sig .scVector)) (hn : l.Nodup)
    (hs : ∀ b ∈ l, ((Proc.scVector c i).devRef b).owner = .proc (Proc.scVector c i)) :
    (ownBufs (V d c i) : sProp 𝕄)
      = chain (fun b => iprop(∃ f, ((d, b) : Loc nD τ sig) ↦{fullShare} f)) (l.map fun b => (Proc.scVector c i).devRef b)
          (bigSep (ownRefs (τ := τ) (.scVector c i) \ (l.map fun b => (Proc.scVector c i).devRef b).toFinset)
            fun b => iprop(∃ f, ((d, b) : Loc nD τ sig) ↦{fullShare} f)) := by
  unfold SparseCore.Cfg.ownBufs
  refine bigSep_peel _ _ _ (hn.map (Proc.devRef_injective _)) fun b hb => ?_
  obtain ⟨x, hx, rfl⟩ := List.mem_map.mp hb
  exact SparseCore.Cfg.mem_ownRefs_of_owner (hs x hx)

/-! ## Windows written one after the other -/

/-- The windows of an array, those before `k` at `f1` and the others at `f0`: window `k` taken out, to be put back at `f1`. -/
theorem win_take {n : ℕ} {ℓ : Loc nD τ sig} (win : Fin n → Finset (Idx ℓ)) (f0 f1 : Buf (Elt F) ℓ) (k : Fin n) :
    (bigSep Finset.univ (fun t : Fin n => (ℓ ↦[win t]{fullShare} (if t.val < k.val then f1 else f0) : sProp 𝕄)) : sProp 𝕄)
      ⊢ iprop((ℓ ↦[win k]{fullShare} f0)
        ∗ ((ℓ ↦[win k]{fullShare} f1) -∗ bigSep Finset.univ (fun t : Fin n => ℓ ↦[win t]{fullShare} (if t.val < k.val + 1 then f1 else f0)))) := by
  have h := bigSep_univ_update (Φ := fun t : Fin n => (ℓ ↦[win t]{fullShare} (if t.val < k.val then f1 else f0) : sProp 𝕄))
    (Ψ := fun t : Fin n => (ℓ ↦[win t]{fullShare} (if t.val < k.val + 1 then f1 else f0) : sProp 𝕄)) k (fun j hj => by
      have hne : j.val ≠ k.val := fun e => hj (Fin.ext e)
      have : (j.val < k.val + 1) ↔ (j.val < k.val) := by omega
      simp only [this])
  simpa only [Nat.lt_irrefl, ↓reduceIte, Nat.lt_succ_self] using h

theorem win_none {n : ℕ} {ℓ : Loc nD τ sig} (win : Fin n → Finset (Idx ℓ)) (f0 f1 : Buf (Elt F) ℓ) :
    (bigSep Finset.univ (fun t : Fin n => (ℓ ↦[win t]{fullShare} f0 : sProp 𝕄)) : sProp 𝕄)
      = bigSep Finset.univ (fun t : Fin n => ℓ ↦[win t]{fullShare} (if t.val < 0 then f1 else f0)) := by
  simp only [Nat.not_lt_zero, ↓reduceIte]

theorem win_all {n m : ℕ} (h : n ≤ m) {ℓ : Loc nD τ sig} (win : Fin n → Finset (Idx ℓ)) (f0 f1 : Buf (Elt F) ℓ) :
    (bigSep Finset.univ (fun t : Fin n => (ℓ ↦[win t]{fullShare} (if t.val < m then f1 else f0) : sProp 𝕄)) : sProp 𝕄)
      = bigSep Finset.univ (fun t : Fin n => ℓ ↦[win t]{fullShare} f1) :=
  bigSep_congr fun t _ => by rw [if_pos (Nat.lt_of_lt_of_le t.isLt h)]

/-! ## Rows of 384 columns, gathered 128 columns at a time -/

/-- `R` rows of 384 columns, and a block of 128 of their columns. -/
abbrev RC (R : ℕ) : Shape := ⟨2, ![R, 384]⟩
abbrev RB (R : ℕ) : Shape := ⟨2, ![R, 128]⟩
abbrev RL (R : ℕ) : Shape := ⟨1, ![R]⟩

/-- A word as a row number of a table of 32768 rows. -/
def rowNo (b : BitVec 32) : Fin 32768 := Fin.ofNat 32768 b.toNat

theorem rowNo_val {b : BitVec 32} (h : b.toNat < 32768) : (rowNo b).val = b.toNat := Nat.mod_eq_of_lt h

/-- The rows of a table that a list names. -/
def rowsOf {R n : ℕ} (table : (⟨2, ![32768, n]⟩ : Shape).Idx → Elt F .f32) (list : (RL R).Idx → Elt F .i32) : (⟨2, ![R, n]⟩ : Shape).Idx → Elt F .f32 :=
  fun x => table (ix2 (rowNo (list (ix1 (x 0)))) (x 1))

theorem rowMajor_ix1 {R : ℕ} (k : Fin (RL R).numel) (h : k.val < R) : (RL R).rowMajor.symm k = ix1 ⟨k.val, h⟩ := by
  rw [Equiv.symm_apply_eq]
  exact Fin.ext (Shape.rowMajor_val_one (ix1 (n0 := R) ⟨k.val, h⟩)).symm

/-- The index a gather reads: the listed row, the target's own column. -/
theorem gather_idx {R n : ℕ} (hg : (⟨2, ![32768, n]⟩ : Shape).Gathers 0 ⟨2, ![R, n]⟩) (list : (RL R).Idx → Elt F .i32)
    (hn : (RL R).numel = (⟨2, ![R, n]⟩ : Shape).size hg.axis') (hin : ∀ x, (list x).toNat < (⟨2, ![32768, n]⟩ : Shape).size hg.axis)
    (x : (⟨2, ![R, n]⟩ : Shape).Idx) :
    hg.idx (SparseCore.rows list hn hin) x = ix2 (rowNo (list (ix1 (x 0)))) (x 1) := by
  funext a
  match a with
  | ⟨0, _⟩ =>
    refine Fin.ext ?_
    have e := congrArg Fin.val (Shape.Gathers.idx_axis hg (SparseCore.rows list hn hin) x)
    refine e.trans ?_
    show (list ((RL R).rowMajor.symm _)).toNat = (rowNo (list (ix1 (x 0)))).val
    rw [rowNo_val (hin _)]
    exact congrArg (fun j => (list j).toNat) (rowMajor_ix1 _ (x 0).isLt)
  | ⟨1, h⟩ =>
    exact Fin.ext (Shape.Gathers.idx_of_ne hg (SparseCore.rows list hn hin) x ⟨1, h⟩ (show (1 : ℕ) ≠ 0 from Nat.one_ne_zero))

section Waits

variable [FloatOps F] (d : Dev nD) (cc : Fin τ.nSC) (ii : Fin τ.nSub)

/-- The wait of a gather on its way. -/
theorem wp_await_rows {O : CellTallies nD τ sig (HIx 3)} {W : Waits sig (HIx 3)} {α : Type} {Q : α → sProp (MT nD τ sig (HIx 3) (Elt F) ℕ UU ℕ)}
    {sp : Space} {s s' : Shape} {e : EltTy} {sem : DmaSem sig}
    {srcw : Memref sig .scVector sp s' e} {dstw : Memref sig .scVector .vmem s e} {h1 : srcw.view.WordExact} {h2 : dstw.view.WordExact}
    {k : PUnit → Prog (TpuEff nD τ sig (Elt F) Λ₀ (.scVector cc ii)) α} {N : ℕ} (hN : dstw.view.dmaCredit = N)
    {A : sProp (MT nD τ sig (HIx 3) (Elt F) ℕ UU ℕ)} :
    iprop(Fl (V d cc ii) sem N A ∗ owesN (V d cc ii) O W ∗ Transfers.MayWaits (V d cc ii) (none : HIx 3) O)
      ⊢ iprop((iprop(A ∗ semVal (V d cc ii, SemLoc.dma sem) 0 ∗ owesN (V d cc ii) O W)
              -∗ wp frame (wpE (defs₀ (F := F)) 𝒱₀ (V d cc ii) none) Set.univ (k ⟨⟩) Q)
          -∗ wp frame (wpE (defs₀ (F := F)) 𝒱₀ (V d cc ii) none) Set.univ (SparseCore.waitIndirectGather sem srcw dstw h1 h2 >>= k) Q) := by
  have h := wp_await (F := F) d cc ii (O := O) (W := W) (Q := Q) (sem := sem) (srcw := srcw) (dstw := dstw) (h1 := h1) (h2 := h2) (k := k) hN (R := A)
  rw [Prog.bind_lift] at h
  exact h

end Waits

section Cols

variable {R : ℕ}

/-- Columns `o … o + 127` of a memref of `R` rows. -/
abbrev colD {sp : Space} (dst : Memref sig .scVector sp (RC R) .f32) (o : ℕ) (h : ∀ a, (![0, o] : Fin 2 → ℕ) a + (RB R).size a ≤ (RC R).size a) :
    Memref sig .scVector sp (RB R) .f32 := dst.slice (Rect.unit (s := RC R) ![0, o] (RB R).size h) (fun _ => rfl)

variable (h0 : ∀ a, (![0, 0] : Fin 2 → ℕ) a + (RB R).size a ≤ (RC R).size a)
  (h1 : ∀ a, (![0, 128] : Fin 2 → ℕ) a + (RB R).size a ≤ (RC R).size a)
  (h2 : ∀ a, (![0, 256] : Fin 2 → ℕ) a + (RB R).size a ≤ (RC R).size a)

theorem mem_col {o : ℕ} (h : ∀ a, (![0, o] : Fin 2 → ℕ) a + (RB R).size a ≤ (RC R).size a) (x : (RC R).Idx) :
    x ∈ (Rect.unit (s := RC R) ![0, o] (RB R).size h).set ↔ o ≤ (x 1).val ∧ (x 1).val < o + 128 := by
  rw [Rect.mem_set_unit]
  constructor
  · intro hx; exact hx 1
  · intro hx a
    match a with
    | ⟨0, _⟩ => exact ⟨Nat.zero_le _, by have := (x 0).isLt; simpa using this⟩
    | ⟨1, _⟩ => exact hx

/-- All the columns are three blocks of them. -/
theorem cols_split (d : Dev nD) (cc : Fin τ.nSC) (ii : Fin τ.nSub) {sp : Space} (dst : Memref sig .scVector sp (RC R) .f32)
    (hD : dst.view.set = Finset.univ) (q : PosShare TreeShare) (f : Buf (Elt F) (dst.view.loc (V d cc ii))) :
    (dst.view.loc (V d cc ii) ↦{q} f : sProp 𝕄)
      = iprop((dst.view.loc (V d cc ii) ↦[(colD dst 0 h0).view.set]{q} f) ∗ (dst.view.loc (V d cc ii) ↦[(colD dst 128 h1).view.set]{q} f)
          ∗ dst.view.loc (V d cc ii) ↦[(colD dst 256 h2).view.set]{q} f) := by
  let r : Fin 3 → Finset (RC R).Idx := ![(Rect.unit (s := RC R) ![0, 0] (RB R).size h0).set, (Rect.unit (s := RC R) ![0, 128] (RB R).size h1).set,
    (Rect.unit (s := RC R) ![0, 256] (RB R).size h2).set]
  have hr : ∀ (j : Fin 3) (x : (RC R).Idx), x ∈ r j ↔ 128 * j.val ≤ (x 1).val ∧ (x 1).val < 128 * j.val + 128 := by
    intro j x
    match j with
    | ⟨0, _⟩ => exact mem_col h0 x
    | ⟨1, _⟩ => exact mem_col h1 x
    | ⟨2, _⟩ => exact mem_col h2 x
  have hd : ∀ a ∈ (Finset.univ : Finset (Fin 3)), ∀ b ∈ (Finset.univ : Finset (Fin 3)), a ≠ b →
      Disjoint ((r a).map dst.view.emb) ((r b).map dst.view.emb) := by
    intro a _ b _ h
    rw [Finset.disjoint_map, Finset.disjoint_left]
    intro x hx hy
    have h1 := (hr a x).mp hx
    have h2 := (hr b x).mp hy
    exact h (Fin.ext (by omega))
  have hc : (Finset.univ : Finset (Fin 3)).biUnion (fun k => (r k).map dst.view.emb) = dst.view.set := by
    ext y
    constructor
    · intro hy
      obtain ⟨k, -, hk⟩ := Finset.mem_biUnion.mp hy
      obtain ⟨x, -, rfl⟩ := Finset.mem_map.mp hk
      exact Finset.mem_map.mpr ⟨x, Finset.mem_univ _, rfl⟩
    · intro hy
      obtain ⟨x, -, rfl⟩ := Finset.mem_map.mp hy
      have hx : (x 1).val < 384 := (x 1).isLt
      exact Finset.mem_biUnion.mpr ⟨⟨(x 1).val / 128, by omega⟩, Finset.mem_univ _, Finset.mem_map.mpr ⟨x, (hr _ x).mpr (by
        show 128 * ((x 1).val / 128) ≤ _ ∧ _ < 128 * ((x 1).val / 128) + 128; omega), rfl⟩⟩
  have e : ∀ o h, (colD dst o h).view.set = (Rect.unit (s := RC R) ![0, o] (RB R).size h).set.map dst.view.emb := fun o h => View.set_slice _ _
  rw [← hD, ← hc, pointsTo_biUnion (ℓ := dst.view.loc (V d cc ii)) Finset.univ (fun k => (r k).map dst.view.emb) hd, bigSep_fin_three, e, e, e]
  rfl

variable [FloatOps F] (d : Dev nD) (cc : Fin τ.nSC) (ii : Fin τ.nSub)

/-- The three gathers of `R` rows on their way: to leave the buffer at `G`, and give back the table's and the list's shares. -/
def Three (src : Memref sig .scVector .hbm (RC 32768) .f32) (dst : Memref sig .scVector .vmem (RC R) .f32) (offs : Memref sig .scVector .vmem (RL R) .i32)
    (s0 s1 s2 : DmaSem sig) (q l : PosShare TreeShare) (fs : Buf (Elt F) (src.view.loc (V d cc ii))) (fo : Buf (Elt F) (offs.view.loc (V d cc ii)))
    (G : Buf (Elt F) (dst.view.loc (V d cc ii))) : sProp (MT nD τ sig (HIx 3) (Elt F) ℕ UU ℕ) :=
  iprop(Fl (V d cc ii) s0 (colD dst 0 h0).view.dmaCredit
      iprop((dst.view.loc (V d cc ii) ↦[(colD dst 0 h0).view.set]{fullShare} G)
        ∗ (src.view.loc (V d cc ii) ↦{pieceOf q 3 (by decide) 0} fs) ∗ (offs.view.loc (V d cc ii) ↦{pieceOf l 3 (by decide) 0} fo))
    ∗ Fl (V d cc ii) s1 (colD dst 128 h1).view.dmaCredit
      iprop((dst.view.loc (V d cc ii) ↦[(colD dst 128 h1).view.set]{fullShare} G)
        ∗ (src.view.loc (V d cc ii) ↦{pieceOf q 3 (by decide) 1} fs) ∗ (offs.view.loc (V d cc ii) ↦{pieceOf l 3 (by decide) 1} fo))
    ∗ Fl (V d cc ii) s2 (colD dst 256 h2).view.dmaCredit
      iprop((dst.view.loc (V d cc ii) ↦[(colD dst 256 h2).view.set]{fullShare} G)
        ∗ (src.view.loc (V d cc ii) ↦{pieceOf q 3 (by decide) 2} fs) ∗ (offs.view.loc (V d cc ii) ↦{pieceOf l 3 (by decide) 2} fo)))

/-- Three gathers, one of each block of columns, leave the rows the list names. -/
theorem wp_three {α : Type} {Q : α → sProp (MT nD τ sig (HIx 3) (Elt F) ℕ UU ℕ)}
    {src : Memref sig .scVector .hbm (RC 32768) .f32} {dst : Memref sig .scVector .vmem (RC R) .f32} {offs : Memref sig .scVector .vmem (RL R) .i32}
    {g0 g1 g2 : ∀ a, _} {hg : (RB 32768).Gathers 0 (RB R)} {hn : (RL R).numel = (RB R).size hg.axis'} {s0 s1 s2 : DmaSem sig}
    {hp0 hp1 hp2 : (V d cc ii).2.kind = .scVector} {w0 w1 w2} {he0 he1 he2 : (EltTy.f32).bits = 32} {hs0 hs1 hs2 : Space.hbm = .hbm ∨ Space.hbm = .shared}
    {r0 r1 r2 : (RB 32768).StreamRows 0}
    {k : PUnit → Prog (TpuEff nD τ sig (Elt F) Λ₀ (.scVector cc ii)) α}
    {q l : PosShare TreeShare} {fs : Buf (Elt F) (src.view.loc (V d cc ii))} {fd : Buf (Elt F) (dst.view.loc (V d cc ii))}
    {fo : Buf (Elt F) (offs.view.loc (V d cc ii))} (G : Buf (Elt F) (dst.view.loc (V d cc ii)))
    (hN : ∀ (o : ℕ) (h : ∀ a, (![0, o] : Fin 2 → ℕ) a + (RB R).size a ≤ (RC R).size a), o = 0 ∨ o = 128 ∨ o = 256 →
      ∑ j, ((colD dst o h).slice ((RB R).rowRect hg.axis' j) ((RB R).stride_rowRect hg.axis' j)).view.dmaCredit = (colD dst o h).view.dmaCredit)
    (hR : 0 < (RB R).numel) (hD : dst.view.set = Finset.univ) (hin : ∀ x, (offs.view.read (Elt F) fo x).toNat < 32768)
    (hG : dst.view.read (Elt F) G = rowsOf (src.view.read (Elt F) fs) (offs.view.read (Elt F) fo)) :
    iprop((src.view.loc (V d cc ii) ↦{q} fs) ∗ (dst.view.loc (V d cc ii) ↦{fullShare} fd) ∗ (offs.view.loc (V d cc ii) ↦{l} fo)
        ∗ semVal (V d cc ii, SemLoc.dma s0) 0 ∗ semVal (V d cc ii, SemLoc.dma s1) 0 ∗ semVal (V d cc ii, SemLoc.dma s2) 0)
      ⊢ iprop((Three h0 h1 h2 d cc ii src dst offs s0 s1 s2 q l fs fo G
              -∗ wp frame (wpE (defs₀ (F := F)) 𝒱₀ (V d cc ii) none) Set.univ (k ⟨⟩) Q)
          -∗ wp frame (wpE (defs₀ (F := F)) 𝒱₀ (V d cc ii) none) Set.univ
              (SparseCore.enqueueIndirectGather hp0 (colD src 0 g0) (colD dst 0 h0) hg offs hn s0 w0 he0 hs0 r0 >>= fun _ =>
                SparseCore.enqueueIndirectGather hp1 (colD src 128 g1) (colD dst 128 h1) hg offs hn s1 w1 he1 hs1 r1 >>= fun _ =>
                SparseCore.enqueueIndirectGather hp2 (colD src 256 g2) (colD dst 256 h2) hg offs hn s2 w2 he2 hs2 r2 >>= k) Q) := by
  have hin' : ∀ x, (offs.view.read (Elt F) fo x).toNat < (RB 32768).size hg.axis := hin
  have key : ∀ (o : ℕ) (h : ∀ a, (![0, o] : Fin 2 → ℕ) a + (RB R).size a ≤ (RC R).size a) (g : ∀ a, (![0, o] : Fin 2 → ℕ) a + (RB 32768).size a ≤ (RC 32768).size a) x,
      (colD dst o h).view.read (Elt F) G x
        = (colD src o g).view.read (Elt F) fs (hg.idx (SparseCore.rows (offs.view.read (Elt F) fo) hn hin') x) := by
    intro o h g x
    show dst.view.read (Elt F) G ((Rect.unit (s := RC R) ![0, o] (RB R).size h).emb x)
      = src.view.read (Elt F) fs ((Rect.unit (s := RC 32768) ![0, o] (RB 32768).size g).emb _)
    rw [hG, gather_idx hg (offs.view.read (Elt F) fo) hn hin' x]
    unfold rowsOf
    refine congrArg _ (funext fun a => Fin.ext ?_)
    have e0 : (Rect.unit (s := RC R) ![0, o] (RB R).size h).emb x 0 = x 0 := Fin.ext (by simp [Rect.emb_apply])
    match a with
    | ⟨0, _⟩ => simp only [Rect.emb_apply]; rw [e0]; simp
    | ⟨1, _⟩ => simp [Rect.emb_apply]
  iintro ⟨Hs, Hd, Ho, Hv0, Hv1, Hv2⟩ Hk
  ihave ⟨Hs0, Hs1, Hs2⟩ := (Entails.of_eq (pointsTo_three q fs)) $$ Hs
  ihave ⟨Ho0, Ho1, Ho2⟩ := (Entails.of_eq (pointsTo_three l fo)) $$ Ho
  ihave ⟨Hd0, Hd1, Hd2⟩ := (Entails.of_eq (cols_split h0 h1 h2 d cc ii dst hD fullShare fd)) $$ Hd
  iapply (wp_rows d cc ii (src := colD src 0 g0) (dst := colD dst 0 h0) (offs := offs) (hg := hg) (hn := hn) G (hN 0 h0 (.inl rfl)) hR hin' (key 0 h0 g0)) $$ [Hs0 Hd0 Ho0 Hv0]
  · iframe Hs0 Hd0 Ho0 Hv0
  iintro Hf0
  iapply (wp_rows d cc ii (src := colD src 128 g1) (dst := colD dst 128 h1) (offs := offs) (hg := hg) (hn := hn) G (hN 128 h1 (.inr (.inl rfl))) hR hin' (key 128 h1 g1)) $$ [Hs1 Hd1 Ho1 Hv1]
  · iframe Hs1 Hd1 Ho1 Hv1
  iintro Hf1
  iapply (wp_rows d cc ii (src := colD src 256 g2) (dst := colD dst 256 h2) (offs := offs) (hg := hg) (hn := hn) G (hN 256 h2 (.inr (.inr rfl))) hR hin' (key 256 h2 g2)) $$ [Hs2 Hd2 Ho2 Hv2]
  · iframe Hs2 Hd2 Ho2 Hv2
  iintro Hf2
  iapply Hk
  unfold Three
  iframe Hf0 Hf1 Hf2

/-- Their three waits. -/
theorem wp_await_three {O : CellTallies nD τ sig (HIx 3)} {W : Waits sig (HIx 3)} {α : Type} {Q : α → sProp (MT nD τ sig (HIx 3) (Elt F) ℕ UU ℕ)}
    {src : Memref sig .scVector .hbm (RC 32768) .f32} {dst : Memref sig .scVector .vmem (RC R) .f32} {offs : Memref sig .scVector .vmem (RL R) .i32}
    {g0 g1 g2 : ∀ a, _} {s0 s1 s2 : DmaSem sig} {w0 w1 w2 w0' w1' w2'}
    {k : PUnit → Prog (TpuEff nD τ sig (Elt F) Λ₀ (.scVector cc ii)) α}
    {q l : PosShare TreeShare} {fs : Buf (Elt F) (src.view.loc (V d cc ii))}
    {fo : Buf (Elt F) (offs.view.loc (V d cc ii))} {G : Buf (Elt F) (dst.view.loc (V d cc ii))} (hD : dst.view.set = Finset.univ) :
    iprop(Three h0 h1 h2 d cc ii src dst offs s0 s1 s2 q l fs fo G ∗ owesN (V d cc ii) O W ∗ Transfers.MayWaits (V d cc ii) (none : HIx 3) O)
      ⊢ iprop((iprop((src.view.loc (V d cc ii) ↦{q} fs) ∗ (dst.view.loc (V d cc ii) ↦{fullShare} G) ∗ (offs.view.loc (V d cc ii) ↦{l} fo)
        ∗ semVal (V d cc ii, SemLoc.dma s0) 0 ∗ semVal (V d cc ii, SemLoc.dma s1) 0 ∗ semVal (V d cc ii, SemLoc.dma s2) 0
        ∗ owesN (V d cc ii) O W)
              -∗ wp frame (wpE (defs₀ (F := F)) 𝒱₀ (V d cc ii) none) Set.univ (k ⟨⟩) Q)
          -∗ wp frame (wpE (defs₀ (F := F)) 𝒱₀ (V d cc ii) none) Set.univ
              (SparseCore.waitIndirectGather s0 (colD src 0 g0) (colD dst 0 h0) w0 w0' >>= fun _ =>
                SparseCore.waitIndirectGather s1 (colD src 128 g1) (colD dst 128 h1) w1 w1' >>= fun _ =>
                SparseCore.waitIndirectGather s2 (colD src 256 g2) (colD dst 256 h2) w2 w2' >>= k) Q) := by
  unfold Three
  iintro ⟨⟨Hf0, Hf1, Hf2⟩, HO, #Hmw⟩ Hk
  iapply (wp_await_rows d cc ii rfl) $$ [Hf0 HO Hmw]
  · iframe Hf0 HO Hmw
  iintro ⟨⟨Hd0, Hs0, Ho0⟩, Hv0, HO⟩
  iapply (wp_await_rows d cc ii rfl) $$ [Hf1 HO Hmw]
  · iframe Hf1 HO Hmw
  iintro ⟨⟨Hd1, Hs1, Ho1⟩, Hv1, HO⟩
  iapply (wp_await_rows d cc ii rfl) $$ [Hf2 HO Hmw]
  · iframe Hf2 HO Hmw
  iintro ⟨⟨Hd2, Hs2, Ho2⟩, Hv2, HO⟩
  iapply Hk
  ihave Hs := (Entails.of_eq (pointsTo_three q fs).symm) $$ [Hs0 Hs1 Hs2]
  · iframe Hs0 Hs1 Hs2
  ihave Ho := (Entails.of_eq (pointsTo_three l fo).symm) $$ [Ho0 Ho1 Ho2]
  · iframe Ho0 Ho1 Ho2
  ihave Hd := (Entails.of_eq (cols_split h0 h1 h2 d cc ii dst hD fullShare G).symm) $$ [Hd0 Hd1 Hd2]
  · iframe Hd0 Hd1 Hd2
  iframe Hs Hd Ho Hv0 Hv1 Hv2 HO

end Cols

/-! ## A check, and the vector load and store by index on a whole buffer -/

/-- A buffer's contents forgotten. -/
theorem held_some {ℓ : Loc nD τ sig} {q : PosShare TreeShare} (f : Buf (Elt F) ℓ) :
    (ℓ ↦{q} f : sProp (MT nD τ sig (HIx 3) (Elt F) ℕ UU ℕ)) ⊢ iprop(∃ g, ℓ ↦{q} g) := exists_intro f

section Checks

variable [FloatOps F] (d : Dev nD) (cc : Fin τ.nSC) (ii : Fin τ.nSub)

/-- A check that holds is passed. -/
theorem wp_check {α : Type} {Q : α → sProp (MT nD τ sig (HIx 3) (Elt F) ℕ UU ℕ)} {A : Prop} {dec : Decidable A} (h : A)
    {k : PLift A → Prog (TpuEff nD τ sig (Elt F) Λ₀ (.scVector cc ii)) α} :
    wp frame (wpE (defs₀ (F := F)) 𝒱₀ (V d cc ii) none) Set.univ (k ⟨h⟩) Q
      ⊢ wp frame (wpE (defs₀ (F := F)) 𝒱₀ (V d cc ii) none) Set.univ (Prog.lift (TpuEff.assume A dec) >>= k) Q := by
  rw [Prog.bind_lift]
  exact wp_assume 𝒱₀ (V d cc ii) none Set.univ h

/-- A copy and its wait: the target's elements `I` held outright (all of a buffer, or a window of an array). -/
theorem wp_put {O : CellTallies nD τ sig (HIx 3)} {W : Waits sig (HIx 3)} {α : Type} {Q : α → sProp (MT nD τ sig (HIx 3) (Elt F) ℕ UU ℕ)} {sp sp' : Space} {s : Shape} {e : EltTy}
    {src : Memref sig .scVector sp s e} {dst : Memref sig .scVector sp' s e} {sem : DmaSem sig}
    {h1 h1' : src.view.WordExact} {h2 h2' : dst.view.WordExact} {h3 : DmaTarget.Typed (nD := nD) (τ := τ) (p := .scVector cc ii) sp (.dma sem) (.here dst)}
    {k : PUnit → Prog (TpuEff nD τ sig (Elt F) Λ₀ (.scVector cc ii)) α} {q : PosShare TreeShare}
    {fs : Buf (Elt F) (src.view.loc (V d cc ii))} {fd : Buf (Elt F) (dst.view.loc (V d cc ii))}
    (G : Buf (Elt F) (dst.view.loc (V d cc ii))) (hs : 0 < s.numel) {I : Finset (Idx (dst.view.loc (V d cc ii)))} (hD : dst.view.set = I)
    (hG : dst.view.read (Elt F) G = src.view.read (Elt F) fs) :
    iprop((src.view.loc (V d cc ii) ↦{q} fs) ∗ (dst.view.loc (V d cc ii) ↦[I]{fullShare} fd) ∗ semVal (V d cc ii, SemLoc.dma sem) 0
        ∗ owesN (V d cc ii) O W ∗ Transfers.MayWaits (V d cc ii) (none : HIx 3) O)
      ⊢ iprop((iprop((src.view.loc (V d cc ii) ↦{q} fs) ∗ (dst.view.loc (V d cc ii) ↦[I]{fullShare} G)
              ∗ semVal (V d cc ii, SemLoc.dma sem) 0 ∗ owesN (V d cc ii) O W)
              -∗ wp frame (wpE (defs₀ (F := F)) 𝒱₀ (V d cc ii) none) Set.univ (k ⟨⟩) Q)
          -∗ wp frame (wpE (defs₀ (F := F)) 𝒱₀ (V d cc ii) none) Set.univ
              (Prog.lift (TpuEff.enqueueDma src (.here dst) (.dma sem) h1 h2 h3) >>= fun _ =>
                Prog.lift (TpuEff.waitDma2 sem src dst h1' h2') >>= k) Q) := by
  subst hD
  iintro ⟨Hs, Hd, Hv, HO, Hmw⟩ Hk
  iapply (wp_copy d cc ii G hs (fun x => congrFun hG x)) $$ [Hs Hd Hv]
  · iframe Hs Hd Hv
  iintro Hf
  iapply (wp_await d cc ii rfl) $$ [Hf HO Hmw]
  · iframe Hf HO Hmw
  iintro ⟨⟨Hd, Hs⟩, Hv, HO⟩
  iapply Hk
  iframe Hs Hd Hv HO

/-- The vector load by index from a buffer, held whole at any share. -/
theorem wp_gload {α : Type} {Q : α → sProp (MT nD τ sig (HIx 3) (Elt F) ℕ UU ℕ)} {s t : Shape} {e : EltTy}
    {base : Memref sig .scVector .vmem s e} {idxs : Fin s.rank → IVec t 32}
    {h : ∀ a x, (idxs a x).toNat < s.size a} {hl : base.view.Loads}
    {k : Vec F t e → Prog (TpuEff nD τ sig (Elt F) Λ₀ (.scVector cc ii)) α} {q : PosShare TreeShare}
    {f : Buf (Elt F) ((base.access (.whole s)).loc (V d cc ii))} (g : s.Idx → Elt F e) (hg : (base.access (.whole s)).read (Elt F) f = g) :
    iprop((base.access (.whole s)).loc (V d cc ii) ↦{q} f)
      ⊢ iprop((((base.access (.whole s)).loc (V d cc ii) ↦{q} f)
              -∗ wp frame (wpE (defs₀ (F := F)) 𝒱₀ (V d cc ii) none) Set.univ (k (loadIdx g idxs h)) Q)
          -∗ wp frame (wpE (defs₀ (F := F)) 𝒱₀ (V d cc ii) none) Set.univ (SparseCore.vectorLoadIdx base idxs h hl >>= k) Q) := by
  subst hg
  exact SparseCore.wp_vectorLoadIdx 𝒱₀ (V d cc ii) none Set.univ (Finset.subset_univ _)

/-- The vector store by index into a buffer held whole. -/
theorem wp_gstore {α : Type} {Q : α → sProp (MT nD τ sig (HIx 3) (Elt F) ℕ UU ℕ)} {s : Shape} {e : EltTy} {n : Fin 1 → ℕ}
    {base : Memref sig .scVector .vmem s e} {idxs : Fin s.rank → IVec ⟨1, n⟩ 32} {v : Vec F ⟨1, n⟩ e}
    {mask : IVec ⟨1, n⟩ 1} {add : Bool} {h : ∀ a x, (idxs a x).toNat < s.size a} {hs : (base.access (.whole s)).Stores Finset.univ}
    {k : PUnit → Prog (TpuEff nD τ sig (Elt F) Λ₀ (.scVector cc ii)) α}
    {f : Buf (Elt F) ((base.access (.whole s)).loc (V d cc ii))} {G : Buf (Elt F) ((base.access (.whole s)).loc (V d cc ii))}
    (hset : (base.access (.whole s)).set = Finset.univ)
    (hG : (base.access (.whole s)).write (Elt F) f (storeIdx ((base.access (.whole s)).read (Elt F) f) idxs v mask add h) Finset.univ = G) :
    iprop((base.access (.whole s)).loc (V d cc ii) ↦{fullShare} f)
      ⊢ iprop((((base.access (.whole s)).loc (V d cc ii) ↦{fullShare} G)
              -∗ wp frame (wpE (defs₀ (F := F)) 𝒱₀ (V d cc ii) none) Set.univ (k ⟨⟩) Q)
          -∗ wp frame (wpE (defs₀ (F := F)) 𝒱₀ (V d cc ii) none) Set.univ (SparseCore.vectorStoreIdx base idxs v mask add h hs >>= k) Q) := by
  subst hG
  rw [← hset]
  exact SparseCore.wp_vectorStoreIdx 𝒱₀ (V d cc ii) none Set.univ

end Checks

end Cert.Proof.Tiles

end
-- ==== Proof.Sample.lean ====
/-
  The first SparseCore call at one tile: 128 of the sampled rows, sixteen at a time — their row numbers fetched, the rows
  of the features gathered and written out, the three coordinates of each point gathered, packed and written out.
-/
module

public import proofs.«01_k».proof.Proof.Steps

@[expose] public section

noncomputable section

namespace Cert.Proof.Tiles

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 3) (Elt F) ℕ UU ℕ

/-! ## The arrays of the call and the windows of its results -/

abbrev featL (d : Dev nD) : Loc nD τ sig := (T d : Thread nD τ).loc main_v0
abbrev ptsL (d : Dev nD) : Loc nD τ sig := (T d : Thread nD τ).loc main_v2
abbrev idxL (d : Dev nD) : Loc nD τ sig := (T d : Thread nD τ).loc main_v9
abbrev sfL (d : Dev nD) : Loc nD τ sig := (T d : Thread nD τ).loc main_v10_0
abbrev spL (d : Dev nD) : Loc nD τ sig := (T d : Thread nD τ).loc main_v10_1

/-- The tile and the trip that write an element of the sampled features, -/
def sfCls (x : S4096x384.Idx) : Fin 32 × Fin 8 :=
  (⟨(x 0).val / 128, by have : (x 0).val < 4096 := (x 0).isLt; omega⟩, ⟨(x 0).val % 128 / 16, by omega⟩)
/-- and of the sampled points. -/
def spCls (x : S12288.Idx) : Fin 32 × Fin 8 :=
  (⟨(x 0).val / 384, by have : (x 0).val < 12288 := (x 0).isLt; omega⟩, ⟨(x 0).val % 384 / 48, by omega⟩)
def sfWin (w : Fin 32) (t : Fin 8) : Finset S4096x384.Idx := Finset.univ.filter fun x => sfCls x = (w, t)
def spWin (w : Fin 32) (t : Fin 8) : Finset S12288.Idx := Finset.univ.filter fun x => spCls x = (w, t)

/-- The number of the tile at coordinates `(SparseCore, subcore)`. -/
def tileNo (c : Fin 2) (s : Fin 16) : Fin 32 := ⟨2 * s.val + c.val, by omega⟩

theorem trips0 : k0_t1_loop.trips = 8 := by decide
abbrev t8 (t : Fin k0_t1_loop.trips) : Fin 8 := ⟨t.val, trips0 ▸ t.isLt⟩

/-- The sampled features: row `n` is the row of the table that word `n` of the list names. -/
def sfVal (feat : S32768x384.Idx → Elt F .f32) (idx : S4096.Idx → Elt F .i32) : S4096x384.Idx → Elt F .f32 := rowsOf feat idx
/-- The sampled points, three coordinates after each other. -/
def spVal (pts : S32768x128.Idx → Elt F .f32) (idx : S4096.Idx → Elt F .i32) : S12288.Idx → Elt F .f32 := fun x =>
  rowsOf pts idx (ix2 ⟨(x 0).val / 3, by have : (x 0).val < 12288 := (x 0).isLt; omega⟩ ⟨(x 0).val % 3, by omega⟩)

variable (L : grid0.Coords)

abbrev cV0 : Fin τ.nSC := (L 0).castLE hcore0
abbrev jV0 : Fin τ.nSub := (L 1).castLE hsub0
abbrev w0 : Fin 32 := tileNo ⟨(L 0).val, (L 0).isLt⟩ ⟨(L 1).val, (L 1).isLt⟩

local notation "featV" => (Memref.whole main_v0_scv : Memref sig Kind.scVector Space.hbm S32768x384 EltTy.f32)
local notation "ptsV" => (Memref.whole main_v2_scv : Memref sig Kind.scVector Space.hbm S32768x128 EltTy.f32)
local notation "idxV" => (Memref.whole main_v9_scv : Memref sig Kind.scVector Space.hbm S4096 EltTy.i32)
local notation "sfV" => (Memref.whole main_v10_0_scv : Memref sig Kind.scVector Space.hbm S4096x384 EltTy.f32)
local notation "spV" => (Memref.whole main_v10_1_scv : Memref sig Kind.scVector Space.hbm S12288 EltTy.f32)
local notation "a7" => (Memref.whole cc0_scratch0 : Memref sig Kind.scVector Space.vmem S16 EltTy.i32)
local notation "a8" => (Memref.whole cc0_scratch1 : Memref sig Kind.scVector Space.vmem S16x384 EltTy.f32)
local notation "a9" => (Memref.whole cc0_scratch2 : Memref sig Kind.scVector Space.vmem S16x128 EltTy.f32)
local notation "a10" => (Memref.whole cc0_scratch3 : Memref sig Kind.scVector Space.vmem S48 EltTy.f32)

abbrev idxWK (t : Fin k0_t1_loop.trips) : Memref sig .scVector .hbm S16 .i32 :=
  (idxV).slice (Rect.unit (s := S4096) (k0_off1 L t) S16.size (k0_off1_inb L t)) (fun _ => rfl)
abbrev sfWK (t : Fin k0_t1_loop.trips) : Memref sig .scVector .hbm S16x384 .f32 :=
  (sfV).slice (Rect.unit (s := S4096x384) (k0_off2 L t) S16x384.size (k0_off2_inb L t)) (fun _ => rfl)
abbrev spWK (t : Fin k0_t1_loop.trips) : Memref sig .scVector .hbm S48 .f32 :=
  (spV).slice (Rect.unit (s := S12288) (k0_off3 L t) S48.size (k0_off3_inb L t)) (fun _ => rfl)

theorem set_sfWK (t : Fin k0_t1_loop.trips) : (sfWK L t).view.set = sfWin (w0 L) (t8 t) := by
  refine (View.set_slice_whole _ _).trans ?_
  ext x
  have hc : (L 0).val < 2 := (L 0).isLt
  have hs : (L 1).val < 16 := (L 1).isLt
  have ht : t.val < 8 := trips0 ▸ t.isLt
  have h0 : (x 0).val < 4096 := (x 0).isLt
  have h1 : (x 1).val < 384 := (x 1).isLt
  refine (Rect.mem_set_unit (s := S4096x384)).trans (Iff.trans ?_ (Finset.mem_filter_univ x).symm)
  rw [k0_off2_eq]
  constructor
  · intro h
    have h := h 0
    simp only [Matrix.cons_val_zero] at h
    exact Prod.ext (Fin.ext (by simp [sfCls, w0, tileNo]; omega)) (Fin.ext (by simp [sfCls]; omega))
  · intro h a
    have e1 := congrArg (fun p => p.1.val) h
    have e2 := congrArg (fun p => p.2.val) h
    simp only [sfCls, w0, tileNo] at e1 e2
    match a with
    | ⟨0, _⟩ => simp; omega
    | ⟨1, _⟩ => simp; omega

theorem set_spWK (t : Fin k0_t1_loop.trips) : (spWK L t).view.set = spWin (w0 L) (t8 t) := by
  refine (View.set_slice_whole _ _).trans ?_
  ext x
  have hc : (L 0).val < 2 := (L 0).isLt
  have hs : (L 1).val < 16 := (L 1).isLt
  have ht : t.val < 8 := trips0 ▸ t.isLt
  have h0 : (x 0).val < 12288 := (x 0).isLt
  refine (Rect.mem_set_unit (s := S12288)).trans (Iff.trans ?_ (Finset.mem_filter_univ x).symm)
  rw [k0_off3_eq]
  constructor
  · intro h
    have h := h 0
    simp only [Matrix.cons_val_zero] at h
    exact Prod.ext (Fin.ext (by simp [spCls, w0, tileNo]; omega)) (Fin.ext (by simp [spCls]; omega))
  · intro h a
    have e1 := congrArg (fun p => p.1.val) h
    have e2 := congrArg (fun p => p.2.val) h
    simp only [spCls, w0, tileNo] at e1 e2
    match a with
    | ⟨0, _⟩ => simp; omega

/-! ## Packing the coordinates -/

/-- Storing the lanes at every third word leaves the other words. -/
theorem storeIdx_third [FloatOps F] (f : Vec F S48 .f32) (idxs : Fin 1 → IVec S16 32) (v : Vec F S16 .f32) (h : ∀ a x, (idxs a x).toNat < S48.size a) (c : ℕ) (hc : c < 3)
    (hi : ∀ x : S16.Idx, (idxs 0 x).toNat = 3 * (x 0).val + c) :
    storeIdx f idxs v (fun _ => 1#1) false h
      = fun j => if (j 0).val % 3 = c then v (ix1 ⟨(j 0).val / 3, by have : (j 0).val < 48 := (j 0).isLt; omega⟩) else f j := by
  have key : ∀ (stp : Vec F S48 .f32 → Fin 16 → Vec F S48 .f32)
      (_ : ∀ g k j, stp g k j = if (j 0).val = 3 * k.val + c then v (ix1 k) else g j) (l : List (Fin 16)) (g : Vec F S48 .f32),
      l.foldl stp g = fun j => if (j 0).val % 3 = c ∧ (⟨(j 0).val / 3, by have : (j 0).val < 48 := (j 0).isLt; omega⟩ : Fin 16) ∈ l
            then v (ix1 ⟨(j 0).val / 3, by have : (j 0).val < 48 := (j 0).isLt; omega⟩) else g j := by
    intro stp hstp l
    induction l with
    | nil => intro g; funext j; simp
    | cons k l ih =>
      intro g
      rw [List.foldl_cons, ih]
      funext j
      have hj : (j 0).val < 48 := (j 0).isLt
      by_cases h3 : (j 0).val % 3 = c
      · by_cases hm : (⟨(j 0).val / 3, by omega⟩ : Fin 16) ∈ l
        · rw [if_pos ⟨h3, hm⟩, if_pos ⟨h3, List.mem_cons_of_mem _ hm⟩]
        · rw [if_neg (fun hh => hm hh.2), hstp]
          by_cases hkk : (j 0).val = 3 * k.val + c
          · have ek : (⟨(j 0).val / 3, by omega⟩ : Fin 16) = k := Fin.ext (by simp only; omega)
            rw [if_pos hkk, if_pos ⟨h3, ek ▸ List.mem_cons_self⟩, ek]
          · have ek : (⟨(j 0).val / 3, by omega⟩ : Fin 16) ≠ k := fun e => hkk (by have := congrArg Fin.val e; simp only at this; omega)
            rw [if_neg hkk, if_neg (fun hh => (List.mem_cons.mp hh.2).elim ek hm)]
      · rw [if_neg (fun hh => h3 hh.1), if_neg (fun hh => h3 hh.1), hstp, if_neg (fun e => h3 (by omega))]
  unfold storeIdx
  refine (key _ (fun g k j => ?_) (List.finRange 16) f).trans ?_
  · have hx : (Shape.ofLane k : S16.Idx) = ix1 k := by funext a; match a with | ⟨0, _⟩ => rfl
    have hk : (∀ a, (j a).val = ((idxAt idxs h (Shape.ofLane k) : S48.Idx) a).val) ↔ (j 0).val = 3 * k.val + c := by
      have e : ((idxAt idxs h (Shape.ofLane k) : S48.Idx) 0).val = 3 * k.val + c := by rw [hx]; exact hi (ix1 k)
      constructor
      · intro hh; exact (hh 0).trans e
      · intro hh a; match a with | ⟨0, _⟩ => exact hh.trans e.symm
    simp only [↓reduceIte, Bool.false_eq_true]
    show (if (∀ a, (j a).val = ((idxAt idxs h (Shape.ofLane k) : S48.Idx) a).val) then v (Shape.ofLane k) else g j) = _
    rw [hx] at hk ⊢
    by_cases hkk : (j 0).val = 3 * k.val + c
    · rw [if_pos (hk.mpr hkk), if_pos hkk]
    · rw [if_neg (mt hk.mp hkk), if_neg hkk]
  funext j
  simp only [List.mem_finRange, _root_.and_true]

/-- The lane numbers. -/
abbrev lanes : IVec S16 32 := iota .scVector S16 32 [0] iota_S16_d0_w32_scVector

theorem lanes_val (x : S16.Idx) : (lanes x).toNat = (x 0).val := by
  have h : (x 0).val < 16 := (x 0).isLt
  show (BitVec.ofNat 32 (0 * 16 + (x 0).val)).toNat = _
  rw [BitVec.toNat_ofNat]; omega

theorem pay1_val (x : S16.Idx) : (k0_pay1 lanes x).toNat = 0 := by
  rw [eq_ix1 x]; generalize x 0 = k; revert k; decide
theorem pay2_val (x : S16.Idx) : (k0_pay2 lanes x).toNat = 3 * (x 0).val + 0 := by
  rw [eq_ix1 x]; generalize x 0 = k; revert k; decide
theorem pay3_val (x : S16.Idx) : (k0_pay3 lanes x).toNat = 1 := by
  rw [eq_ix1 x]; generalize x 0 = k; revert k; decide
theorem pay4_val (x : S16.Idx) : (k0_pay4 lanes x).toNat = 3 * (x 0).val + 1 := by
  rw [eq_ix1 x]; generalize x 0 = k; revert k; decide
theorem pay5_val (x : S16.Idx) : (k0_pay5 lanes x).toNat = 2 := by
  rw [eq_ix1 x]; generalize x 0 = k; revert k; decide
theorem pay6_val (x : S16.Idx) : (k0_pay6 lanes x).toNat = 3 * (x 0).val + 2 := by
  rw [eq_ix1 x]; generalize x 0 = k; revert k; decide

theorem chk_load (p : IVec S16 32) (c : ℕ) (hc : c < 128) (hp : ∀ x, (p x).toNat = c) :
    ∀ a x, ((![lanes, p] : Fin 2 → IVec S16 32) a x).toNat < S16x128.size a := by
  intro a x
  match a with
  | ⟨0, _⟩ => exact (lanes_val x).trans_lt (x 0).isLt
  | ⟨1, _⟩ => exact (hp x).trans_lt hc
theorem chk_store (p : IVec S16 32) (c : ℕ) (hc : c < 3) (hp : ∀ x : S16.Idx, (p x).toNat = 3 * (x 0).val + c) :
    ∀ a x, ((![p] : Fin 1 → IVec S16 32) a x).toNat < S48.size a := by
  intro a x
  have : (x 0).val < 16 := (x 0).isLt
  match a with
  | ⟨0, _⟩ => refine (hp x).trans_lt ?_; show _ < 48; omega

theorem loadIdx_col (f : Vec F S16x128 .f32) (p : IVec S16 32) (c : ℕ) (hc : c < 128) (hp : ∀ x, (p x).toNat = c)
    (h : ∀ a x, ((![lanes, p] : Fin 2 → IVec S16 32) a x).toNat < S16x128.size a) :
    loadIdx f ![lanes, p] h = fun x => f (ix2 (x 0) ⟨c, hc⟩) := by
  funext x
  unfold loadIdx
  refine congrArg f (funext fun a => Fin.ext ?_)
  match a with
  | ⟨0, _⟩ => exact lanes_val x
  | ⟨1, _⟩ => exact hp x

/-! ## One trip -/

section Trip

variable [FloatOps F] (d : Dev nD) (O : CellTallies nD τ sig (HIx 3)) (W : Waits sig (HIx 3))
variable (feat : S32768x384.Idx → Elt F .f32) (pts : S32768x128.Idx → Elt F .f32) (idx : S4096.Idx → Elt F .i32)
  (sf0 : S4096x384.Idx → Elt F .f32) (sp0 : S12288.Idx → Elt F .f32) (qf qp qi : PosShare TreeShare)

/-- What a tile holds before trip `k`. -/
def inv0 (k : ℕ) (_ : Unit) : sProp (MT nD τ sig (HIx 3) (Elt F) ℕ UU ℕ) := iprop(
  Transfers.MayWaits (V d (cV0 L) (jV0 L)) (none : HIx 3) O
  ∗ ((featV).view.loc (V d (cV0 L) (jV0 L)) ↦{qf} feat) ∗ ((ptsV).view.loc (V d (cV0 L) (jV0 L)) ↦{qp} pts)
  ∗ ((idxV).view.loc (V d (cV0 L) (jV0 L)) ↦{qi} idx)
  ∗ bigSep Finset.univ (fun t : Fin 8 => (sfV).view.loc (V d (cV0 L) (jV0 L)) ↦[sfWin (w0 L) t]{fullShare} (if t.val < k then sfVal feat idx else sf0))
  ∗ bigSep Finset.univ (fun t : Fin 8 => (spV).view.loc (V d (cV0 L) (jV0 L)) ↦[spWin (w0 L) t]{fullShare} (if t.val < k then spVal pts idx else sp0))
  ∗ (∃ f, (a7).view.loc (V d (cV0 L) (jV0 L)) ↦{fullShare} f) ∗ (∃ f, (a8).view.loc (V d (cV0 L) (jV0 L)) ↦{fullShare} f)
  ∗ (∃ f, (a9).view.loc (V d (cV0 L) (jV0 L)) ↦{fullShare} f) ∗ (∃ f, (a10).view.loc (V d (cV0 L) (jV0 L)) ↦{fullShare} f)
  ∗ semVal (V d (cV0 L) (jV0 L), SemLoc.dma cc0_scratch4.sem) 0 ∗ semVal (V d (cV0 L) (jV0 L), SemLoc.dma cc0_scratch5.sem) 0
  ∗ semVal (V d (cV0 L) (jV0 L), SemLoc.dma cc0_scratch6.sem) 0 ∗ semVal (V d (cV0 L) (jV0 L), SemLoc.dma cc0_scratch7.sem) 0
  ∗ semVal (V d (cV0 L) (jV0 L), SemLoc.dma cc0_scoped0.sem) 0 ∗ semVal (V d (cV0 L) (jV0 L), SemLoc.dma cc0_scoped1.sem) 0
  ∗ semVal (V d (cV0 L) (jV0 L), SemLoc.dma cc0_scoped2.sem) 0
  ∗ owesN (V d (cV0 L) (jV0 L)) O W)

abbrev body0 : Fin k0_t1_loop.trips → Unit → Prog (TpuEff nD τ sig (Elt F) Λ₀ (.scVector (cV0 L) (jV0 L))) Unit :=
  k0_t1_body L featV (Memref.isWhole_whole _) ptsV (Memref.isWhole_whole _) idxV (Memref.isWhole_whole _)
    sfV (Memref.isWhole_whole _) spV (Memref.isWhole_whole _) a7 (Memref.isWhole_whole _) a8 (Memref.isWhole_whole _)
    a9 (Memref.isWhole_whole _) a10 (Memref.isWhole_whole _) cc0_scratch4 cc0_scratch5 cc0_scratch6 cc0_scratch7
    cc0_scoped0 cc0_scoped1 cc0_scoped2 (Scalar.addi (Scalar.muli (BitVec.ofNat 32 (L 1).val) 2#32) (BitVec.ofNat 32 (L 0).val)) lanes

/-- The row numbers a trip fetches. -/
def list0 (t : Fin k0_t1_loop.trips) : S16.Idx → Elt F .i32 := fun x =>
  idx (ix1 ⟨128 * (w0 L).val + 16 * t.val + (x 0).val, by
    have := (w0 L).isLt; have : t.val < 8 := trips0 ▸ t.isLt; have : (x 0).val < 16 := (x 0).isLt; omega⟩)

/-- The coordinates packed. -/
def pack0 (f : S16x128.Idx → Elt F .f32) : S48.Idx → Elt F .f32 := fun x =>
  f (ix2 ⟨(x 0).val / 3, by have : (x 0).val < 48 := (x 0).isLt; omega⟩ ⟨(x 0).val % 3, by omega⟩)

theorem list0_read (t : Fin k0_t1_loop.trips) : (idxWK L t).view.read (Elt F) idx = list0 L idx t := by
  funext x
  show idx ((Rect.unit (s := S4096) (k0_off1 L t) S16.size (k0_off1_inb L t)).emb x) = _
  unfold list0
  refine congrArg idx (funext fun a => Fin.ext ?_)
  match a with
  | ⟨0, _⟩ =>
    rw [Rect.emb_apply]
    simp only [Rect.unit, k0_off1_eq, w0, tileNo]
    simp; omega

theorem sfVal_read (t : Fin k0_t1_loop.trips) : (sfWK L t).view.read (Elt F) (sfVal feat idx) = rowsOf feat (list0 L idx t) := by
  funext x
  show sfVal feat idx ((Rect.unit (s := S4096x384) (k0_off2 L t) S16x384.size (k0_off2_inb L t)).emb x) = _
  unfold sfVal rowsOf list0
  have e0 : (((Rect.unit (s := S4096x384) (k0_off2 L t) S16x384.size (k0_off2_inb L t)).emb x 0 : Fin _) : ℕ) = 128 * (w0 L).val + 16 * t.val + (x 0).val := by
    rw [Rect.emb_apply]
    simp only [Rect.unit, k0_off2_eq, w0, tileNo]
    simp; omega
  have e1 : (Rect.unit (s := S4096x384) (k0_off2 L t) S16x384.size (k0_off2_inb L t)).emb x 1 = x 1 := by
    refine Fin.ext ?_
    rw [Rect.emb_apply]
    simp only [Rect.unit, k0_off2_eq]
    simp
  rw [e1]
  refine congrArg (fun j => feat (ix2 (rowNo (idx (ix1 j))) (x 1))) (Fin.ext e0)

theorem spVal_read (t : Fin k0_t1_loop.trips) : (spWK L t).view.read (Elt F) (spVal pts idx) = pack0 (rowsOf pts (list0 L idx t)) := by
  funext x
  show spVal pts idx ((Rect.unit (s := S12288) (k0_off3 L t) S48.size (k0_off3_inb L t)).emb x) = _
  unfold spVal pack0 rowsOf list0
  have e0 : (((Rect.unit (s := S12288) (k0_off3 L t) S48.size (k0_off3_inb L t)).emb x 0 : Fin _) : ℕ) = 384 * (w0 L).val + 48 * t.val + (x 0).val := by
    rw [Rect.emb_apply]
    simp only [Rect.unit, k0_off3_eq, w0, tileNo]
    simp; omega
  simp only [ix2_0, ix2_1]
  refine congrArg₂ (fun j l => pts (ix2 (rowNo (idx (ix1 j))) l)) (Fin.ext ?_) (Fin.ext ?_)
  · show _ / 3 = _ + _ / 3; rw [e0]; omega
  · show _ % 3 = _ % 3; rw [e0]; omega

theorem pack0_stores (f : S16x128.Idx → Elt F .f32) (g : S48.Idx → Elt F .f32) (i2 i4 i6 : Fin 1 → IVec S16 32) (h2 h4 h6) (v1 v3 v5 : Vec F S16 .f32)
    (e1 : v1 = fun x => f (ix2 (x 0) 0)) (e3 : v3 = fun x => f (ix2 (x 0) 1)) (e5 : v5 = fun x => f (ix2 (x 0) 2))
    (e2 : ∀ x : S16.Idx, (i2 0 x).toNat = 3 * (x 0).val + 0) (e4 : ∀ x : S16.Idx, (i4 0 x).toNat = 3 * (x 0).val + 1)
    (e6 : ∀ x : S16.Idx, (i6 0 x).toNat = 3 * (x 0).val + 2) :
    storeIdx (storeIdx (storeIdx (F := F) (s := S48) (e := .f32) g i2 v1 (fun _ => 1#1) false h2) i4 v3 (fun _ => 1#1) false h4) i6 v5 (fun _ => 1#1) false h6 = pack0 f := by
  rw [storeIdx_third _ i6 v5 h6 2 (by decide) e6, storeIdx_third _ i4 v3 h4 1 (by decide) e4, storeIdx_third _ i2 v1 h2 0 (by decide) e2]
  subst e1 e3 e5
  funext j
  unfold pack0
  have h : (j 0).val % 3 = 0 ∨ (j 0).val % 3 = 1 ∨ (j 0).val % 3 = 2 := by omega
  rcases h with h | h | h <;> simp [h]

theorem set_a7 : (a7).view.set = Finset.univ := View.set_whole _
theorem set_a8 : (a8).view.set = Finset.univ := View.set_whole _
theorem set_a9 : (a9).view.set = Finset.univ := View.set_whole _
theorem set_a10 : (a10).view.set = Finset.univ := View.set_whole _

theorem credit_a8 (o : ℕ) (h : ∀ a, (![0, o] : Fin 2 → ℕ) a + (RB 16).size a ≤ (RC 16).size a) (ho : o = 0 ∨ o = 128 ∨ o = 256) :
    ∑ j, ((colD a8 o h).slice ((RB 16).rowRect gathers_S32768x128_S16x128.axis' j) ((RB 16).stride_rowRect gathers_S32768x128_S16x128.axis' j)).view.dmaCredit
      = (colD a8 o h).view.dmaCredit := by
  rcases ho with rfl | rfl | rfl <;> decide +revert

theorem pts_gather (hidx : ∀ x, (idx x).toNat < 32768) (k : Fin k0_t1_loop.trips) (x : S16x128.Idx) :
    (a9).view.read (Elt F) (rowsOf pts (list0 L idx k)) x
      = ((ptsV).slice (Rect.unit (s := S32768x128) ![0, 0] S32768x128.size inb_S32768x128_S32768x128_0_0) (fun _ => rfl)).view.read (Elt F) pts
          (gathers_S32768x128_S16x128.idx (SparseCore.rows ((a7).view.read (Elt F) (list0 L idx k)) rfl (fun x => hidx _)) x) := by
  show rowsOf pts (list0 L idx k) x = pts ((Rect.unit (s := S32768x128) ![0, 0] S32768x128.size inb_S32768x128_S32768x128_0_0).emb
    (gathers_S32768x128_S16x128.idx (SparseCore.rows (list0 L idx k) rfl (fun x => hidx _)) x))
  rw [gather_idx gathers_S32768x128_S16x128 (list0 L idx k) rfl (fun x => hidx _) x]
  unfold rowsOf
  refine congrArg pts (funext fun a => Fin.ext ?_)
  match a with
  | ⟨0, _⟩ => simp [Rect.emb_apply]
  | ⟨1, _⟩ => simp [Rect.emb_apply]

/-- A load by index from the fetched coordinates. -/
theorem load_a9 {α : Type} {Q : α → sProp (MT nD τ sig (HIx 3) (Elt F) ℕ UU ℕ)} {idxs : Fin 2 → IVec S16 32}
    {h : ∀ a x, (idxs a x).toNat < S16x128.size a} {hl : (a9).view.Loads}
    {k : Vec F S16 .f32 → Prog (TpuEff nD τ sig (Elt F) Λ₀ (.scVector (cV0 L) (jV0 L))) α} (f : S16x128.Idx → Elt F .f32) :
    ((a9).view.loc (V d (cV0 L) (jV0 L)) ↦{fullShare} f : sProp (MT nD τ sig (HIx 3) (Elt F) ℕ UU ℕ))
      ⊢ iprop((((a9).view.loc (V d (cV0 L) (jV0 L)) ↦{fullShare} f)
              -∗ wp frame (wpE (defs₀ (F := F)) 𝒱₀ (V d (cV0 L) (jV0 L)) none) Set.univ (k (loadIdx f idxs h)) Q)
          -∗ wp frame (wpE (defs₀ (F := F)) 𝒱₀ (V d (cV0 L) (jV0 L)) none) Set.univ (SparseCore.vectorLoadIdx a9 idxs h hl >>= k) Q) :=
  wp_gload d (cV0 L) (jV0 L) (base := a9) (f := f) f (Memref.read_access_whole (Elt F) cc0_scratch2 _)

/-- A store by index into the packed coordinates. -/
theorem store_a10 {α : Type} {Q : α → sProp (MT nD τ sig (HIx 3) (Elt F) ℕ UU ℕ)} {idxs : Fin 1 → IVec S16 32} {v : Vec F S16 .f32}
    {mask : IVec S16 1} {add : Bool} {h : ∀ a x, (idxs a x).toNat < S48.size a} {hs : ((a10).access (.whole S48)).Stores Finset.univ}
    {k : PUnit → Prog (TpuEff nD τ sig (Elt F) Λ₀ (.scVector (cV0 L) (jV0 L))) α} (f : S48.Idx → Elt F .f32) :
    ((a10).view.loc (V d (cV0 L) (jV0 L)) ↦{fullShare} f : sProp (MT nD τ sig (HIx 3) (Elt F) ℕ UU ℕ))
      ⊢ iprop((((a10).view.loc (V d (cV0 L) (jV0 L)) ↦{fullShare} storeIdx f idxs v mask add h)
              -∗ wp frame (wpE (defs₀ (F := F)) 𝒱₀ (V d (cV0 L) (jV0 L)) none) Set.univ (k ⟨⟩) Q)
          -∗ wp frame (wpE (defs₀ (F := F)) 𝒱₀ (V d (cV0 L) (jV0 L)) none) Set.univ (SparseCore.vectorStoreIdx a10 idxs v mask add h hs >>= k) Q) :=
  wp_gstore d (cV0 L) (jV0 L) (base := a10) (f := f) (G := storeIdx f idxs v mask add h) (Memref.set_access_whole _)
    ((congrArg (fun g => ((a10).access (.whole S48)).write (Elt F) f (storeIdx g idxs v mask add h) Finset.univ) (Memref.read_access_whole (Elt F) cc0_scratch3 f)).trans
      (Memref.write_access_whole_univ (Elt F) cc0_scratch3 f _))

set_option maxHeartbeats 4000000 in
theorem trip0 (hidx : ∀ x, (idx x).toNat < 32768) (k : Fin k0_t1_loop.trips) (u : Unit) :
    inv0 L d O W feat pts idx sf0 sp0 qf qp qi k.val u
      ⊢ wp frame (wpE (defs₀ (F := F)) 𝒱₀ (V d (cV0 L) (jV0 L)) none) Set.univ (body0 L k u)
          (inv0 L d O W feat pts idx sf0 sp0 qf qp qi (k.val + 1)) := by
  unfold inv0
  unfold body0 k0_t1_body
  simp only [k0_part1_eq_skeleton, k0_part2_eq_skeleton]
  unfold k0_part1_skel k0_part2_skel
  simp only [bind_assoc, pure_bind]
  iintro ⟨#Hmw, Hfeat, Hpts, Hidx, Hsf, Hsp, ⟨%g7, H7⟩, ⟨%g8, H8⟩, ⟨%g9, H9⟩, ⟨%g10, H10⟩, Hv0, Hv1, Hv2, Hv3, Hr0, Hr1, Hr2, HO⟩
  -- the row numbers
  iapply (wp_put d (cV0 L) (jV0 L) (src := idxWK L k) (dst := a7) (list0 L idx k) (by decide) (View.set_whole _) (list0_read L idx k).symm) $$ [Hidx H7 Hr0 HO Hmw]
  · iframe Hidx H7 Hr0 HO Hmw
  iintro ⟨Hidx, H7, Hr0, HO⟩
  have hlist : ∀ x, (list0 L idx k x).toNat < 32768 := fun x => hidx _
  -- the gathers
  ihave ⟨H7, H7'⟩ := (pointsTo_share (PosShare.mem_left_op_right fullShare)).1 $$ H7
  iapply (wp_three (R := 16) inb_S16x384_S16x128_0_0 inb_S16x384_S16x128_0_128 inb_S16x384_S16x128_0_256 d (cV0 L) (jV0 L)
    (src := featV) (dst := a8) (offs := a7) (fs := feat) (fo := list0 L idx k) (rowsOf feat (list0 L idx k)) credit_a8 (by decide) (View.set_whole _) hlist rfl) $$ [Hfeat H8 H7 Hv0 Hv1 Hv2]
  · iframe Hfeat H8 H7 Hv0 Hv1 Hv2
  iintro Hthree
  iapply (wp_rows d (cV0 L) (jV0 L) (src := (ptsV).slice (Rect.unit (s := S32768x128) ![0, 0] S32768x128.size inb_S32768x128_S32768x128_0_0) (fun _ => rfl))
    (dst := a9) (offs := a7) (fs := pts) (fo := list0 L idx k) (hg := gathers_S32768x128_S16x128) (rowsOf pts (list0 L idx k)) (by decide) (by decide) hlist (pts_gather L pts idx hidx k)) $$ [Hpts H9 H7' Hv3]
  · iframe Hpts H7' Hv3
    iapply (Entails.of_eq (show ((a9).view.loc (V d (cV0 L) (jV0 L)) ↦{fullShare} g9 : sProp 𝕄)
      = (a9).view.loc (V d (cV0 L) (jV0 L)) ↦[(a9).view.set]{fullShare} g9 by rw [set_a9])) $$ H9
  iintro Hf3
  -- their waits, the rows written out
  iapply (wp_await_three (R := 16) inb_S16x384_S16x128_0_0 inb_S16x384_S16x128_0_128 inb_S16x384_S16x128_0_256 d (cV0 L) (jV0 L)
    (src := featV) (dst := a8) (offs := a7) (View.set_whole _)) $$ [Hthree HO Hmw]
  · iframe Hthree HO Hmw
  iintro ⟨Hfeat, H8, H7, Hv0, Hv1, Hv2, HO⟩
  ihave ⟨Hw, Hsf⟩ := (win_take (sfWin (w0 L)) sf0 (sfVal feat idx) (t8 k)) $$ Hsf
  iapply (wp_put d (cV0 L) (jV0 L) (src := a8) (dst := sfWK L k) (fs := rowsOf feat (list0 L idx k)) (sfVal feat idx) (by decide) (set_sfWK L k) (sfVal_read L feat idx k)) $$ [H8 Hw Hr1 HO Hmw]
  · iframe H8 Hw Hr1 HO Hmw
  iintro ⟨H8, Hw, Hr1, HO⟩
  ihave Hsf := Hsf $$ Hw
  iapply (wp_await_rows d (cV0 L) (jV0 L) rfl) $$ [Hf3 HO Hmw]
  · iframe Hf3 HO Hmw
  iintro ⟨⟨H9, Hpts, H7'⟩, Hv3, HO⟩
  ihave H9 := (Entails.of_eq (show ((a9).view.loc (V d (cV0 L) (jV0 L)) ↦[(a9).view.set]{fullShare} rowsOf pts (list0 L idx k) : sProp 𝕄)
      = (a9).view.loc (V d (cV0 L) (jV0 L)) ↦{fullShare} rowsOf pts (list0 L idx k) by rw [set_a9])) $$ H9
  ihave H7 := (pointsTo_share (PosShare.mem_left_op_right fullShare)).2 $$ [H7 H7']
  · iframe H7 H7'
  -- the coordinates packed
  iapply (wp_check d (cV0 L) (jV0 L) (chk_load _ 0 (by decide) pay1_val))
  iapply (load_a9 L d (rowsOf pts (list0 L idx k))) $$ H9
  iintro H9
  iapply (wp_check d (cV0 L) (jV0 L) (chk_store _ 0 (by decide) pay2_val))
  iapply (store_a10 L d _) $$ H10
  iintro H10
  iapply (wp_check d (cV0 L) (jV0 L) (chk_load _ 1 (by decide) pay3_val))
  iapply (load_a9 L d (rowsOf pts (list0 L idx k))) $$ H9
  iintro H9
  iapply (wp_check d (cV0 L) (jV0 L) (chk_store _ 1 (by decide) pay4_val))
  iapply (store_a10 L d _) $$ H10
  iintro H10
  iapply (wp_check d (cV0 L) (jV0 L) (chk_load _ 2 (by decide) pay5_val))
  iapply (load_a9 L d (rowsOf pts (list0 L idx k))) $$ H9
  iintro H9
  iapply (wp_check d (cV0 L) (jV0 L) (chk_store _ 2 (by decide) pay6_val))
  iapply (store_a10 L d _) $$ H10
  iintro H10
  rw [pack0_stores (rowsOf pts (list0 L idx k)) g10 _ _ _ _ _ _ _ _ _ (loadIdx_col _ _ 0 (by decide) pay1_val _)
      (loadIdx_col _ _ 1 (by decide) pay3_val _) (loadIdx_col _ _ 2 (by decide) pay5_val _) pay2_val pay4_val pay6_val]
  ihave ⟨Hw, Hsp⟩ := (win_take (spWin (w0 L)) sp0 (spVal pts idx) (t8 k)) $$ Hsp
  iapply (wp_put d (cV0 L) (jV0 L) (src := a10) (dst := spWK L k) (fs := pack0 (rowsOf pts (list0 L idx k))) (spVal pts idx) (by decide) (set_spWK L k) (spVal_read L pts idx k)) $$ [H10 Hw Hr2 HO Hmw]
  · iframe H10 Hw Hr2 HO Hmw
  iintro ⟨H10, Hw, Hr2, HO⟩
  ihave Hsp := Hsp $$ Hw
  sl_step
  ihave H7 := (held_some _) $$ H7
  ihave H8 := (held_some _) $$ H8
  ihave H9 := (held_some _) $$ H9
  ihave H10 := (held_some _) $$ H10
  iframe Hmw Hfeat Hpts Hidx Hsf Hsp H7 H8 H9 H10 Hv0 Hv1 Hv2 Hv3 Hr0 Hr1 Hr2 HO

end Trip

end Cert.Proof.Tiles

end
-- ==== Proof.SampleTile.lean ====
/-
  The first SparseCore call at one tile, from start to end: from read shares of the tables and the tile's own windows of
  the two results to those windows written.
-/
module

public import proofs.«01_k».proof.Proof.Sample

@[expose] public section

noncomputable section

namespace Cert.Proof.Tiles

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 3) (Elt F) ℕ UU ℕ

/-- The share of an array that tile `w` reads. -/
abbrev rd (w : Fin 32) : PosShare TreeShare := pieceOf fullShare 32 (by decide) w

/-- What a tile holds of the first call's arrays. -/
def res0 (d : Dev nD) (w : Fin 32) (feat : S32768x384.Idx → Elt F .f32) (pts : S32768x128.Idx → Elt F .f32) (idx : S4096.Idx → Elt F .i32)
    (sf : S4096x384.Idx → Elt F .f32) (sp : S12288.Idx → Elt F .f32) : sProp (MT nD τ sig (HIx 3) (Elt F) ℕ UU ℕ) := iprop(
  (featL d ↦{rd w} feat) ∗ (ptsL d ↦{rd w} pts) ∗ (idxL d ↦{rd w} idx)
  ∗ bigSep Finset.univ (fun t : Fin 8 => sfL d ↦[sfWin w t]{fullShare} sf)
  ∗ bigSep Finset.univ (fun t : Fin 8 => spL d ↦[spWin w t]{fullShare} sp))

variable (L : grid0.Coords) [FloatOps F] (d : Dev nD)

set_option maxHeartbeats 4000000 in
theorem tile0 (feat : S32768x384.Idx → Elt F .f32) (pts : S32768x128.Idx → Elt F .f32) (idx : S4096.Idx → Elt F .i32)
    (sf0 : S4096x384.Idx → Elt F .f32) (sp0 : S12288.Idx → Elt F .f32) (hidx : ∀ x, (idx x).toNat < 32768)
    (O : CellTallies nD τ sig (HIx 3)) (W : Waits sig (HIx 3)) (hO : ∀ g, O g none = 0) :
    iprop(levAts (K (F := F)).L (K (F := F)).lev ∗ emp ∗ res0 d (w0 L) feat pts idx sf0 sp0
        ∗ scopedBufs (V d (cV0 L) (jV0 L)) ∗ scopedSems0 (V d (cV0 L) (jV0 L)) ∗ owes (V d (cV0 L) (jV0 L)) O W)
      ⊢ wp frame (wpE (defs₀ (F := F)) 𝒱₀ (V d (cV0 L) (jV0 L)) none) Set.univ
          (cc0__k_sample L (Memref.whole main_v0_scv) (Memref.isWhole_whole _) (Memref.whole main_v2_scv) (Memref.isWhole_whole _)
            (Memref.whole main_v9_scv) (Memref.isWhole_whole _) (Memref.whole main_v10_0_scv) (Memref.isWhole_whole _)
            (Memref.whole main_v10_1_scv) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) cc0_scratch4 cc0_scratch5 cc0_scratch6 cc0_scratch7
            cc0_scoped0 cc0_scoped1 cc0_scoped2)
          fun _ => iprop(res0 d (w0 L) feat pts idx (sfVal feat idx) (spVal pts idx)
            ∗ scopedBufs (V d (cV0 L) (jV0 L)) ∗ scopedSems0 (V d (cV0 L) (jV0 L))
            ∗ ∃ W', ⌜∀ p ∈ W', p ∈ W ∨ p.2 = none⌝ ∗ owes (V d (cV0 L) (jV0 L)) O W') := by
  simp only [cc0__k_sample_eq_skeleton]; unfold cc0__k_sample_skel
  rw [(K (F := F)).scopedBufs_V facts d (cV0 L) (jV0 L), SparseCore.Cfg.scopedSems0_V (Val := Elt F) d (cV0 L) (jV0 L),
    sems_peel d (cV0 L) (jV0 L) [cc0_scratch4.sem, cc0_scratch5.sem, cc0_scratch6.sem, cc0_scratch7.sem, cc0_scoped0.sem, cc0_scoped1.sem, cc0_scoped2.sem] (by decide) (by decide),
    bufs_peel d (cV0 L) (jV0 L) [cc0_scratch0, cc0_scratch1, cc0_scratch2, cc0_scratch3] (by decide) (by intro b hb; fin_cases hb <;> rfl)]
  simp only [chain, List.map]
  unfold res0
  iintro ⟨#Hlv, -, ⟨Hfeat, Hpts, Hidx, Hsf, Hsp⟩, ⟨H7, H8, H9, H10, Hbufs⟩, ⟨Hv0, Hv1, Hv2, Hv3, Hr0, Hr1, Hr2, Hsems⟩, HO⟩
  ihave #Hmw := (show levAts (K (F := F)).L (K (F := F)).lev ⊢ Transfers.MayWaits (V d (cV0 L) (jV0 L)) (none : HIx 3) O from
    (K (F := F)).mayWaits_none (thr := V d (cV0 L) (jV0 L)) hO) $$ Hlv
  ihave Hsf := (Entails.of_eq (win_none (F := F) (ℓ := sfL d) (sfWin (w0 L)) sf0 (sfVal feat idx))) $$ Hsf
  ihave Hsp := (Entails.of_eq (win_none (F := F) (ℓ := spL d) (spWin (w0 L)) sp0 (spVal pts idx))) $$ Hsp
  iapply (Scf.wp_for_bind frame (wpE (defs₀ (F := F)) 𝒱₀ (V d (cV0 L) (jV0 L)) none) Set.univ _ _ _ k0_t1_ok _ _ (I := inv0 L d O W feat pts idx sf0 sp0 (rd (w0 L)) (rd (w0 L)) (rd (w0 L))) (fun k u => trip0 L d O W feat pts idx sf0 sp0 _ _ _ hidx k u)) $$ [Hfeat Hpts Hidx Hsf Hsp H7 H8 H9 H10 Hv0 Hv1 Hv2 Hv3 Hr0 Hr1 Hr2 HO]
  · unfold inv0 owesN
    iframe Hmw Hfeat Hpts Hidx Hsf Hsp H7 H8 H9 H10 Hv0 Hv1 Hv2 Hv3 Hr0 Hr1 Hr2
    iexists W
    isplitr
    · ipureintro; exact fun p hp => .inl hp
    iexact HO
  iintro %u
  unfold inv0 owesN
  iintro ⟨-, Hfeat, Hpts, Hidx, Hsf, Hsp, H7, H8, H9, H10, Hv0, Hv1, Hv2, Hv3, Hr0, Hr1, Hr2, HO⟩
  ihave Hsf := (Entails.of_eq (win_all (F := F) (ℓ := sfL d) (show 8 ≤ k0_t1_loop.trips by decide) (sfWin (w0 L)) sf0 (sfVal feat idx))) $$ Hsf
  ihave Hsp := (Entails.of_eq (win_all (F := F) (ℓ := spL d) (show 8 ≤ k0_t1_loop.trips by decide) (spWin (w0 L)) sp0 (spVal pts idx))) $$ Hsp
  sl_step
  iframe Hfeat Hpts Hidx Hsf Hsp H7 H8 H9 H10 Hbufs Hv0 Hv1 Hv2 Hv3 Hr0 Hr1 Hr2 Hsems HO

end Cert.Proof.Tiles

end
-- ==== Proof.Rows.lean ====
/-
  What the second and the third call share: the loads and stores of one vector of a buffer (`wp_ld`, `wp_st`), the rows
  of the index list and of the sampled features that a query reads, and an array's windows taken a pair at a time.
-/
module

public import proofs.«01_k».proof.Proof.SampleTile
public import Idealize.ShloMosaic.Lib.Writes
public import Idealize.ShloMosaic.Lib.Pipeline.Value

@[expose] public section

noncomputable section

namespace Cert.Proof.Tiles

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 3) (Elt F) ℕ UU ℕ

section Vectors

variable [FloatOps F] (d : Dev nD) (cc : Fin τ.nSC) (ii : Fin τ.nSub)
variable {α : Type} {Q : α → sProp (MT nD τ sig (HIx 3) (Elt F) ℕ UU ℕ)} {s : Shape} {e : EltTy}

/-- A load of one rectangle of a buffer held at any share. -/
theorem wp_ld {m : Memref sig .scVector .vmem s e} {r : Rect s} {hl : m.view.LoadsAt r.toLoadRect}
    {k : (r.toLoadRect.shape.Idx → Elt F e) → Prog (TpuEff nD τ sig (Elt F) Λ₀ (.scVector cc ii)) α} {q : PosShare TreeShare}
    {f : Buf (Elt F) (m.view.loc (V d cc ii))} :
    (m.view.loc (V d cc ii) ↦{q} f : sProp (MT nD τ sig (HIx 3) (Elt F) ℕ UU ℕ))
      ⊢ iprop(((m.view.loc (V d cc ii) ↦{q} f)
              -∗ wp frame (wpE (defs₀ (F := F)) 𝒱₀ (V d cc ii) none) Set.univ (k fun x => m.view.read (Elt F) f (r.emb x)) Q)
          -∗ wp frame (wpE (defs₀ (F := F)) 𝒱₀ (V d cc ii) none) Set.univ (Prog.lift (TpuEff.load m r.toLoadRect hl) >>= k) Q) := by
  rw [Prog.bind_lift]
  exact wp_load 𝒱₀ (V d cc ii) none Set.univ (Finset.subset_univ _)

/-- A store of one rectangle of a buffer held outright. -/
theorem wp_st {m : Memref sig .scVector .vmem s e} {r : Rect s} {w : r.shape.Idx → Elt F e}
    {hx : (m.access r).Stores Finset.univ} {hm : (Finset.univ : Finset r.shape.Idx) = Finset.univ ∨ ∀ a, r.stride a = 1}
    {k : PUnit → Prog (TpuEff nD τ sig (Elt F) Λ₀ (.scVector cc ii)) α} {L : List (View.Piece (Elt F) s e)}
    {f : Buf (Elt F) (m.view.loc (V d cc ii))} :
    (m.view.loc (V d cc ii) ↦{fullShare} m.view.writes (Elt F) f L : sProp (MT nD τ sig (HIx 3) (Elt F) ℕ UU ℕ))
      ⊢ iprop(((m.view.loc (V d cc ii) ↦{fullShare} m.view.writes (Elt F) f (⟨r, w⟩ :: L))
              -∗ wp frame (wpE (defs₀ (F := F)) 𝒱₀ (V d cc ii) none) Set.univ (k ⟨⟩) Q)
          -∗ wp frame (wpE (defs₀ (F := F)) 𝒱₀ (V d cc ii) none) Set.univ (Prog.lift (TpuEff.store m r w Finset.univ hx hm) >>= k) Q) := by
  rw [Prog.bind_lift]
  exact wp_store_writes 𝒱₀ (V d cc ii) none Set.univ (Finset.subset_univ _)

/-- The same load, of values known. -/
theorem wp_lds {m : Memref sig .scVector .vmem s e} {r : Rect s} {hl : m.view.LoadsAt r.toLoadRect}
    {k : (r.toLoadRect.shape.Idx → Elt F e) → Prog (TpuEff nD τ sig (Elt F) Λ₀ (.scVector cc ii)) α} {q : PosShare TreeShare}
    {f : Buf (Elt F) (m.view.loc (V d cc ii))} (g : r.toLoadRect.shape.Idx → Elt F e) (hg : ∀ x, m.view.read (Elt F) f (r.emb x) = g x) :
    (m.view.loc (V d cc ii) ↦{q} f : sProp (MT nD τ sig (HIx 3) (Elt F) ℕ UU ℕ))
      ⊢ iprop(((m.view.loc (V d cc ii) ↦{q} f)
              -∗ wp frame (wpE (defs₀ (F := F)) 𝒱₀ (V d cc ii) none) Set.univ (k g) Q)
          -∗ wp frame (wpE (defs₀ (F := F)) 𝒱₀ (V d cc ii) none) Set.univ (Prog.lift (TpuEff.load m r.toLoadRect hl) >>= k) Q) := by
  obtain rfl : (fun x => m.view.read (Elt F) f (r.emb x)) = g := funext hg
  exact wp_ld d cc ii

/-- A copy started: the target's elements `I` held outright. -/
theorem wp_start {sp sp' : Space} {src : Memref sig .scVector sp s e} {dst : Memref sig .scVector sp' s e} {sem : DmaSem sig}
    {h1 : src.view.WordExact} {h2 : dst.view.WordExact} {h3 : DmaTarget.Typed (nD := nD) (τ := τ) (p := .scVector cc ii) sp (.dma sem) (.here dst)}
    {k : PUnit → Prog (TpuEff nD τ sig (Elt F) Λ₀ (.scVector cc ii)) α} {q : PosShare TreeShare}
    {fs : Buf (Elt F) (src.view.loc (V d cc ii))} {fd : Buf (Elt F) (dst.view.loc (V d cc ii))}
    (G : Buf (Elt F) (dst.view.loc (V d cc ii))) (hs : 0 < s.numel) {I : Finset (Idx (dst.view.loc (V d cc ii)))} (hD : dst.view.set = I)
    (hG : dst.view.read (Elt F) G = src.view.read (Elt F) fs) :
    iprop((src.view.loc (V d cc ii) ↦{q} fs) ∗ (dst.view.loc (V d cc ii) ↦[I]{fullShare} fd) ∗ semVal (V d cc ii, SemLoc.dma sem) 0)
      ⊢ iprop((Fl (V d cc ii) sem dst.view.dmaCredit
                iprop((dst.view.loc (V d cc ii) ↦[I]{fullShare} G) ∗ (src.view.loc (V d cc ii) ↦{q} fs))
              -∗ wp frame (wpE (defs₀ (F := F)) 𝒱₀ (V d cc ii) none) Set.univ (k ⟨⟩) Q)
          -∗ wp frame (wpE (defs₀ (F := F)) 𝒱₀ (V d cc ii) none) Set.univ
              (Prog.lift (TpuEff.enqueueDma src (.here dst) (.dma sem) h1 h2 h3) >>= k) Q) := by
  subst hD
  exact wp_copy d cc ii G hs (fun x => congrFun hG x)

end Vectors

/-! ## Where a row lies -/

theorem unit_emb {s : Shape} (off size : Fin s.rank → ℕ) (inb : ∀ a, off a + size a ≤ s.size a) (x : (Rect.unit off size inb).shape.Idx) (a : Fin s.rank) :
    (((Rect.unit off size inb).emb x a : Fin _) : ℕ) = off a + (x a).val := by
  rw [Rect.emb_apply]; simp [Rect.unit]

/-- Sixteen of the columns of a vector. -/
theorem vec_emb {n : ℕ} (off : Fin 1 → ℕ) (c : ℕ) (ho : off = ![16 * c]) (inb : ∀ a, off a + (⟨1, ![16]⟩ : Shape).size a ≤ (⟨1, ![n]⟩ : Shape).size a)
    (hc : 16 * c + 16 ≤ n) (x : S16.Idx) :
    (Rect.unit (s := ⟨1, ![n]⟩) off (⟨1, ![16]⟩ : Shape).size inb).emb x
      = ix1 ⟨16 * c + (x 0).val, by have : (x 0).val < 16 := (x 0).isLt; omega⟩ := by
  subst ho
  funext a
  match a with
  | ⟨0, _⟩ => exact Fin.ext ((unit_emb (s := ⟨1, ![n]⟩) _ _ inb x 0).trans (by simp))

/-- Sixteen of the columns of a row. -/
theorem row_emb {m n : ℕ} (off : Fin 2 → ℕ) (r c : ℕ) (ho : off = ![r, c]) (inb : ∀ a, off a + S1x16.size a ≤ (⟨2, ![m, n]⟩ : Shape).size a)
    (hr : r < m) (hc : c + 16 ≤ n) (x : S1x16.Idx) :
    (Rect.unit (s := ⟨2, ![m, n]⟩) off S1x16.size inb).emb x
      = ix2 ⟨r, hr⟩ ⟨c + (x 1).val, by have : (x 1).val < 16 := (x 1).isLt; omega⟩ := by
  subst ho
  have h0 : (x 0).val = 0 := by have : (x 0).val < 1 := (x 0).isLt; omega
  funext a
  match a with
  | ⟨0, _⟩ => exact Fin.ext ((unit_emb (s := ⟨2, ![m, n]⟩) _ _ inb x 0).trans (by simp [h0]))
  | ⟨1, _⟩ => exact Fin.ext ((unit_emb (s := ⟨2, ![m, n]⟩) _ _ inb x 1).trans (by simp))

/-- One row of an array, as a vector. -/
theorem line_emb {m n : ℕ} (off : Fin 2 → ℕ) (r : Fin m) (ho : off = ![r.val, 0])
    (inb : ∀ a, off a + (⟨2, ![1, n]⟩ : Shape).size a ≤ (⟨2, ![m, n]⟩ : Shape).size a)
    (h : (⟨1, ![n]⟩ : Shape).numel = (⟨2, ![1, n]⟩ : Shape).numel) (x : (⟨1, ![n]⟩ : Shape).Idx) :
    (Rect.unit (s := ⟨2, ![m, n]⟩) off (⟨2, ![1, n]⟩ : Shape).size inb).emb (Shape.reshapeEquiv h x) = ix2 r (x 0) := by
  subst ho
  have e : Shape.reshapeEquiv h x = (ix2 (0 : Fin 1) (x 0) : (⟨2, ![1, n]⟩ : Shape).Idx) := by
    apply Shape.reshapeEquiv_eq_of_rowMajor
    rw [Shape.rowMajor_val_one, Shape.rowMajor_val_two]; simp
  rw [e]
  funext a
  match a with
  | ⟨0, _⟩ => exact Fin.ext ((unit_emb (s := ⟨2, ![m, n]⟩) _ _ inb _ 0).trans (by simp))
  | ⟨1, _⟩ => exact Fin.ext ((unit_emb (s := ⟨2, ![m, n]⟩) _ _ inb _ 1).trans (by simp))

/-- One slab of an array of three axes, as an array of two. -/
theorem slab_emb {l m n : ℕ} (off : Fin 3 → ℕ) (r : Fin l) (ho : off = ![r.val, 0, 0])
    (inb : ∀ a, off a + (⟨3, ![1, m, n]⟩ : Shape).size a ≤ (⟨3, ![l, m, n]⟩ : Shape).size a)
    (h : (⟨2, ![m, n]⟩ : Shape).numel = (⟨3, ![1, m, n]⟩ : Shape).numel) (x : (⟨2, ![m, n]⟩ : Shape).Idx) :
    (Rect.unit (s := ⟨3, ![l, m, n]⟩) off (⟨3, ![1, m, n]⟩ : Shape).size inb).emb (Shape.reshapeEquiv h x) = ix3 r (x 0) (x 1) := by
  subst ho
  have e : Shape.reshapeEquiv h x = (ix3 (0 : Fin 1) (x 0) (x 1) : (⟨3, ![1, m, n]⟩ : Shape).Idx) := by
    apply Shape.reshapeEquiv_eq_of_rowMajor
    rw [Shape.rowMajor_val_two, Shape.rowMajor_val_three]; simp
  rw [e]
  funext a
  match a with
  | ⟨0, _⟩ => exact Fin.ext ((unit_emb (s := ⟨3, ![l, m, n]⟩) _ _ inb _ 0).trans (by simp))
  | ⟨1, _⟩ => exact Fin.ext ((unit_emb (s := ⟨3, ![l, m, n]⟩) _ _ inb _ 1).trans (by simp))
  | ⟨2, _⟩ => exact Fin.ext ((unit_emb (s := ⟨3, ![l, m, n]⟩) _ _ inb _ 2).trans (by simp))

/-! ## What a query reads -/

/-- The padded row of neighbours of a query, and the neighbours themselves; its row of the sampled features; its rows
    of the table. -/
def lineOf (gidx : S4096x32.Idx → Elt F .i32) (n : Fin 4096) : S32.Idx → Elt F .i32 := fun x => gidx (ix2 n (x 0))
def nbrs (gidx : S4096x32.Idx → Elt F .i32) (n : Fin 4096) : S24.Idx → Elt F .i32 := fun x =>
  gidx (ix2 n ⟨(x 0).val, Nat.lt_of_lt_of_le (x 0).isLt (by decide)⟩)
def meanOf (sf : S4096x384.Idx → Elt F .f32) (n : Fin 4096) : S384.Idx → Elt F .f32 := fun x => sf (ix2 n (x 0))
def groupOf (feat : S32768x384.Idx → Elt F .f32) (gidx : S4096x32.Idx → Elt F .i32) (n : Fin 4096) : S24x384.Idx → Elt F .f32 :=
  rowsOf feat (nbrs gidx n)

/-- Query `j` of tile `w`. -/
def qNo (w : Fin 32) (j : Fin 128) : Fin 4096 := ⟨128 * w.val + j.val, by omega⟩

/-! ## Windows taken in turn -/

theorem turn_take {n : ℕ} (A B : Fin n → sProp (MT nD τ sig (HIx 3) (Elt F) ℕ UU ℕ)) (k : Fin n) :
    (bigSep Finset.univ (fun t : Fin n => if t.val < k.val then B t else A t) : sProp 𝕄)
      ⊢ iprop(A k ∗ (B k -∗ bigSep Finset.univ (fun t : Fin n => if t.val < k.val + 1 then B t else A t))) := by
  have h := bigSep_univ_update (Φ := fun t : Fin n => if t.val < k.val then B t else A t)
    (Ψ := fun t : Fin n => if t.val < k.val + 1 then B t else A t) k (fun j hj => by
      have hne : j.val ≠ k.val := fun e => hj (Fin.ext e)
      have : (j.val < k.val + 1) ↔ (j.val < k.val) := by omega
      simp only [this])
  simpa only [Nat.lt_irrefl, ↓reduceIte, Nat.lt_succ_self] using h

theorem turn_none {n : ℕ} (A B : Fin n → sProp (MT nD τ sig (HIx 3) (Elt F) ℕ UU ℕ)) :
    (bigSep Finset.univ A : sProp 𝕄) = bigSep Finset.univ (fun t : Fin n => if t.val < 0 then B t else A t) := by
  simp only [Nat.not_lt_zero, ↓reduceIte]

theorem turn_all {n m : ℕ} (h : n ≤ m) (A B : Fin n → sProp (MT nD τ sig (HIx 3) (Elt F) ℕ UU ℕ)) :
    (bigSep Finset.univ (fun t : Fin n => if t.val < m then B t else A t) : sProp 𝕄) = bigSep Finset.univ B :=
  bigSep_congr fun t _ => by rw [if_pos (Nat.lt_of_lt_of_le t.isLt h)]

end Cert.Proof.Tiles

end
-- ==== Proof.Cell.lean ====
/-
  The normalised group of one query, filled sixteen columns at a time: what one trip of the inner loop stores
  (`cell_trip`) and what the two nested loops leave (`blk`).
-/
module

public import proofs.«01_k».proof.Proof.Rows

@[expose] public section

noncomputable section

namespace Cert.Proof.Tiles

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 3) (Elt F) ℕ UU ℕ

section Cell

variable [FloatOps F]

/-- The block of a query: from the scale `ap`, the shift `be`, the group's rows `g` and the row `mn` subtracted — the
    normalised rows, and beside each the row `mn` itself. -/
def blk (ap be : S384.Idx → Elt F .f32) (g : S24x384.Idx → Elt F .f32) (mn : S384.Idx → Elt F .f32) : S24x768.Idx → Elt F .f32 := fun x =>
  if h : (x 1).val < 384 then
    FloatOps.addf (φ := .f32) (FloatOps.mulf (φ := .f32) (ap (ix1 ⟨(x 1).val, h⟩)) (g (ix2 (x 0) ⟨(x 1).val, h⟩)))
      (FloatOps.subf (φ := .f32) (be (ix1 ⟨(x 1).val, h⟩)) (FloatOps.mulf (φ := .f32) (ap (ix1 ⟨(x 1).val, h⟩)) (mn (ix1 ⟨(x 1).val, h⟩))))
  else mn (ix1 ⟨(x 1).val - 384, by have : (x 1).val < 768 := (x 1).isLt; omega⟩)

/-- The elements stored before row `r` of the columns `c`. -/
def doneAt (c r : ℕ) (x : S24x768.Idx) : Prop := (x 1).val % 384 / 16 < c ∨ ((x 1).val % 384 / 16 = c ∧ (x 0).val < r)

theorem doneAt_zero (x : S24x768.Idx) : ¬ doneAt 0 0 x := by unfold doneAt; omega
theorem doneAt_next (c : ℕ) (x : S24x768.Idx) : doneAt c 24 x ↔ doneAt (c + 1) 0 x := by
  have : (x 0).val < 24 := (x 0).isLt
  unfold doneAt; omega
theorem doneAt_all (x : S24x768.Idx) : doneAt 24 0 x := by
  have : (x 1).val < 768 := (x 1).isLt
  unfold doneAt; omega

/-- Sixteen of the columns `c` of a vector. -/
abbrev colsAt (c : Fin 24) (f : S384.Idx → Elt F .f32) : Vec F S16 .f32 := fun x => f (ix1 ⟨16 * c.val + (x 0).val, by have : (x 0).val < 16 := (x 0).isLt; omega⟩)

/-- What is stored in the left half, from sixteen columns of the scale, of the row subtracted, of the shift and of the group's row. -/
def cellPay (v127 v130 v133 : Vec F S16 .f32) (ld : Vec F S1x16 .f32) : FVec F S16 .f32 := k2_pay1 v127 v130 v133 ld

theorem cellPay_apply (v127 v130 v133 : Vec F S16 .f32) (ld : Vec F S1x16 .f32) (x : S16.Idx) :
    cellPay v127 v130 v133 ld x = FloatOps.addf (φ := .f32) (FloatOps.mulf (φ := .f32) (v127 x) (ld (ix2 (0 : Fin 1) (x 0))))
      (FloatOps.subf (φ := .f32) (v133 x) (FloatOps.mulf (φ := .f32) (v127 x) (v130 x))) := by
  have e : shapeCast S16 ld shapeCasts_S1x16_S16 x = ld (ix2 (0 : Fin 1) (x 0)) :=
    shapeCast_apply (s := S1x16) (t := S16) ld shapeCasts_S1x16_S16 x (ix2 (0 : Fin 1) (x 0)) (by
      rw [Shape.rowMajor_val_one, Shape.rowMajor_val_two]; simp)
  show FloatOps.addf (φ := .f32) (FloatOps.mulf (φ := .f32) (v127 x) (shapeCast S16 ld shapeCasts_S1x16_S16 x)) _ = _
  rw [e]; rfl

theorem cast_row (v : Vec F S16 .f32) (x : S1x16.Idx) : shapeCast S1x16 v shapeCasts_S16_S1x16 x = v (ix1 (x 1)) :=
  shapeCast_apply (s := S16) (t := S1x16) v shapeCasts_S16_S1x16 x (ix1 (x 1)) (by
    have h0 : (x 0).val = 0 := by have : (x 0).val < 1 := (x 0).isLt; omega
    rw [Shape.rowMajor_val_one, Shape.rowMajor_val_two]; simp [h0])

variable (d : Dev nD) (cc : Fin τ.nSC) (ii : Fin τ.nSub)

/-- What one trip of the inner loop leaves in the block. -/
theorem cell_reads {ob : Memref sig .scVector .vmem S24x768 .f32} (f : Buf (Elt F) (ob.view.loc (V d cc ii)))
    (ap be : S384.Idx → Elt F .f32) (g : S24x384.Idx → Elt F .f32) (mn : S384.Idx → Elt F .f32) (c r : Fin 24)
    (ld : Vec F S1x16 .f32) (hld : ∀ x : S1x16.Idx, ld x = g (ix2 r ⟨16 * c.val + (x 1).val, by have : (x 1).val < 16 := (x 1).isLt; omega⟩))
    (o8 o9 : Fin 2 → ℕ) (h8 : o8 = ![r.val, 16 * c.val]) (h9 : o9 = ![r.val, 16 * c.val + 384])
    (i8 : ∀ a, o8 a + S1x16.size a ≤ S24x768.size a) (i9 : ∀ a, o9 a + S1x16.size a ≤ S24x768.size a)
    (hf : ∀ x, doneAt c.val r.val x → ob.view.read (Elt F) f x = blk ap be g mn x) (x : S24x768.Idx) (hx : doneAt c.val (r.val + 1) x) :
    ob.view.read (Elt F) (ob.view.writes (Elt F) f [⟨Rect.unit (s := S24x768) o9 S1x16.size i9, shapeCast S1x16 (colsAt c mn) shapeCasts_S16_S1x16⟩,
        ⟨Rect.unit (s := S24x768) o8 S1x16.size i8, shapeCast S1x16 (cellPay (colsAt c ap) (colsAt c mn) (colsAt c be) ld) shapeCasts_S16_S1x16⟩]) x
      = blk ap be g mn x := by
  subst h8 h9
  have hc : c.val < 24 := c.isLt
  have h0 : (x 0).val < 24 := (x 0).isLt
  have h1 : (x 1).val < 768 := (x 1).isLt
  have hx' := hx
  unfold doneAt at hx'
  by_cases hr : (x 0).val = r.val ∧ (x 1).val % 384 / 16 = c.val
  · obtain ⟨hr, hcc⟩ := hr
    by_cases hh : (x 1).val < 384
    · refine (View.read_writes_cons_miss_of_axis ob.view f _ _ x (1 : Fin 2) (16 * c.val + 384) 16 rfl rfl rfl (by omega)).trans ?_
      refine (View.read_writes_cons_hit_of_coords ob.view f _ _ [] (ix2 (0 : Fin 1) (⟨(x 1).val - 16 * c.val, by omega⟩ : Fin 16)) x ?_).trans ?_
      · intro a
        match a with
        | ⟨0, _⟩ => simp [Rect.unit, hr]
        | ⟨1, _⟩ => simp [Rect.unit]; omega
      · rw [cast_row, cellPay_apply, hld]
        unfold blk
        rw [dif_pos hh]
        have e1 : (⟨16 * c.val + ((x 1).val - 16 * c.val), by omega⟩ : Fin 384) = ⟨(x 1).val, hh⟩ := Fin.ext (by simp only; omega)
        have e0 : r = x 0 := Fin.ext hr.symm
        simp only [colsAt, ix1_0, ix2_1, e1, e0]
    · refine (View.read_writes_cons_hit_of_coords ob.view f _ _ _ (ix2 (0 : Fin 1) (⟨(x 1).val - 384 - 16 * c.val, by omega⟩ : Fin 16)) x ?_).trans ?_
      · intro a
        match a with
        | ⟨0, _⟩ => simp [Rect.unit, hr]
        | ⟨1, _⟩ => simp [Rect.unit]; omega
      · rw [cast_row]
        unfold blk
        rw [dif_neg hh]
        have e1 : (⟨16 * c.val + ((x 1).val - 384 - 16 * c.val), by omega⟩ : Fin 384) = ⟨(x 1).val - 384, by omega⟩ := Fin.ext (by simp only; omega)
        simp only [colsAt, ix1_0, ix2_1, e1]
  · have hd : doneAt c.val r.val x := by unfold doneAt; omega
    refine Eq.trans ?_ (hf x hd)
    by_cases h : (x 0).val = r.val
    · refine (View.read_writes_cons_miss_of_axis ob.view f _ _ x (1 : Fin 2) (16 * c.val + 384) 16 rfl rfl rfl (by omega)).trans ?_
      exact View.read_writes_cons_miss_of_axis ob.view f _ _ x (1 : Fin 2) (16 * c.val) 16 rfl rfl rfl (by omega)
    · refine (View.read_writes_cons_miss_of_axis ob.view f _ _ x (0 : Fin 2) r.val 1 rfl rfl rfl (by omega)).trans ?_
      exact View.read_writes_cons_miss_of_axis ob.view f _ _ x (0 : Fin 2) r.val 1 rfl rfl rfl (by omega)

/-- What the inner loop holds before row `r` of the columns `c`: the group's rows and the block. -/
def invCell (gm : Memref sig .scVector .vmem S24x384 .f32) (ob : Memref sig .scVector .vmem S24x768 .f32)
    (fg : Buf (Elt F) (gm.view.loc (V d cc ii))) (B : S24x768.Idx → Elt F .f32) (c r : ℕ) : sProp (MT nD τ sig (HIx 3) (Elt F) ℕ UU ℕ) := iprop(
  (gm.view.loc (V d cc ii) ↦{fullShare} fg)
  ∗ ∃ f, ⌜∀ x, doneAt c r x → ob.view.read (Elt F) f x = B x⌝ ∗ ob.view.loc (V d cc ii) ↦{fullShare} f)

theorem cell_trip {gm : Memref sig .scVector .vmem S24x384 .f32} {ob : Memref sig .scVector .vmem S24x768 .f32}
    {fg : Buf (Elt F) (gm.view.loc (V d cc ii))}
    {ap be : S384.Idx → Elt F .f32} {mn : S384.Idx → Elt F .f32} {c r : Fin 24}
    {o7 o8 o9 : Fin 2 → ℕ} (h7 : o7 = ![r.val, 16 * c.val]) (h8 : o8 = ![r.val, 16 * c.val]) (h9 : o9 = ![r.val, 16 * c.val + 384])
    {i7 : ∀ a, o7 a + S1x16.size a ≤ S24x384.size a} {i8 : ∀ a, o8 a + S1x16.size a ≤ S24x768.size a} {i9 : ∀ a, o9 a + S1x16.size a ≤ S24x768.size a}
    {hl7 : gm.view.LoadsAt (Rect.unit (s := S24x384) o7 S1x16.size i7).toLoadRect}
    {hl8 : ob.view.LoadsAt (Rect.unit (s := S24x768) o8 S1x16.size i8).toLoadRect} {hl9 : ob.view.LoadsAt (Rect.unit (s := S24x768) o9 S1x16.size i9).toLoadRect}
    {hs8 : (ob.access (Rect.unit (s := S24x768) o8 S1x16.size i8)).Stores Finset.univ} {hs9 : (ob.access (Rect.unit (s := S24x768) o9 S1x16.size i9)).Stores Finset.univ}
    {hm8 hm9} :
    invCell d cc ii gm ob fg (blk ap be (gm.view.read (Elt F) fg) mn) c.val r.val
      ⊢ wp frame (wpE (defs₀ (F := F)) 𝒱₀ (V d cc ii) none) Set.univ
        (Prog.lift (TpuEff.load gm (Rect.unit (s := S24x384) o7 S1x16.size i7).toLoadRect hl7) >>= fun ld : Vec F S1x16 .f32 =>
          Prog.lift (TpuEff.load ob (Rect.unit (s := S24x768) o8 S1x16.size i8).toLoadRect hl8) >>= fun _ : Vec F S1x16 .f32 =>
          Prog.lift (TpuEff.store ob (Rect.unit (s := S24x768) o8 S1x16.size i8)
            (shapeCast S1x16 (cellPay (colsAt c ap) (colsAt c mn) (colsAt c be) ld) shapeCasts_S16_S1x16) Finset.univ hs8 hm8) >>= fun _ =>
          Prog.lift (TpuEff.load ob (Rect.unit (s := S24x768) o9 S1x16.size i9).toLoadRect hl9) >>= fun _ : Vec F S1x16 .f32 =>
          Prog.lift (TpuEff.store ob (Rect.unit (s := S24x768) o9 S1x16.size i9)
            (shapeCast S1x16 (colsAt c mn) shapeCasts_S16_S1x16) Finset.univ hs9 hm9) >>= fun _ => pure ⟨⟩)
        (fun _ : Unit => invCell d cc ii gm ob fg (blk ap be (gm.view.read (Elt F) fg) mn) c.val (r.val + 1)) := by
  unfold invCell
  iintro ⟨Hg, %f, %hf, Ho⟩
  iapply (wp_ld d cc ii) $$ Hg
  iintro Hg
  iapply (wp_ld d cc ii) $$ Ho
  iintro Ho
  ihave Ho := (Entails.of_eq (congrArg (fun h => (ob.view.loc (V d cc ii) ↦{fullShare} h : sProp (MT nD τ sig (HIx 3) (Elt F) ℕ UU ℕ))) (View.writes_nil ob.view f).symm)) $$ Ho
  iapply (wp_st d cc ii (m := ob) (f := f) (L := [])) $$ Ho
  iintro Ho
  iapply (wp_ld d cc ii) $$ Ho
  iintro Ho
  iapply (wp_st d cc ii) $$ Ho
  iintro Ho
  sl_step
  iframe Hg
  iexists _
  isplitr
  · ipureintro
    exact cell_reads d cc ii f ap be (gm.view.read (Elt F) fg) mn c r _ (fun x => congrArg (gm.view.read (Elt F) fg) (row_emb o7 r.val (16 * c.val) h7 i7 r.isLt (by omega) x)) o8 o9 h8 h9 i8 i9 hf
  iexact Ho

end Cell

end Cert.Proof.Tiles

end
-- ==== Proof.Output.lean ====
/-
  The third SparseCore call at one tile: the normalised groups.  The loops that fill a block (`block3`, `block5`), and a
  trip of the main loop (`trip2`): two queries, the next one's rows on their way while a block is filled.
-/
module

public import proofs.«01_k».proof.Proof.Cell

@[expose] public section

noncomputable section

namespace Cert.Proof.Tiles

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 3) (Elt F) ℕ UU ℕ

/-! ## The arrays of the call and the windows of its result -/

abbrev gidxL (d : Dev nD) : Loc nD τ sig := (T d : Thread nD τ).loc main_v20
abbrev alL (d : Dev nD) : Loc nD τ sig := (T d : Thread nD τ).loc main_v41
abbrev beL (d : Dev nD) : Loc nD τ sig := (T d : Thread nD τ).loc main_v42
abbrev ivL (d : Dev nD) : Loc nD τ sig := (T d : Thread nD τ).loc main_v40
abbrev outL (d : Dev nD) : Loc nD τ sig := (T d : Thread nD τ).loc main_v43

/-- The tile, the trip and which of the trip's two queries an element of the result belongs to. -/
def outCls (x : S4096x24x768.Idx) : Fin 32 × Fin 64 × Fin 2 :=
  (⟨(x 0).val / 128, by have : (x 0).val < 4096 := (x 0).isLt; omega⟩, ⟨(x 0).val % 128 / 2, by omega⟩, ⟨(x 0).val % 2, by omega⟩)
def outWin (w : Fin 32) (p : Fin 64) (e : Fin 2) : Finset S4096x24x768.Idx := Finset.univ.filter fun x => outCls x = (w, p, e)

section Value
variable [FloatOps F]
/-- The scale of a batch: `alpha` times the batch's word of `inv`. -/
def apOf (al : S384.Idx → Elt F .f32) (iv : S16.Idx → Elt F .f32) (b : Fin 16) : S384.Idx → Elt F .f32 := fun x =>
  FloatOps.mulf (φ := .f32) (al x) (iv (ix1 b))
/-- The batch of a query. -/
def batchOf (n : Fin 4096) : Fin 16 := ⟨n.val / 1024, by omega⟩
/-- The block of query `n`. -/
def blkOf (feat : S32768x384.Idx → Elt F .f32) (gidx : S4096x32.Idx → Elt F .i32) (sf : S4096x384.Idx → Elt F .f32)
    (al be : S384.Idx → Elt F .f32) (iv : S16.Idx → Elt F .f32) (n : Fin 4096) : S24x768.Idx → Elt F .f32 :=
  blk (apOf al iv (batchOf n)) be (groupOf feat gidx n) (meanOf sf n)
/-- The result of the call. -/
def outVal (feat : S32768x384.Idx → Elt F .f32) (gidx : S4096x32.Idx → Elt F .i32) (sf : S4096x384.Idx → Elt F .f32)
    (al be : S384.Idx → Elt F .f32) (iv : S16.Idx → Elt F .f32) : S4096x24x768.Idx → Elt F .f32 := fun x =>
  blkOf feat gidx sf al be iv (x 0) (ix2 (x 1) (x 2))
end Value

theorem k2_t1_trips : k2_t1_loop.trips = 24 := by decide
theorem k2_t2_trips : k2_t2_loop.trips = 64 := by decide
theorem k2_t3_trips : k2_t3_loop.trips = 24 := by decide
theorem k2_t4_trips : k2_t4_loop.trips = 24 := by decide
theorem k2_t5_trips : k2_t5_loop.trips = 24 := by decide
theorem k2_t6_trips : k2_t6_loop.trips = 24 := by decide
abbrev c24 (k : ℕ) {n : ℕ} (h : n = 24) (hk : k < n) : Fin 24 := ⟨k, h ▸ hk⟩
abbrev t64 (k : Fin k2_t2_loop.trips) : Fin 64 := ⟨k.val, k2_t2_trips ▸ k.isLt⟩

variable (L : grid2.Coords)

abbrev cV2 : Fin τ.nSC := (L 0).castLE hcore2
abbrev jV2 : Fin τ.nSub := (L 1).castLE hsub2
abbrev w2 : Fin 32 := tileNo ⟨(L 0).val, (L 0).isLt⟩ ⟨(L 1).val, (L 1).isLt⟩

local notation "featV" => (Memref.whole main_v0_scv : Memref sig Kind.scVector Space.hbm S32768x384 EltTy.f32)
local notation "gidxV" => (Memref.whole main_v20_scv : Memref sig Kind.scVector Space.hbm S4096x32 EltTy.i32)
local notation "sfV" => (Memref.whole main_v10_0_scv : Memref sig Kind.scVector Space.hbm S4096x384 EltTy.f32)
local notation "alV" => (Memref.whole main_v41_scv : Memref sig Kind.scVector Space.hbm S384 EltTy.f32)
local notation "beV" => (Memref.whole main_v42_scv : Memref sig Kind.scVector Space.hbm S384 EltTy.f32)
local notation "ivV" => (Memref.whole main_v40_scv : Memref sig Kind.scVector Space.hbm S16 EltTy.f32)
local notation "outV" => (Memref.whole main_v43_scv : Memref sig Kind.scVector Space.hbm S4096x24x768 EltTy.f32)
local notation "a9" => (Memref.whole cc2_scratch0 : Memref sig Kind.scVector Space.vmem S32 EltTy.i32)
local notation "a10" => (Memref.whole cc2_scratch1 : Memref sig Kind.scVector Space.vmem S32 EltTy.i32)
local notation "a11" => (Memref.whole cc2_scratch2 : Memref sig Kind.scVector Space.vmem S24x384 EltTy.f32)
local notation "a12" => (Memref.whole cc2_scratch3 : Memref sig Kind.scVector Space.vmem S24x384 EltTy.f32)
local notation "a13" => (Memref.whole cc2_scratch4 : Memref sig Kind.scVector Space.vmem S384 EltTy.f32)
local notation "a14" => (Memref.whole cc2_scratch5 : Memref sig Kind.scVector Space.vmem S384 EltTy.f32)
local notation "a15" => (Memref.whole cc2_scratch6 : Memref sig Kind.scVector Space.vmem S384 EltTy.f32)
local notation "a16" => (Memref.whole cc2_scratch7 : Memref sig Kind.scVector Space.vmem S384 EltTy.f32)
local notation "a17" => (Memref.whole cc2_scratch8 : Memref sig Kind.scVector Space.vmem S384 EltTy.f32)
local notation "a18" => (Memref.whole cc2_scratch9 : Memref sig Kind.scVector Space.vmem S16 EltTy.f32)
local notation "a19" => (Memref.whole cc2_scratch10 : Memref sig Kind.scVector Space.vmem S24x768 EltTy.f32)
local notation "a20" => (Memref.whole cc2_scratch11 : Memref sig Kind.scVector Space.vmem S24x768 EltTy.f32)

/-! ## What the copies read -/

section Reads

theorem gidx_read (gidx : S4096x32.Idx → Elt F .i32) (n : Fin 4096) (off : Fin 2 → ℕ) (ho : off = ![n.val, 0]) (inb : ∀ a, off a + S1x32.size a ≤ S4096x32.size a) :
    (((gidxV).slice (Rect.unit (s := S4096x32) off S1x32.size inb) (fun _ => rfl)).squeeze S32 squeezes_S1x32_S32).view.read (Elt F) gidx = lineOf gidx n :=
  funext fun x => congrArg gidx (line_emb off n ho inb _ x)

theorem sf_read (sf : S4096x384.Idx → Elt F .f32) (n : Fin 4096) (off : Fin 2 → ℕ) (ho : off = ![n.val, 0]) (inb : ∀ a, off a + S1x384.size a ≤ S4096x384.size a) :
    (((sfV).slice (Rect.unit (s := S4096x384) off S1x384.size inb) (fun _ => rfl)).squeeze S384 squeezes_S1x384_S384).view.read (Elt F) sf = meanOf sf n :=
  funext fun x => congrArg sf (line_emb off n ho inb _ x)

theorem list_emb (x : S24.Idx) : (Rect.unit (s := S32) ![0] S24.size inb_S32_S24_0).emb x = ix1 ⟨(x 0).val, Nat.lt_of_lt_of_le (x 0).isLt (by decide)⟩ := by
  funext a
  match a with
  | ⟨0, _⟩ => exact Fin.ext ((unit_emb (s := S32) _ _ inb_S32_S24_0 x 0).trans (by simp))

theorem list9_read (gidx : S4096x32.Idx → Elt F .i32) (n : Fin 4096) :
    ((a9).slice (Rect.unit (s := S32) ![0] S24.size inb_S32_S24_0) (fun _ => rfl)).view.read (Elt F) (lineOf gidx n) = nbrs gidx n :=
  funext fun x => congrArg (lineOf gidx n) (list_emb x)
theorem list10_read (gidx : S4096x32.Idx → Elt F .i32) (n : Fin 4096) :
    ((a10).slice (Rect.unit (s := S32) ![0] S24.size inb_S32_S24_0) (fun _ => rfl)).view.read (Elt F) (lineOf gidx n) = nbrs gidx n :=
  funext fun x => congrArg (lineOf gidx n) (list_emb x)

theorem out_read (f : S4096x24x768.Idx → Elt F .f32) (n : Fin 4096) (off : Fin 3 → ℕ) (ho : off = ![n.val, 0, 0]) (inb : ∀ a, off a + S1x24x768.size a ≤ S4096x24x768.size a) :
    (((outV).slice (Rect.unit (s := S4096x24x768) off S1x24x768.size inb) (fun _ => rfl)).squeeze S24x768 squeezes_S1x24x768_S24x768).view.read (Elt F) f
      = fun x => f (ix3 n (x 0) (x 1)) :=
  funext fun x => congrArg f (slab_emb off n ho inb _ x)

theorem out_set (w : Fin 32) (p : Fin 64) (e : Fin 2) (off : Fin 3 → ℕ) (ho : off = ![128 * w.val + 2 * p.val + e.val, 0, 0]) (inb : ∀ a, off a + S1x24x768.size a ≤ S4096x24x768.size a) :
    (((outV).slice (Rect.unit (s := S4096x24x768) off S1x24x768.size inb) (fun _ => rfl)).squeeze S24x768 squeezes_S1x24x768_S24x768).view.set = outWin w p e := by
  refine (View.set_reshape _ _).trans ((View.set_slice_whole _ _).trans ?_)
  subst ho
  ext x
  have h0 : (x 0).val < 4096 := (x 0).isLt
  have h1 : (x 1).val < 24 := (x 1).isLt
  have h2 : (x 2).val < 768 := (x 2).isLt
  refine (Rect.mem_set_unit (s := S4096x24x768)).trans (Iff.trans ?_ (Finset.mem_filter_univ x).symm)
  constructor
  · intro h
    have h := h 0
    simp only [Matrix.cons_val_zero] at h
    exact Prod.ext (Fin.ext (by simp [outCls]; omega)) (Prod.ext (Fin.ext (by simp [outCls]; omega)) (Fin.ext (by simp [outCls]; omega)))
  · intro h a
    have e1 := congrArg (fun p => p.1.val) h
    have e2 := congrArg (fun p => p.2.1.val) h
    have e3 := congrArg (fun p => p.2.2.val) h
    simp only [outCls] at e1 e2 e3
    match a with
    | ⟨0, _⟩ => simp; omega
    | ⟨1, _⟩ => simp; omega
    | ⟨2, _⟩ => simp; omega

theorem nbrs_lt (gidx : S4096x32.Idx → Elt F .i32) (hg : ∀ n (c : Fin 32), c.val < 24 → (gidx (ix2 n c)).toNat < 32768) (n : Fin 4096) (x : S24.Idx) :
    (nbrs gidx n x).toNat < 32768 := hg n _ (x 0).isLt

end Reads

section Blocks

variable [FloatOps F] (d : Dev nD)

/-- The columns after the last row are the next columns before the first. -/
theorem invCell_next (cc : Fin τ.nSC) (ii : Fin τ.nSub) (gm : Memref sig .scVector .vmem S24x384 .f32) (ob : Memref sig .scVector .vmem S24x768 .f32)
    (fg : Buf (Elt F) (gm.view.loc (V d cc ii))) (B : S24x768.Idx → Elt F .f32) (c : ℕ) {n : ℕ} (hn : n = 24) :
    invCell d cc ii gm ob fg B c n ⊢ invCell d cc ii gm ob fg B (c + 1) 0 := by
  subst hn
  unfold invCell
  iintro ⟨Hg, %f, %hf, Ho⟩
  iframe Hg
  iexists f
  isplitr
  · ipureintro; exact fun x hx => hf x ((doneAt_next c x).mpr hx)
  iexact Ho

/-- What the loop over columns holds: the scale, the row subtracted, the shift, the rows, and the block so far. -/
def invRows (gm : Memref sig .scVector .vmem S24x384 .f32) (mnm : Memref sig .scVector .vmem S384 .f32) (ob : Memref sig .scVector .vmem S24x768 .f32)
    (ap be : S384.Idx → Elt F .f32) (mn : Buf (Elt F) (mnm.view.loc (V d (cV2 L) (jV2 L)))) (g : Buf (Elt F) (gm.view.loc (V d (cV2 L) (jV2 L))))
    (c : ℕ) (_ : Unit) : sProp (MT nD τ sig (HIx 3) (Elt F) ℕ UU ℕ) := iprop(
  ((a17).view.loc (V d (cV2 L) (jV2 L)) ↦{fullShare} ap) ∗ (mnm.view.loc (V d (cV2 L) (jV2 L)) ↦{fullShare} mn) ∗ ((a16).view.loc (V d (cV2 L) (jV2 L)) ↦{fullShare} be)
  ∗ invCell d (cV2 L) (jV2 L) gm ob g (blk ap be (gm.view.read (Elt F) g) (mnm.view.read (Elt F) mn)) c 0)

theorem inner3 (k : Fin k2_t2_loop.trips) (v : BitVec 32) (c : Fin k2_t3_loop.trips) (ap be mn : S384.Idx → Elt F .f32) (g : S24x384.Idx → Elt F .f32)
    (r : Fin k2_t4_loop.trips) (u : Unit) :
    invCell d (cV2 L) (jV2 L) a11 a19 g (blk ap be g mn) c.val r.val
      ⊢ wp frame (wpE (defs₀ (F := F)) 𝒱₀ (V d (cV2 L) (jV2 L)) none) Set.univ
        (k2_t4_body L featV (Memref.isWhole_whole _) gidxV (Memref.isWhole_whole _) sfV (Memref.isWhole_whole _) alV (Memref.isWhole_whole _) beV (Memref.isWhole_whole _) ivV (Memref.isWhole_whole _) outV (Memref.isWhole_whole _) a9 (Memref.isWhole_whole _) a10 (Memref.isWhole_whole _) a11 (Memref.isWhole_whole _) a12 (Memref.isWhole_whole _) a13 (Memref.isWhole_whole _) a14 (Memref.isWhole_whole _) a15 (Memref.isWhole_whole _) a16 (Memref.isWhole_whole _) a17 (Memref.isWhole_whole _) a18 (Memref.isWhole_whole _) a19 (Memref.isWhole_whole _) a20 (Memref.isWhole_whole _) cc2_scratch12 cc2_scratch13 cc2_scratch14 cc2_scratch15 cc2_scratch16 cc2_scratch17 cc2_scratch18 cc2_scratch19 cc2_scratch20 cc2_scratch21 cc2_scoped0 cc2_scoped1 cc2_scoped2 cc2_scoped3 cc2_scoped4 cc2_scoped5 cc2_scoped6 k v c (colsAt (c24 c.val k2_t3_trips c.isLt) ap) (colsAt (c24 c.val k2_t3_trips c.isLt) mn) (colsAt (c24 c.val k2_t3_trips c.isLt) be) r u)
        (fun _ : Unit => invCell d (cV2 L) (jV2 L) a11 a19 g (blk ap be g mn) c.val (r.val + 1)) :=
  cell_trip d (cV2 L) (jV2 L) (gm := a11) (ob := a19) (fg := g) (ap := ap) (be := be) (mn := mn) (c := c24 c.val k2_t3_trips c.isLt) (r := c24 r.val k2_t4_trips r.isLt)
    (k2_off7_eq c r) (k2_off8_eq c r) (k2_off9_eq c r)

theorem outer3 (k : Fin k2_t2_loop.trips) (v : BitVec 32) (ap be mn : S384.Idx → Elt F .f32) (g : S24x384.Idx → Elt F .f32)
    (c : Fin k2_t3_loop.trips) (u : Unit) :
    invRows L d a11 a13 a19 ap be mn g c.val u
      ⊢ wp frame (wpE (defs₀ (F := F)) 𝒱₀ (V d (cV2 L) (jV2 L)) none) Set.univ
        (k2_t3_body L featV (Memref.isWhole_whole _) gidxV (Memref.isWhole_whole _) sfV (Memref.isWhole_whole _) alV (Memref.isWhole_whole _) beV (Memref.isWhole_whole _) ivV (Memref.isWhole_whole _) outV (Memref.isWhole_whole _) a9 (Memref.isWhole_whole _) a10 (Memref.isWhole_whole _) a11 (Memref.isWhole_whole _) a12 (Memref.isWhole_whole _) a13 (Memref.isWhole_whole _) a14 (Memref.isWhole_whole _) a15 (Memref.isWhole_whole _) a16 (Memref.isWhole_whole _) a17 (Memref.isWhole_whole _) a18 (Memref.isWhole_whole _) a19 (Memref.isWhole_whole _) a20 (Memref.isWhole_whole _) cc2_scratch12 cc2_scratch13 cc2_scratch14 cc2_scratch15 cc2_scratch16 cc2_scratch17 cc2_scratch18 cc2_scratch19 cc2_scratch20 cc2_scratch21 cc2_scoped0 cc2_scoped1 cc2_scoped2 cc2_scoped3 cc2_scoped4 cc2_scoped5 cc2_scoped6 k v c u) (invRows L d a11 a13 a19 ap be mn g (c.val + 1)) := by
  have hc : c.val < 24 := k2_t3_trips ▸ c.isLt
  unfold invRows k2_t3_body
  iintro ⟨Hap, Hmn, Hbe, Hc⟩
  iapply (wp_lds d (cV2 L) (jV2 L) (m := a17) (r := Rect.unit (s := S384) (k2_off6 c) S16.size (k2_off6_inb c)) (f := ap) (colsAt (c24 c.val k2_t3_trips c.isLt) ap) (fun x => congrArg ap (vec_emb _ c.val (k2_off6_eq c) _ (by omega) x))) $$ Hap
  iintro Hap
  iapply (wp_lds d (cV2 L) (jV2 L) (m := a13) (r := Rect.unit (s := S384) (k2_off6 c) S16.size (k2_off6_inb c)) (f := mn) (colsAt (c24 c.val k2_t3_trips c.isLt) mn) (fun x => congrArg mn (vec_emb _ c.val (k2_off6_eq c) _ (by omega) x))) $$ Hmn
  iintro Hmn
  iapply (wp_lds d (cV2 L) (jV2 L) (m := a16) (r := Rect.unit (s := S384) (k2_off6 c) S16.size (k2_off6_inb c)) (f := be) (colsAt (c24 c.val k2_t3_trips c.isLt) be) (fun x => congrArg be (vec_emb _ c.val (k2_off6_eq c) _ (by omega) x))) $$ Hbe
  iintro Hbe
  iapply (Scf.wp_for_bind frame (wpE (defs₀ (F := F)) 𝒱₀ (V d (cV2 L) (jV2 L)) none) Set.univ _ _ _ k2_t4_ok _ _
    (I := fun r _ => invCell d (cV2 L) (jV2 L) a11 a19 g (blk ap be g mn) c.val r) (fun r u => inner3 L d k v c ap be mn g r u)) $$ [Hc]
  · iexact Hc
  iintro %u Hc
  sl_step
  iframe Hap Hmn Hbe
  iapply (invCell_next d (cV2 L) (jV2 L) a11 a19 g (blk ap be g mn) c.val k2_t4_trips) $$ Hc

theorem block3 {α : Type} {Q : α → sProp (MT nD τ sig (HIx 3) (Elt F) ℕ UU ℕ)} {kk : Unit → Prog (TpuEff nD τ sig (Elt F) Λ₀ (.scVector (cV2 L) (jV2 L))) α}
    (k : Fin k2_t2_loop.trips) (v : BitVec 32) (ap be mn : S384.Idx → Elt F .f32) (g : S24x384.Idx → Elt F .f32) :
    iprop(((a17).view.loc (V d (cV2 L) (jV2 L)) ↦{fullShare} ap) ∗ ((a13).view.loc (V d (cV2 L) (jV2 L)) ↦{fullShare} mn) ∗ ((a16).view.loc (V d (cV2 L) (jV2 L)) ↦{fullShare} be) ∗ ((a11).view.loc (V d (cV2 L) (jV2 L)) ↦{fullShare} g) ∗ (∃ f, ((a19).view.loc (V d (cV2 L) (jV2 L)) ↦{fullShare} f)))
      ⊢ iprop((iprop(((a17).view.loc (V d (cV2 L) (jV2 L)) ↦{fullShare} ap) ∗ ((a13).view.loc (V d (cV2 L) (jV2 L)) ↦{fullShare} mn) ∗ ((a16).view.loc (V d (cV2 L) (jV2 L)) ↦{fullShare} be) ∗ ((a11).view.loc (V d (cV2 L) (jV2 L)) ↦{fullShare} g) ∗ ((a19).view.loc (V d (cV2 L) (jV2 L)) ↦{fullShare} (blk ap be g mn)))
          -∗ wp frame (wpE (defs₀ (F := F)) 𝒱₀ (V d (cV2 L) (jV2 L)) none) Set.univ (kk ⟨⟩) Q)
        -∗ wp frame (wpE (defs₀ (F := F)) 𝒱₀ (V d (cV2 L) (jV2 L)) none) Set.univ
          (Scf.Loop.for k2_t3_loop k2_t3_ok ⟨⟩ (k2_t3_body L featV (Memref.isWhole_whole _) gidxV (Memref.isWhole_whole _) sfV (Memref.isWhole_whole _) alV (Memref.isWhole_whole _) beV (Memref.isWhole_whole _) ivV (Memref.isWhole_whole _) outV (Memref.isWhole_whole _) a9 (Memref.isWhole_whole _) a10 (Memref.isWhole_whole _) a11 (Memref.isWhole_whole _) a12 (Memref.isWhole_whole _) a13 (Memref.isWhole_whole _) a14 (Memref.isWhole_whole _) a15 (Memref.isWhole_whole _) a16 (Memref.isWhole_whole _) a17 (Memref.isWhole_whole _) a18 (Memref.isWhole_whole _) a19 (Memref.isWhole_whole _) a20 (Memref.isWhole_whole _) cc2_scratch12 cc2_scratch13 cc2_scratch14 cc2_scratch15 cc2_scratch16 cc2_scratch17 cc2_scratch18 cc2_scratch19 cc2_scratch20 cc2_scratch21 cc2_scoped0 cc2_scoped1 cc2_scoped2 cc2_scoped3 cc2_scoped4 cc2_scoped5 cc2_scoped6 k v) >>= kk) Q) := by
  iintro ⟨Hap, Hmn, Hbe, Hg, %f, Ho⟩ Hk
  iapply (Scf.wp_for_bind frame (wpE (defs₀ (F := F)) 𝒱₀ (V d (cV2 L) (jV2 L)) none) Set.univ _ _ _ k2_t3_ok _ _
    (I := invRows L d a11 a13 a19 ap be mn g) (fun c u => outer3 L d k v ap be mn g c u)) $$ [Hap Hmn Hbe Hg Ho]
  · unfold invRows invCell
    iframe Hap Hmn Hbe Hg
    iexists f
    isplitr
    · ipureintro; exact fun x hx => absurd hx (doneAt_zero x)
    iexact Ho
  iintro %u
  unfold invRows invCell
  iintro ⟨Hap, Hmn, Hbe, Hg, %f', %hf', Ho⟩
  iapply Hk
  iframe Hap Hmn Hbe Hg
  iapply (Entails.of_eq (congrArg (fun h : S24x768.Idx → Elt F .f32 => (((a19).view.loc (V d (cV2 L) (jV2 L)) ↦{fullShare} h) : sProp (MT nD τ sig (HIx 3) (Elt F) ℕ UU ℕ))) (funext fun x => hf' x (by rw [show (Scf.trips _ _ _ : ℕ) = 24 from k2_t3_trips]; exact doneAt_all x) : f' = blk ap be g mn))) $$ Ho

theorem inner5 (k : Fin k2_t2_loop.trips) (v : BitVec 32) (c : Fin k2_t5_loop.trips) (ap be mn : S384.Idx → Elt F .f32) (g : S24x384.Idx → Elt F .f32)
    (r : Fin k2_t6_loop.trips) (u : Unit) :
    invCell d (cV2 L) (jV2 L) a12 a20 g (blk ap be g mn) c.val r.val
      ⊢ wp frame (wpE (defs₀ (F := F)) 𝒱₀ (V d (cV2 L) (jV2 L)) none) Set.univ
        (k2_t6_body L featV (Memref.isWhole_whole _) gidxV (Memref.isWhole_whole _) sfV (Memref.isWhole_whole _) alV (Memref.isWhole_whole _) beV (Memref.isWhole_whole _) ivV (Memref.isWhole_whole _) outV (Memref.isWhole_whole _) a9 (Memref.isWhole_whole _) a10 (Memref.isWhole_whole _) a11 (Memref.isWhole_whole _) a12 (Memref.isWhole_whole _) a13 (Memref.isWhole_whole _) a14 (Memref.isWhole_whole _) a15 (Memref.isWhole_whole _) a16 (Memref.isWhole_whole _) a17 (Memref.isWhole_whole _) a18 (Memref.isWhole_whole _) a19 (Memref.isWhole_whole _) a20 (Memref.isWhole_whole _) cc2_scratch12 cc2_scratch13 cc2_scratch14 cc2_scratch15 cc2_scratch16 cc2_scratch17 cc2_scratch18 cc2_scratch19 cc2_scratch20 cc2_scratch21 cc2_scoped0 cc2_scoped1 cc2_scoped2 cc2_scoped3 cc2_scoped4 cc2_scoped5 cc2_scoped6 k v c (colsAt (c24 c.val k2_t5_trips c.isLt) ap) (colsAt (c24 c.val k2_t5_trips c.isLt) mn) (colsAt (c24 c.val k2_t5_trips c.isLt) be) r u)
        (fun _ : Unit => invCell d (cV2 L) (jV2 L) a12 a20 g (blk ap be g mn) c.val (r.val + 1)) :=
  cell_trip d (cV2 L) (jV2 L) (gm := a12) (ob := a20) (fg := g) (ap := ap) (be := be) (mn := mn) (c := c24 c.val k2_t5_trips c.isLt) (r := c24 r.val k2_t6_trips r.isLt)
    (k2_off12_eq c r) (k2_off13_eq c r) (k2_off14_eq c r)

theorem outer5 (k : Fin k2_t2_loop.trips) (v : BitVec 32) (ap be mn : S384.Idx → Elt F .f32) (g : S24x384.Idx → Elt F .f32)
    (c : Fin k2_t5_loop.trips) (u : Unit) :
    invRows L d a12 a14 a20 ap be mn g c.val u
      ⊢ wp frame (wpE (defs₀ (F := F)) 𝒱₀ (V d (cV2 L) (jV2 L)) none) Set.univ
        (k2_t5_body L featV (Memref.isWhole_whole _) gidxV (Memref.isWhole_whole _) sfV (Memref.isWhole_whole _) alV (Memref.isWhole_whole _) beV (Memref.isWhole_whole _) ivV (Memref.isWhole_whole _) outV (Memref.isWhole_whole _) a9 (Memref.isWhole_whole _) a10 (Memref.isWhole_whole _) a11 (Memref.isWhole_whole _) a12 (Memref.isWhole_whole _) a13 (Memref.isWhole_whole _) a14 (Memref.isWhole_whole _) a15 (Memref.isWhole_whole _) a16 (Memref.isWhole_whole _) a17 (Memref.isWhole_whole _) a18 (Memref.isWhole_whole _) a19 (Memref.isWhole_whole _) a20 (Memref.isWhole_whole _) cc2_scratch12 cc2_scratch13 cc2_scratch14 cc2_scratch15 cc2_scratch16 cc2_scratch17 cc2_scratch18 cc2_scratch19 cc2_scratch20 cc2_scratch21 cc2_scoped0 cc2_scoped1 cc2_scoped2 cc2_scoped3 cc2_scoped4 cc2_scoped5 cc2_scoped6 k v c u) (invRows L d a12 a14 a20 ap be mn g (c.val + 1)) := by
  have hc : c.val < 24 := k2_t5_trips ▸ c.isLt
  unfold invRows k2_t5_body
  iintro ⟨Hap, Hmn, Hbe, Hc⟩
  iapply (wp_lds d (cV2 L) (jV2 L) (m := a17) (r := Rect.unit (s := S384) (k2_off11 c) S16.size (k2_off11_inb c)) (f := ap) (colsAt (c24 c.val k2_t5_trips c.isLt) ap) (fun x => congrArg ap (vec_emb _ c.val (k2_off11_eq c) _ (by omega) x))) $$ Hap
  iintro Hap
  iapply (wp_lds d (cV2 L) (jV2 L) (m := a14) (r := Rect.unit (s := S384) (k2_off11 c) S16.size (k2_off11_inb c)) (f := mn) (colsAt (c24 c.val k2_t5_trips c.isLt) mn) (fun x => congrArg mn (vec_emb _ c.val (k2_off11_eq c) _ (by omega) x))) $$ Hmn
  iintro Hmn
  iapply (wp_lds d (cV2 L) (jV2 L) (m := a16) (r := Rect.unit (s := S384) (k2_off11 c) S16.size (k2_off11_inb c)) (f := be) (colsAt (c24 c.val k2_t5_trips c.isLt) be) (fun x => congrArg be (vec_emb _ c.val (k2_off11_eq c) _ (by omega) x))) $$ Hbe
  iintro Hbe
  iapply (Scf.wp_for_bind frame (wpE (defs₀ (F := F)) 𝒱₀ (V d (cV2 L) (jV2 L)) none) Set.univ _ _ _ k2_t6_ok _ _
    (I := fun r _ => invCell d (cV2 L) (jV2 L) a12 a20 g (blk ap be g mn) c.val r) (fun r u => inner5 L d k v c ap be mn g r u)) $$ [Hc]
  · iexact Hc
  iintro %u Hc
  sl_step
  iframe Hap Hmn Hbe
  iapply (invCell_next d (cV2 L) (jV2 L) a12 a20 g (blk ap be g mn) c.val k2_t6_trips) $$ Hc

theorem block5 {α : Type} {Q : α → sProp (MT nD τ sig (HIx 3) (Elt F) ℕ UU ℕ)} {kk : Unit → Prog (TpuEff nD τ sig (Elt F) Λ₀ (.scVector (cV2 L) (jV2 L))) α}
    (k : Fin k2_t2_loop.trips) (v : BitVec 32) (ap be mn : S384.Idx → Elt F .f32) (g : S24x384.Idx → Elt F .f32) :
    iprop(((a17).view.loc (V d (cV2 L) (jV2 L)) ↦{fullShare} ap) ∗ ((a14).view.loc (V d (cV2 L) (jV2 L)) ↦{fullShare} mn) ∗ ((a16).view.loc (V d (cV2 L) (jV2 L)) ↦{fullShare} be) ∗ ((a12).view.loc (V d (cV2 L) (jV2 L)) ↦{fullShare} g) ∗ (∃ f, ((a20).view.loc (V d (cV2 L) (jV2 L)) ↦{fullShare} f)))
      ⊢ iprop((iprop(((a17).view.loc (V d (cV2 L) (jV2 L)) ↦{fullShare} ap) ∗ ((a14).view.loc (V d (cV2 L) (jV2 L)) ↦{fullShare} mn) ∗ ((a16).view.loc (V d (cV2 L) (jV2 L)) ↦{fullShare} be) ∗ ((a12).view.loc (V d (cV2 L) (jV2 L)) ↦{fullShare} g) ∗ ((a20).view.loc (V d (cV2 L) (jV2 L)) ↦{fullShare} (blk ap be g mn)))
          -∗ wp frame (wpE (defs₀ (F := F)) 𝒱₀ (V d (cV2 L) (jV2 L)) none) Set.univ (kk ⟨⟩) Q)
        -∗ wp frame (wpE (defs₀ (F := F)) 𝒱₀ (V d (cV2 L) (jV2 L)) none) Set.univ
          (Scf.Loop.for k2_t5_loop k2_t5_ok ⟨⟩ (k2_t5_body L featV (Memref.isWhole_whole _) gidxV (Memref.isWhole_whole _) sfV (Memref.isWhole_whole _) alV (Memref.isWhole_whole _) beV (Memref.isWhole_whole _) ivV (Memref.isWhole_whole _) outV (Memref.isWhole_whole _) a9 (Memref.isWhole_whole _) a10 (Memref.isWhole_whole _) a11 (Memref.isWhole_whole _) a12 (Memref.isWhole_whole _) a13 (Memref.isWhole_whole _) a14 (Memref.isWhole_whole _) a15 (Memref.isWhole_whole _) a16 (Memref.isWhole_whole _) a17 (Memref.isWhole_whole _) a18 (Memref.isWhole_whole _) a19 (Memref.isWhole_whole _) a20 (Memref.isWhole_whole _) cc2_scratch12 cc2_scratch13 cc2_scratch14 cc2_scratch15 cc2_scratch16 cc2_scratch17 cc2_scratch18 cc2_scratch19 cc2_scratch20 cc2_scratch21 cc2_scoped0 cc2_scoped1 cc2_scoped2 cc2_scoped3 cc2_scoped4 cc2_scoped5 cc2_scoped6 k v) >>= kk) Q) := by
  iintro ⟨Hap, Hmn, Hbe, Hg, %f, Ho⟩ Hk
  iapply (Scf.wp_for_bind frame (wpE (defs₀ (F := F)) 𝒱₀ (V d (cV2 L) (jV2 L)) none) Set.univ _ _ _ k2_t5_ok _ _
    (I := invRows L d a12 a14 a20 ap be mn g) (fun c u => outer5 L d k v ap be mn g c u)) $$ [Hap Hmn Hbe Hg Ho]
  · unfold invRows invCell
    iframe Hap Hmn Hbe Hg
    iexists f
    isplitr
    · ipureintro; exact fun x hx => absurd hx (doneAt_zero x)
    iexact Ho
  iintro %u
  unfold invRows invCell
  iintro ⟨Hap, Hmn, Hbe, Hg, %f', %hf', Ho⟩
  iapply Hk
  iframe Hap Hmn Hbe Hg
  iapply (Entails.of_eq (congrArg (fun h : S24x768.Idx → Elt F .f32 => (((a20).view.loc (V d (cV2 L) (jV2 L)) ↦{fullShare} h) : sProp (MT nD τ sig (HIx 3) (Elt F) ℕ UU ℕ))) (funext fun x => hf' x (by rw [show (Scf.trips _ _ _ : ℕ) = 24 from k2_t5_trips]; exact doneAt_all x) : f' = blk ap be g mn))) $$ Ho

end Blocks

section Trip

variable [FloatOps F] (d : Dev nD) (O : CellTallies nD τ sig (HIx 3)) (W : Waits sig (HIx 3))
  (feat : S32768x384.Idx → Elt F .f32) (gidx : S4096x32.Idx → Elt F .i32) (sf : S4096x384.Idx → Elt F .f32)
  (al be : S384.Idx → Elt F .f32) (iv : S16.Idx → Elt F .f32) (out0 : S4096x24x768.Idx → Elt F .f32)
  (qf qg qs : PosShare TreeShare)

/-- The query whose rows are at hand before trip `k`. -/
def at2 (k : ℕ) : Fin 4096 := qNo (w2 L) ⟨min (2 * k) 127, by omega⟩
/-- The second query of trip `k`. -/
def nx2 (k : Fin 64) : Fin 4096 := qNo (w2 L) ⟨2 * k.val + 1, by omega⟩

theorem at2_val (k : Fin 64) : (at2 L k.val).val = 128 * (w2 L).val + 2 * k.val := by
  show 128 * (w2 L).val + min (2 * k.val) 127 = _; have := k.isLt; omega
theorem batch_at2 (k : Fin 64) : batchOf (at2 L k.val) = batchOf (qNo (w2 L) 0) := by
  refine Fin.ext ?_
  show (at2 L k.val).val / 1024 = (128 * (w2 L).val + 0) / 1024
  rw [at2_val]; have := k.isLt; omega
theorem batch_nx2 (k : Fin 64) : batchOf (nx2 L k) = batchOf (qNo (w2 L) 0) := by
  refine Fin.ext ?_
  show (128 * (w2 L).val + (2 * k.val + 1)) / 1024 = (128 * (w2 L).val + 0) / 1024
  have := k.isLt; omega

/-- The two windows of a trip. -/
def pair2 (f : S4096x24x768.Idx → Elt F .f32) (p : Fin 64) : sProp (MT nD τ sig (HIx 3) (Elt F) ℕ UU ℕ) := iprop(
  (outL d ↦[outWin (w2 L) p 0]{fullShare} f) ∗ (outL d ↦[outWin (w2 L) p 1]{fullShare} f))

/-- What a tile holds before trip `k`: the arrays it reads; the windows, those of the trips made written; the rows of
    the query at hand; the scale and the shift; the other buffers at any contents; its semaphores at rest. -/
def inv2 (k : ℕ) (_ : Unit) : sProp (MT nD τ sig (HIx 3) (Elt F) ℕ UU ℕ) := iprop(
  Transfers.MayWaits (V d (cV2 L) (jV2 L)) (none : HIx 3) O
  ∗ ((featV).view.loc (V d (cV2 L) (jV2 L)) ↦{qf} feat) ∗ ((gidxV).view.loc (V d (cV2 L) (jV2 L)) ↦{qg} gidx) ∗ ((sfV).view.loc (V d (cV2 L) (jV2 L)) ↦{qs} sf)
  ∗ bigSep Finset.univ (fun p : Fin 64 => if p.val < k then pair2 L d (outVal feat gidx sf al be iv) p else pair2 L d out0 p)
  ∗ (∃ f, ((a9).view.loc (V d (cV2 L) (jV2 L)) ↦{fullShare} f)) ∗ (∃ f, ((a10).view.loc (V d (cV2 L) (jV2 L)) ↦{fullShare} f)) ∗ ((a11).view.loc (V d (cV2 L) (jV2 L)) ↦{fullShare} (groupOf feat gidx (at2 L k))) ∗ (∃ f, ((a12).view.loc (V d (cV2 L) (jV2 L)) ↦{fullShare} f))
  ∗ ((a13).view.loc (V d (cV2 L) (jV2 L)) ↦{fullShare} (meanOf sf (at2 L k))) ∗ (∃ f, ((a14).view.loc (V d (cV2 L) (jV2 L)) ↦{fullShare} f)) ∗ ((a16).view.loc (V d (cV2 L) (jV2 L)) ↦{fullShare} be) ∗ ((a17).view.loc (V d (cV2 L) (jV2 L)) ↦{fullShare} (apOf al iv (batchOf (qNo (w2 L) 0))))
  ∗ (∃ f, ((a19).view.loc (V d (cV2 L) (jV2 L)) ↦{fullShare} f)) ∗ (∃ f, ((a20).view.loc (V d (cV2 L) (jV2 L)) ↦{fullShare} f))
  ∗ semVal (V d (cV2 L) (jV2 L), SemLoc.dma cc2_scratch12.sem) 0 ∗ semVal (V d (cV2 L) (jV2 L), SemLoc.dma cc2_scratch13.sem) 0
  ∗ semVal (V d (cV2 L) (jV2 L), SemLoc.dma cc2_scratch14.sem) 0 ∗ semVal (V d (cV2 L) (jV2 L), SemLoc.dma cc2_scratch15.sem) 0
  ∗ semVal (V d (cV2 L) (jV2 L), SemLoc.dma cc2_scratch16.sem) 0 ∗ semVal (V d (cV2 L) (jV2 L), SemLoc.dma cc2_scratch17.sem) 0
  ∗ semVal (V d (cV2 L) (jV2 L), SemLoc.dma cc2_scratch18.sem) 0 ∗ semVal (V d (cV2 L) (jV2 L), SemLoc.dma cc2_scratch19.sem) 0
  ∗ semVal (V d (cV2 L) (jV2 L), SemLoc.dma cc2_scratch20.sem) 0 ∗ semVal (V d (cV2 L) (jV2 L), SemLoc.dma cc2_scratch21.sem) 0
  ∗ semVal (V d (cV2 L) (jV2 L), SemLoc.dma cc2_scoped5.sem) 0 ∗ semVal (V d (cV2 L) (jV2 L), SemLoc.dma cc2_scoped6.sem) 0
  ∗ owesN (V d (cV2 L) (jV2 L)) O W)

abbrev body2 (v19 v21 : BitVec 32) : Fin k2_t2_loop.trips → Unit → Prog (TpuEff nD τ sig (Elt F) Λ₀ (.scVector (cV2 L) (jV2 L))) Unit :=
  k2_t2_body L featV (Memref.isWhole_whole _) gidxV (Memref.isWhole_whole _) sfV (Memref.isWhole_whole _) alV (Memref.isWhole_whole _) beV (Memref.isWhole_whole _) ivV (Memref.isWhole_whole _) outV (Memref.isWhole_whole _) a9 (Memref.isWhole_whole _) a10 (Memref.isWhole_whole _) a11 (Memref.isWhole_whole _) a12 (Memref.isWhole_whole _) a13 (Memref.isWhole_whole _) a14 (Memref.isWhole_whole _) a15 (Memref.isWhole_whole _) a16 (Memref.isWhole_whole _) a17 (Memref.isWhole_whole _) a18 (Memref.isWhole_whole _) a19 (Memref.isWhole_whole _) a20 (Memref.isWhole_whole _) cc2_scratch12 cc2_scratch13 cc2_scratch14 cc2_scratch15 cc2_scratch16 cc2_scratch17 cc2_scratch18 cc2_scratch19 cc2_scratch20 cc2_scratch21 cc2_scoped0 cc2_scoped1 cc2_scoped2 cc2_scoped3 cc2_scoped4 cc2_scoped5 cc2_scoped6 v19 v21

theorem off_nx (k : Fin k2_t2_loop.trips) : k2_off4 L k 1#32 = ![(nx2 L (t64 k)).val, 0] ∧ k2_off5 L k 1#32 = ![(nx2 L (t64 k)).val, 0] := by
  have hk : k.val < 64 := k2_t2_trips ▸ k.isLt
  have e : min (256 * (L 1).val + 128 * (L 0).val + 2 * k.val + 0 + 1) (256 * (L 1).val + 128 * (L 0).val + 127) = (nx2 L (t64 k)).val := by
    show _ = 128 * (2 * (L 1).val + (L 0).val) + (2 * k.val + 1); omega
  exact ⟨(k2_off4_eq L k 0).trans (by rw [← e]; rfl), (k2_off5_eq L k 0).trans (by rw [← e]; rfl)⟩
theorem off_at (k : Fin k2_t2_loop.trips) : k2_off4 L k 2#32 = ![(at2 L (k.val + 1)).val, 0] ∧ k2_off5 L k 2#32 = ![(at2 L (k.val + 1)).val, 0] := by
  have hk : k.val < 64 := k2_t2_trips ▸ k.isLt
  have e : min (256 * (L 1).val + 128 * (L 0).val + 2 * k.val + 1 + 1) (256 * (L 1).val + 128 * (L 0).val + 127) = (at2 L (k.val + 1)).val := by
    show _ = 128 * (2 * (L 1).val + (L 0).val) + min (2 * (k.val + 1)) 127; omega
  exact ⟨(k2_off4_eq L k 1).trans (by rw [← e]; rfl), (k2_off5_eq L k 1).trans (by rw [← e]; rfl)⟩
theorem off_out0 (k : Fin k2_t2_loop.trips) : k2_off10 L k = ![128 * (w2 L).val + 2 * (t64 k).val + (0 : Fin 2).val, 0, 0] := by
  rw [k2_off10_eq]
  have e : 256 * (L 1).val + 128 * (L 0).val + 2 * k.val = 128 * (w2 L).val + 2 * (t64 k).val + (0 : Fin 2).val := by
    show _ = 128 * (2 * (L 1).val + (L 0).val) + 2 * k.val + 0; omega
  rw [e]
theorem off_out1 (k : Fin k2_t2_loop.trips) : k2_off15 L k = ![128 * (w2 L).val + 2 * (t64 k).val + (1 : Fin 2).val, 0, 0] := by
  rw [k2_off15_eq]
  have e : 256 * (L 1).val + 128 * (L 0).val + 2 * k.val + 1 = 128 * (w2 L).val + 2 * (t64 k).val + (1 : Fin 2).val := by
    show _ = 128 * (2 * (L 1).val + (L 0).val) + 2 * k.val + 1; omega
  rw [e]

theorem credit_a11 (o : ℕ) (h : ∀ a, (![0, o] : Fin 2 → ℕ) a + (RB 24).size a ≤ (RC 24).size a) (ho : o = 0 ∨ o = 128 ∨ o = 256) :
    ∑ j, ((colD a11 o h).slice ((RB 24).rowRect gathers_S32768x128_S24x128.axis' j) ((RB 24).stride_rowRect gathers_S32768x128_S24x128.axis' j)).view.dmaCredit
      = (colD a11 o h).view.dmaCredit := by
  rcases ho with rfl | rfl | rfl <;> decide +revert
theorem credit_a12 (o : ℕ) (h : ∀ a, (![0, o] : Fin 2 → ℕ) a + (RB 24).size a ≤ (RC 24).size a) (ho : o = 0 ∨ o = 128 ∨ o = 256) :
    ∑ j, ((colD a12 o h).slice ((RB 24).rowRect gathers_S32768x128_S24x128.axis' j) ((RB 24).stride_rowRect gathers_S32768x128_S24x128.axis' j)).view.dmaCredit
      = (colD a12 o h).view.dmaCredit := by
  rcases ho with rfl | rfl | rfl <;> decide +revert

theorem blk_at (n : Fin 4096) (b : Fin 16) (hb : batchOf n = b) :
    (fun x : S24x768.Idx => outVal feat gidx sf al be iv (ix3 n (x 0) (x 1))) = blk (apOf al iv b) be (groupOf feat gidx n) (meanOf sf n) := by
  subst hb
  funext x
  show blkOf feat gidx sf al be iv n (ix2 (x 0) (x 1)) = _
  rw [← eq_ix2 x]; rfl

abbrev list9 : Memref sig .scVector .vmem S24 .i32 := (a9).slice (Rect.unit (s := S32) ![0] S24.size inb_S32_S24_0) (fun _ => rfl)
abbrev list10 : Memref sig .scVector .vmem S24 .i32 := (a10).slice (Rect.unit (s := S32) ![0] S24.size inb_S32_S24_0) (fun _ => rfl)
abbrev gidxRow (off : Fin 2 → ℕ) (inb : ∀ a, off a + S1x32.size a ≤ S4096x32.size a) : Memref sig .scVector .hbm S32 .i32 :=
  ((gidxV).slice (Rect.unit (s := S4096x32) off S1x32.size inb) (fun _ => rfl)).squeeze S32 squeezes_S1x32_S32
abbrev sfRow (off : Fin 2 → ℕ) (inb : ∀ a, off a + S1x384.size a ≤ S4096x384.size a) : Memref sig .scVector .hbm S384 .f32 :=
  ((sfV).slice (Rect.unit (s := S4096x384) off S1x384.size inb) (fun _ => rfl)).squeeze S384 squeezes_S1x384_S384
abbrev outRow (off : Fin 3 → ℕ) (inb : ∀ a, off a + S1x24x768.size a ≤ S4096x24x768.size a) : Memref sig .scVector .hbm S24x768 .f32 :=
  ((outV).slice (Rect.unit (s := S4096x24x768) off S1x24x768.size inb) (fun _ => rfl)).squeeze S24x768 squeezes_S1x24x768_S24x768

theorem pos_S24x768 : 0 < S24x768.numel := Shape.numel_pos (by decide)

/-- The rows a query `n` gathers on their way to the second buffer of rows. -/
abbrev rows12 (n : Fin 4096) : sProp (MT nD τ sig (HIx 3) (Elt F) ℕ UU ℕ) :=
  Three (R := 24) inb_S24x384_S24x128_0_0 inb_S24x384_S24x128_0_128 inb_S24x384_S24x128_0_256 d (cV2 L) (jV2 L) featV a12 list10
    cc2_scratch15.sem cc2_scratch16.sem cc2_scratch17.sem qf fullShare feat (lineOf gidx n) (groupOf feat gidx n)
/-- The rows a query `n` gathers on their way to the first buffer of rows. -/
abbrev rows11 (n : Fin 4096) : sProp (MT nD τ sig (HIx 3) (Elt F) ℕ UU ℕ) :=
  Three (R := 24) inb_S24x384_S24x128_0_0 inb_S24x384_S24x128_0_128 inb_S24x384_S24x128_0_256 d (cV2 L) (jV2 L) featV a11 list9
    cc2_scratch12.sem cc2_scratch13.sem cc2_scratch14.sem qf fullShare feat (lineOf gidx n) (groupOf feat gidx n)
/-- A row of the sampled features on its way to the second, or to the first, of its buffers. -/
abbrev mean14 (n : Fin 4096) : sProp (MT nD τ sig (HIx 3) (Elt F) ℕ UU ℕ) := Fl (V d (cV2 L) (jV2 L)) cc2_scratch19.sem (a14).view.dmaCredit iprop(((a14).view.loc (V d (cV2 L) (jV2 L)) ↦{fullShare} meanOf sf n) ∗ ((sfV).view.loc (V d (cV2 L) (jV2 L)) ↦{qs} sf))
abbrev mean13 (n : Fin 4096) : sProp (MT nD τ sig (HIx 3) (Elt F) ℕ UU ℕ) := Fl (V d (cV2 L) (jV2 L)) cc2_scratch18.sem (a13).view.dmaCredit iprop(((a13).view.loc (V d (cV2 L) (jV2 L)) ↦{fullShare} meanOf sf n) ∗ ((sfV).view.loc (V d (cV2 L) (jV2 L)) ↦{qs} sf))
/-- The two blocks on their way to their windows. -/
abbrev send19 (KK : Fin k2_t2_loop.trips) (b : S24x768.Idx → Elt F .f32) : sProp (MT nD τ sig (HIx 3) (Elt F) ℕ UU ℕ) := Fl (V d (cV2 L) (jV2 L)) cc2_scratch20.sem (outRow (k2_off10 L KK) (k2_off10_inb L KK)).view.dmaCredit
  iprop((outL d ↦[outWin (w2 L) (t64 KK) 0]{fullShare} (outVal feat gidx sf al be iv)) ∗ ((a19).view.loc (V d (cV2 L) (jV2 L)) ↦{fullShare} b))
abbrev send20 (KK : Fin k2_t2_loop.trips) (b : S24x768.Idx → Elt F .f32) : sProp (MT nD τ sig (HIx 3) (Elt F) ℕ UU ℕ) := Fl (V d (cV2 L) (jV2 L)) cc2_scratch21.sem (outRow (k2_off15 L KK) (k2_off15_inb L KK)).view.dmaCredit
  iprop((outL d ↦[outWin (w2 L) (t64 KK) 1]{fullShare} (outVal feat gidx sf al be iv)) ∗ ((a20).view.loc (V d (cV2 L) (jV2 L)) ↦{fullShare} b))

set_option maxHeartbeats 4000000 in
/-- The second query of a trip: its neighbours read, its rows on their way. -/
theorem front2 {α : Type} {Q : α → sProp (MT nD τ sig (HIx 3) (Elt F) ℕ UU ℕ)} {kk : (Σ' (_ : BitVec 32), BitVec 32) → Prog (TpuEff nD τ sig (Elt F) Λ₀ (.scVector (cV2 L) (jV2 L))) α}
    (hg : ∀ n (c : Fin 32), c.val < 24 → (gidx (ix2 n c)).toNat < 32768) (v19 v21 : BitVec 32) (k : Fin k2_t2_loop.trips) :
    iprop(Transfers.MayWaits (V d (cV2 L) (jV2 L)) (none : HIx 3) O ∗ ((featV).view.loc (V d (cV2 L) (jV2 L)) ↦{qf} feat) ∗ ((gidxV).view.loc (V d (cV2 L) (jV2 L)) ↦{qg} gidx) ∗ ((sfV).view.loc (V d (cV2 L) (jV2 L)) ↦{qs} sf) ∗ (∃ f, ((a10).view.loc (V d (cV2 L) (jV2 L)) ↦{fullShare} f)) ∗ (∃ f, ((a12).view.loc (V d (cV2 L) (jV2 L)) ↦{fullShare} f)) ∗ (∃ f, ((a14).view.loc (V d (cV2 L) (jV2 L)) ↦{fullShare} f)) ∗ semVal ((V d (cV2 L) (jV2 L)), SemLoc.dma cc2_scratch15.sem) 0 ∗ semVal ((V d (cV2 L) (jV2 L)), SemLoc.dma cc2_scratch16.sem) 0 ∗ semVal ((V d (cV2 L) (jV2 L)), SemLoc.dma cc2_scratch17.sem) 0 ∗ semVal ((V d (cV2 L) (jV2 L)), SemLoc.dma cc2_scratch19.sem) 0 ∗ semVal ((V d (cV2 L) (jV2 L)), SemLoc.dma cc2_scoped5.sem) 0 ∗ owesN (V d (cV2 L) (jV2 L)) O W)
      ⊢ iprop((iprop(((gidxV).view.loc (V d (cV2 L) (jV2 L)) ↦{qg} gidx) ∗ rows12 L d feat gidx qf (nx2 L (t64 k)) ∗ mean14 L d sf qs (nx2 L (t64 k)) ∗ semVal ((V d (cV2 L) (jV2 L)), SemLoc.dma cc2_scoped5.sem) 0 ∗ owesN (V d (cV2 L) (jV2 L)) O W) -∗ wp frame (wpE (defs₀ (F := F)) 𝒱₀ (V d (cV2 L) (jV2 L)) none) Set.univ (kk ⟨Scalar.addi v19 (Scalar.muli 2#32 (Scf.iv 0#32 1#32 k)), 0#32⟩) Q)
        -∗ wp frame (wpE (defs₀ (F := F)) 𝒱₀ (V d (cV2 L) (jV2 L)) none) Set.univ (k2_part1 L featV (Memref.isWhole_whole _) gidxV (Memref.isWhole_whole _) sfV (Memref.isWhole_whole _) alV (Memref.isWhole_whole _) beV (Memref.isWhole_whole _) ivV (Memref.isWhole_whole _) outV (Memref.isWhole_whole _) a9 (Memref.isWhole_whole _) a10 (Memref.isWhole_whole _) a11 (Memref.isWhole_whole _) a12 (Memref.isWhole_whole _) a13 (Memref.isWhole_whole _) a14 (Memref.isWhole_whole _) a15 (Memref.isWhole_whole _) a16 (Memref.isWhole_whole _) a17 (Memref.isWhole_whole _) a18 (Memref.isWhole_whole _) a19 (Memref.isWhole_whole _) a20 (Memref.isWhole_whole _) cc2_scratch12 cc2_scratch13 cc2_scratch14 cc2_scratch15 cc2_scratch16 cc2_scratch17 cc2_scratch18 cc2_scratch19 cc2_scratch20 cc2_scratch21 cc2_scoped0 cc2_scoped1 cc2_scoped2 cc2_scoped3 cc2_scoped4 cc2_scoped5 cc2_scoped6 v19 v21 0#32 1#32 k >>= kk) Q) := by
  rw [k2_part1_eq_skeleton]
  unfold k2_part1_skel
  simp only [bind_assoc, pure_bind]
  iintro ⟨#Hmw, Hfeat, Hgidx, Hsf, ⟨%g10, H10⟩, ⟨%g12, H12⟩, ⟨%g14, H14⟩, Hv3, Hv4, Hv5, Hv7, Hr5, HO⟩ Hk
  iapply (wp_put d (cV2 L) (jV2 L) (src := gidxRow (k2_off4 L k 1#32) (k2_off4_inb L k 0)) (dst := a10) (fs := gidx) (lineOf gidx (nx2 L (t64 k))) (by decide) (View.set_whole _)
    (gidx_read gidx (nx2 L (t64 k)) _ (off_nx L k).1 _).symm) $$ [Hgidx H10 Hr5 HO Hmw]
  · iframe Hgidx H10 Hr5 HO Hmw
  iintro ⟨Hgidx, H10, Hr5, HO⟩
  iapply (wp_three (R := 24) inb_S24x384_S24x128_0_0 inb_S24x384_S24x128_0_128 inb_S24x384_S24x128_0_256 d (cV2 L) (jV2 L)
    (src := featV) (dst := a12) (offs := list10) (fs := feat) (fo := lineOf gidx (nx2 L (t64 k))) (groupOf feat gidx (nx2 L (t64 k))) credit_a12 (by decide) (View.set_whole _)
    (fun x => (congrArg (fun b => b.toNat < 32768) (congrFun (list10_read gidx (nx2 L (t64 k))) x)).mpr (nbrs_lt gidx hg _ x))
    (congrArg (rowsOf feat) (list10_read gidx (nx2 L (t64 k))).symm)) $$ [Hfeat H12 H10 Hv3 Hv4 Hv5]
  · iframe Hfeat H12 H10 Hv3 Hv4 Hv5
  iintro Hthree
  iapply (wp_start d (cV2 L) (jV2 L) (src := sfRow (k2_off5 L k 1#32) (k2_off5_inb L k 0)) (dst := a14) (fs := sf) (meanOf sf (nx2 L (t64 k))) (by decide) (View.set_whole _)
    (sf_read sf (nx2 L (t64 k)) _ (off_nx L k).2 _).symm) $$ [Hsf H14 Hv7]
  · iframe Hsf H14 Hv7
  iintro Hf14
  iapply Hk
  iframe Hgidx Hthree Hf14 Hr5 HO

set_option maxHeartbeats 4000000 in
/-- The first query of a trip: its block computed and sent; the second query's rows arrive. -/
theorem middle2 {α : Type} {Q : α → sProp (MT nD τ sig (HIx 3) (Elt F) ℕ UU ℕ)} {kk : PUnit → Prog (TpuEff nD τ sig (Elt F) Λ₀ (.scVector (cV2 L) (jV2 L))) α}
    (v : BitVec 32) (k : Fin k2_t2_loop.trips) :
    iprop(Transfers.MayWaits (V d (cV2 L) (jV2 L)) (none : HIx 3) O ∗ ((gidxV).view.loc (V d (cV2 L) (jV2 L)) ↦{qg} gidx) ∗ rows12 L d feat gidx qf (nx2 L (t64 k)) ∗ mean14 L d sf qs (nx2 L (t64 k)) ∗ (∃ f, ((a9).view.loc (V d (cV2 L) (jV2 L)) ↦{fullShare} f)) ∗ (∃ f, ((a19).view.loc (V d (cV2 L) (jV2 L)) ↦{fullShare} f)) ∗ ((a11).view.loc (V d (cV2 L) (jV2 L)) ↦{fullShare} groupOf feat gidx (at2 L k.val)) ∗ ((a13).view.loc (V d (cV2 L) (jV2 L)) ↦{fullShare} meanOf sf (at2 L k.val)) ∗ ((a16).view.loc (V d (cV2 L) (jV2 L)) ↦{fullShare} be) ∗ ((a17).view.loc (V d (cV2 L) (jV2 L)) ↦{fullShare} apOf al iv (batchOf (qNo (w2 L) 0))) ∗ (outL d ↦[outWin (w2 L) (t64 k) 0]{fullShare} out0) ∗ semVal ((V d (cV2 L) (jV2 L)), SemLoc.dma cc2_scratch20.sem) 0 ∗ semVal ((V d (cV2 L) (jV2 L)), SemLoc.dma cc2_scoped6.sem) 0 ∗ owesN (V d (cV2 L) (jV2 L)) O W)
      ⊢ iprop((iprop(send19 L d feat gidx sf al be iv k (blk (apOf al iv (batchOf (qNo (w2 L) 0))) be (groupOf feat gidx (at2 L k.val)) (meanOf sf (at2 L k.val))) ∗ Fl (V d (cV2 L) (jV2 L)) cc2_scoped6.sem (a9).view.dmaCredit iprop(((a9).view.loc (V d (cV2 L) (jV2 L)) ↦{fullShare} lineOf gidx (at2 L (k.val + 1))) ∗ ((gidxV).view.loc (V d (cV2 L) (jV2 L)) ↦{qg} gidx)) ∗ ((featV).view.loc (V d (cV2 L) (jV2 L)) ↦{qf} feat) ∗ ((sfV).view.loc (V d (cV2 L) (jV2 L)) ↦{qs} sf) ∗ ((a12).view.loc (V d (cV2 L) (jV2 L)) ↦{fullShare} groupOf feat gidx (nx2 L (t64 k))) ∗ ((a10).view.loc (V d (cV2 L) (jV2 L)) ↦{fullShare} lineOf gidx (nx2 L (t64 k))) ∗ ((a14).view.loc (V d (cV2 L) (jV2 L)) ↦{fullShare} meanOf sf (nx2 L (t64 k))) ∗ ((a11).view.loc (V d (cV2 L) (jV2 L)) ↦{fullShare} groupOf feat gidx (at2 L k.val)) ∗ ((a13).view.loc (V d (cV2 L) (jV2 L)) ↦{fullShare} meanOf sf (at2 L k.val)) ∗ ((a16).view.loc (V d (cV2 L) (jV2 L)) ↦{fullShare} be) ∗ ((a17).view.loc (V d (cV2 L) (jV2 L)) ↦{fullShare} apOf al iv (batchOf (qNo (w2 L) 0))) ∗ semVal ((V d (cV2 L) (jV2 L)), SemLoc.dma cc2_scratch15.sem) 0 ∗ semVal ((V d (cV2 L) (jV2 L)), SemLoc.dma cc2_scratch16.sem) 0 ∗ semVal ((V d (cV2 L) (jV2 L)), SemLoc.dma cc2_scratch17.sem) 0 ∗ semVal ((V d (cV2 L) (jV2 L)), SemLoc.dma cc2_scratch19.sem) 0 ∗ owesN (V d (cV2 L) (jV2 L)) O W) -∗ wp frame (wpE (defs₀ (F := F)) 𝒱₀ (V d (cV2 L) (jV2 L)) none) Set.univ (kk ⟨⟩) Q)
        -∗ wp frame (wpE (defs₀ (F := F)) 𝒱₀ (V d (cV2 L) (jV2 L)) none) Set.univ (k2_part2 L featV (Memref.isWhole_whole _) gidxV (Memref.isWhole_whole _) sfV (Memref.isWhole_whole _) alV (Memref.isWhole_whole _) beV (Memref.isWhole_whole _) ivV (Memref.isWhole_whole _) outV (Memref.isWhole_whole _) a9 (Memref.isWhole_whole _) a10 (Memref.isWhole_whole _) a11 (Memref.isWhole_whole _) a12 (Memref.isWhole_whole _) a13 (Memref.isWhole_whole _) a14 (Memref.isWhole_whole _) a15 (Memref.isWhole_whole _) a16 (Memref.isWhole_whole _) a17 (Memref.isWhole_whole _) a18 (Memref.isWhole_whole _) a19 (Memref.isWhole_whole _) a20 (Memref.isWhole_whole _) cc2_scratch12 cc2_scratch13 cc2_scratch14 cc2_scratch15 cc2_scratch16 cc2_scratch17 cc2_scratch18 cc2_scratch19 cc2_scratch20 cc2_scratch21 cc2_scoped0 cc2_scoped1 cc2_scoped2 cc2_scoped3 cc2_scoped4 cc2_scoped5 cc2_scoped6 k v >>= kk) Q) := by
  rw [k2_part2_eq_skeleton]
  unfold k2_part2_skel
  simp only [bind_assoc, pure_bind]
  iintro ⟨#Hmw, Hgidx, Hthree, Hf14, ⟨%g9, H9⟩, H19, H11, H13, H16, H17, Hw0, Hv8, Hr6, HO⟩ Hk
  -- the first query's block
  iapply (block3 L d k _ (apOf al iv (batchOf (qNo (w2 L) 0))) be (meanOf sf (at2 L k.val)) (groupOf feat gidx (at2 L k.val))) $$ [H17 H13 H16 H11 H19]
  · iframe H17 H13 H16 H11 H19
  iintro ⟨H17, H13, H16, H11, H19⟩
  iapply (wp_start d (cV2 L) (jV2 L) (src := a19) (dst := outRow (k2_off10 L k) (k2_off10_inb L k))
    (fs := blk (apOf al iv (batchOf (qNo (w2 L) 0))) be (groupOf feat gidx (at2 L k.val)) (meanOf sf (at2 L k.val))) (outVal feat gidx sf al be iv) pos_S24x768
    (out_set (w2 L) (t64 k) 0 _ (off_out0 L k) _)
    ((out_read (outVal feat gidx sf al be iv) (at2 L k.val) _ ((off_out0 L k).trans (by rw [at2_val L (t64 k)]; rfl)) _).trans (blk_at feat gidx sf al be iv (at2 L k.val) _ (batch_at2 L (t64 k))))) $$ [H19 Hw0 Hv8]
  · iframe H19 Hw0 Hv8
  iintro Hf19
  iapply (wp_await_three (R := 24) inb_S24x384_S24x128_0_0 inb_S24x384_S24x128_0_128 inb_S24x384_S24x128_0_256 d (cV2 L) (jV2 L)
    (src := featV) (dst := a12) (offs := list10) (View.set_whole _)) $$ [Hthree HO Hmw]
  · iframe Hthree HO Hmw
  iintro ⟨Hfeat, H12, H10, Hv3, Hv4, Hv5, HO⟩
  iapply (wp_await d (cV2 L) (jV2 L) rfl) $$ [Hf14 HO Hmw]
  · iframe Hf14 HO Hmw
  iintro ⟨⟨H14, Hsf⟩, Hv7, HO⟩
  iapply (wp_start d (cV2 L) (jV2 L) (src := gidxRow (k2_off4 L k 2#32) (k2_off4_inb L k 1)) (dst := a9) (fs := gidx) (lineOf gidx (at2 L (k.val + 1))) (by decide) (View.set_whole _)
    (gidx_read gidx (at2 L (k.val + 1)) _ (off_at L k).1 _).symm) $$ [Hgidx H9 Hr6]
  · iframe Hgidx H9 Hr6
  iintro Hf9
  iapply Hk
  iframe Hf19 Hf9 Hfeat Hsf H12 H10 H14 H11 H13 H16 H17 Hv3 Hv4 Hv5 Hv7 HO

set_option maxHeartbeats 4000000 in
/-- The next query's rows on their way; the second query's block computed and sent. -/
theorem back2 {α : Type} {Q : α → sProp (MT nD τ sig (HIx 3) (Elt F) ℕ UU ℕ)} {kk : PUnit → Prog (TpuEff nD τ sig (Elt F) Λ₀ (.scVector (cV2 L) (jV2 L))) α}
    (hg : ∀ n (c : Fin 32), c.val < 24 → (gidx (ix2 n c)).toNat < 32768) (v : BitVec 32) (k : Fin k2_t2_loop.trips) :
    iprop(Transfers.MayWaits (V d (cV2 L) (jV2 L)) (none : HIx 3) O ∗ Fl (V d (cV2 L) (jV2 L)) cc2_scoped6.sem (a9).view.dmaCredit iprop(((a9).view.loc (V d (cV2 L) (jV2 L)) ↦{fullShare} lineOf gidx (at2 L (k.val + 1))) ∗ ((gidxV).view.loc (V d (cV2 L) (jV2 L)) ↦{qg} gidx)) ∗ ((featV).view.loc (V d (cV2 L) (jV2 L)) ↦{qf} feat) ∗ ((sfV).view.loc (V d (cV2 L) (jV2 L)) ↦{qs} sf) ∗ ((a12).view.loc (V d (cV2 L) (jV2 L)) ↦{fullShare} groupOf feat gidx (nx2 L (t64 k))) ∗ ((a14).view.loc (V d (cV2 L) (jV2 L)) ↦{fullShare} meanOf sf (nx2 L (t64 k))) ∗ (∃ f, ((a11).view.loc (V d (cV2 L) (jV2 L)) ↦{fullShare} f)) ∗ (∃ f, ((a13).view.loc (V d (cV2 L) (jV2 L)) ↦{fullShare} f)) ∗ ((a16).view.loc (V d (cV2 L) (jV2 L)) ↦{fullShare} be) ∗ ((a17).view.loc (V d (cV2 L) (jV2 L)) ↦{fullShare} apOf al iv (batchOf (qNo (w2 L) 0))) ∗ (∃ f, ((a20).view.loc (V d (cV2 L) (jV2 L)) ↦{fullShare} f)) ∗ (outL d ↦[outWin (w2 L) (t64 k) 1]{fullShare} out0) ∗ semVal ((V d (cV2 L) (jV2 L)), SemLoc.dma cc2_scratch12.sem) 0 ∗ semVal ((V d (cV2 L) (jV2 L)), SemLoc.dma cc2_scratch13.sem) 0 ∗ semVal ((V d (cV2 L) (jV2 L)), SemLoc.dma cc2_scratch14.sem) 0 ∗ semVal ((V d (cV2 L) (jV2 L)), SemLoc.dma cc2_scratch18.sem) 0 ∗ semVal ((V d (cV2 L) (jV2 L)), SemLoc.dma cc2_scratch21.sem) 0 ∗ owesN (V d (cV2 L) (jV2 L)) O W)
      ⊢ iprop((iprop(send20 L d feat gidx sf al be iv k (blk (apOf al iv (batchOf (qNo (w2 L) 0))) be (groupOf feat gidx (nx2 L (t64 k))) (meanOf sf (nx2 L (t64 k)))) ∗ rows11 L d feat gidx qf (at2 L (k.val + 1)) ∗ mean13 L d sf qs (at2 L (k.val + 1)) ∗ ((gidxV).view.loc (V d (cV2 L) (jV2 L)) ↦{qg} gidx) ∗ ((a12).view.loc (V d (cV2 L) (jV2 L)) ↦{fullShare} groupOf feat gidx (nx2 L (t64 k))) ∗ ((a14).view.loc (V d (cV2 L) (jV2 L)) ↦{fullShare} meanOf sf (nx2 L (t64 k))) ∗ ((a16).view.loc (V d (cV2 L) (jV2 L)) ↦{fullShare} be) ∗ ((a17).view.loc (V d (cV2 L) (jV2 L)) ↦{fullShare} apOf al iv (batchOf (qNo (w2 L) 0))) ∗ semVal ((V d (cV2 L) (jV2 L)), SemLoc.dma cc2_scoped6.sem) 0 ∗ owesN (V d (cV2 L) (jV2 L)) O W) -∗ wp frame (wpE (defs₀ (F := F)) 𝒱₀ (V d (cV2 L) (jV2 L)) none) Set.univ (kk ⟨⟩) Q)
        -∗ wp frame (wpE (defs₀ (F := F)) 𝒱₀ (V d (cV2 L) (jV2 L)) none) Set.univ (k2_part3 L featV (Memref.isWhole_whole _) gidxV (Memref.isWhole_whole _) sfV (Memref.isWhole_whole _) alV (Memref.isWhole_whole _) beV (Memref.isWhole_whole _) ivV (Memref.isWhole_whole _) outV (Memref.isWhole_whole _) a9 (Memref.isWhole_whole _) a10 (Memref.isWhole_whole _) a11 (Memref.isWhole_whole _) a12 (Memref.isWhole_whole _) a13 (Memref.isWhole_whole _) a14 (Memref.isWhole_whole _) a15 (Memref.isWhole_whole _) a16 (Memref.isWhole_whole _) a17 (Memref.isWhole_whole _) a18 (Memref.isWhole_whole _) a19 (Memref.isWhole_whole _) a20 (Memref.isWhole_whole _) cc2_scratch12 cc2_scratch13 cc2_scratch14 cc2_scratch15 cc2_scratch16 cc2_scratch17 cc2_scratch18 cc2_scratch19 cc2_scratch20 cc2_scratch21 cc2_scoped0 cc2_scoped1 cc2_scoped2 cc2_scoped3 cc2_scoped4 cc2_scoped5 cc2_scoped6 k v >>= kk) Q) := by
  rw [k2_part3_eq_skeleton]
  unfold k2_part3_skel
  simp only [bind_assoc, pure_bind]
  iintro ⟨#Hmw, Hf9, Hfeat, Hsf, H12, H14, ⟨%g11, H11⟩, ⟨%g13, H13⟩, H16, H17, H20, Hw1, Hv0, Hv1, Hv2, Hv6, Hv9, HO⟩ Hk
  iapply (wp_await d (cV2 L) (jV2 L) rfl) $$ [Hf9 HO Hmw]
  · iframe Hf9 HO Hmw
  iintro ⟨⟨H9, Hgidx⟩, Hr6, HO⟩
  iapply (wp_three (R := 24) inb_S24x384_S24x128_0_0 inb_S24x384_S24x128_0_128 inb_S24x384_S24x128_0_256 d (cV2 L) (jV2 L)
    (src := featV) (dst := a11) (offs := list9) (fs := feat) (fo := lineOf gidx (at2 L (k.val + 1))) (groupOf feat gidx (at2 L (k.val + 1))) credit_a11 (by decide) (View.set_whole _)
    (fun x => (congrArg (fun b => b.toNat < 32768) (congrFun (list9_read gidx (at2 L (k.val + 1))) x)).mpr (nbrs_lt gidx hg _ x))
    (congrArg (rowsOf feat) (list9_read gidx (at2 L (k.val + 1))).symm)) $$ [Hfeat H11 H9 Hv0 Hv1 Hv2]
  · iframe Hfeat H11 H9 Hv0 Hv1 Hv2
  iintro Hthree
  iapply (wp_start d (cV2 L) (jV2 L) (src := sfRow (k2_off5 L k 2#32) (k2_off5_inb L k 1)) (dst := a13) (fs := sf) (meanOf sf (at2 L (k.val + 1))) (by decide) (View.set_whole _)
    (sf_read sf (at2 L (k.val + 1)) _ (off_at L k).2 _).symm) $$ [Hsf H13 Hv6]
  · iframe Hsf H13 Hv6
  iintro Hf13
  -- the second query's block
  iapply (block5 L d k _ (apOf al iv (batchOf (qNo (w2 L) 0))) be (meanOf sf (nx2 L (t64 k))) (groupOf feat gidx (nx2 L (t64 k)))) $$ [H17 H14 H16 H12 H20]
  · iframe H17 H14 H16 H12 H20
  iintro ⟨H17, H14, H16, H12, H20⟩
  iapply (wp_start d (cV2 L) (jV2 L) (src := a20) (dst := outRow (k2_off15 L k) (k2_off15_inb L k))
    (fs := blk (apOf al iv (batchOf (qNo (w2 L) 0))) be (groupOf feat gidx (nx2 L (t64 k))) (meanOf sf (nx2 L (t64 k)))) (outVal feat gidx sf al be iv) pos_S24x768
    (out_set (w2 L) (t64 k) 1 _ (off_out1 L k) _)
    ((out_read (outVal feat gidx sf al be iv) (nx2 L (t64 k)) _ (off_out1 L k) _).trans (blk_at feat gidx sf al be iv (nx2 L (t64 k)) _ (batch_nx2 L (t64 k))))) $$ [H20 Hw1 Hv9]
  · iframe H20 Hw1 Hv9
  iintro Hf20
  iapply Hk
  iframe Hf20 Hthree Hf13 Hgidx H12 H14 H16 H17 Hr6 HO

set_option maxHeartbeats 8000000 in
theorem trip2 (hg : ∀ n (c : Fin 32), c.val < 24 → (gidx (ix2 n c)).toNat < 32768) (v19 v21 : BitVec 32) (k : Fin k2_t2_loop.trips) (u : Unit) :
    inv2 L d O W feat gidx sf al be iv out0 qf qg qs k.val u
      ⊢ wp frame (wpE (defs₀ (F := F)) 𝒱₀ (V d (cV2 L) (jV2 L)) none) Set.univ (body2 L v19 v21 k u)
          (inv2 L d O W feat gidx sf al be iv out0 qf qg qs (k.val + 1)) := by
  unfold inv2
  unfold body2 k2_t2_body
  iintro ⟨#Hmw, Hfeat, Hgidx, Hsf, Hout, H9, H10, H11, H12, H13, H14, H16, H17, H19, H20, Hv0, Hv1, Hv2, Hv3, Hv4, Hv5, Hv6, Hv7, Hv8, Hv9, Hr5, Hr6, HO⟩
  ihave ⟨Hw, Hout⟩ := (turn_take (pair2 L d out0) (pair2 L d (outVal feat gidx sf al be iv)) (t64 k)) $$ Hout
  ihave ⟨Hw0, Hw1⟩ := (Entails.of_eq (show pair2 L d out0 (t64 k) = iprop((outL d ↦[outWin (w2 L) (t64 k) 0]{fullShare} out0) ∗ (outL d ↦[outWin (w2 L) (t64 k) 1]{fullShare} out0)) from rfl)) $$ Hw
  iapply (front2 L d O W feat gidx sf qf qg qs hg v19 v21 k) $$ [Hfeat Hgidx Hsf H10 H12 H14 Hv3 Hv4 Hv5 Hv7 Hr5 HO]
  · iframe Hmw Hfeat Hgidx Hsf H10 H12 H14 Hv3 Hv4 Hv5 Hv7 Hr5 HO
  iintro ⟨Hgidx, Hthree, Hf14, Hr5, HO⟩
  iapply (middle2 L d O W feat gidx sf al be iv out0 qf qg qs _ k) $$ [Hgidx Hthree Hf14 H9 H19 H11 H13 H16 H17 Hw0 Hv8 Hr6 HO]
  · iframe Hmw Hgidx Hthree Hf14 H9 H19 H11 H13 H16 H17 Hw0 Hv8 Hr6 HO
  iintro ⟨Hf19, Hf9, Hfeat, Hsf, H12, H10, H14, H11, H13, H16, H17, Hv3, Hv4, Hv5, Hv7, HO⟩
  ihave H11 := (held_some _) $$ H11
  ihave H13 := (held_some _) $$ H13
  iapply (back2 L d O W feat gidx sf al be iv out0 qf qg qs hg _ k) $$ [Hf9 Hfeat Hsf H12 H14 H11 H13 H16 H17 H20 Hw1 Hv0 Hv1 Hv2 Hv6 Hv9 HO]
  · iframe Hmw Hf9 Hfeat Hsf H12 H14 H11 H13 H16 H17 H20 Hw1 Hv0 Hv1 Hv2 Hv6 Hv9 HO
  iintro ⟨Hf20, Hthree, Hf13, Hgidx, H12, H14, H16, H17, Hr6, HO⟩
  -- all arrive
  iapply (wp_await d (cV2 L) (jV2 L) rfl) $$ [Hf19 HO Hmw]
  · iframe Hf19 HO Hmw
  iintro ⟨⟨Hw0, H19⟩, Hv8, HO⟩
  iapply (wp_await_three (R := 24) inb_S24x384_S24x128_0_0 inb_S24x384_S24x128_0_128 inb_S24x384_S24x128_0_256 d (cV2 L) (jV2 L)
    (src := featV) (dst := a11) (offs := list9) (View.set_whole _)) $$ [Hthree HO Hmw]
  · iframe Hthree HO Hmw
  iintro ⟨Hfeat, H11, H9, Hv0, Hv1, Hv2, HO⟩
  iapply (wp_await d (cV2 L) (jV2 L) rfl) $$ [Hf13 HO Hmw]
  · iframe Hf13 HO Hmw
  iintro ⟨⟨H13, Hsf⟩, Hv6, HO⟩
  iapply (wp_await d (cV2 L) (jV2 L) rfl) $$ [Hf20 HO Hmw]
  · iframe Hf20 HO Hmw
  iintro ⟨⟨Hw1, H20⟩, Hv9, HO⟩
  ihave Hout := Hout $$ [Hw0 Hw1]
  · unfold pair2
    iframe Hw0 Hw1
  sl_step
  ihave H9 := (held_some _) $$ H9
  ihave H10 := (held_some _) $$ H10
  ihave H12 := (held_some _) $$ H12
  ihave H14 := (held_some _) $$ H14
  ihave H19 := (held_some _) $$ H19
  ihave H20 := (held_some _) $$ H20
  iframe Hmw Hfeat Hgidx Hsf Hout H9 H10 H11 H12 H13 H14 H16 H17 H19 H20 Hv0 Hv1 Hv2 Hv3 Hv4 Hv5 Hv6 Hv7 Hv8 Hv9 Hr5 Hr6 HO

end Trip

end Cert.Proof.Tiles

end
-- ==== Proof.Stats.lean ====
/-
  The second SparseCore call at one tile: the sums of the differences and of their squares.  The loops that sum one query's
  group (`sums2`, `sums4`), and a trip of the main loop (`trip1`): two queries, the next one's rows on their way while a
  group is summed.
-/
module

public import proofs.«01_k».proof.Proof.Output

@[expose] public section

noncomputable section

namespace Cert.Proof.Tiles

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 3) (Elt F) ℕ UU ℕ

/-! ## The sums -/

/-- `f` made for `0`, `1`, … below `k`. -/
def upto {α : Type} {n : ℕ} (f : Fin n → α → α) (a : α) : ℕ → α
  | 0 => a
  | k + 1 => if h : k < n then f ⟨k, h⟩ (upto f a k) else upto f a k

theorem upto_succ {α : Type} {n : ℕ} (f : Fin n → α → α) (a : α) (k : Fin n) : upto f a (k.val + 1) = f k (upto f a k.val) := dif_pos k.isLt

section Value
variable [FloatOps F]

/-- Sixteen columns of one row of a group less the row subtracted. -/
def devAt (g : S24x384.Idx → Elt F .f32) (mn : S384.Idx → Elt F .f32) (c r : Fin 24) : S16.Idx → Elt F .f32 := fun x =>
  FloatOps.subf (φ := .f32) (g (ix2 r ⟨16 * c.val + (x 0).val, by have : (x 0).val < 16 := (x 0).isLt; omega⟩))
    (mn (ix1 ⟨16 * c.val + (x 0).val, by have : (x 0).val < 16 := (x 0).isLt; omega⟩))
/-- The two sums, of the differences and of their squares, lane by lane, with one more row of sixteen columns. -/
def addDev (g : S24x384.Idx → Elt F .f32) (mn : S384.Idx → Elt F .f32) (c r : Fin 24) (p : FVec F S16 .f32 × FVec F S16 .f32) : FVec F S16 .f32 × FVec F S16 .f32 :=
  (fun x => FloatOps.addf (φ := .f32) (p.1 x) (devAt g mn c r x), fun x => FloatOps.addf (φ := .f32) (p.2 x) (FloatOps.mulf (φ := .f32) (devAt g mn c r x) (devAt g mn c r x)))
/-- … with all rows of sixteen columns, … -/
def addCols (g : S24x384.Idx → Elt F .f32) (mn : S384.Idx → Elt F .f32) (c : Fin 24) (p : FVec F S16 .f32 × FVec F S16 .f32) : FVec F S16 .f32 × FVec F S16 .f32 := upto (addDev g mn c) p 24
/-- … with all of a group. -/
def addGroup (g : S24x384.Idx → Elt F .f32) (mn : S384.Idx → Elt F .f32) (p : FVec F S16 .f32 × FVec F S16 .f32) : FVec F S16 .f32 × FVec F S16 .f32 := upto (addCols g mn) p 24
/-- The sums of the first `j` queries of a tile. -/
def sumsTo (feat : S32768x384.Idx → Elt F .f32) (gidx : S4096x32.Idx → Elt F .i32) (sf : S4096x384.Idx → Elt F .f32) (w : Fin 32) (j : ℕ) : FVec F S16 .f32 × FVec F S16 .f32 :=
  upto (fun j : Fin 128 => addGroup (groupOf feat gidx (qNo w j)) (meanOf sf (qNo w j))) (k1_pay8, k1_pay8) j

theorem row_cast (ld : Vec F S1x16 .f32) (x : S16.Idx) : shapeCast S16 ld shapeCasts_S1x16_S16 x = ld (ix2 (0 : Fin 1) (x 0)) :=
  shapeCast_apply (s := S1x16) (t := S16) ld shapeCasts_S1x16_S16 x (ix2 (0 : Fin 1) (x 0)) (by
    rw [Shape.rowMajor_val_one, Shape.rowMajor_val_two]; simp)

theorem dev_pay (g : S24x384.Idx → Elt F .f32) (mn : S384.Idx → Elt F .f32) (c r : Fin 24) (ld : Vec F S1x16 .f32)
    (hld : ∀ x : S1x16.Idx, ld x = g (ix2 r ⟨16 * c.val + (x 1).val, by have : (x 1).val < 16 := (x 1).isLt; omega⟩)) :
    k1_pay2 (colsAt c mn) ld = devAt g mn c r := by
  funext x
  show FloatOps.subf (φ := .f32) (shapeCast S16 ld shapeCasts_S1x16_S16 x) (colsAt c mn x) = _
  rw [row_cast, hld]; rfl

theorem add_pay (g : S24x384.Idx → Elt F .f32) (mn : S384.Idx → Elt F .f32) (c r : Fin 24) (ld : Vec F S1x16 .f32)
    (hld : ∀ x : S1x16.Idx, ld x = g (ix2 r ⟨16 * c.val + (x 1).val, by have : (x 1).val < 16 := (x 1).isLt; omega⟩)) (a b : FVec F S16 .f32) :
    (k1_pay3 (colsAt c mn) a ld, k1_pay4 (colsAt c mn) b ld) = addDev g mn c r (a, b) := by
  unfold k1_pay3 k1_pay4
  rw [dev_pay g mn c r ld hld]; rfl
end Value

theorem k1_t1_trips : k1_t1_loop.trips = 64 := by decide
theorem k1_t2_trips : k1_t2_loop.trips = 24 := by decide
theorem k1_t3_trips : k1_t3_loop.trips = 24 := by decide
theorem k1_t4_trips : k1_t4_loop.trips = 24 := by decide
theorem k1_t5_trips : k1_t5_loop.trips = 24 := by decide
abbrev u64 (k : Fin k1_t1_loop.trips) : Fin 64 := ⟨k.val, k1_t1_trips ▸ k.isLt⟩

variable (L : grid1.Coords)

abbrev cV1 : Fin τ.nSC := (L 0).castLE hcore1
abbrev jV1 : Fin τ.nSub := (L 1).castLE hsub1
abbrev w1 : Fin 32 := tileNo ⟨(L 0).val, (L 0).isLt⟩ ⟨(L 1).val, (L 1).isLt⟩

local notation "featV" => (Memref.whole main_v0_scv : Memref sig Kind.scVector Space.hbm S32768x384 EltTy.f32)
local notation "gidxV" => (Memref.whole main_v20_scv : Memref sig Kind.scVector Space.hbm S4096x32 EltTy.i32)
local notation "sfV" => (Memref.whole main_v10_0_scv : Memref sig Kind.scVector Space.hbm S4096x384 EltTy.f32)
local notation "partsV" => (Memref.whole main_v21_scv : Memref sig Kind.scVector Space.hbm S32x16 EltTy.f32)
local notation "b6" => (Memref.whole cc1_scratch0 : Memref sig Kind.scVector Space.vmem S32 EltTy.i32)
local notation "b7" => (Memref.whole cc1_scratch1 : Memref sig Kind.scVector Space.vmem S32 EltTy.i32)
local notation "b8" => (Memref.whole cc1_scratch2 : Memref sig Kind.scVector Space.vmem S24x384 EltTy.f32)
local notation "b9" => (Memref.whole cc1_scratch3 : Memref sig Kind.scVector Space.vmem S24x384 EltTy.f32)
local notation "b10" => (Memref.whole cc1_scratch4 : Memref sig Kind.scVector Space.vmem S384 EltTy.f32)
local notation "b11" => (Memref.whole cc1_scratch5 : Memref sig Kind.scVector Space.vmem S384 EltTy.f32)
local notation "b12" => (Memref.whole cc1_scratch6 : Memref sig Kind.scVector Space.vmem S16 EltTy.f32)

section Blocks

variable [FloatOps F] (d : Dev nD)

/-- What the loop over rows holds, and what the loop over columns does: the rows, the row subtracted, the sums so far. -/
def invAdd (gm : Memref sig .scVector .vmem S24x384 .f32) (g : Buf (Elt F) (gm.view.loc (V d (cV1 L) (jV1 L)))) (mn : S384.Idx → Elt F .f32)
    (p : FVec F S16 .f32 × FVec F S16 .f32) (c : Fin 24) (r : ℕ) (acc : FVec F S16 .f32 × FVec F S16 .f32) : sProp (MT nD τ sig (HIx 3) (Elt F) ℕ UU ℕ) := iprop(
  ⌜acc = upto (addDev (gm.view.read (Elt F) g) mn c) p r⌝ ∗ gm.view.loc (V d (cV1 L) (jV1 L)) ↦{fullShare} g)
def invGroup (gm : Memref sig .scVector .vmem S24x384 .f32) (mnm : Memref sig .scVector .vmem S384 .f32) (g : Buf (Elt F) (gm.view.loc (V d (cV1 L) (jV1 L))))
    (mn : Buf (Elt F) (mnm.view.loc (V d (cV1 L) (jV1 L)))) (p : FVec F S16 .f32 × FVec F S16 .f32) (c : ℕ) (acc : FVec F S16 .f32 × FVec F S16 .f32) : sProp (MT nD τ sig (HIx 3) (Elt F) ℕ UU ℕ) := iprop(
  ⌜acc = upto (addCols (gm.view.read (Elt F) g) (mnm.view.read (Elt F) mn)) p c⌝ ∗ (gm.view.loc (V d (cV1 L) (jV1 L)) ↦{fullShare} g) ∗ (mnm.view.loc (V d (cV1 L) (jV1 L)) ↦{fullShare} mn))

theorem add_step {g : S24x384.Idx → Elt F .f32} {mn : S384.Idx → Elt F .f32} {p : FVec F S16 .f32 × FVec F S16 .f32} {c r : Fin 24} {a b : FVec F S16 .f32} {ld : Vec F S1x16 .f32}
    (h : (a, b) = upto (addDev g mn c) p r.val)
    (hld : ∀ x : S1x16.Idx, ld x = g (ix2 r ⟨16 * c.val + (x 1).val, by have : (x 1).val < 16 := (x 1).isLt; omega⟩)) :
    (k1_pay3 (colsAt c mn) a ld, k1_pay4 (colsAt c mn) b ld) = upto (addDev g mn c) p (r.val + 1) :=
  (add_pay g mn c r ld hld a b).trans ((congrArg (addDev g mn c r) h).trans (upto_succ _ _ _).symm)

theorem addRow2 (k : Fin k1_t1_loop.trips) (x y : FVec F S16 .f32) (v v' : BitVec 32) (p : FVec F S16 .f32 × FVec F S16 .f32) (mn : S384.Idx → Elt F .f32) (g : S24x384.Idx → Elt F .f32)
    (c : Fin k1_t2_loop.trips) (r : Fin k1_t3_loop.trips) (acc : FVec F S16 .f32 × FVec F S16 .f32) :
    invAdd L d b8 g mn p (c24 c.val k1_t2_trips c.isLt) r.val acc
      ⊢ wp frame (wpE (defs₀ (F := F)) 𝒱₀ (V d (cV1 L) (jV1 L)) none) Set.univ (k1_t3_body L featV (Memref.isWhole_whole _) gidxV (Memref.isWhole_whole _) sfV (Memref.isWhole_whole _) partsV (Memref.isWhole_whole _) b6 (Memref.isWhole_whole _) b7 (Memref.isWhole_whole _) b8 (Memref.isWhole_whole _) b9 (Memref.isWhole_whole _) b10 (Memref.isWhole_whole _) b11 (Memref.isWhole_whole _) b12 (Memref.isWhole_whole _) cc1_scratch7 cc1_scratch8 cc1_scratch9 cc1_scratch10 cc1_scratch11 cc1_scratch12 cc1_scratch13 cc1_scratch14 cc1_scoped0 cc1_scoped1 cc1_scoped2 cc1_scoped3 cc1_scoped4 k x y v v' c (colsAt (c24 c.val k1_t2_trips c.isLt) mn) r acc) (invAdd L d b8 g mn p (c24 c.val k1_t2_trips c.isLt) (r.val + 1)) := by
  obtain ⟨a, b⟩ := acc
  unfold invAdd k1_t3_body
  iintro ⟨%h, Hg⟩
  iapply (wp_ld d (cV1 L) (jV1 L) (m := b8) (r := Rect.unit (s := S24x384) (k1_off6 c r) S1x16.size (k1_off6_inb c r)) (f := g)) $$ Hg
  iintro Hg
  sl_step
  iframe Hg
  ipureintro
  exact add_step (c := c24 c.val k1_t2_trips c.isLt) (r := c24 r.val k1_t3_trips r.isLt) h
    (fun x => congrArg g (row_emb _ r.val (16 * c.val) (k1_off6_eq c r) (k1_off6_inb c r) (c24 r.val k1_t3_trips r.isLt).isLt (by have := (c24 c.val k1_t2_trips c.isLt).isLt; simp only at this; omega) x))

theorem addCol2 (k : Fin k1_t1_loop.trips) (x y : FVec F S16 .f32) (v v' : BitVec 32) (p : FVec F S16 .f32 × FVec F S16 .f32) (mn : S384.Idx → Elt F .f32) (g : S24x384.Idx → Elt F .f32)
    (c : Fin k1_t2_loop.trips) (acc : FVec F S16 .f32 × FVec F S16 .f32) :
    invGroup L d b8 b10 g mn p c.val acc
      ⊢ wp frame (wpE (defs₀ (F := F)) 𝒱₀ (V d (cV1 L) (jV1 L)) none) Set.univ (k1_t2_body L featV (Memref.isWhole_whole _) gidxV (Memref.isWhole_whole _) sfV (Memref.isWhole_whole _) partsV (Memref.isWhole_whole _) b6 (Memref.isWhole_whole _) b7 (Memref.isWhole_whole _) b8 (Memref.isWhole_whole _) b9 (Memref.isWhole_whole _) b10 (Memref.isWhole_whole _) b11 (Memref.isWhole_whole _) b12 (Memref.isWhole_whole _) cc1_scratch7 cc1_scratch8 cc1_scratch9 cc1_scratch10 cc1_scratch11 cc1_scratch12 cc1_scratch13 cc1_scratch14 cc1_scoped0 cc1_scoped1 cc1_scoped2 cc1_scoped3 cc1_scoped4 k x y v v' c acc) (invGroup L d b8 b10 g mn p (c.val + 1)) := by
  have hc : c.val < 24 := k1_t2_trips ▸ c.isLt
  obtain ⟨a, b⟩ := acc
  unfold invGroup k1_t2_body
  iintro ⟨%h, Hg, Hmn⟩
  iapply (wp_lds d (cV1 L) (jV1 L) (m := b10) (r := Rect.unit (s := S384) (k1_off5 c) S16.size (k1_off5_inb c)) (f := mn) (colsAt (c24 c.val k1_t2_trips c.isLt) mn) (fun x => congrArg mn (vec_emb _ c.val (k1_off5_eq c) _ (by omega) x))) $$ Hmn
  iintro Hmn
  iapply (Scf.wp_for_bind frame (wpE (defs₀ (F := F)) 𝒱₀ (V d (cV1 L) (jV1 L)) none) Set.univ _ _ _ k1_t3_ok _ _
    (I := invAdd L d b8 g mn (a, b) (c24 c.val k1_t2_trips c.isLt)) (fun r acc => addRow2 L d k x y v v' (a, b) mn g c r acc)) $$ [Hg]
  · unfold invAdd
    iframe Hg
    ipureintro; rfl
  iintro %acc
  obtain ⟨a', b'⟩ := acc
  unfold invAdd
  iintro ⟨%h', Hg⟩
  dsimp only
  sl_step
  iframe Hg Hmn
  ipureintro
  have h24 : ∀ n, n = 24 → (a', b') = upto (addDev ((b8).view.read (Elt F) g) mn (c24 c.val k1_t2_trips c.isLt)) (a, b) n →
      (a', b') = addCols ((b8).view.read (Elt F) g) ((b10).view.read (Elt F) mn) (c24 c.val k1_t2_trips c.isLt) (a, b) := by
    rintro n rfl h; exact h
  exact (h24 _ k1_t3_trips h').trans ((congrArg _ h).trans (upto_succ (addCols ((b8).view.read (Elt F) g) ((b10).view.read (Elt F) mn)) p (c24 c.val k1_t2_trips c.isLt)).symm)

/-- A query's group summed. -/
theorem sums2 {α : Type} {Q : α → sProp (MT nD τ sig (HIx 3) (Elt F) ℕ UU ℕ)} {kk : FVec F S16 .f32 × FVec F S16 .f32 → Prog (TpuEff nD τ sig (Elt F) Λ₀ (.scVector (cV1 L) (jV1 L))) α}
    (k : Fin k1_t1_loop.trips) (x y : FVec F S16 .f32) (v v' : BitVec 32) (p : FVec F S16 .f32 × FVec F S16 .f32) (mn : S384.Idx → Elt F .f32) (g : S24x384.Idx → Elt F .f32) :
    iprop(((b8).view.loc (V d (cV1 L) (jV1 L)) ↦{fullShare} g) ∗ ((b10).view.loc (V d (cV1 L) (jV1 L)) ↦{fullShare} mn))
      ⊢ iprop((iprop(((b8).view.loc (V d (cV1 L) (jV1 L)) ↦{fullShare} g) ∗ ((b10).view.loc (V d (cV1 L) (jV1 L)) ↦{fullShare} mn))
          -∗ wp frame (wpE (defs₀ (F := F)) 𝒱₀ (V d (cV1 L) (jV1 L)) none) Set.univ (kk ((addGroup g mn p).1, (addGroup g mn p).2)) Q)
        -∗ wp frame (wpE (defs₀ (F := F)) 𝒱₀ (V d (cV1 L) (jV1 L)) none) Set.univ (Scf.Loop.for k1_t2_loop k1_t2_ok p (k1_t2_body L featV (Memref.isWhole_whole _) gidxV (Memref.isWhole_whole _) sfV (Memref.isWhole_whole _) partsV (Memref.isWhole_whole _) b6 (Memref.isWhole_whole _) b7 (Memref.isWhole_whole _) b8 (Memref.isWhole_whole _) b9 (Memref.isWhole_whole _) b10 (Memref.isWhole_whole _) b11 (Memref.isWhole_whole _) b12 (Memref.isWhole_whole _) cc1_scratch7 cc1_scratch8 cc1_scratch9 cc1_scratch10 cc1_scratch11 cc1_scratch12 cc1_scratch13 cc1_scratch14 cc1_scoped0 cc1_scoped1 cc1_scoped2 cc1_scoped3 cc1_scoped4 k x y v v') >>= kk) Q) := by
  iintro ⟨Hg, Hmn⟩ Hk
  iapply (Scf.wp_for_bind frame (wpE (defs₀ (F := F)) 𝒱₀ (V d (cV1 L) (jV1 L)) none) Set.univ _ _ _ k1_t2_ok _ _
    (I := invGroup L d b8 b10 g mn p) (fun c acc => addCol2 L d k x y v v' p mn g c acc)) $$ [Hg Hmn]
  · unfold invGroup
    iframe Hg Hmn
    ipureintro; rfl
  iintro %acc
  unfold invGroup
  iintro ⟨%h, Hg, Hmn⟩
  have h24 : ∀ n, n = 24 → acc = upto (addCols ((b8).view.read (Elt F) g) ((b10).view.read (Elt F) mn)) p n → acc = addGroup g mn p := by
    rintro n rfl h; exact h
  rw [h24 _ k1_t2_trips h]
  iapply Hk
  iframe Hg Hmn

theorem addRow4 (k : Fin k1_t1_loop.trips) (x y : FVec F S16 .f32) (p : FVec F S16 .f32 × FVec F S16 .f32) (mn : S384.Idx → Elt F .f32) (g : S24x384.Idx → Elt F .f32)
    (c : Fin k1_t4_loop.trips) (r : Fin k1_t5_loop.trips) (acc : FVec F S16 .f32 × FVec F S16 .f32) :
    invAdd L d b9 g mn p (c24 c.val k1_t4_trips c.isLt) r.val acc
      ⊢ wp frame (wpE (defs₀ (F := F)) 𝒱₀ (V d (cV1 L) (jV1 L)) none) Set.univ (k1_t5_body L featV (Memref.isWhole_whole _) gidxV (Memref.isWhole_whole _) sfV (Memref.isWhole_whole _) partsV (Memref.isWhole_whole _) b6 (Memref.isWhole_whole _) b7 (Memref.isWhole_whole _) b8 (Memref.isWhole_whole _) b9 (Memref.isWhole_whole _) b10 (Memref.isWhole_whole _) b11 (Memref.isWhole_whole _) b12 (Memref.isWhole_whole _) cc1_scratch7 cc1_scratch8 cc1_scratch9 cc1_scratch10 cc1_scratch11 cc1_scratch12 cc1_scratch13 cc1_scratch14 cc1_scoped0 cc1_scoped1 cc1_scoped2 cc1_scoped3 cc1_scoped4 k x y c (colsAt (c24 c.val k1_t4_trips c.isLt) mn) r acc) (invAdd L d b9 g mn p (c24 c.val k1_t4_trips c.isLt) (r.val + 1)) := by
  obtain ⟨a, b⟩ := acc
  unfold invAdd k1_t5_body
  iintro ⟨%h, Hg⟩
  iapply (wp_ld d (cV1 L) (jV1 L) (m := b9) (r := Rect.unit (s := S24x384) (k1_off8 c r) S1x16.size (k1_off8_inb c r)) (f := g)) $$ Hg
  iintro Hg
  sl_step
  iframe Hg
  ipureintro
  exact add_step (c := c24 c.val k1_t4_trips c.isLt) (r := c24 r.val k1_t5_trips r.isLt) h
    (fun x => congrArg g (row_emb _ r.val (16 * c.val) (k1_off8_eq c r) (k1_off8_inb c r) (c24 r.val k1_t5_trips r.isLt).isLt (by have := (c24 c.val k1_t4_trips c.isLt).isLt; simp only at this; omega) x))

theorem addCol4 (k : Fin k1_t1_loop.trips) (x y : FVec F S16 .f32) (p : FVec F S16 .f32 × FVec F S16 .f32) (mn : S384.Idx → Elt F .f32) (g : S24x384.Idx → Elt F .f32)
    (c : Fin k1_t4_loop.trips) (acc : FVec F S16 .f32 × FVec F S16 .f32) :
    invGroup L d b9 b11 g mn p c.val acc
      ⊢ wp frame (wpE (defs₀ (F := F)) 𝒱₀ (V d (cV1 L) (jV1 L)) none) Set.univ (k1_t4_body L featV (Memref.isWhole_whole _) gidxV (Memref.isWhole_whole _) sfV (Memref.isWhole_whole _) partsV (Memref.isWhole_whole _) b6 (Memref.isWhole_whole _) b7 (Memref.isWhole_whole _) b8 (Memref.isWhole_whole _) b9 (Memref.isWhole_whole _) b10 (Memref.isWhole_whole _) b11 (Memref.isWhole_whole _) b12 (Memref.isWhole_whole _) cc1_scratch7 cc1_scratch8 cc1_scratch9 cc1_scratch10 cc1_scratch11 cc1_scratch12 cc1_scratch13 cc1_scratch14 cc1_scoped0 cc1_scoped1 cc1_scoped2 cc1_scoped3 cc1_scoped4 k x y c acc) (invGroup L d b9 b11 g mn p (c.val + 1)) := by
  have hc : c.val < 24 := k1_t4_trips ▸ c.isLt
  obtain ⟨a, b⟩ := acc
  unfold invGroup k1_t4_body
  iintro ⟨%h, Hg, Hmn⟩
  iapply (wp_lds d (cV1 L) (jV1 L) (m := b11) (r := Rect.unit (s := S384) (k1_off7 c) S16.size (k1_off7_inb c)) (f := mn) (colsAt (c24 c.val k1_t4_trips c.isLt) mn) (fun x => congrArg mn (vec_emb _ c.val (k1_off7_eq c) _ (by omega) x))) $$ Hmn
  iintro Hmn
  iapply (Scf.wp_for_bind frame (wpE (defs₀ (F := F)) 𝒱₀ (V d (cV1 L) (jV1 L)) none) Set.univ _ _ _ k1_t5_ok _ _
    (I := invAdd L d b9 g mn (a, b) (c24 c.val k1_t4_trips c.isLt)) (fun r acc => addRow4 L d k x y (a, b) mn g c r acc)) $$ [Hg]
  · unfold invAdd
    iframe Hg
    ipureintro; rfl
  iintro %acc
  obtain ⟨a', b'⟩ := acc
  unfold invAdd
  iintro ⟨%h', Hg⟩
  dsimp only
  sl_step
  iframe Hg Hmn
  ipureintro
  have h24 : ∀ n, n = 24 → (a', b') = upto (addDev ((b9).view.read (Elt F) g) mn (c24 c.val k1_t4_trips c.isLt)) (a, b) n →
      (a', b') = addCols ((b9).view.read (Elt F) g) ((b11).view.read (Elt F) mn) (c24 c.val k1_t4_trips c.isLt) (a, b) := by
    rintro n rfl h; exact h
  exact (h24 _ k1_t5_trips h').trans ((congrArg _ h).trans (upto_succ (addCols ((b9).view.read (Elt F) g) ((b11).view.read (Elt F) mn)) p (c24 c.val k1_t4_trips c.isLt)).symm)

/-- A query's group summed. -/
theorem sums4 {α : Type} {Q : α → sProp (MT nD τ sig (HIx 3) (Elt F) ℕ UU ℕ)} {kk : FVec F S16 .f32 × FVec F S16 .f32 → Prog (TpuEff nD τ sig (Elt F) Λ₀ (.scVector (cV1 L) (jV1 L))) α}
    (k : Fin k1_t1_loop.trips) (x y : FVec F S16 .f32) (p : FVec F S16 .f32 × FVec F S16 .f32) (mn : S384.Idx → Elt F .f32) (g : S24x384.Idx → Elt F .f32) :
    iprop(((b9).view.loc (V d (cV1 L) (jV1 L)) ↦{fullShare} g) ∗ ((b11).view.loc (V d (cV1 L) (jV1 L)) ↦{fullShare} mn))
      ⊢ iprop((iprop(((b9).view.loc (V d (cV1 L) (jV1 L)) ↦{fullShare} g) ∗ ((b11).view.loc (V d (cV1 L) (jV1 L)) ↦{fullShare} mn))
          -∗ wp frame (wpE (defs₀ (F := F)) 𝒱₀ (V d (cV1 L) (jV1 L)) none) Set.univ (kk ((addGroup g mn p).1, (addGroup g mn p).2)) Q)
        -∗ wp frame (wpE (defs₀ (F := F)) 𝒱₀ (V d (cV1 L) (jV1 L)) none) Set.univ (Scf.Loop.for k1_t4_loop k1_t4_ok p (k1_t4_body L featV (Memref.isWhole_whole _) gidxV (Memref.isWhole_whole _) sfV (Memref.isWhole_whole _) partsV (Memref.isWhole_whole _) b6 (Memref.isWhole_whole _) b7 (Memref.isWhole_whole _) b8 (Memref.isWhole_whole _) b9 (Memref.isWhole_whole _) b10 (Memref.isWhole_whole _) b11 (Memref.isWhole_whole _) b12 (Memref.isWhole_whole _) cc1_scratch7 cc1_scratch8 cc1_scratch9 cc1_scratch10 cc1_scratch11 cc1_scratch12 cc1_scratch13 cc1_scratch14 cc1_scoped0 cc1_scoped1 cc1_scoped2 cc1_scoped3 cc1_scoped4 k x y) >>= kk) Q) := by
  iintro ⟨Hg, Hmn⟩ Hk
  iapply (Scf.wp_for_bind frame (wpE (defs₀ (F := F)) 𝒱₀ (V d (cV1 L) (jV1 L)) none) Set.univ _ _ _ k1_t4_ok _ _
    (I := invGroup L d b9 b11 g mn p) (fun c acc => addCol4 L d k x y p mn g c acc)) $$ [Hg Hmn]
  · unfold invGroup
    iframe Hg Hmn
    ipureintro; rfl
  iintro %acc
  unfold invGroup
  iintro ⟨%h, Hg, Hmn⟩
  have h24 : ∀ n, n = 24 → acc = upto (addCols ((b9).view.read (Elt F) g) ((b11).view.read (Elt F) mn)) p n → acc = addGroup g mn p := by
    rintro n rfl h; exact h
  rw [h24 _ k1_t4_trips h]
  iapply Hk
  iframe Hg Hmn

end Blocks

section Trip

variable [FloatOps F] (d : Dev nD) (O : CellTallies nD τ sig (HIx 3)) (W : Waits sig (HIx 3))
  (feat : S32768x384.Idx → Elt F .f32) (gidx : S4096x32.Idx → Elt F .i32) (sf : S4096x384.Idx → Elt F .f32)
  (qf qg qs : PosShare TreeShare)

/-- The query whose rows are at hand before trip `k`. -/
def at1 (k : ℕ) : Fin 4096 := qNo (w1 L) ⟨min (2 * k) 127, by omega⟩
/-- The second query of trip `k`. -/
def nx1 (k : Fin 64) : Fin 4096 := qNo (w1 L) ⟨2 * k.val + 1, by omega⟩

abbrev lst6 : Memref sig .scVector .vmem S24 .i32 := (b6).slice (Rect.unit (s := S32) ![0] S24.size inb_S32_S24_0) (fun _ => rfl)
abbrev lst7 : Memref sig .scVector .vmem S24 .i32 := (b7).slice (Rect.unit (s := S32) ![0] S24.size inb_S32_S24_0) (fun _ => rfl)
theorem lst6_read (gidx : S4096x32.Idx → Elt F .i32) (n : Fin 4096) : (lst6).view.read (Elt F) (lineOf gidx n) = nbrs gidx n :=
  funext fun x => congrArg (lineOf gidx n) (list_emb x)
theorem lst7_read (gidx : S4096x32.Idx → Elt F .i32) (n : Fin 4096) : (lst7).view.read (Elt F) (lineOf gidx n) = nbrs gidx n :=
  funext fun x => congrArg (lineOf gidx n) (list_emb x)

theorem credit_b8 (o : ℕ) (h : ∀ a, (![0, o] : Fin 2 → ℕ) a + (RB 24).size a ≤ (RC 24).size a) (ho : o = 0 ∨ o = 128 ∨ o = 256) :
    ∑ j, ((colD b8 o h).slice ((RB 24).rowRect gathers_S32768x128_S24x128.axis' j) ((RB 24).stride_rowRect gathers_S32768x128_S24x128.axis' j)).view.dmaCredit
      = (colD b8 o h).view.dmaCredit := by
  rcases ho with rfl | rfl | rfl <;> decide +revert

theorem credit_b9 (o : ℕ) (h : ∀ a, (![0, o] : Fin 2 → ℕ) a + (RB 24).size a ≤ (RC 24).size a) (ho : o = 0 ∨ o = 128 ∨ o = 256) :
    ∑ j, ((colD b9 o h).slice ((RB 24).rowRect gathers_S32768x128_S24x128.axis' j) ((RB 24).stride_rowRect gathers_S32768x128_S24x128.axis' j)).view.dmaCredit
      = (colD b9 o h).view.dmaCredit := by
  rcases ho with rfl | rfl | rfl <;> decide +revert

/-- The rows a query `n` gathers on their way to the second, or to the first, of the buffers of rows. -/
abbrev rows9 (n : Fin 4096) : sProp (MT nD τ sig (HIx 3) (Elt F) ℕ UU ℕ) :=
  Three (R := 24) inb_S24x384_S24x128_0_0 inb_S24x384_S24x128_0_128 inb_S24x384_S24x128_0_256 d (cV1 L) (jV1 L) featV b9 lst7
    cc1_scratch10.sem cc1_scratch11.sem cc1_scratch12.sem qf fullShare feat (lineOf gidx n) (groupOf feat gidx n)
abbrev rows8 (n : Fin 4096) : sProp (MT nD τ sig (HIx 3) (Elt F) ℕ UU ℕ) :=
  Three (R := 24) inb_S24x384_S24x128_0_0 inb_S24x384_S24x128_0_128 inb_S24x384_S24x128_0_256 d (cV1 L) (jV1 L) featV b8 lst6
    cc1_scratch7.sem cc1_scratch8.sem cc1_scratch9.sem qf fullShare feat (lineOf gidx n) (groupOf feat gidx n)
/-- A row of the sampled features on its way to the second, or to the first, of its buffers. -/
abbrev mean11 (n : Fin 4096) : sProp (MT nD τ sig (HIx 3) (Elt F) ℕ UU ℕ) := Fl (V d (cV1 L) (jV1 L)) cc1_scratch14.sem (b11).view.dmaCredit iprop(((b11).view.loc (V d (cV1 L) (jV1 L)) ↦{fullShare} meanOf sf n) ∗ ((sfV).view.loc (V d (cV1 L) (jV1 L)) ↦{qs} sf))
abbrev mean10 (n : Fin 4096) : sProp (MT nD τ sig (HIx 3) (Elt F) ℕ UU ℕ) := Fl (V d (cV1 L) (jV1 L)) cc1_scratch13.sem (b10).view.dmaCredit iprop(((b10).view.loc (V d (cV1 L) (jV1 L)) ↦{fullShare} meanOf sf n) ∗ ((sfV).view.loc (V d (cV1 L) (jV1 L)) ↦{qs} sf))

theorem row_nx (k : Fin k1_t1_loop.trips) : k1_off3 L k 1#32 = ![(nx1 L (u64 k)).val, 0] ∧ k1_off4 L k 1#32 = ![(nx1 L (u64 k)).val, 0] := by
  have hk : k.val < 64 := k1_t1_trips ▸ k.isLt
  have e : min (256 * (L 1).val + 128 * (L 0).val + 2 * k.val + 0 + 1) (256 * (L 1).val + 128 * (L 0).val + 127) = (nx1 L (u64 k)).val := by
    show _ = 128 * (2 * (L 1).val + (L 0).val) + (2 * k.val + 1); omega
  exact ⟨(k1_off3_eq L k 0).trans (by rw [← e]; rfl), (k1_off4_eq L k 0).trans (by rw [← e]; rfl)⟩
theorem row_at (k : Fin k1_t1_loop.trips) : k1_off3 L k 2#32 = ![(at1 L (k.val + 1)).val, 0] ∧ k1_off4 L k 2#32 = ![(at1 L (k.val + 1)).val, 0] := by
  have hk : k.val < 64 := k1_t1_trips ▸ k.isLt
  have e : min (256 * (L 1).val + 128 * (L 0).val + 2 * k.val + 1 + 1) (256 * (L 1).val + 128 * (L 0).val + 127) = (at1 L (k.val + 1)).val := by
    show _ = 128 * (2 * (L 1).val + (L 0).val) + min (2 * (k.val + 1)) 127; omega
  exact ⟨(k1_off3_eq L k 1).trans (by rw [← e]; rfl), (k1_off4_eq L k 1).trans (by rw [← e]; rfl)⟩

/-- The sums after a trip. -/
theorem sums_trip (k : Fin 64) : sumsTo feat gidx sf (w1 L) (2 * (k.val + 1))
    = addGroup (groupOf feat gidx (nx1 L k)) (meanOf sf (nx1 L k)) (addGroup (groupOf feat gidx (at1 L k.val)) (meanOf sf (at1 L k.val)) (sumsTo feat gidx sf (w1 L) (2 * k.val))) := by
  have e : at1 L k.val = qNo (w1 L) ⟨2 * k.val, by omega⟩ := Fin.ext (by
    show 128 * (w1 L).val + min (2 * k.val) 127 = 128 * (w1 L).val + 2 * k.val; have := k.isLt; omega)
  rw [e]
  exact (upto_succ _ _ (⟨2 * k.val + 1, by omega⟩ : Fin 128)).trans (congrArg _ (upto_succ _ _ (⟨2 * k.val, by omega⟩ : Fin 128)))

/-- What a tile holds before trip `k`: the arrays it reads, the rows of the query at hand, the other buffers at any
    contents, its semaphores at rest; and the sums it carries. -/
def inv1 (k : ℕ) (acc : FVec F S16 .f32 × FVec F S16 .f32) : sProp (MT nD τ sig (HIx 3) (Elt F) ℕ UU ℕ) := iprop(
  ⌜acc = sumsTo feat gidx sf (w1 L) (2 * k)⌝ ∗ Transfers.MayWaits (V d (cV1 L) (jV1 L)) (none : HIx 3) O
  ∗ ((featV).view.loc (V d (cV1 L) (jV1 L)) ↦{qf} feat) ∗ ((gidxV).view.loc (V d (cV1 L) (jV1 L)) ↦{qg} gidx) ∗ ((sfV).view.loc (V d (cV1 L) (jV1 L)) ↦{qs} sf)
  ∗ (∃ f, ((b6).view.loc (V d (cV1 L) (jV1 L)) ↦{fullShare} f)) ∗ (∃ f, ((b7).view.loc (V d (cV1 L) (jV1 L)) ↦{fullShare} f)) ∗ ((b8).view.loc (V d (cV1 L) (jV1 L)) ↦{fullShare} (groupOf feat gidx (at1 L k))) ∗ (∃ f, ((b9).view.loc (V d (cV1 L) (jV1 L)) ↦{fullShare} f)) ∗ ((b10).view.loc (V d (cV1 L) (jV1 L)) ↦{fullShare} (meanOf sf (at1 L k))) ∗ (∃ f, ((b11).view.loc (V d (cV1 L) (jV1 L)) ↦{fullShare} f))
  ∗ semVal ((V d (cV1 L) (jV1 L)), SemLoc.dma cc1_scratch7.sem) 0 ∗ semVal ((V d (cV1 L) (jV1 L)), SemLoc.dma cc1_scratch8.sem) 0 ∗ semVal ((V d (cV1 L) (jV1 L)), SemLoc.dma cc1_scratch9.sem) 0 ∗ semVal ((V d (cV1 L) (jV1 L)), SemLoc.dma cc1_scratch10.sem) 0 ∗ semVal ((V d (cV1 L) (jV1 L)), SemLoc.dma cc1_scratch11.sem) 0 ∗ semVal ((V d (cV1 L) (jV1 L)), SemLoc.dma cc1_scratch12.sem) 0 ∗ semVal ((V d (cV1 L) (jV1 L)), SemLoc.dma cc1_scratch13.sem) 0 ∗ semVal ((V d (cV1 L) (jV1 L)), SemLoc.dma cc1_scratch14.sem) 0 ∗ semVal ((V d (cV1 L) (jV1 L)), SemLoc.dma cc1_scoped2.sem) 0 ∗ semVal ((V d (cV1 L) (jV1 L)), SemLoc.dma cc1_scoped3.sem) 0
  ∗ owesN (V d (cV1 L) (jV1 L)) O W)

set_option maxHeartbeats 4000000 in
/-- The second query of a trip: its neighbours read, its rows on their way. -/
theorem front1 {α : Type} {Q : α → sProp (MT nD τ sig (HIx 3) (Elt F) ℕ UU ℕ)} {kk : (Σ' (_ : BitVec 32), BitVec 32) → Prog (TpuEff nD τ sig (Elt F) Λ₀ (.scVector (cV1 L) (jV1 L))) α} (hg : ∀ n (c : Fin 32), c.val < 24 → (gidx (ix2 n c)).toNat < 32768)
    (v3 v5 : BitVec 32) (k : Fin k1_t1_loop.trips) :
    iprop(Transfers.MayWaits (V d (cV1 L) (jV1 L)) (none : HIx 3) O ∗ ((featV).view.loc (V d (cV1 L) (jV1 L)) ↦{qf} feat) ∗ ((gidxV).view.loc (V d (cV1 L) (jV1 L)) ↦{qg} gidx) ∗ ((sfV).view.loc (V d (cV1 L) (jV1 L)) ↦{qs} sf) ∗ (∃ f, ((b7).view.loc (V d (cV1 L) (jV1 L)) ↦{fullShare} f)) ∗ (∃ f, ((b9).view.loc (V d (cV1 L) (jV1 L)) ↦{fullShare} f)) ∗ (∃ f, ((b11).view.loc (V d (cV1 L) (jV1 L)) ↦{fullShare} f)) ∗ semVal ((V d (cV1 L) (jV1 L)), SemLoc.dma cc1_scratch10.sem) 0 ∗ semVal ((V d (cV1 L) (jV1 L)), SemLoc.dma cc1_scratch11.sem) 0 ∗ semVal ((V d (cV1 L) (jV1 L)), SemLoc.dma cc1_scratch12.sem) 0 ∗ semVal ((V d (cV1 L) (jV1 L)), SemLoc.dma cc1_scratch14.sem) 0 ∗ semVal ((V d (cV1 L) (jV1 L)), SemLoc.dma cc1_scoped2.sem) 0 ∗ owesN (V d (cV1 L) (jV1 L)) O W)
      ⊢ iprop((iprop(((gidxV).view.loc (V d (cV1 L) (jV1 L)) ↦{qg} gidx) ∗ rows9 L d feat gidx qf (nx1 L (u64 k)) ∗ mean11 L d sf qs (nx1 L (u64 k)) ∗ semVal ((V d (cV1 L) (jV1 L)), SemLoc.dma cc1_scoped2.sem) 0 ∗ owesN (V d (cV1 L) (jV1 L)) O W) -∗ wp frame (wpE (defs₀ (F := F)) 𝒱₀ (V d (cV1 L) (jV1 L)) none) Set.univ (kk ⟨0#32, 24#32⟩) Q)
        -∗ wp frame (wpE (defs₀ (F := F)) 𝒱₀ (V d (cV1 L) (jV1 L)) none) Set.univ (k1_part1 L featV (Memref.isWhole_whole _) gidxV (Memref.isWhole_whole _) sfV (Memref.isWhole_whole _) partsV (Memref.isWhole_whole _) b6 (Memref.isWhole_whole _) b7 (Memref.isWhole_whole _) b8 (Memref.isWhole_whole _) b9 (Memref.isWhole_whole _) b10 (Memref.isWhole_whole _) b11 (Memref.isWhole_whole _) b12 (Memref.isWhole_whole _) cc1_scratch7 cc1_scratch8 cc1_scratch9 cc1_scratch10 cc1_scratch11 cc1_scratch12 cc1_scratch13 cc1_scratch14 cc1_scoped0 cc1_scoped1 cc1_scoped2 cc1_scoped3 cc1_scoped4 v3 v5 0#32 1#32 k >>= kk) Q) := by
  rw [k1_part1_eq_skeleton]
  unfold k1_part1_skel
  simp only [bind_assoc, pure_bind]
  iintro ⟨#Hmw, Hfeat, Hgidx, Hsf, ⟨%g7, H7⟩, ⟨%g9, H9⟩, ⟨%g11, H11⟩, Hv16, Hv17, Hv18, Hv20, Hr2, HO⟩ Hk
  iapply (wp_put d (cV1 L) (jV1 L) (src := gidxRow (k1_off3 L k 1#32) (k1_off3_inb L k 0)) (dst := b7) (fs := gidx) (lineOf gidx (nx1 L (u64 k))) (by decide) (View.set_whole _)
    (gidx_read gidx (nx1 L (u64 k)) _ (row_nx L k).1 _).symm) $$ [Hgidx H7 Hr2 HO Hmw]
  · iframe Hgidx H7 Hr2 HO Hmw
  iintro ⟨Hgidx, H7, Hr2, HO⟩
  iapply (wp_three (R := 24) inb_S24x384_S24x128_0_0 inb_S24x384_S24x128_0_128 inb_S24x384_S24x128_0_256 d (cV1 L) (jV1 L)
    (src := featV) (dst := b9) (offs := lst7) (fs := feat) (fo := lineOf gidx (nx1 L (u64 k))) (groupOf feat gidx (nx1 L (u64 k))) credit_b9 (by decide) (View.set_whole _)
    (fun x => (congrArg (fun b => b.toNat < 32768) (congrFun (lst7_read gidx (nx1 L (u64 k))) x)).mpr (nbrs_lt gidx hg _ x))
    (congrArg (rowsOf feat) (lst7_read gidx (nx1 L (u64 k))).symm)) $$ [Hfeat H9 H7 Hv16 Hv17 Hv18]
  · iframe Hfeat H9 H7 Hv16 Hv17 Hv18
  iintro Hthree
  iapply (wp_start d (cV1 L) (jV1 L) (src := sfRow (k1_off4 L k 1#32) (k1_off4_inb L k 0)) (dst := b11) (fs := sf) (meanOf sf (nx1 L (u64 k))) (by decide) (View.set_whole _)
    (sf_read sf (nx1 L (u64 k)) _ (row_nx L k).2 _).symm) $$ [Hsf H11 Hv20]
  · iframe Hsf H11 Hv20
  iintro Hf11
  iapply Hk
  iframe Hgidx Hthree Hf11 Hr2 HO

set_option maxHeartbeats 4000000 in
/-- The first query of a trip summed; the second query's rows arrive; the next query's neighbours read. -/
theorem middle1 {α : Type} {Q : α → sProp (MT nD τ sig (HIx 3) (Elt F) ℕ UU ℕ)} {kk : (Σ' (_ : FVec F S16 .f32), FVec F S16 .f32) → Prog (TpuEff nD τ sig (Elt F) Λ₀ (.scVector (cV1 L) (jV1 L))) α}
    (k : Fin k1_t1_loop.trips) (x y : FVec F S16 .f32) (v v' : BitVec 32) :
    iprop(Transfers.MayWaits (V d (cV1 L) (jV1 L)) (none : HIx 3) O ∗ ((gidxV).view.loc (V d (cV1 L) (jV1 L)) ↦{qg} gidx) ∗ rows9 L d feat gidx qf (nx1 L (u64 k)) ∗ mean11 L d sf qs (nx1 L (u64 k)) ∗ (∃ f, ((b6).view.loc (V d (cV1 L) (jV1 L)) ↦{fullShare} f)) ∗ ((b8).view.loc (V d (cV1 L) (jV1 L)) ↦{fullShare} groupOf feat gidx (at1 L k.val)) ∗ ((b10).view.loc (V d (cV1 L) (jV1 L)) ↦{fullShare} meanOf sf (at1 L k.val)) ∗ semVal ((V d (cV1 L) (jV1 L)), SemLoc.dma cc1_scoped3.sem) 0 ∗ owesN (V d (cV1 L) (jV1 L)) O W)
      ⊢ iprop((iprop(((gidxV).view.loc (V d (cV1 L) (jV1 L)) ↦{qg} gidx) ∗ ((featV).view.loc (V d (cV1 L) (jV1 L)) ↦{qf} feat) ∗ ((sfV).view.loc (V d (cV1 L) (jV1 L)) ↦{qs} sf) ∗ ((b9).view.loc (V d (cV1 L) (jV1 L)) ↦{fullShare} groupOf feat gidx (nx1 L (u64 k))) ∗ ((b7).view.loc (V d (cV1 L) (jV1 L)) ↦{fullShare} lineOf gidx (nx1 L (u64 k))) ∗ ((b11).view.loc (V d (cV1 L) (jV1 L)) ↦{fullShare} meanOf sf (nx1 L (u64 k))) ∗ ((b6).view.loc (V d (cV1 L) (jV1 L)) ↦{fullShare} lineOf gidx (at1 L (k.val + 1))) ∗ ((b8).view.loc (V d (cV1 L) (jV1 L)) ↦{fullShare} groupOf feat gidx (at1 L k.val)) ∗ ((b10).view.loc (V d (cV1 L) (jV1 L)) ↦{fullShare} meanOf sf (at1 L k.val)) ∗ semVal ((V d (cV1 L) (jV1 L)), SemLoc.dma cc1_scratch10.sem) 0 ∗ semVal ((V d (cV1 L) (jV1 L)), SemLoc.dma cc1_scratch11.sem) 0 ∗ semVal ((V d (cV1 L) (jV1 L)), SemLoc.dma cc1_scratch12.sem) 0 ∗ semVal ((V d (cV1 L) (jV1 L)), SemLoc.dma cc1_scratch14.sem) 0 ∗ semVal ((V d (cV1 L) (jV1 L)), SemLoc.dma cc1_scoped3.sem) 0 ∗ owesN (V d (cV1 L) (jV1 L)) O W) -∗ wp frame (wpE (defs₀ (F := F)) 𝒱₀ (V d (cV1 L) (jV1 L)) none) Set.univ (kk ⟨(addGroup (groupOf feat gidx (at1 L k.val)) (meanOf sf (at1 L k.val)) (x, y)).1, (addGroup (groupOf feat gidx (at1 L k.val)) (meanOf sf (at1 L k.val)) (x, y)).2⟩) Q)
        -∗ wp frame (wpE (defs₀ (F := F)) 𝒱₀ (V d (cV1 L) (jV1 L)) none) Set.univ (k1_part2 L featV (Memref.isWhole_whole _) gidxV (Memref.isWhole_whole _) sfV (Memref.isWhole_whole _) partsV (Memref.isWhole_whole _) b6 (Memref.isWhole_whole _) b7 (Memref.isWhole_whole _) b8 (Memref.isWhole_whole _) b9 (Memref.isWhole_whole _) b10 (Memref.isWhole_whole _) b11 (Memref.isWhole_whole _) b12 (Memref.isWhole_whole _) cc1_scratch7 cc1_scratch8 cc1_scratch9 cc1_scratch10 cc1_scratch11 cc1_scratch12 cc1_scratch13 cc1_scratch14 cc1_scoped0 cc1_scoped1 cc1_scoped2 cc1_scoped3 cc1_scoped4 k x y v v' >>= kk) Q) := by
  rw [k1_part2_eq_skeleton]
  unfold k1_part2_skel
  simp only [bind_assoc, pure_bind]
  iintro ⟨#Hmw, Hgidx, Hthree, Hf11, ⟨%g6, H6⟩, H8, H10, Hr3, HO⟩ Hk
  iapply (sums2 L d k x y v v' (x, y) (meanOf sf (at1 L k.val)) (groupOf feat gidx (at1 L k.val))) $$ [H8 H10]
  · iframe H8 H10
  iintro ⟨H8, H10⟩
  iapply (wp_await_three (R := 24) inb_S24x384_S24x128_0_0 inb_S24x384_S24x128_0_128 inb_S24x384_S24x128_0_256 d (cV1 L) (jV1 L)
    (src := featV) (dst := b9) (offs := lst7) (View.set_whole _)) $$ [Hthree HO Hmw]
  · iframe Hthree HO Hmw
  iintro ⟨Hfeat, H9, H7, Hv16, Hv17, Hv18, HO⟩
  iapply (wp_await d (cV1 L) (jV1 L) rfl) $$ [Hf11 HO Hmw]
  · iframe Hf11 HO Hmw
  iintro ⟨⟨H11, Hsf⟩, Hv20, HO⟩
  iapply (wp_put d (cV1 L) (jV1 L) (src := gidxRow (k1_off3 L k 2#32) (k1_off3_inb L k 1)) (dst := b6) (fs := gidx) (lineOf gidx (at1 L (k.val + 1))) (by decide) (View.set_whole _)
    (gidx_read gidx (at1 L (k.val + 1)) _ (row_at L k).1 _).symm) $$ [Hgidx H6 Hr3 HO Hmw]
  · iframe Hgidx H6 Hr3 HO Hmw
  iintro ⟨Hgidx, H6, Hr3, HO⟩
  iapply Hk
  iframe Hgidx Hfeat Hsf H9 H7 H11 H6 H8 H10 Hv16 Hv17 Hv18 Hv20 Hr3 HO

set_option maxHeartbeats 4000000 in
/-- The second query of a trip summed; the next query's rows. -/
theorem back1 {α : Type} {Q : α → sProp (MT nD τ sig (HIx 3) (Elt F) ℕ UU ℕ)} {kk : (Σ' (_ : FVec F S16 .f32), FVec F S16 .f32) → Prog (TpuEff nD τ sig (Elt F) Λ₀ (.scVector (cV1 L) (jV1 L))) α} (hg : ∀ n (c : Fin 32), c.val < 24 → (gidx (ix2 n c)).toNat < 32768)
    (k : Fin k1_t1_loop.trips) (x y : FVec F S16 .f32) :
    iprop(Transfers.MayWaits (V d (cV1 L) (jV1 L)) (none : HIx 3) O ∗ ((featV).view.loc (V d (cV1 L) (jV1 L)) ↦{qf} feat) ∗ ((sfV).view.loc (V d (cV1 L) (jV1 L)) ↦{qs} sf) ∗ ((b9).view.loc (V d (cV1 L) (jV1 L)) ↦{fullShare} groupOf feat gidx (nx1 L (u64 k))) ∗ ((b11).view.loc (V d (cV1 L) (jV1 L)) ↦{fullShare} meanOf sf (nx1 L (u64 k))) ∗ ((b6).view.loc (V d (cV1 L) (jV1 L)) ↦{fullShare} lineOf gidx (at1 L (k.val + 1))) ∗ (∃ f, ((b8).view.loc (V d (cV1 L) (jV1 L)) ↦{fullShare} f)) ∗ (∃ f, ((b10).view.loc (V d (cV1 L) (jV1 L)) ↦{fullShare} f)) ∗ semVal ((V d (cV1 L) (jV1 L)), SemLoc.dma cc1_scratch7.sem) 0 ∗ semVal ((V d (cV1 L) (jV1 L)), SemLoc.dma cc1_scratch8.sem) 0 ∗ semVal ((V d (cV1 L) (jV1 L)), SemLoc.dma cc1_scratch9.sem) 0 ∗ semVal ((V d (cV1 L) (jV1 L)), SemLoc.dma cc1_scratch13.sem) 0 ∗ owesN (V d (cV1 L) (jV1 L)) O W)
      ⊢ iprop((iprop(((featV).view.loc (V d (cV1 L) (jV1 L)) ↦{qf} feat) ∗ mean10 L d sf qs (at1 L (k.val + 1)) ∗ ((b9).view.loc (V d (cV1 L) (jV1 L)) ↦{fullShare} groupOf feat gidx (nx1 L (u64 k))) ∗ ((b11).view.loc (V d (cV1 L) (jV1 L)) ↦{fullShare} meanOf sf (nx1 L (u64 k))) ∗ ((b6).view.loc (V d (cV1 L) (jV1 L)) ↦{fullShare} lineOf gidx (at1 L (k.val + 1))) ∗ ((b8).view.loc (V d (cV1 L) (jV1 L)) ↦{fullShare} groupOf feat gidx (at1 L (k.val + 1))) ∗ semVal ((V d (cV1 L) (jV1 L)), SemLoc.dma cc1_scratch7.sem) 0 ∗ semVal ((V d (cV1 L) (jV1 L)), SemLoc.dma cc1_scratch8.sem) 0 ∗ semVal ((V d (cV1 L) (jV1 L)), SemLoc.dma cc1_scratch9.sem) 0 ∗ owesN (V d (cV1 L) (jV1 L)) O W) -∗ wp frame (wpE (defs₀ (F := F)) 𝒱₀ (V d (cV1 L) (jV1 L)) none) Set.univ (kk ⟨(addGroup (groupOf feat gidx (nx1 L (u64 k))) (meanOf sf (nx1 L (u64 k))) (x, y)).1, (addGroup (groupOf feat gidx (nx1 L (u64 k))) (meanOf sf (nx1 L (u64 k))) (x, y)).2⟩) Q)
        -∗ wp frame (wpE (defs₀ (F := F)) 𝒱₀ (V d (cV1 L) (jV1 L)) none) Set.univ (k1_part3 L featV (Memref.isWhole_whole _) gidxV (Memref.isWhole_whole _) sfV (Memref.isWhole_whole _) partsV (Memref.isWhole_whole _) b6 (Memref.isWhole_whole _) b7 (Memref.isWhole_whole _) b8 (Memref.isWhole_whole _) b9 (Memref.isWhole_whole _) b10 (Memref.isWhole_whole _) b11 (Memref.isWhole_whole _) b12 (Memref.isWhole_whole _) cc1_scratch7 cc1_scratch8 cc1_scratch9 cc1_scratch10 cc1_scratch11 cc1_scratch12 cc1_scratch13 cc1_scratch14 cc1_scoped0 cc1_scoped1 cc1_scoped2 cc1_scoped3 cc1_scoped4 k x y >>= kk) Q) := by
  rw [k1_part3_eq_skeleton]
  unfold k1_part3_skel
  simp only [bind_assoc, pure_bind]
  iintro ⟨#Hmw, Hfeat, Hsf, H9, H11, H6, ⟨%g8, H8⟩, ⟨%g10, H10⟩, Hv13, Hv14, Hv15, Hv19, HO⟩ Hk
  iapply (wp_three (R := 24) inb_S24x384_S24x128_0_0 inb_S24x384_S24x128_0_128 inb_S24x384_S24x128_0_256 d (cV1 L) (jV1 L)
    (src := featV) (dst := b8) (offs := lst6) (fs := feat) (fo := lineOf gidx (at1 L (k.val + 1))) (groupOf feat gidx (at1 L (k.val + 1))) credit_b8 (by decide) (View.set_whole _)
    (fun x => (congrArg (fun b => b.toNat < 32768) (congrFun (lst6_read gidx (at1 L (k.val + 1))) x)).mpr (nbrs_lt gidx hg _ x))
    (congrArg (rowsOf feat) (lst6_read gidx (at1 L (k.val + 1))).symm)) $$ [Hfeat H8 H6 Hv13 Hv14 Hv15]
  · iframe Hfeat H8 H6 Hv13 Hv14 Hv15
  iintro Hthree
  iapply (wp_start d (cV1 L) (jV1 L) (src := sfRow (k1_off4 L k 2#32) (k1_off4_inb L k 1)) (dst := b10) (fs := sf) (meanOf sf (at1 L (k.val + 1))) (by decide) (View.set_whole _)
    (sf_read sf (at1 L (k.val + 1)) _ (row_at L k).2 _).symm) $$ [Hsf H10 Hv19]
  · iframe Hsf H10 Hv19
  iintro Hf10
  iapply (sums4 L d k x y (x, y) (meanOf sf (nx1 L (u64 k))) (groupOf feat gidx (nx1 L (u64 k)))) $$ [H9 H11]
  · iframe H9 H11
  iintro ⟨H9, H11⟩
  iapply (wp_await_three (R := 24) inb_S24x384_S24x128_0_0 inb_S24x384_S24x128_0_128 inb_S24x384_S24x128_0_256 d (cV1 L) (jV1 L)
    (src := featV) (dst := b8) (offs := lst6) (View.set_whole _)) $$ [Hthree HO Hmw]
  · iframe Hthree HO Hmw
  iintro ⟨Hfeat, H8, H6, Hv13, Hv14, Hv15, HO⟩
  iapply Hk
  iframe Hfeat Hf10 H9 H11 H6 H8 Hv13 Hv14 Hv15 HO

set_option maxHeartbeats 8000000 in
theorem trip1 (hg : ∀ n (c : Fin 32), c.val < 24 → (gidx (ix2 n c)).toNat < 32768) (v2 : FVec F S16 .f32) (v3 v5 : BitVec 32) (k : Fin k1_t1_loop.trips) (acc : FVec F S16 .f32 × FVec F S16 .f32) :
    inv1 L d O W feat gidx sf qf qg qs k.val acc
      ⊢ wp frame (wpE (defs₀ (F := F)) 𝒱₀ (V d (cV1 L) (jV1 L)) none) Set.univ (k1_t1_body L featV (Memref.isWhole_whole _) gidxV (Memref.isWhole_whole _) sfV (Memref.isWhole_whole _) partsV (Memref.isWhole_whole _) b6 (Memref.isWhole_whole _) b7 (Memref.isWhole_whole _) b8 (Memref.isWhole_whole _) b9 (Memref.isWhole_whole _) b10 (Memref.isWhole_whole _) b11 (Memref.isWhole_whole _) b12 (Memref.isWhole_whole _) cc1_scratch7 cc1_scratch8 cc1_scratch9 cc1_scratch10 cc1_scratch11 cc1_scratch12 cc1_scratch13 cc1_scratch14 cc1_scoped0 cc1_scoped1 cc1_scoped2 cc1_scoped3 cc1_scoped4 v2 v3 v5 k acc) (inv1 L d O W feat gidx sf qf qg qs (k.val + 1)) := by
  obtain ⟨x, y⟩ := acc
  unfold inv1
  unfold k1_t1_body
  iintro ⟨%hacc, #Hmw, Hfeat, Hgidx, Hsf, H6, H7, H8, H9, H10, H11, Hv13, Hv14, Hv15, Hv16, Hv17, Hv18, Hv19, Hv20, Hr2, Hr3, HO⟩
  iapply (front1 L d O W feat gidx sf qf qg qs hg v3 v5 k) $$ [Hfeat Hgidx Hsf H7 H9 H11 Hv16 Hv17 Hv18 Hv20 Hr2 HO]
  · iframe Hmw Hfeat Hgidx Hsf H7 H9 H11 Hv16 Hv17 Hv18 Hv20 Hr2 HO
  iintro ⟨Hgidx, Hthree, Hf11, Hr2, HO⟩
  iapply (middle1 L d O W feat gidx sf qf qg qs k x y _ _) $$ [Hgidx Hthree Hf11 H6 H8 H10 Hr3 HO]
  · iframe Hmw Hgidx Hthree Hf11 H6 H8 H10 Hr3 HO
  iintro ⟨Hgidx, Hfeat, Hsf, H9, H7, H11, H6, H8, H10, Hv16, Hv17, Hv18, Hv20, Hr3, HO⟩
  ihave H8 := (held_some _) $$ H8
  ihave H10 := (held_some _) $$ H10
  iapply (back1 L d O W feat gidx sf qf qs hg k _ _) $$ [Hfeat Hsf H9 H11 H6 H8 H10 Hv13 Hv14 Hv15 Hv19 HO]
  · iframe Hmw Hfeat Hsf H9 H11 H6 H8 H10 Hv13 Hv14 Hv15 Hv19 HO
  iintro ⟨Hfeat, Hf10, H9, H11, H6, H8, Hv13, Hv14, Hv15, HO⟩
  iapply (wp_await d (cV1 L) (jV1 L) rfl) $$ [Hf10 HO Hmw]
  · iframe Hf10 HO Hmw
  iintro ⟨⟨H10, Hsf⟩, Hv19, HO⟩
  sl_step
  ihave H6 := (held_some _) $$ H6
  ihave H7 := (held_some _) $$ H7
  ihave H9 := (held_some _) $$ H9
  ihave H11 := (held_some _) $$ H11
  iframe Hmw Hfeat Hgidx Hsf H6 H7 H8 H9 H10 H11 Hv13 Hv14 Hv15 Hv16 Hv17 Hv18 Hv19 Hv20 Hr2 Hr3 HO
  ipureintro
  exact Eq.trans (congrArg (fun q => addGroup (groupOf feat gidx (nx1 L (u64 k))) (meanOf sf (nx1 L (u64 k))) (addGroup (groupOf feat gidx (at1 L k.val)) (meanOf sf (at1 L k.val)) q)) hacc) (sums_trip L feat gidx sf (u64 k)).symm

end Trip

end Cert.Proof.Tiles

end
-- ==== Proof.StatsTile.lean ====
/-
  The second SparseCore call at one tile, from its operands to its row of sums written (`tile1`): the first query's rows
  (`first1`), the main loop, and the sums over the lanes (`flip_step`, `lanes1`).
-/
module

public import proofs.«01_k».proof.Proof.Stats

@[expose] public section

noncomputable section

namespace Cert.Proof.Tiles

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 3) (Elt F) ℕ UU ℕ

/-! ## Sums over the lanes -/

section Lanes
variable [FloatOps F]

/-- Every lane's value from the lane whose number differs by `sh`; a vector and that one added. -/
def swp (sh : Fin 16) (v : S16.Idx → Elt F .f32) : S16.Idx → Elt F .f32 := fun x =>
  v (ix1 ⟨(x 0).val ^^^ sh.val, Nat.xor_lt_two_pow (n := 4) (x 0).isLt sh.isLt⟩)
def flip1 (sh : Fin 16) (v : S16.Idx → Elt F .f32) : S16.Idx → Elt F .f32 := fun x => FloatOps.addf (φ := .f32) (v x) (swp sh v x)
/-- Every lane the sum of all. -/
def allLanes (v : S16.Idx → Elt F .f32) : S16.Idx → Elt F .f32 := flip1 1 (flip1 2 (flip1 4 (flip1 8 v)))
/-- A tile's row of the result: the sum of the differences in lane 0, that of their squares in lane 1, and zeros. -/
def rowOf (p : FVec F S16 .f32 × FVec F S16 .f32) : S16.Idx → Elt F .f32 := fun x =>
  if (x 0).val = 1 then allLanes p.2 x else if (x 0).val = 0 then allLanes p.1 x else k1_pay8 x
/-- The result of the call. -/
def partsVal (feat : S32768x384.Idx → Elt F .f32) (gidx : S4096x32.Idx → Elt F .i32) (sf : S4096x384.Idx → Elt F .f32) : S32x16.Idx → Elt F .f32 := fun x =>
  rowOf (sumsTo feat gidx sf (x 0) 128) (ix1 (x 1))
theorem partsVal_row (feat : S32768x384.Idx → Elt F .f32) (gidx : S4096x32.Idx → Elt F .i32) (sf : S4096x384.Idx → Elt F .f32) (w : Fin 32) :
    (fun x : S16.Idx => partsVal feat gidx sf (ix2 w (x 0))) = rowOf ((sumsTo feat gidx sf w 128).1, (sumsTo feat gidx sf w 128).2) := by
  funext x
  show rowOf (sumsTo feat gidx sf w 128) (ix1 (x 0)) = rowOf (sumsTo feat gidx sf w 128) x
  rw [← eq_ix1 x]
end Lanes

theorem lane_flip (sh : Fin 16) (x : S16.Idx) : (xori (iota .scVector S16 32 [0] iota_S16_d0_w32_scVector) (broadcast S16 (BitVec.ofNat 32 sh.val)) x : BitVec 32).toNat = (x 0).val ^^^ sh.val := by
  have key : ∀ (s k : Fin 16), (xori (iota .scVector S16 32 [0] iota_S16_d0_w32_scVector) (broadcast S16 (BitVec.ofNat 32 s.val)) (ix1 k) : BitVec 32).toNat = k.val ^^^ s.val := by decide
  rw [eq_ix1 x]; exact key sh (x 0)

theorem loadIdx_swp (sh : Fin 16) (w : IVec S16 32) (hw : ∀ x, (w x).toNat = (x 0).val ^^^ sh.val) (v : S16.Idx → Elt F .f32)
    (h : ∀ a x, ((![w] : Fin 1 → IVec S16 32) a x).toNat < S16.size a) : loadIdx v ![w] h = swp sh v := by
  funext x
  unfold loadIdx swp
  refine congrArg v (funext fun a => Fin.ext ?_)
  match a with
  | ⟨0, _⟩ => exact hw x

/-- What the last two choices make of the two sums. -/
theorem row_pay [FloatOps F] (p q v67 v71 : FVec F S16 .f32) (h1 : ∀ x, FloatOps.addf (φ := .f32) (v67 x) (v71 x) = allLanes q x)
    (v33 v37 v42 v47 : FVec F S16 .f32) (h0 : ∀ x, FloatOps.addf (φ := .f32) (k1_pay15 v33 v37 v42 x) (v47 x) = allLanes p x) :
    k1_pay1 (k1_pay17 k1_pay9 v33 v37 v42 v47) (k1_pay18 (iota .scVector S16 32 [0] iota_S16_d0_w32_scVector)) v67 v71 = rowOf (p, q) := by
  have c1 : ∀ k : Fin 16, k1_pay18 (iota .scVector S16 32 [0] iota_S16_d0_w32_scVector) (ix1 k) = if k.val = 1 then 1#1 else 0#1 := by decide
  have c0 : ∀ k : Fin 16, k1_pay9 (ix1 k) = if k.val = 0 then 1#1 else 0#1 := by decide
  funext x
  show Scalar.select (k1_pay18 (iota .scVector S16 32 [0] iota_S16_d0_w32_scVector) x) (FloatOps.addf (φ := .f32) (v67 x) (v71 x))
    (Scalar.select (k1_pay9 x) (FloatOps.addf (φ := .f32) (k1_pay15 v33 v37 v42 x) (v47 x)) (k1_pay8 (F := F) x)) = _
  rw [h1, h0]
  have e := eq_ix1 x
  have d1 : k1_pay18 (iota .scVector S16 32 [0] iota_S16_d0_w32_scVector) x = if (x 0).val = 1 then 1#1 else 0#1 := by rw [e]; exact c1 (x 0)
  have d0 : k1_pay9 x = if (x 0).val = 0 then 1#1 else 0#1 := by rw [e]; exact c0 (x 0)
  rw [d1, d0]
  unfold rowOf
  by_cases k1 : (x 0).val = 1
  · simp [k1, Scalar.select]
  · by_cases k0 : (x 0).val = 0
    · simp [k0, Scalar.select]
    · simp [k1, k0, Scalar.select]

/-! ## The windows of the result -/

abbrev partsL (d : Dev nD) : Loc nD τ sig := (T d : Thread nD τ).loc main_v21
def partsWin (w : Fin 32) : Finset S32x16.Idx := Finset.univ.filter fun x => (x 0).val = w.val

/-- What a tile holds of the second call's arrays. -/
def res1 (d : Dev nD) (w : Fin 32) (feat : S32768x384.Idx → Elt F .f32) (gidx : S4096x32.Idx → Elt F .i32) (sf : S4096x384.Idx → Elt F .f32)
    (parts : S32x16.Idx → Elt F .f32) : sProp (MT nD τ sig (HIx 3) (Elt F) ℕ UU ℕ) := iprop(
  (featL d ↦{rd w} feat) ∗ (gidxL d ↦{rd w} gidx) ∗ (sfL d ↦{rd w} sf) ∗ (partsL d ↦[partsWin w]{fullShare} parts))

variable (L : grid1.Coords)

local notation "featV" => (Memref.whole main_v0_scv : Memref sig Kind.scVector Space.hbm S32768x384 EltTy.f32)
local notation "gidxV" => (Memref.whole main_v20_scv : Memref sig Kind.scVector Space.hbm S4096x32 EltTy.i32)
local notation "sfV" => (Memref.whole main_v10_0_scv : Memref sig Kind.scVector Space.hbm S4096x384 EltTy.f32)
local notation "partsV" => (Memref.whole main_v21_scv : Memref sig Kind.scVector Space.hbm S32x16 EltTy.f32)
local notation "b6" => (Memref.whole cc1_scratch0 : Memref sig Kind.scVector Space.vmem S32 EltTy.i32)
local notation "b7" => (Memref.whole cc1_scratch1 : Memref sig Kind.scVector Space.vmem S32 EltTy.i32)
local notation "b8" => (Memref.whole cc1_scratch2 : Memref sig Kind.scVector Space.vmem S24x384 EltTy.f32)
local notation "b9" => (Memref.whole cc1_scratch3 : Memref sig Kind.scVector Space.vmem S24x384 EltTy.f32)
local notation "b10" => (Memref.whole cc1_scratch4 : Memref sig Kind.scVector Space.vmem S384 EltTy.f32)
local notation "b11" => (Memref.whole cc1_scratch5 : Memref sig Kind.scVector Space.vmem S384 EltTy.f32)
local notation "b12" => (Memref.whole cc1_scratch6 : Memref sig Kind.scVector Space.vmem S16 EltTy.f32)

theorem parts_set (off : Fin 2 → ℕ) (ho : off = ![(w1 L).val, 0]) (inb : ∀ a, off a + S1x16.size a ≤ S32x16.size a) :
    (((partsV).slice (Rect.unit (s := S32x16) off S1x16.size inb) (fun _ => rfl)).squeeze S16 squeezes_S1x16_S16).view.set = partsWin (w1 L) := by
  refine (View.set_reshape _ _).trans ((View.set_slice_whole _ _).trans ?_)
  subst ho
  ext x
  have h0 : (x 0).val < 32 := (x 0).isLt
  have h1 : (x 1).val < 16 := (x 1).isLt
  refine (Rect.mem_set_unit (s := S32x16)).trans (Iff.trans ?_ (Finset.mem_filter_univ x).symm)
  constructor
  · intro h
    have h := h 0
    simp only [Matrix.cons_val_zero] at h
    show (x 0).val = (w1 L).val
    simp at h; omega
  · intro h a
    have e : (x 0).val = (w1 L).val := h
    match a with
    | ⟨0, _⟩ => simp at e ⊢; omega
    | ⟨1, _⟩ => simp; omega

theorem parts_read (f : S32x16.Idx → Elt F .f32) (n : Fin 32) (off : Fin 2 → ℕ) (ho : off = ![n.val, 0]) (inb : ∀ a, off a + S1x16.size a ≤ S32x16.size a) :
    (((partsV).slice (Rect.unit (s := S32x16) off S1x16.size inb) (fun _ => rfl)).squeeze S16 squeezes_S1x16_S16).view.read (Elt F) f = fun x => f (ix2 n (x 0)) :=
  funext fun x => congrArg f (line_emb off n ho inb _ x)

theorem off_parts : k1_off9 L = ![(w1 L).val, 0] := k1_off9_eq L

section Steps
variable [FloatOps F] (d : Dev nD)

theorem store_whole (f v : S16.Idx → Elt F .f32) :
    (b12).view.writes (Elt F) f [⟨(Rect.unit (s := S16) ![0] S16.size inb_S16_S16_0), v⟩] = v := by
  funext x
  refine View.read_writes_cons_hit_of_coords (b12).view f (Rect.unit (s := S16) ![0] S16.size inb_S16_S16_0) v [] x x ?_
  intro a
  match a with
  | ⟨0, _⟩ => simp [Rect.unit]

/-- The scratch vector overwritten. -/
theorem wp_over {α : Type} {Q : α → sProp (MT nD τ sig (HIx 3) (Elt F) ℕ UU ℕ)} {kk : PUnit → Prog (TpuEff nD τ sig (Elt F) Λ₀ (.scVector (cV1 L) (jV1 L))) α} {v : S16.Idx → Elt F .f32} {hl hx hm} {f : S16.Idx → Elt F .f32} :
    ((b12).view.loc (V d (cV1 L) (jV1 L)) ↦{fullShare} f) ⊢ iprop((((b12).view.loc (V d (cV1 L) (jV1 L)) ↦{fullShare} v) -∗ wp frame (wpE (defs₀ (F := F)) 𝒱₀ (V d (cV1 L) (jV1 L)) none) Set.univ (kk ⟨⟩) Q)
      -∗ wp frame (wpE (defs₀ (F := F)) 𝒱₀ (V d (cV1 L) (jV1 L)) none) Set.univ (Prog.lift (TpuEff.load b12 (Rect.unit (s := S16) ![0] S16.size inb_S16_S16_0).toLoadRect hl) >>= fun _ : Vec F S16 .f32 => Prog.lift (TpuEff.store b12 (Rect.unit (s := S16) ![0] S16.size inb_S16_S16_0) v Finset.univ hx hm) >>= kk) Q) := by
  iintro H Hk
  iapply (wp_ld d (cV1 L) (jV1 L) (m := b12) (r := (Rect.unit (s := S16) ![0] S16.size inb_S16_S16_0)) (f := f)) $$ H
  iintro H
  ihave H := (Entails.of_eq (congrArg (fun h : S16.Idx → Elt F .f32 => (((b12).view.loc (V d (cV1 L) (jV1 L)) ↦{fullShare} h) : sProp (MT nD τ sig (HIx 3) (Elt F) ℕ UU ℕ))) (View.writes_nil (b12).view f).symm)) $$ H
  iapply (wp_st d (cV1 L) (jV1 L) (m := b12) (r := (Rect.unit (s := S16) ![0] S16.size inb_S16_S16_0)) (f := f) (L := [])) $$ H
  iintro H
  ihave H := (Entails.of_eq (congrArg (fun h : S16.Idx → Elt F .f32 => (((b12).view.loc (V d (cV1 L) (jV1 L)) ↦{fullShare} h) : sProp (MT nD τ sig (HIx 3) (Elt F) ℕ UU ℕ))) (store_whole f v))) $$ H
  iapply Hk
  iexact H

/-- A checked load of the scratch vector at the lanes flipped. -/
theorem wp_flip {α : Type} {Q : α → sProp (MT nD τ sig (HIx 3) (Elt F) ℕ UU ℕ)} (sh : Fin 16) {C : Prop} {dec : Decidable C} {w : IVec S16 32} {hin : C → ∀ a x, ((![w] : Fin 1 → IVec S16 32) a x).toNat < S16.size a} {hl}
    {kk : Vec F S16 .f32 → Prog (TpuEff nD τ sig (Elt F) Λ₀ (.scVector (cV1 L) (jV1 L))) α} {v : S16.Idx → Elt F .f32} (h : C) (hw : ∀ x, (w x).toNat = (x 0).val ^^^ sh.val) :
    ((b12).view.loc (V d (cV1 L) (jV1 L)) ↦{fullShare} v) ⊢ iprop((((b12).view.loc (V d (cV1 L) (jV1 L)) ↦{fullShare} v) -∗ wp frame (wpE (defs₀ (F := F)) 𝒱₀ (V d (cV1 L) (jV1 L)) none) Set.univ (kk (swp sh v)) Q)
      -∗ wp frame (wpE (defs₀ (F := F)) 𝒱₀ (V d (cV1 L) (jV1 L)) none) Set.univ (Prog.lift (TpuEff.assume C dec) >>= fun hh => SparseCore.vectorLoadIdx b12 ![w] (hin hh.down) hl >>= kk) Q) := by
  iintro H Hk
  iapply (wp_check d (cV1 L) (jV1 L) h)
  iapply (wp_gload d (cV1 L) (jV1 L) (base := b12) (f := v) v (Memref.read_access_whole (Elt F) cc1_scratch6 _)) $$ H
  rw [loadIdx_swp sh w hw]
  iintro H
  iapply Hk
  iexact H

end Steps

theorem chk_flip (sh : Fin 16) (w : IVec S16 32) (hw : ∀ x, (w x).toNat = (x 0).val ^^^ sh.val) : ∀ (a : Fin 1) (x : S16.Idx), ((![w] : Fin 1 → IVec S16 32) a x).toNat < S16.size a := by
  intro a x
  match a with
  | ⟨0, _⟩ => exact (hw x).trans_lt (Nat.xor_lt_two_pow (n := 4) (x 0).isLt sh.isLt)

section Tile

variable [FloatOps F] (d : Dev nD) (O : CellTallies nD τ sig (HIx 3)) (W : Waits sig (HIx 3))
  (feat : S32768x384.Idx → Elt F .f32) (gidx : S4096x32.Idx → Elt F .i32) (sf : S4096x384.Idx → Elt F .f32)
  (qf qg qs : PosShare TreeShare)

theorem row_first : k1_off1 L = ![(at1 L 0).val, 0] ∧ k1_off2 L = ![(at1 L 0).val, 0] := by
  have e : 256 * (L 1).val + 128 * (L 0).val = (at1 L 0).val := by
    show _ = 128 * (2 * (L 1).val + (L 0).val) + min (2 * 0) 127; omega
  exact ⟨(k1_off1_eq L).trans (by rw [e]), (k1_off2_eq L).trans (by rw [e])⟩

set_option maxHeartbeats 4000000 in
/-- The first query: its neighbours read, its rows on their way. -/
theorem first1 {α : Type} {Q : α → sProp (MT nD τ sig (HIx 3) (Elt F) ℕ UU ℕ)} {kk : (Σ' (_ : FVec F S16 .f32) (_ : BitVec 32), BitVec 32) → Prog (TpuEff nD τ sig (Elt F) Λ₀ (.scVector (cV1 L) (jV1 L))) α} (hg : ∀ n (c : Fin 32), c.val < 24 → (gidx (ix2 n c)).toNat < 32768)
     :
    iprop(Transfers.MayWaits (V d (cV1 L) (jV1 L)) (none : HIx 3) O ∗ ((featV).view.loc (V d (cV1 L) (jV1 L)) ↦{qf} feat) ∗ ((gidxV).view.loc (V d (cV1 L) (jV1 L)) ↦{qg} gidx) ∗ (∃ f, ((b6).view.loc (V d (cV1 L) (jV1 L)) ↦{fullShare} f)) ∗ (∃ f, ((b8).view.loc (V d (cV1 L) (jV1 L)) ↦{fullShare} f)) ∗ semVal ((V d (cV1 L) (jV1 L)), SemLoc.dma cc1_scratch7.sem) 0 ∗ semVal ((V d (cV1 L) (jV1 L)), SemLoc.dma cc1_scratch8.sem) 0 ∗ semVal ((V d (cV1 L) (jV1 L)), SemLoc.dma cc1_scratch9.sem) 0 ∗ semVal ((V d (cV1 L) (jV1 L)), SemLoc.dma cc1_scoped0.sem) 0 ∗ owesN (V d (cV1 L) (jV1 L)) O W)
      ⊢ iprop((iprop(((gidxV).view.loc (V d (cV1 L) (jV1 L)) ↦{qg} gidx) ∗ rows8 L d feat gidx qf (at1 L 0) ∗ semVal ((V d (cV1 L) (jV1 L)), SemLoc.dma cc1_scoped0.sem) 0 ∗ owesN (V d (cV1 L) (jV1 L)) O W) -∗ wp frame (wpE (defs₀ (F := F)) 𝒱₀ (V d (cV1 L) (jV1 L)) none) Set.univ (kk ⟨k1_pay8, (Scalar.muli (Scalar.addi (Scalar.muli (BitVec.ofNat 32 (L 1).val) 2#32) (BitVec.ofNat 32 (L 0).val)) 128#32), (Scalar.subi (Scalar.addi (Scalar.muli (Scalar.addi (Scalar.muli (BitVec.ofNat 32 (L 1).val) 2#32) (BitVec.ofNat 32 (L 0).val)) 128#32) 128#32) 1#32)⟩) Q)
        -∗ wp frame (wpE (defs₀ (F := F)) 𝒱₀ (V d (cV1 L) (jV1 L)) none) Set.univ (k1_part4 L featV (Memref.isWhole_whole _) gidxV (Memref.isWhole_whole _) sfV (Memref.isWhole_whole _) partsV (Memref.isWhole_whole _) b6 (Memref.isWhole_whole _) b7 (Memref.isWhole_whole _) b8 (Memref.isWhole_whole _) b9 (Memref.isWhole_whole _) b10 (Memref.isWhole_whole _) b11 (Memref.isWhole_whole _) b12 (Memref.isWhole_whole _) cc1_scratch7 cc1_scratch8 cc1_scratch9 cc1_scratch10 cc1_scratch11 cc1_scratch12 cc1_scratch13 cc1_scratch14 cc1_scoped0 cc1_scoped1 cc1_scoped2 cc1_scoped3 cc1_scoped4 >>= kk) Q) := by
  rw [k1_part4_eq_skeleton]
  unfold k1_part4_skel
  simp only [bind_assoc, pure_bind]
  iintro ⟨#Hmw, Hfeat, Hgidx, ⟨%g6, H6⟩, ⟨%g8, H8⟩, Hv13, Hv14, Hv15, Hr0, HO⟩ Hk
  iapply (wp_put d (cV1 L) (jV1 L) (src := gidxRow (k1_off1 L) (k1_off1_inb L)) (dst := b6) (fs := gidx) (lineOf gidx (at1 L 0)) (by decide) (View.set_whole _)
    (gidx_read gidx (at1 L 0) _ (row_first L).1 _).symm) $$ [Hgidx H6 Hr0 HO Hmw]
  · iframe Hgidx H6 Hr0 HO Hmw
  iintro ⟨Hgidx, H6, Hr0, HO⟩
  iapply (wp_three (R := 24) inb_S24x384_S24x128_0_0 inb_S24x384_S24x128_0_128 inb_S24x384_S24x128_0_256 d (cV1 L) (jV1 L)
    (src := featV) (dst := b8) (offs := lst6) (fs := feat) (fo := lineOf gidx (at1 L 0)) (groupOf feat gidx (at1 L 0)) credit_b8 (by decide) (View.set_whole _)
    (fun x => (congrArg (fun b => b.toNat < 32768) (congrFun (lst6_read gidx (at1 L 0)) x)).mpr (nbrs_lt gidx hg _ x))
    (congrArg (rowsOf feat) (lst6_read gidx (at1 L 0)).symm)) $$ [Hfeat H8 H6 Hv13 Hv14 Hv15]
  · iframe Hfeat H8 H6 Hv13 Hv14 Hv15
  iintro Hthree
  iapply Hk
  iframe Hgidx Hthree Hr0 HO

set_option maxHeartbeats 4000000 in
/-- The rows of the first query arrive; the main loop; the first of the sums over the lanes. -/
theorem loop1 {α : Type} {Q : α → sProp (MT nD τ sig (HIx 3) (Elt F) ℕ UU ℕ)} {kk : (Σ' (_ : FVec F S16 .f32) (_ : IVec S16 32) (_ : IVec S16 1) (_ : FVec F S16 .f32), IVec S16 32) → Prog (TpuEff nD τ sig (Elt F) Λ₀ (.scVector (cV1 L) (jV1 L))) α} (hg : ∀ n (c : Fin 32), c.val < 24 → (gidx (ix2 n c)).toNat < 32768)
    (v3 v5 : BitVec 32) :
    iprop(Transfers.MayWaits (V d (cV1 L) (jV1 L)) (none : HIx 3) O ∗ ((gidxV).view.loc (V d (cV1 L) (jV1 L)) ↦{qg} gidx) ∗ ((sfV).view.loc (V d (cV1 L) (jV1 L)) ↦{qs} sf) ∗ rows8 L d feat gidx qf (at1 L 0) ∗ (∃ f, ((b7).view.loc (V d (cV1 L) (jV1 L)) ↦{fullShare} f)) ∗ (∃ f, ((b9).view.loc (V d (cV1 L) (jV1 L)) ↦{fullShare} f)) ∗ (∃ f, ((b10).view.loc (V d (cV1 L) (jV1 L)) ↦{fullShare} f)) ∗ (∃ f, ((b11).view.loc (V d (cV1 L) (jV1 L)) ↦{fullShare} f)) ∗ (∃ f, ((b12).view.loc (V d (cV1 L) (jV1 L)) ↦{fullShare} f)) ∗ semVal ((V d (cV1 L) (jV1 L)), SemLoc.dma cc1_scratch10.sem) 0 ∗ semVal ((V d (cV1 L) (jV1 L)), SemLoc.dma cc1_scratch11.sem) 0 ∗ semVal ((V d (cV1 L) (jV1 L)), SemLoc.dma cc1_scratch12.sem) 0 ∗ semVal ((V d (cV1 L) (jV1 L)), SemLoc.dma cc1_scratch13.sem) 0 ∗ semVal ((V d (cV1 L) (jV1 L)), SemLoc.dma cc1_scratch14.sem) 0 ∗ semVal ((V d (cV1 L) (jV1 L)), SemLoc.dma cc1_scoped1.sem) 0 ∗ semVal ((V d (cV1 L) (jV1 L)), SemLoc.dma cc1_scoped2.sem) 0 ∗ semVal ((V d (cV1 L) (jV1 L)), SemLoc.dma cc1_scoped3.sem) 0 ∗ owesN (V d (cV1 L) (jV1 L)) O W)
      ⊢ iprop((iprop(((featV).view.loc (V d (cV1 L) (jV1 L)) ↦{qf} feat) ∗ ((gidxV).view.loc (V d (cV1 L) (jV1 L)) ↦{qg} gidx) ∗ ((sfV).view.loc (V d (cV1 L) (jV1 L)) ↦{qs} sf) ∗ (∃ f, ((b6).view.loc (V d (cV1 L) (jV1 L)) ↦{fullShare} f)) ∗ (∃ f, ((b7).view.loc (V d (cV1 L) (jV1 L)) ↦{fullShare} f)) ∗ (∃ f, ((b8).view.loc (V d (cV1 L) (jV1 L)) ↦{fullShare} f)) ∗ (∃ f, ((b9).view.loc (V d (cV1 L) (jV1 L)) ↦{fullShare} f)) ∗ (∃ f, ((b10).view.loc (V d (cV1 L) (jV1 L)) ↦{fullShare} f)) ∗ (∃ f, ((b11).view.loc (V d (cV1 L) (jV1 L)) ↦{fullShare} f)) ∗ ((b12).view.loc (V d (cV1 L) (jV1 L)) ↦{fullShare} (flip1 8 (sumsTo feat gidx sf (w1 L) 128).1)) ∗ semVal ((V d (cV1 L) (jV1 L)), SemLoc.dma cc1_scratch7.sem) 0 ∗ semVal ((V d (cV1 L) (jV1 L)), SemLoc.dma cc1_scratch8.sem) 0 ∗ semVal ((V d (cV1 L) (jV1 L)), SemLoc.dma cc1_scratch9.sem) 0 ∗ semVal ((V d (cV1 L) (jV1 L)), SemLoc.dma cc1_scratch10.sem) 0 ∗ semVal ((V d (cV1 L) (jV1 L)), SemLoc.dma cc1_scratch11.sem) 0 ∗ semVal ((V d (cV1 L) (jV1 L)), SemLoc.dma cc1_scratch12.sem) 0 ∗ semVal ((V d (cV1 L) (jV1 L)), SemLoc.dma cc1_scratch13.sem) 0 ∗ semVal ((V d (cV1 L) (jV1 L)), SemLoc.dma cc1_scratch14.sem) 0 ∗ semVal ((V d (cV1 L) (jV1 L)), SemLoc.dma cc1_scoped1.sem) 0 ∗ semVal ((V d (cV1 L) (jV1 L)), SemLoc.dma cc1_scoped2.sem) 0 ∗ semVal ((V d (cV1 L) (jV1 L)), SemLoc.dma cc1_scoped3.sem) 0 ∗ owesN (V d (cV1 L) (jV1 L)) O W) -∗ wp frame (wpE (defs₀ (F := F)) 𝒱₀ (V d (cV1 L) (jV1 L)) none) Set.univ (kk ⟨(sumsTo feat gidx sf (w1 L) 128).2, (iota .scVector S16 32 [0] iota_S16_d0_w32_scVector), k1_pay9, flip1 8 (sumsTo feat gidx sf (w1 L) 128).1, k1_pay12⟩) Q)
        -∗ wp frame (wpE (defs₀ (F := F)) 𝒱₀ (V d (cV1 L) (jV1 L)) none) Set.univ (k1_part5 L featV (Memref.isWhole_whole _) gidxV (Memref.isWhole_whole _) sfV (Memref.isWhole_whole _) partsV (Memref.isWhole_whole _) b6 (Memref.isWhole_whole _) b7 (Memref.isWhole_whole _) b8 (Memref.isWhole_whole _) b9 (Memref.isWhole_whole _) b10 (Memref.isWhole_whole _) b11 (Memref.isWhole_whole _) b12 (Memref.isWhole_whole _) cc1_scratch7 cc1_scratch8 cc1_scratch9 cc1_scratch10 cc1_scratch11 cc1_scratch12 cc1_scratch13 cc1_scratch14 cc1_scoped0 cc1_scoped1 cc1_scoped2 cc1_scoped3 cc1_scoped4 k1_pay8 v3 v5 >>= kk) Q) := by
  rw [k1_part5_eq_skeleton]
  unfold k1_part5_skel
  simp only [bind_assoc, pure_bind]
  iintro ⟨#Hmw, Hgidx, Hsf, Hthree, H7, H9, ⟨%g10, H10⟩, H11, ⟨%g12, H12⟩, Hv16, Hv17, Hv18, Hv19, Hv20, Hr1, Hr2, Hr3, HO⟩ Hk
  iapply (wp_put d (cV1 L) (jV1 L) (src := sfRow (k1_off2 L) (k1_off2_inb L)) (dst := b10) (fs := sf) (meanOf sf (at1 L 0)) (by decide) (View.set_whole _)
    (sf_read sf (at1 L 0) _ (row_first L).2 _).symm) $$ [Hsf H10 Hr1 HO Hmw]
  · iframe Hsf H10 Hr1 HO Hmw
  iintro ⟨Hsf, H10, Hr1, HO⟩
  iapply (wp_await_three (R := 24) inb_S24x384_S24x128_0_0 inb_S24x384_S24x128_0_128 inb_S24x384_S24x128_0_256 d (cV1 L) (jV1 L)
    (src := featV) (dst := b8) (offs := lst6) (View.set_whole _)) $$ [Hthree HO Hmw]
  · iframe Hthree HO Hmw
  iintro ⟨Hfeat, H8, H6, Hv13, Hv14, Hv15, HO⟩
  ihave H6 := (held_some _) $$ H6
  iapply (Scf.wp_for_bind frame (wpE (defs₀ (F := F)) 𝒱₀ (V d (cV1 L) (jV1 L)) none) Set.univ _ _ _ k1_t1_ok _ _ (I := inv1 L d O W feat gidx sf qf qg qs)
    (fun k acc => trip1 L d O W feat gidx sf qf qg qs hg k1_pay8 v3 v5 k acc)) $$ [Hfeat Hgidx Hsf H6 H7 H8 H9 H10 H11 Hv13 Hv14 Hv15 Hv16 Hv17 Hv18 Hv19 Hv20 Hr2 Hr3 HO]
  · unfold inv1
    iframe Hmw Hfeat Hgidx Hsf H6 H7 H8 H9 H10 H11 Hv13 Hv14 Hv15 Hv16 Hv17 Hv18 Hv19 Hv20 Hr2 Hr3 HO
    ipureintro; rfl
  iintro %acc
  unfold inv1
  iintro ⟨%hacc, -, Hfeat, Hgidx, Hsf, H6, H7, H8, H9, H10, H11, Hv13, Hv14, Hv15, Hv16, Hv17, Hv18, Hv19, Hv20, Hr2, Hr3, HO⟩
  have h64 : ∀ n, n = 64 → acc = sumsTo feat gidx sf (w1 L) (2 * n) → acc = ((sumsTo feat gidx sf (w1 L) 128).1, (sumsTo feat gidx sf (w1 L) 128).2) := by
    rintro n rfl h; exact h
  rw [h64 _ k1_t1_trips hacc]
  dsimp only
  iapply (wp_over L d (v := (sumsTo feat gidx sf (w1 L) 128).1) (f := g12)) $$ H12
  iintro H12
  iapply (wp_flip L d 8 (v := (sumsTo feat gidx sf (w1 L) 128).1) (chk_flip 8 k1_pay10 (lane_flip 8)) (lane_flip 8)) $$ H12
  iintro H12
  iapply (wp_over L d (v := flip1 8 (sumsTo feat gidx sf (w1 L) 128).1) (f := (sumsTo feat gidx sf (w1 L) 128).1)) $$ H12
  iintro H12
  ihave H8 := (held_some _) $$ H8
  ihave H10 := (held_some _) $$ H10
  iapply Hk
  iframe Hfeat Hgidx Hsf H6 H7 H8 H9 H10 H11 H12 Hv13 Hv14 Hv15 Hv16 Hv17 Hv18 Hv19 Hv20 Hr1 Hr2 Hr3 HO

set_option maxHeartbeats 4000000 in
/-- The sums over the lanes but for the last step of the second. -/
theorem lanes1 {α : Type} {Q : α → sProp (MT nD τ sig (HIx 3) (Elt F) ℕ UU ℕ)} {kk : (Σ' (_ : FVec F S16 .f32) (_ : IVec S16 1) (_ : FVec F S16 .f32), IVec S16 32) → Prog (TpuEff nD τ sig (Elt F) Λ₀ (.scVector (cV1 L) (jV1 L))) α}
    (p q : FVec F S16 .f32) :
    iprop(((b12).view.loc (V d (cV1 L) (jV1 L)) ↦{fullShare} p))
      ⊢ iprop((iprop(((b12).view.loc (V d (cV1 L) (jV1 L)) ↦{fullShare} (flip1 2 (flip1 4 (flip1 8 q))))) -∗ wp frame (wpE (defs₀ (F := F)) 𝒱₀ (V d (cV1 L) (jV1 L)) none) Set.univ (kk ⟨k1_pay17 k1_pay9 p (swp 4 p) (swp 2 (flip1 4 p)) (swp 1 (flip1 2 (flip1 4 p))), k1_pay18 (iota .scVector S16 32 [0] iota_S16_d0_w32_scVector), (flip1 2 (flip1 4 (flip1 8 q))), k1_pay25 (iota .scVector S16 32 [0] iota_S16_d0_w32_scVector)⟩) Q)
        -∗ wp frame (wpE (defs₀ (F := F)) 𝒱₀ (V d (cV1 L) (jV1 L)) none) Set.univ (k1_part6 L featV (Memref.isWhole_whole _) gidxV (Memref.isWhole_whole _) sfV (Memref.isWhole_whole _) partsV (Memref.isWhole_whole _) b6 (Memref.isWhole_whole _) b7 (Memref.isWhole_whole _) b8 (Memref.isWhole_whole _) b9 (Memref.isWhole_whole _) b10 (Memref.isWhole_whole _) b11 (Memref.isWhole_whole _) b12 (Memref.isWhole_whole _) cc1_scratch7 cc1_scratch8 cc1_scratch9 cc1_scratch10 cc1_scratch11 cc1_scratch12 cc1_scratch13 cc1_scratch14 cc1_scoped0 cc1_scoped1 cc1_scoped2 cc1_scoped3 cc1_scoped4 q (iota .scVector S16 32 [0] iota_S16_d0_w32_scVector) k1_pay9 p k1_pay12 >>= kk) Q) := by
  rw [k1_part6_eq_skeleton]
  unfold k1_part6_skel
  simp only [bind_assoc, pure_bind]
  iintro H Hk
  iapply (wp_flip L d 4 (v := p) (chk_flip 4 (k1_pay12) (lane_flip 4)) (lane_flip 4)) $$ H
  iintro H
  iapply (wp_over L d (v := (flip1 4 p)) (f := p)) $$ H
  iintro H
  iapply (wp_flip L d 2 (v := (flip1 4 p)) (chk_flip 2 (k1_pay14 (iota .scVector S16 32 [0] iota_S16_d0_w32_scVector)) (lane_flip 2)) (lane_flip 2)) $$ H
  iintro H
  iapply (wp_over L d (v := (flip1 2 (flip1 4 p))) (f := (flip1 4 p))) $$ H
  iintro H
  iapply (wp_flip L d 1 (v := (flip1 2 (flip1 4 p))) (chk_flip 1 (k1_pay16 (iota .scVector S16 32 [0] iota_S16_d0_w32_scVector)) (lane_flip 1)) (lane_flip 1)) $$ H
  iintro H
  iapply (wp_over L d (v := q) (f := (flip1 2 (flip1 4 p)))) $$ H
  iintro H
  iapply (wp_flip L d 8 (v := q) (chk_flip 8 (k1_pay19 (iota .scVector S16 32 [0] iota_S16_d0_w32_scVector)) (lane_flip 8)) (lane_flip 8)) $$ H
  iintro H
  iapply (wp_over L d (v := (flip1 8 q)) (f := q)) $$ H
  iintro H
  iapply (wp_flip L d 4 (v := (flip1 8 q)) (chk_flip 4 (k1_pay21 (iota .scVector S16 32 [0] iota_S16_d0_w32_scVector)) (lane_flip 4)) (lane_flip 4)) $$ H
  iintro H
  iapply (wp_over L d (v := (flip1 4 (flip1 8 q))) (f := (flip1 8 q))) $$ H
  iintro H
  iapply (wp_flip L d 2 (v := (flip1 4 (flip1 8 q))) (chk_flip 2 (k1_pay23 (iota .scVector S16 32 [0] iota_S16_d0_w32_scVector)) (lane_flip 2)) (lane_flip 2)) $$ H
  iintro H
  iapply (wp_over L d (v := (flip1 2 (flip1 4 (flip1 8 q)))) (f := (flip1 4 (flip1 8 q)))) $$ H
  iintro H
  iapply Hk
  iexact H

end Tile

variable [FloatOps F] (d : Dev nD)

set_option maxHeartbeats 8000000 in
theorem tile1 (feat : S32768x384.Idx → Elt F .f32) (gidx : S4096x32.Idx → Elt F .i32) (sf : S4096x384.Idx → Elt F .f32) (parts0 : S32x16.Idx → Elt F .f32)
    (hg : ∀ n (c : Fin 32), c.val < 24 → (gidx (ix2 n c)).toNat < 32768)
    (O : CellTallies nD τ sig (HIx 3)) (W : Waits sig (HIx 3)) (hO : ∀ g, O g none = 0) :
    iprop(levAts (K (F := F)).L (K (F := F)).lev ∗ emp ∗ res1 d (w1 L) feat gidx sf parts0
        ∗ scopedBufs (V d (cV1 L) (jV1 L)) ∗ scopedSems0 (V d (cV1 L) (jV1 L)) ∗ owes (V d (cV1 L) (jV1 L)) O W)
      ⊢ wp frame (wpE (defs₀ (F := F)) 𝒱₀ (V d (cV1 L) (jV1 L)) none) Set.univ
          (cc1__k_stats L featV (Memref.isWhole_whole _) gidxV (Memref.isWhole_whole _) sfV (Memref.isWhole_whole _) partsV (Memref.isWhole_whole _) b6 (Memref.isWhole_whole _) b7 (Memref.isWhole_whole _) b8 (Memref.isWhole_whole _) b9 (Memref.isWhole_whole _) b10 (Memref.isWhole_whole _) b11 (Memref.isWhole_whole _) b12 (Memref.isWhole_whole _) cc1_scratch7 cc1_scratch8 cc1_scratch9 cc1_scratch10 cc1_scratch11 cc1_scratch12 cc1_scratch13 cc1_scratch14 cc1_scoped0 cc1_scoped1 cc1_scoped2 cc1_scoped3 cc1_scoped4)
          fun _ => iprop(res1 d (w1 L) feat gidx sf (partsVal feat gidx sf)
            ∗ scopedBufs (V d (cV1 L) (jV1 L)) ∗ scopedSems0 (V d (cV1 L) (jV1 L))
            ∗ ∃ W', ⌜∀ p ∈ W', p ∈ W ∨ p.2 = none⌝ ∗ owes (V d (cV1 L) (jV1 L)) O W') := by
  simp only [cc1__k_stats_eq_skeleton]; unfold cc1__k_stats_skel
  rw [(K (F := F)).scopedBufs_V facts d (cV1 L) (jV1 L), SparseCore.Cfg.scopedSems0_V (Val := Elt F) d (cV1 L) (jV1 L),
    sems_peel d (cV1 L) (jV1 L) [cc1_scratch7.sem, cc1_scratch8.sem, cc1_scratch9.sem, cc1_scratch10.sem, cc1_scratch11.sem, cc1_scratch12.sem, cc1_scratch13.sem, cc1_scratch14.sem, cc1_scoped0.sem, cc1_scoped1.sem, cc1_scoped2.sem, cc1_scoped3.sem, cc1_scoped4.sem] (by decide) (by decide),
    bufs_peel d (cV1 L) (jV1 L) [cc1_scratch0, cc1_scratch1, cc1_scratch2, cc1_scratch3, cc1_scratch4, cc1_scratch5, cc1_scratch6] (by decide) (by intro b hb; fin_cases hb <;> rfl)]
  simp only [chain, List.map]
  unfold res1
  iintro ⟨#Hlv, -, ⟨Hfeat, Hgidx, Hsf, Hparts⟩, ⟨H6, H7, H8, H9, H10, H11, H12, Hbufs⟩, ⟨Hv13, Hv14, Hv15, Hv16, Hv17, Hv18, Hv19, Hv20, Hr0, Hr1, Hr2, Hr3, Hr4, Hsems⟩, HO⟩
  ihave #Hmw := (show levAts (K (F := F)).L (K (F := F)).lev ⊢ Transfers.MayWaits (V d (cV1 L) (jV1 L)) (none : HIx 3) O from
    (K (F := F)).mayWaits_none (thr := (V d (cV1 L) (jV1 L))) hO) $$ Hlv
  ihave HO := (show (owes (V d (cV1 L) (jV1 L)) O W : sProp (MT nD τ sig (HIx 3) (Elt F) ℕ UU ℕ)) ⊢ owesN (V d (cV1 L) (jV1 L)) O W from by
    unfold owesN
    iintro HO
    iexists W
    isplitr
    · ipureintro; exact fun p hp => .inl hp
    iexact HO) $$ HO
  iapply (first1 L d O W feat gidx (rd (w1 L)) (rd (w1 L)) hg) $$ [Hfeat Hgidx H6 H8 Hv13 Hv14 Hv15 Hr0 HO]
  · iframe Hmw Hfeat Hgidx H6 H8 Hv13 Hv14 Hv15 Hr0 HO
  iintro ⟨Hgidx, Hthree, Hr0, HO⟩
  iapply (loop1 L d O W feat gidx sf (rd (w1 L)) (rd (w1 L)) (rd (w1 L)) hg _ _) $$ [Hgidx Hsf Hthree H7 H9 H10 H11 H12 Hv16 Hv17 Hv18 Hv19 Hv20 Hr1 Hr2 Hr3 HO]
  · iframe Hmw Hgidx Hsf Hthree H7 H9 H10 H11 H12 Hv16 Hv17 Hv18 Hv19 Hv20 Hr1 Hr2 Hr3 HO
  iintro ⟨Hfeat, Hgidx, Hsf, H6, H7, H8, H9, H10, H11, H12, Hv13, Hv14, Hv15, Hv16, Hv17, Hv18, Hv19, Hv20, Hr1, Hr2, Hr3, HO⟩
  iapply (lanes1 L d (flip1 8 (sumsTo feat gidx sf (w1 L) 128).1) (sumsTo feat gidx sf (w1 L) 128).2) $$ H12
  iintro H12
  iapply (wp_flip L d 1 (v := flip1 2 (flip1 4 (flip1 8 (sumsTo feat gidx sf (w1 L) 128).2))) (chk_flip 1 (k1_pay25 (iota .scVector S16 32 [0] iota_S16_d0_w32_scVector)) (lane_flip 1)) (lane_flip 1)) $$ H12
  iintro H12
  rw [row_pay (sumsTo feat gidx sf (w1 L) 128).1 (sumsTo feat gidx sf (w1 L) 128).2 _ _ (fun _ => rfl) _ _ _ _ (fun _ => rfl)]
  iapply (wp_over L d (v := rowOf ((sumsTo feat gidx sf (w1 L) 128).1, (sumsTo feat gidx sf (w1 L) 128).2)) (f := flip1 2 (flip1 4 (flip1 8 (sumsTo feat gidx sf (w1 L) 128).2)))) $$ H12
  iintro H12
  iapply (wp_put d (cV1 L) (jV1 L) (src := b12) (dst := ((partsV).slice (Rect.unit (s := S32x16) (k1_off9 L) S1x16.size (k1_off9_inb L)) (fun _ => rfl)).squeeze S16 squeezes_S1x16_S16)
    (fs := rowOf ((sumsTo feat gidx sf (w1 L) 128).1, (sumsTo feat gidx sf (w1 L) 128).2)) (partsVal feat gidx sf) (by decide) (parts_set L _ (off_parts L) _)
    ((parts_read (partsVal feat gidx sf) (w1 L) _ (off_parts L) _).trans (partsVal_row feat gidx sf (w1 L)))) $$ [H12 Hparts Hr4 HO Hmw]
  · iframe H12 Hparts Hr4 HO Hmw
  iintro ⟨H12, Hparts, Hr4, HO⟩
  sl_step
  unfold owesN
  ihave H12 := (held_some _) $$ H12
  iframe Hfeat Hgidx Hsf Hparts H6 H7 H8 H9 H10 H11 H12 Hbufs Hv13 Hv14 Hv15 Hv16 Hv17 Hv18 Hv19 Hv20 Hr0 Hr1 Hr2 Hr3 Hr4 Hsems HO

end Cert.Proof.Tiles

end
-- ==== Proof.OutputTile.lean ====
/-
  The third SparseCore call at one tile, from its operands to its windows written (`tile2`): the scale from `alpha` and the
  batch's word (`scale2`), the first query's rows (`first2`), and the main loop.
-/
module

public import proofs.«01_k».proof.Proof.Output

@[expose] public section

noncomputable section

namespace Cert.Proof.Tiles

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 3) (Elt F) ℕ UU ℕ

/-- What a tile holds of the third call's arrays. -/
def res2 [FloatOps F] (d : Dev nD) (w : Fin 32) (feat : S32768x384.Idx → Elt F .f32) (gidx : S4096x32.Idx → Elt F .i32) (sf : S4096x384.Idx → Elt F .f32)
    (al be : S384.Idx → Elt F .f32) (iv : S16.Idx → Elt F .f32) (out : S4096x24x768.Idx → Elt F .f32) : sProp (MT nD τ sig (HIx 3) (Elt F) ℕ UU ℕ) := iprop(
  (featL d ↦{rd w} feat) ∗ (gidxL d ↦{rd w} gidx) ∗ (sfL d ↦{rd w} sf) ∗ (alL d ↦{rd w} al) ∗ (beL d ↦{rd w} be) ∗ (ivL d ↦{rd w} iv)
  ∗ bigSep Finset.univ (fun p : Fin 64 => iprop((outL d ↦[outWin w p 0]{fullShare} out) ∗ (outL d ↦[outWin w p 1]{fullShare} out))))

variable (L : grid2.Coords)

local notation "featV" => (Memref.whole main_v0_scv : Memref sig Kind.scVector Space.hbm S32768x384 EltTy.f32)
local notation "gidxV" => (Memref.whole main_v20_scv : Memref sig Kind.scVector Space.hbm S4096x32 EltTy.i32)
local notation "sfV" => (Memref.whole main_v10_0_scv : Memref sig Kind.scVector Space.hbm S4096x384 EltTy.f32)
local notation "alV" => (Memref.whole main_v41_scv : Memref sig Kind.scVector Space.hbm S384 EltTy.f32)
local notation "beV" => (Memref.whole main_v42_scv : Memref sig Kind.scVector Space.hbm S384 EltTy.f32)
local notation "ivV" => (Memref.whole main_v40_scv : Memref sig Kind.scVector Space.hbm S16 EltTy.f32)
local notation "outV" => (Memref.whole main_v43_scv : Memref sig Kind.scVector Space.hbm S4096x24x768 EltTy.f32)
local notation "a9" => (Memref.whole cc2_scratch0 : Memref sig Kind.scVector Space.vmem S32 EltTy.i32)
local notation "a10" => (Memref.whole cc2_scratch1 : Memref sig Kind.scVector Space.vmem S32 EltTy.i32)
local notation "a11" => (Memref.whole cc2_scratch2 : Memref sig Kind.scVector Space.vmem S24x384 EltTy.f32)
local notation "a12" => (Memref.whole cc2_scratch3 : Memref sig Kind.scVector Space.vmem S24x384 EltTy.f32)
local notation "a13" => (Memref.whole cc2_scratch4 : Memref sig Kind.scVector Space.vmem S384 EltTy.f32)
local notation "a14" => (Memref.whole cc2_scratch5 : Memref sig Kind.scVector Space.vmem S384 EltTy.f32)
local notation "a15" => (Memref.whole cc2_scratch6 : Memref sig Kind.scVector Space.vmem S384 EltTy.f32)
local notation "a16" => (Memref.whole cc2_scratch7 : Memref sig Kind.scVector Space.vmem S384 EltTy.f32)
local notation "a17" => (Memref.whole cc2_scratch8 : Memref sig Kind.scVector Space.vmem S384 EltTy.f32)
local notation "a18" => (Memref.whole cc2_scratch9 : Memref sig Kind.scVector Space.vmem S16 EltTy.f32)
local notation "a19" => (Memref.whole cc2_scratch10 : Memref sig Kind.scVector Space.vmem S24x768 EltTy.f32)
local notation "a20" => (Memref.whole cc2_scratch11 : Memref sig Kind.scVector Space.vmem S24x768 EltTy.f32)

/-! ## The scale -/

theorem pay3_val2 (x : S16.Idx) : (k2_pay3 L x).toNat = (batchOf (qNo (w2 L) 0)).val := by
  have key : ∀ (p : Fin 2) (q : Fin 16) (k : Fin 16), (k2_pay3 (fun | 0 => p | 1 => q | ⟨n + 2, h⟩ => absurd h (by simp)) (ix1 k)).toNat = (2 * q.val + p.val) / 8 := by decide
  have e : k2_pay3 L x = k2_pay3 (fun | 0 => (⟨(L 0).val, (L 0).isLt⟩ : Fin 2) | 1 => (⟨(L 1).val, (L 1).isLt⟩ : Fin 16) | ⟨n + 2, h⟩ => absurd h (by simp)) (ix1 (x 0)) := by
    rw [← eq_ix1 x]; rfl
  refine (congrArg BitVec.toNat e).trans ((key _ _ _).trans ?_)
  show _ = (128 * (2 * (L 1).val + (L 0).val) + 0) / 1024
  simp only; omega

section Scale

variable [FloatOps F] (d : Dev nD) (O : CellTallies nD τ sig (HIx 3)) (W : Waits sig (HIx 3)) (al be : S384.Idx → Elt F .f32) (iv : S16.Idx → Elt F .f32)
  (qa qb qi : PosShare TreeShare)

/-- What sixteen columns stored leave of a vector of 384. -/
theorem cols_reads {ob : Memref sig .scVector .vmem S384 .f32} {cc : Fin τ.nSC} {ii : Fin τ.nSub} (f : Buf (Elt F) (ob.view.loc (V d cc ii))) (G : S384.Idx → Elt F .f32) (c : Fin 24)
    (o : Fin 1 → ℕ) (ho : o = ![16 * c.val]) (i : ∀ a, o a + S16.size a ≤ S384.size a) (v : Vec F S16 .f32) (hv : v = colsAt c G)
    (hf : ∀ x : S384.Idx, (x 0).val < 16 * c.val → ob.view.read (Elt F) f x = G x) (x : S384.Idx) (hx : (x 0).val < 16 * (c.val + 1)) :
    ob.view.read (Elt F) (ob.view.writes (Elt F) f [⟨Rect.unit (s := S384) o S16.size i, v⟩]) x = G x := by
  subst ho hv
  by_cases h : 16 * c.val ≤ (x 0).val
  · refine (View.read_writes_cons_hit_of_coords ob.view f _ _ [] (ix1 (⟨(x 0).val - 16 * c.val, by omega⟩ : Fin 16)) x ?_).trans ?_
    · intro a
      match a with
      | ⟨0, _⟩ => simp [Rect.unit]; omega
    · show G _ = G x
      refine congrArg G (funext fun a => ?_)
      match a with
      | ⟨0, _⟩ => exact Fin.ext (by show 16 * c.val + ((x 0).val - 16 * c.val) = (x 0).val; omega)
  · refine Eq.trans ?_ (hf x (by omega))
    exact View.read_writes_cons_miss_of_axis ob.view f _ _ x (0 : Fin 1) (16 * c.val) 16 rfl rfl rfl (by omega)

/-- What the loop over columns holds: `alpha`, and the scale so far. -/
def invScale (b : Fin 16) (c : ℕ) (_ : Unit) : sProp (MT nD τ sig (HIx 3) (Elt F) ℕ UU ℕ) := iprop(
  ((a15).view.loc (V d (cV2 L) (jV2 L)) ↦{fullShare} al) ∗ ∃ f, ⌜∀ x : S384.Idx, (x 0).val < 16 * c → (a17).view.read (Elt F) f x = apOf al iv b x⌝ ∗ ((a17).view.loc (V d (cV2 L) (jV2 L)) ↦{fullShare} f))

set_option maxHeartbeats 2000000 in
theorem scale_trip (b : Fin 16) (c : Fin k2_t1_loop.trips) (u : Unit) :
    invScale L d al iv b c.val u
      ⊢ wp frame (wpE (defs₀ (F := F)) 𝒱₀ (V d (cV2 L) (jV2 L)) none) Set.univ (k2_t1_body L featV (Memref.isWhole_whole _) gidxV (Memref.isWhole_whole _) sfV (Memref.isWhole_whole _) alV (Memref.isWhole_whole _) beV (Memref.isWhole_whole _) ivV (Memref.isWhole_whole _) outV (Memref.isWhole_whole _) a9 (Memref.isWhole_whole _) a10 (Memref.isWhole_whole _) a11 (Memref.isWhole_whole _) a12 (Memref.isWhole_whole _) a13 (Memref.isWhole_whole _) a14 (Memref.isWhole_whole _) a15 (Memref.isWhole_whole _) a16 (Memref.isWhole_whole _) a17 (Memref.isWhole_whole _) a18 (Memref.isWhole_whole _) a19 (Memref.isWhole_whole _) a20 (Memref.isWhole_whole _) cc2_scratch12 cc2_scratch13 cc2_scratch14 cc2_scratch15 cc2_scratch16 cc2_scratch17 cc2_scratch18 cc2_scratch19 cc2_scratch20 cc2_scratch21 cc2_scoped0 cc2_scoped1 cc2_scoped2 cc2_scoped3 cc2_scoped4 cc2_scoped5 cc2_scoped6 (fun _ => iv (ix1 b)) c u) (invScale L d al iv b (c.val + 1)) := by
  have hc : c.val < 24 := k2_t1_trips ▸ c.isLt
  unfold invScale k2_t1_body
  iintro ⟨Hal, %f, %hf, Hap⟩
  iapply (wp_lds d (cV2 L) (jV2 L) (m := a15) (r := Rect.unit (s := S384) (k2_off1 c) S16.size (k2_off1_inb c)) (f := al) (colsAt (c24 c.val k2_t1_trips c.isLt) al) (fun x => congrArg al (vec_emb _ c.val (k2_off1_eq c) _ (by omega) x))) $$ Hal
  iintro Hal
  iapply (wp_ld d (cV2 L) (jV2 L)) $$ Hap
  iintro Hap
  ihave Hap := (Entails.of_eq (congrArg (fun h : Buf (Elt F) ((a17).view.loc (V d (cV2 L) (jV2 L))) => (((a17).view.loc (V d (cV2 L) (jV2 L)) ↦{fullShare} h) : sProp (MT nD τ sig (HIx 3) (Elt F) ℕ UU ℕ))) (View.writes_nil (a17).view f).symm)) $$ Hap
  iapply (wp_st d (cV2 L) (jV2 L) (m := a17) (f := f) (L := [])) $$ Hap
  iintro Hap
  sl_step
  iframe Hal
  iexists _
  isplitr
  · ipureintro
    exact cols_reads d (ob := a17) (cc := cV2 L) (ii := jV2 L) f (apOf al iv b) (c24 c.val k2_t1_trips c.isLt) _ (k2_off1_eq c) (k2_off1_inb c) _ (by rfl) hf
  iexact Hap

set_option maxHeartbeats 4000000 in
/-- The operands copied, and the scale of the tile's batch. -/
theorem scale2 {α : Type} {Q : α → sProp (MT nD τ sig (HIx 3) (Elt F) ℕ UU ℕ)} {kk : (Σ' (_ : BitVec 32), BitVec 32) → Prog (TpuEff nD τ sig (Elt F) Λ₀ (.scVector (cV2 L) (jV2 L))) α} :
    iprop(Transfers.MayWaits (V d (cV2 L) (jV2 L)) (none : HIx 3) O ∗ ((alV).view.loc (V d (cV2 L) (jV2 L)) ↦{qa} al) ∗ ((beV).view.loc (V d (cV2 L) (jV2 L)) ↦{qb} be) ∗ ((ivV).view.loc (V d (cV2 L) (jV2 L)) ↦{qi} iv) ∗ (∃ f, ((a15).view.loc (V d (cV2 L) (jV2 L)) ↦{fullShare} f)) ∗ (∃ f, ((a16).view.loc (V d (cV2 L) (jV2 L)) ↦{fullShare} f)) ∗ (∃ f, ((a17).view.loc (V d (cV2 L) (jV2 L)) ↦{fullShare} f)) ∗ (∃ f, ((a18).view.loc (V d (cV2 L) (jV2 L)) ↦{fullShare} f)) ∗ semVal ((V d (cV2 L) (jV2 L)), SemLoc.dma cc2_scoped0.sem) 0 ∗ semVal ((V d (cV2 L) (jV2 L)), SemLoc.dma cc2_scoped1.sem) 0 ∗ semVal ((V d (cV2 L) (jV2 L)), SemLoc.dma cc2_scoped2.sem) 0 ∗ owesN (V d (cV2 L) (jV2 L)) O W)
      ⊢ iprop((iprop(((alV).view.loc (V d (cV2 L) (jV2 L)) ↦{qa} al) ∗ ((beV).view.loc (V d (cV2 L) (jV2 L)) ↦{qb} be) ∗ ((ivV).view.loc (V d (cV2 L) (jV2 L)) ↦{qi} iv) ∗ (∃ f, ((a15).view.loc (V d (cV2 L) (jV2 L)) ↦{fullShare} f)) ∗ ((a16).view.loc (V d (cV2 L) (jV2 L)) ↦{fullShare} be) ∗ ((a17).view.loc (V d (cV2 L) (jV2 L)) ↦{fullShare} apOf al iv (batchOf (qNo (w2 L) 0))) ∗ (∃ f, ((a18).view.loc (V d (cV2 L) (jV2 L)) ↦{fullShare} f)) ∗ semVal ((V d (cV2 L) (jV2 L)), SemLoc.dma cc2_scoped0.sem) 0 ∗ semVal ((V d (cV2 L) (jV2 L)), SemLoc.dma cc2_scoped1.sem) 0 ∗ semVal ((V d (cV2 L) (jV2 L)), SemLoc.dma cc2_scoped2.sem) 0 ∗ owesN (V d (cV2 L) (jV2 L)) O W)
          -∗ wp frame (wpE (defs₀ (F := F)) 𝒱₀ (V d (cV2 L) (jV2 L)) none) Set.univ (kk ⟨Scalar.muli (Scalar.addi (Scalar.muli (BitVec.ofNat 32 (L 1).val) 2#32) (BitVec.ofNat 32 (L 0).val)) 128#32, Scalar.subi (Scalar.addi (Scalar.muli (Scalar.addi (Scalar.muli (BitVec.ofNat 32 (L 1).val) 2#32) (BitVec.ofNat 32 (L 0).val)) 128#32) 128#32) 1#32⟩) Q)
        -∗ wp frame (wpE (defs₀ (F := F)) 𝒱₀ (V d (cV2 L) (jV2 L)) none) Set.univ (k2_part4 L featV (Memref.isWhole_whole _) gidxV (Memref.isWhole_whole _) sfV (Memref.isWhole_whole _) alV (Memref.isWhole_whole _) beV (Memref.isWhole_whole _) ivV (Memref.isWhole_whole _) outV (Memref.isWhole_whole _) a9 (Memref.isWhole_whole _) a10 (Memref.isWhole_whole _) a11 (Memref.isWhole_whole _) a12 (Memref.isWhole_whole _) a13 (Memref.isWhole_whole _) a14 (Memref.isWhole_whole _) a15 (Memref.isWhole_whole _) a16 (Memref.isWhole_whole _) a17 (Memref.isWhole_whole _) a18 (Memref.isWhole_whole _) a19 (Memref.isWhole_whole _) a20 (Memref.isWhole_whole _) cc2_scratch12 cc2_scratch13 cc2_scratch14 cc2_scratch15 cc2_scratch16 cc2_scratch17 cc2_scratch18 cc2_scratch19 cc2_scratch20 cc2_scratch21 cc2_scoped0 cc2_scoped1 cc2_scoped2 cc2_scoped3 cc2_scoped4 cc2_scoped5 cc2_scoped6 >>= kk) Q) := by
  rw [k2_part4_eq_skeleton]
  unfold k2_part4_skel
  simp only [bind_assoc, pure_bind]
  iintro ⟨#Hmw, Hal, Hbe, Hiv, ⟨%g15, H15⟩, ⟨%g16, H16⟩, ⟨%g17, H17⟩, ⟨%g18, H18⟩, Hr0, Hr1, Hr2, HO⟩ Hk
  iapply (wp_put d (cV2 L) (jV2 L) (src := alV) (dst := a15) (fs := al) al (by decide) (View.set_whole _) rfl) $$ [Hal H15 Hr0 HO Hmw]
  · iframe Hal H15 Hr0 HO Hmw
  iintro ⟨Hal, H15, Hr0, HO⟩
  iapply (wp_put d (cV2 L) (jV2 L) (src := beV) (dst := a16) (fs := be) be (by decide) (View.set_whole _) rfl) $$ [Hbe H16 Hr1 HO Hmw]
  · iframe Hbe H16 Hr1 HO Hmw
  iintro ⟨Hbe, H16, Hr1, HO⟩
  iapply (wp_put d (cV2 L) (jV2 L) (src := ivV) (dst := a18) (fs := iv) iv (by decide) (View.set_whole _) rfl) $$ [Hiv H18 Hr2 HO Hmw]
  · iframe Hiv H18 Hr2 HO Hmw
  iintro ⟨Hiv, H18, Hr2, HO⟩
  have hchk : k2_chk1 (k2_pay3 L) := by
    intro a x
    match a with
    | ⟨0, _⟩ => exact (pay3_val2 L x).trans_lt (batchOf (qNo (w2 L) 0)).isLt
  iapply (wp_check d (cV2 L) (jV2 L) hchk)
  iapply (wp_gload d (cV2 L) (jV2 L) (base := a18) (f := iv) iv (Memref.read_access_whole (Elt F) cc2_scratch9 _)) $$ H18
  iintro H18
  rw [show loadIdx iv ![k2_pay3 L] (k2_idx1_inb (k2_pay3 L) hchk) = (fun _ => iv (ix1 (batchOf (qNo (w2 L) 0)))) from funext fun x => by
    unfold loadIdx
    refine congrArg iv (funext fun a => Fin.ext ?_)
    match a with
    | ⟨0, _⟩ => exact pay3_val2 L x]
  iapply (Scf.wp_for_bind frame (wpE (defs₀ (F := F)) 𝒱₀ (V d (cV2 L) (jV2 L)) none) Set.univ _ _ _ k2_t1_ok _ _
    (I := invScale L d al iv (batchOf (qNo (w2 L) 0))) (fun c u => scale_trip L d al iv _ c u)) $$ [H15 H17]
  · unfold invScale
    iframe H15
    iexists g17
    isplitr
    · ipureintro; exact fun x hx => absurd hx (by omega)
    iexact H17
  iintro %u
  unfold invScale
  iintro ⟨H15, %f, %hf, H17⟩
  ihave H17 := (Entails.of_eq (congrArg (fun h : S384.Idx → Elt F .f32 => (((a17).view.loc (V d (cV2 L) (jV2 L)) ↦{fullShare} h) : sProp (MT nD τ sig (HIx 3) (Elt F) ℕ UU ℕ))) (funext fun x => hf x (by rw [show (Scf.trips _ _ _ : ℕ) = 24 from k2_t1_trips]; exact (x 0).isLt) : f = apOf al iv (batchOf (qNo (w2 L) 0))))) $$ H17
  ihave H15 := (held_some _) $$ H15
  ihave H18 := (held_some _) $$ H18
  iapply Hk
  iframe Hal Hbe Hiv H15 H16 H17 H18 Hr0 Hr1 Hr2 HO

end Scale

/-! ## The first query's rows -/

section First

variable [FloatOps F] (d : Dev nD) (O : CellTallies nD τ sig (HIx 3)) (W : Waits sig (HIx 3))
  (feat : S32768x384.Idx → Elt F .f32) (gidx : S4096x32.Idx → Elt F .i32) (sf : S4096x384.Idx → Elt F .f32)
  (qf qg qs : PosShare TreeShare)

theorem off_first : k2_off2 L = ![(at2 L 0).val, 0] ∧ k2_off3 L = ![(at2 L 0).val, 0] := by
  have e : 256 * (L 1).val + 128 * (L 0).val = (at2 L 0).val := by
    show _ = 128 * (2 * (L 1).val + (L 0).val) + min (2 * 0) 127; omega
  exact ⟨(k2_off2_eq L).trans (by rw [e]), (k2_off3_eq L).trans (by rw [e])⟩

set_option maxHeartbeats 4000000 in
theorem first2 {α : Type} {Q : α → sProp (MT nD τ sig (HIx 3) (Elt F) ℕ UU ℕ)} {kk : PUnit → Prog (TpuEff nD τ sig (Elt F) Λ₀ (.scVector (cV2 L) (jV2 L))) α}
    {g1 g2 : ∀ a, _} {w1 w2' w1' w2''} (hg : ∀ n (c : Fin 32), c.val < 24 → (gidx (ix2 n c)).toNat < 32768) :
    iprop(Transfers.MayWaits (V d (cV2 L) (jV2 L)) (none : HIx 3) O ∗ ((featV).view.loc (V d (cV2 L) (jV2 L)) ↦{qf} feat) ∗ ((gidxV).view.loc (V d (cV2 L) (jV2 L)) ↦{qg} gidx) ∗ ((sfV).view.loc (V d (cV2 L) (jV2 L)) ↦{qs} sf) ∗ (∃ f, ((a9).view.loc (V d (cV2 L) (jV2 L)) ↦{fullShare} f)) ∗ (∃ f, ((a11).view.loc (V d (cV2 L) (jV2 L)) ↦{fullShare} f)) ∗ (∃ f, ((a13).view.loc (V d (cV2 L) (jV2 L)) ↦{fullShare} f)) ∗ semVal ((V d (cV2 L) (jV2 L)), SemLoc.dma cc2_scratch12.sem) 0 ∗ semVal ((V d (cV2 L) (jV2 L)), SemLoc.dma cc2_scratch13.sem) 0 ∗ semVal ((V d (cV2 L) (jV2 L)), SemLoc.dma cc2_scratch14.sem) 0 ∗ semVal ((V d (cV2 L) (jV2 L)), SemLoc.dma cc2_scoped3.sem) 0 ∗ semVal ((V d (cV2 L) (jV2 L)), SemLoc.dma cc2_scoped4.sem) 0 ∗ owesN (V d (cV2 L) (jV2 L)) O W)
      ⊢ iprop((iprop(((featV).view.loc (V d (cV2 L) (jV2 L)) ↦{qf} feat) ∗ ((gidxV).view.loc (V d (cV2 L) (jV2 L)) ↦{qg} gidx) ∗ ((sfV).view.loc (V d (cV2 L) (jV2 L)) ↦{qs} sf) ∗ (∃ f, ((a9).view.loc (V d (cV2 L) (jV2 L)) ↦{fullShare} f)) ∗ ((a11).view.loc (V d (cV2 L) (jV2 L)) ↦{fullShare} groupOf feat gidx (at2 L 0)) ∗ ((a13).view.loc (V d (cV2 L) (jV2 L)) ↦{fullShare} meanOf sf (at2 L 0)) ∗ semVal ((V d (cV2 L) (jV2 L)), SemLoc.dma cc2_scratch12.sem) 0 ∗ semVal ((V d (cV2 L) (jV2 L)), SemLoc.dma cc2_scratch13.sem) 0 ∗ semVal ((V d (cV2 L) (jV2 L)), SemLoc.dma cc2_scratch14.sem) 0 ∗ semVal ((V d (cV2 L) (jV2 L)), SemLoc.dma cc2_scoped3.sem) 0 ∗ semVal ((V d (cV2 L) (jV2 L)), SemLoc.dma cc2_scoped4.sem) 0 ∗ owesN (V d (cV2 L) (jV2 L)) O W)
          -∗ wp frame (wpE (defs₀ (F := F)) 𝒱₀ (V d (cV2 L) (jV2 L)) none) Set.univ (kk ⟨⟩) Q)
        -∗ wp frame (wpE (defs₀ (F := F)) 𝒱₀ (V d (cV2 L) (jV2 L)) none) Set.univ (k2_part5 L featV (Memref.isWhole_whole _) gidxV (Memref.isWhole_whole _) sfV (Memref.isWhole_whole _) alV (Memref.isWhole_whole _) beV (Memref.isWhole_whole _) ivV (Memref.isWhole_whole _) outV (Memref.isWhole_whole _) a9 (Memref.isWhole_whole _) a10 (Memref.isWhole_whole _) a11 (Memref.isWhole_whole _) a12 (Memref.isWhole_whole _) a13 (Memref.isWhole_whole _) a14 (Memref.isWhole_whole _) a15 (Memref.isWhole_whole _) a16 (Memref.isWhole_whole _) a17 (Memref.isWhole_whole _) a18 (Memref.isWhole_whole _) a19 (Memref.isWhole_whole _) a20 (Memref.isWhole_whole _) cc2_scratch12 cc2_scratch13 cc2_scratch14 cc2_scratch15 cc2_scratch16 cc2_scratch17 cc2_scratch18 cc2_scratch19 cc2_scratch20 cc2_scratch21 cc2_scoped0 cc2_scoped1 cc2_scoped2 cc2_scoped3 cc2_scoped4 cc2_scoped5 cc2_scoped6 >>= fun _ => SparseCore.waitIndirectGather cc2_scratch13.sem (colD featV 128 g1) (colD a11 128 inb_S24x384_S24x128_0_128) w1 w1' >>= fun _ => SparseCore.waitIndirectGather cc2_scratch14.sem (colD featV 256 g2) (colD a11 256 inb_S24x384_S24x128_0_256) w2' w2'' >>= kk) Q) := by
  rw [k2_part5_eq_skeleton]
  unfold k2_part5_skel
  simp only [bind_assoc, pure_bind]
  iintro ⟨#Hmw, Hfeat, Hgidx, Hsf, ⟨%g9, H9⟩, ⟨%g11, H11⟩, ⟨%g13, H13⟩, Hv0, Hv1, Hv2, Hr3, Hr4, HO⟩ Hk
  iapply (wp_put d (cV2 L) (jV2 L) (src := gidxRow (k2_off2 L) (k2_off2_inb L)) (dst := a9) (fs := gidx) (lineOf gidx (at2 L 0)) (by decide) (View.set_whole _)
    (gidx_read gidx (at2 L 0) _ (off_first L).1 _).symm) $$ [Hgidx H9 Hr3 HO Hmw]
  · iframe Hgidx H9 Hr3 HO Hmw
  iintro ⟨Hgidx, H9, Hr3, HO⟩
  iapply (wp_three (R := 24) inb_S24x384_S24x128_0_0 inb_S24x384_S24x128_0_128 inb_S24x384_S24x128_0_256 d (cV2 L) (jV2 L)
    (src := featV) (dst := a11) (offs := list9) (fs := feat) (fo := lineOf gidx (at2 L 0)) (groupOf feat gidx (at2 L 0)) credit_a11 (by decide) (View.set_whole _)
    (fun x => (congrArg (fun b => b.toNat < 32768) (congrFun (list9_read gidx (at2 L 0)) x)).mpr (nbrs_lt gidx hg _ x))
    (congrArg (rowsOf feat) (list9_read gidx (at2 L 0)).symm)) $$ [Hfeat H11 H9 Hv0 Hv1 Hv2]
  · iframe Hfeat H11 H9 Hv0 Hv1 Hv2
  iintro Hthree
  iapply (wp_put d (cV2 L) (jV2 L) (src := sfRow (k2_off3 L) (k2_off3_inb L)) (dst := a13) (fs := sf) (meanOf sf (at2 L 0)) (by decide) (View.set_whole _)
    (sf_read sf (at2 L 0) _ (off_first L).2 _).symm) $$ [Hsf H13 Hr4 HO Hmw]
  · iframe Hsf H13 Hr4 HO Hmw
  iintro ⟨Hsf, H13, Hr4, HO⟩
  iapply (wp_await_three (R := 24) inb_S24x384_S24x128_0_0 inb_S24x384_S24x128_0_128 inb_S24x384_S24x128_0_256 d (cV2 L) (jV2 L)
    (src := featV) (dst := a11) (offs := list9) (View.set_whole _)) $$ [Hthree HO Hmw]
  · iframe Hthree HO Hmw
  iintro ⟨Hfeat, H11, H9, Hv0, Hv1, Hv2, HO⟩
  ihave H9 := (held_some _) $$ H9
  iapply Hk
  iframe Hfeat Hgidx Hsf H9 H11 H13 Hv0 Hv1 Hv2 Hr3 Hr4 HO

end First

/-! ## The tile -/

variable [FloatOps F] (d : Dev nD)

set_option maxHeartbeats 8000000 in
theorem tile2 (feat : S32768x384.Idx → Elt F .f32) (gidx : S4096x32.Idx → Elt F .i32) (sf : S4096x384.Idx → Elt F .f32) (al be : S384.Idx → Elt F .f32)
    (iv : S16.Idx → Elt F .f32) (out0 : S4096x24x768.Idx → Elt F .f32) (hg : ∀ n (c : Fin 32), c.val < 24 → (gidx (ix2 n c)).toNat < 32768)
    (O : CellTallies nD τ sig (HIx 3)) (W : Waits sig (HIx 3)) (hO : ∀ g, O g none = 0) :
    iprop(levAts (K (F := F)).L (K (F := F)).lev ∗ emp ∗ res2 d (w2 L) feat gidx sf al be iv out0
        ∗ scopedBufs (V d (cV2 L) (jV2 L)) ∗ scopedSems0 (V d (cV2 L) (jV2 L)) ∗ owes (V d (cV2 L) (jV2 L)) O W)
      ⊢ wp frame (wpE (defs₀ (F := F)) 𝒱₀ (V d (cV2 L) (jV2 L)) none) Set.univ
          (cc2__k_output L featV (Memref.isWhole_whole _) gidxV (Memref.isWhole_whole _) sfV (Memref.isWhole_whole _) alV (Memref.isWhole_whole _) beV (Memref.isWhole_whole _) ivV (Memref.isWhole_whole _) outV (Memref.isWhole_whole _) a9 (Memref.isWhole_whole _) a10 (Memref.isWhole_whole _) a11 (Memref.isWhole_whole _) a12 (Memref.isWhole_whole _) a13 (Memref.isWhole_whole _) a14 (Memref.isWhole_whole _) a15 (Memref.isWhole_whole _) a16 (Memref.isWhole_whole _) a17 (Memref.isWhole_whole _) a18 (Memref.isWhole_whole _) a19 (Memref.isWhole_whole _) a20 (Memref.isWhole_whole _) cc2_scratch12 cc2_scratch13 cc2_scratch14 cc2_scratch15 cc2_scratch16 cc2_scratch17 cc2_scratch18 cc2_scratch19 cc2_scratch20 cc2_scratch21 cc2_scoped0 cc2_scoped1 cc2_scoped2 cc2_scoped3 cc2_scoped4 cc2_scoped5 cc2_scoped6)
          fun _ => iprop(res2 d (w2 L) feat gidx sf al be iv (outVal feat gidx sf al be iv)
            ∗ scopedBufs (V d (cV2 L) (jV2 L)) ∗ scopedSems0 (V d (cV2 L) (jV2 L))
            ∗ ∃ W', ⌜∀ p ∈ W', p ∈ W ∨ p.2 = none⌝ ∗ owes (V d (cV2 L) (jV2 L)) O W') := by
  simp only [cc2__k_output_eq_skeleton]; unfold cc2__k_output_skel
  rw [(K (F := F)).scopedBufs_V facts d (cV2 L) (jV2 L), SparseCore.Cfg.scopedSems0_V (Val := Elt F) d (cV2 L) (jV2 L),
    sems_peel d (cV2 L) (jV2 L) [cc2_scratch12.sem, cc2_scratch13.sem, cc2_scratch14.sem, cc2_scratch15.sem, cc2_scratch16.sem, cc2_scratch17.sem, cc2_scratch18.sem, cc2_scratch19.sem, cc2_scratch20.sem, cc2_scratch21.sem, cc2_scoped0.sem, cc2_scoped1.sem, cc2_scoped2.sem, cc2_scoped3.sem, cc2_scoped4.sem, cc2_scoped5.sem, cc2_scoped6.sem] (by decide) (by decide),
    bufs_peel d (cV2 L) (jV2 L) [cc2_scratch0, cc2_scratch1, cc2_scratch2, cc2_scratch3, cc2_scratch4, cc2_scratch5, cc2_scratch6, cc2_scratch7, cc2_scratch8, cc2_scratch9, cc2_scratch10, cc2_scratch11] (by decide) (by intro b hb; fin_cases hb <;> rfl)]
  simp only [chain, List.map]
  unfold res2
  iintro ⟨#Hlv, -, ⟨Hfeat, Hgidx, Hsf, Hal, Hbe, Hiv, Hout⟩, ⟨H9, H10, H11, H12, H13, H14, H15, H16, H17, H18, H19, H20, Hbufs⟩, ⟨Hv0, Hv1, Hv2, Hv3, Hv4, Hv5, Hv6, Hv7, Hv8, Hv9, Hr0, Hr1, Hr2, Hr3, Hr4, Hr5, Hr6, Hsems⟩, HO⟩
  ihave #Hmw := (show levAts (K (F := F)).L (K (F := F)).lev ⊢ Transfers.MayWaits (V d (cV2 L) (jV2 L)) (none : HIx 3) O from
    (K (F := F)).mayWaits_none (thr := (V d (cV2 L) (jV2 L))) hO) $$ Hlv
  ihave HO := (show (owes (V d (cV2 L) (jV2 L)) O W : sProp (MT nD τ sig (HIx 3) (Elt F) ℕ UU ℕ)) ⊢ owesN (V d (cV2 L) (jV2 L)) O W from by
    unfold owesN
    iintro HO
    iexists W
    isplitr
    · ipureintro; exact fun p hp => .inl hp
    iexact HO) $$ HO
  iapply (scale2 L d O W al be iv (rd (w2 L)) (rd (w2 L)) (rd (w2 L))) $$ [Hal Hbe Hiv H15 H16 H17 H18 Hr0 Hr1 Hr2 HO]
  · iframe Hmw Hal Hbe Hiv H15 H16 H17 H18 Hr0 Hr1 Hr2 HO
  iintro ⟨Hal, Hbe, Hiv, H15, H16, H17, H18, Hr0, Hr1, Hr2, HO⟩
  iapply (first2 L d O W feat gidx sf (rd (w2 L)) (rd (w2 L)) (rd (w2 L)) hg) $$ [Hfeat Hgidx Hsf H9 H11 H13 Hv0 Hv1 Hv2 Hr3 Hr4 HO]
  · iframe Hmw Hfeat Hgidx Hsf H9 H11 H13 Hv0 Hv1 Hv2 Hr3 Hr4 HO
  iintro ⟨Hfeat, Hgidx, Hsf, H9, H11, H13, Hv0, Hv1, Hv2, Hr3, Hr4, HO⟩
  ihave Hout := (Entails.of_eq ((show bigSep Finset.univ (fun p : Fin 64 => iprop((outL d ↦[outWin (w2 L) p 0]{fullShare} out0) ∗ (outL d ↦[outWin (w2 L) p 1]{fullShare} out0))) = bigSep Finset.univ (pair2 L d out0) from rfl).trans (turn_none (pair2 L d out0) (pair2 L d (outVal feat gidx sf al be iv))))) $$ Hout
  iapply (Scf.wp_for_bind frame (wpE (defs₀ (F := F)) 𝒱₀ (V d (cV2 L) (jV2 L)) none) Set.univ _ _ _ k2_t2_ok _ _ (I := inv2 L d O W feat gidx sf al be iv out0 (rd (w2 L)) (rd (w2 L)) (rd (w2 L)))
    (fun k u => trip2 L d O W feat gidx sf al be iv out0 _ _ _ hg _ _ k u)) $$ [Hfeat Hgidx Hsf Hout H9 H10 H11 H12 H13 H14 H16 H17 H19 H20 Hv0 Hv1 Hv2 Hv3 Hv4 Hv5 Hv6 Hv7 Hv8 Hv9 Hr5 Hr6 HO]
  · unfold inv2
    iframe Hmw Hfeat Hgidx Hsf Hout H9 H10 H11 H12 H13 H14 H16 H17 H19 H20 Hv0 Hv1 Hv2 Hv3 Hv4 Hv5 Hv6 Hv7 Hv8 Hv9 Hr5 Hr6 HO
  iintro %u
  unfold inv2
  iintro ⟨-, Hfeat, Hgidx, Hsf, Hout, H9, H10, H11, H12, H13, H14, H16, H17, H19, H20, Hv0, Hv1, Hv2, Hv3, Hv4, Hv5, Hv6, Hv7, Hv8, Hv9, Hr5, Hr6, HO⟩
  ihave Hout := (Entails.of_eq (turn_all (show 64 ≤ k2_t2_loop.trips by decide) (pair2 L d out0) (pair2 L d (outVal feat gidx sf al be iv)))) $$ Hout
  sl_step
  unfold owesN pair2
  ihave H11 := (held_some _) $$ H11
  ihave H13 := (held_some _) $$ H13
  ihave H16 := (held_some _) $$ H16
  ihave H17 := (held_some _) $$ H17
  iframe Hfeat Hgidx Hsf Hal Hbe Hiv Hout H9 H10 H11 H12 H13 H14 H15 H16 H17 H18 H19 H20 Hbufs Hv0 Hv1 Hv2 Hv3 Hv4 Hv5 Hv6 Hv7 Hv8 Hv9 Hr0 Hr1 Hr2 Hr3 Hr4 Hr5 Hr6 Hsems HO

end Cert.Proof.Tiles

end
-- ==== Proof.Split.lean ====
/-
The arrays of each call, cut among the thirty-two tiles: what the tiles hold together is the whole of the arrays.
-/
module

public import proofs.«01_k».proof.Proof.SampleTile
public import proofs.«01_k».proof.Proof.StatsTile
public import proofs.«01_k».proof.Proof.OutputTile
public import Idealize.ShloMosaic.Lib.Pipeline.Frame

@[expose] public section

noncomputable section

namespace Cert.Proof.Tiles

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 3) (Elt F) ℕ UU ℕ

/-! ## The tiles by their numbers -/

/-- The tiles of two SparseCores, by number. -/
def tileEquiv : Fin 2 × Fin 16 ≃ Fin 32 where
  toFun p := tileNo p.1 p.2
  invFun w := (⟨w.val % 2, by omega⟩, ⟨w.val / 2, by omega⟩)
  left_inv p := by
    refine Prod.ext (Fin.ext ?_) (Fin.ext ?_) <;> simp only [tileNo] <;> omega
  right_inv w := by refine Fin.ext ?_; simp only [tileNo]; omega

/-- An assertion for every tile of every SparseCore is one for every tile number. -/
theorem bigSep_tiles (Φ : Fin 32 → sProp (MT nD τ sig (HIx 3) (Elt F) ℕ UU ℕ)) :
    (bigSep Finset.univ fun c : Fin 2 => bigSep Finset.univ fun i : Fin 16 => Φ (tileNo c i)) = bigSep Finset.univ Φ :=
  (bigSep_univ_prod (fun p : Fin 2 × Fin 16 => Φ (tileNo p.1 p.2))).symm.trans (bigSep_univ_equiv tileEquiv Φ).symm

/-! ## Shares and windows -/

/-- An array all tiles read is one share of it for each tile. -/
theorem reads_eq {ℓ : Loc nD τ sig} (f : Buf (Elt F) ℓ) :
    (ℓ ↦{fullShare} f : sProp (MT nD τ sig (HIx 3) (Elt F) ℕ UU ℕ)) = bigSep Finset.univ fun w : Fin 32 => ℓ ↦{rd w} f :=
  pointsTo_piecesOf Finset.univ f (by decide) fullShare

/-- The sampled features, window by window. -/
theorem sf_eq (d : Dev nD) (f : S4096x384.Idx → Elt F .f32) :
    (sfL d ↦{fullShare} f : sProp (MT nD τ sig (HIx 3) (Elt F) ℕ UU ℕ))
      = bigSep Finset.univ fun w : Fin 32 => bigSep Finset.univ fun t : Fin 8 => sfL d ↦[sfWin w t]{fullShare} f :=
  (pointsTo_fibres (ℓ := sfL d) sfCls fullShare f).trans (bigSep_univ_prod _)

/-- The sampled points, window by window. -/
theorem sp_eq (d : Dev nD) (f : S12288.Idx → Elt F .f32) :
    (spL d ↦{fullShare} f : sProp (MT nD τ sig (HIx 3) (Elt F) ℕ UU ℕ))
      = bigSep Finset.univ fun w : Fin 32 => bigSep Finset.univ fun t : Fin 8 => spL d ↦[spWin w t]{fullShare} f :=
  (pointsTo_fibres (ℓ := spL d) spCls fullShare f).trans (bigSep_univ_prod _)

/-- The partial sums, line by line. -/
theorem parts_eq (d : Dev nD) (f : S32x16.Idx → Elt F .f32) :
    (partsL d ↦{fullShare} f : sProp (MT nD τ sig (HIx 3) (Elt F) ℕ UU ℕ))
      = bigSep Finset.univ fun w : Fin 32 => partsL d ↦[partsWin w]{fullShare} f := by
  refine (pointsTo_fibres (ℓ := partsL d) (fun x : S32x16.Idx => (⟨(x 0).val, (x 0).isLt⟩ : Fin 32)) fullShare f).trans
    (bigSep_congr fun w _ => ?_)
  exact congrArg (fun I : Finset S32x16.Idx => (partsL d ↦[I]{fullShare} f : sProp (MT nD τ sig (HIx 3) (Elt F) ℕ UU ℕ)))
    (Finset.filter_congr fun x _ => ⟨fun h => congrArg Fin.val h, fun h => Fin.ext h⟩)

/-- The result, query by query. -/
theorem out_eq (d : Dev nD) (f : S4096x24x768.Idx → Elt F .f32) :
    (outL d ↦{fullShare} f : sProp (MT nD τ sig (HIx 3) (Elt F) ℕ UU ℕ))
      = bigSep Finset.univ fun w : Fin 32 => bigSep Finset.univ fun p : Fin 64 =>
          iprop((outL d ↦[outWin w p 0]{fullShare} f) ∗ (outL d ↦[outWin w p 1]{fullShare} f)) := by
  refine (pointsTo_fibres (ℓ := outL d) outCls fullShare f).trans ((bigSep_univ_prod _).trans (bigSep_congr fun w _ => ?_))
  exact (bigSep_univ_prod _).trans (bigSep_congr fun p _ => bigSep_fin_two _)

/-! ## What a call needs, as the tiles hold it -/

/-- A reference of the host, as a buffer of the device. -/
abbrev dr (b : Ref sig .tc) : DevRef τ sig := Proc.devRef .tc b

def T0 : Finset (DevRef τ sig) := {dr main_v0, dr main_v2, dr main_v9, dr main_v10_0, dr main_v10_1}
def T1 : Finset (DevRef τ sig) := {dr main_v0, dr main_v20, dr main_v10_0, dr main_v21}
def T2 : Finset (DevRef τ sig) := {dr main_v0, dr main_v20, dr main_v10_0, dr main_v41, dr main_v42, dr main_v40, dr main_v43}

theorem held0_eq (d : Dev nD) (V : Valuation τ sig (Elt F)) :
    (StableHlo.held (T d : Thread nD τ) T0 V : sProp (MT nD τ sig (HIx 3) (Elt F) ℕ UU ℕ))
      = bigSep Finset.univ fun w : Fin 32 => res0 d w (V (dr main_v0)) (V (dr main_v2)) (V (dr main_v9)) (V (dr main_v10_0)) (V (dr main_v10_1)) := by
  unfold StableHlo.held T0 res0
  rw [SparseCore.bigSep_insert' (by decide), SparseCore.bigSep_insert' (by decide), SparseCore.bigSep_insert' (by decide),
    SparseCore.bigSep_insert' (by decide), bigSep_singleton, bigSep_sep', bigSep_sep', bigSep_sep', bigSep_sep']
  rw [← sf_eq d (V (dr main_v10_0)), ← sp_eq d (V (dr main_v10_1)), ← reads_eq (ℓ := featL d), ← reads_eq (ℓ := ptsL d), ← reads_eq (ℓ := idxL d)]

theorem held1_eq (d : Dev nD) (V : Valuation τ sig (Elt F)) :
    (StableHlo.held (T d : Thread nD τ) T1 V : sProp (MT nD τ sig (HIx 3) (Elt F) ℕ UU ℕ))
      = bigSep Finset.univ fun w : Fin 32 => res1 d w (V (dr main_v0)) (V (dr main_v20)) (V (dr main_v10_0)) (V (dr main_v21)) := by
  unfold StableHlo.held T1 res1
  rw [SparseCore.bigSep_insert' (by decide), SparseCore.bigSep_insert' (by decide), SparseCore.bigSep_insert' (by decide),
    bigSep_singleton, bigSep_sep', bigSep_sep', bigSep_sep']
  rw [← parts_eq d (V (dr main_v21)), ← reads_eq (ℓ := featL d), ← reads_eq (ℓ := gidxL d), ← reads_eq (ℓ := sfL d)]

theorem held2_eq [FloatOps F] (d : Dev nD) (V : Valuation τ sig (Elt F)) :
    (StableHlo.held (T d : Thread nD τ) T2 V : sProp (MT nD τ sig (HIx 3) (Elt F) ℕ UU ℕ))
      = bigSep Finset.univ fun w : Fin 32 => res2 d w (V (dr main_v0)) (V (dr main_v20)) (V (dr main_v10_0)) (V (dr main_v41)) (V (dr main_v42)) (V (dr main_v40)) (V (dr main_v43)) := by
  unfold StableHlo.held T2 res2
  rw [SparseCore.bigSep_insert' (by decide), SparseCore.bigSep_insert' (by decide), SparseCore.bigSep_insert' (by decide),
    SparseCore.bigSep_insert' (by decide), SparseCore.bigSep_insert' (by decide), SparseCore.bigSep_insert' (by decide),
    bigSep_singleton, bigSep_sep', bigSep_sep', bigSep_sep', bigSep_sep', bigSep_sep', bigSep_sep']
  rw [← out_eq d (V (dr main_v43)), ← reads_eq (ℓ := featL d), ← reads_eq (ℓ := gidxL d), ← reads_eq (ℓ := sfL d), ← reads_eq (ℓ := alL d),
    ← reads_eq (ℓ := beL d), ← reads_eq (ℓ := ivL d)]

/-! ## The arrays after a call -/

/-- The contents after the first call: the sampled features and points written. -/
def after0 (V : Valuation τ sig (Elt F)) : Valuation τ sig (Elt F) :=
  Function.update (Function.update V (dr main_v10_0) (sfVal (V (dr main_v0)) (V (dr main_v9)))) (dr main_v10_1) (spVal (V (dr main_v2)) (V (dr main_v9)))

variable [FloatOps F]

/-- The contents after the second call: the partial sums written. -/
def after1 (V : Valuation τ sig (Elt F)) : Valuation τ sig (Elt F) :=
  Function.update V (dr main_v21) (partsVal (V (dr main_v0)) (V (dr main_v20)) (V (dr main_v10_0)))

/-- The contents after the third call: the result written. -/
def after2 (V : Valuation τ sig (Elt F)) : Valuation τ sig (Elt F) :=
  Function.update V (dr main_v43) (outVal (V (dr main_v0)) (V (dr main_v20)) (V (dr main_v10_0)) (V (dr main_v41)) (V (dr main_v42)) (V (dr main_v40)))

end Cert.Proof.Tiles

end
-- ==== Proof.Launch.lean ====
/-
The launch of the three calls: what the host hands each SparseCore and the SparseCore each of its tiles, every tile's
share of a call, and one call as a step of the host.
-/
module

public import proofs.«01_k».proof.Proof.Split

@[expose] public section

noncomputable section

namespace Cert.Proof.Tiles

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 3) (Elt F) ℕ UU ℕ

variable [FloatOps F]

/-! ## What passes between the host and the tiles -/

theorem nCore_eq (q : Fin 3) : (K (F := F)).nCore q = 2 := by fin_cases q <;> rfl
theorem nSub_eq (q : Fin 3) : (K (F := F)).nSub q = 16 := by fin_cases q <;> rfl

/-- The number of tile `i` of SparseCore `c` in a call. -/
def tno (q : Fin 3) (c : Fin ((K (F := F)).nCore q)) (i : Fin ((K (F := F)).nSub q)) : Fin 32 :=
  tileNo ⟨c.val, c.isLt.trans_eq (nCore_eq q)⟩ ⟨i.val, i.isLt.trans_eq (nSub_eq q)⟩

theorem bigSep_tno (q : Fin 3) (Φ : Fin 32 → sProp (MT nD τ sig (HIx 3) (Elt F) ℕ UU ℕ)) :
    (bigSep Finset.univ fun c : Fin ((K (F := F)).nCore q) => bigSep Finset.univ fun i : Fin ((K (F := F)).nSub q) => Φ (tno (F := F) q c i))
      = bigSep Finset.univ Φ := by
  refine Eq.trans ?_ (bigSep_tiles Φ)
  refine Eq.trans ?_ (bigSep_univ_equiv (finCongr (nCore_eq (F := F) q)) _).symm
  refine bigSep_congr fun c _ => ?_
  exact (bigSep_univ_equiv (finCongr (nSub_eq (F := F) q)) (fun i : Fin 16 => Φ (tileNo (finCongr (nCore_eq (F := F) q) c) i))).symm

/-- The contents of a device's arrays as each of the calls finds them. -/
abbrev Finds (F : FTy → Type) : Type := Fin 3 → Dev nD → Valuation τ sig (Elt F)

variable (A : Finds F)

/-- What tile `w` is handed at a call. -/
def goOf (q : Fin 3) (d : Dev nD) (w : Fin 32) : sProp (MT nD τ sig (HIx 3) (Elt F) ℕ UU ℕ) := match q with
  | 0 => res0 d w (A 0 d (dr main_v0)) (A 0 d (dr main_v2)) (A 0 d (dr main_v9)) (A 0 d (dr main_v10_0)) (A 0 d (dr main_v10_1))
  | 1 => res1 d w (A 1 d (dr main_v0)) (A 1 d (dr main_v20)) (A 1 d (dr main_v10_0)) (A 1 d (dr main_v21))
  | 2 => res2 d w (A 2 d (dr main_v0)) (A 2 d (dr main_v20)) (A 2 d (dr main_v10_0)) (A 2 d (dr main_v41)) (A 2 d (dr main_v42)) (A 2 d (dr main_v40)) (A 2 d (dr main_v43))

/-- What tile `w` hands back. -/
def tdOf (q : Fin 3) (d : Dev nD) (w : Fin 32) : sProp (MT nD τ sig (HIx 3) (Elt F) ℕ UU ℕ) := match q with
  | 0 => res0 d w (A 0 d (dr main_v0)) (A 0 d (dr main_v2)) (A 0 d (dr main_v9)) (sfVal (A 0 d (dr main_v0)) (A 0 d (dr main_v9))) (spVal (A 0 d (dr main_v2)) (A 0 d (dr main_v9)))
  | 1 => res1 d w (A 1 d (dr main_v0)) (A 1 d (dr main_v20)) (A 1 d (dr main_v10_0)) (partsVal (A 1 d (dr main_v0)) (A 1 d (dr main_v20)) (A 1 d (dr main_v10_0)))
  | 2 => res2 d w (A 2 d (dr main_v0)) (A 2 d (dr main_v20)) (A 2 d (dr main_v10_0)) (A 2 d (dr main_v41)) (A 2 d (dr main_v42)) (A 2 d (dr main_v40))
      (outVal (A 2 d (dr main_v0)) (A 2 d (dr main_v20)) (A 2 d (dr main_v10_0)) (A 2 d (dr main_v41)) (A 2 d (dr main_v42)) (A 2 d (dr main_v40)))

instance goOf_storable (q : Fin 3) (d : Dev nD) (w : Fin 32) : BI.Storable (upEmb : UEmb _ (MT nD τ sig (HIx 3) (Elt F) ℕ UU ℕ)) (goOf A q d w) := by
  fin_cases q <;> (simp only [goOf, res0, res1, res2]; infer_instance)

instance tdOf_storable (q : Fin 3) (d : Dev nD) (w : Fin 32) : BI.Storable (upEmb : UEmb _ (MT nD τ sig (HIx 3) (Elt F) ℕ UU ℕ)) (tdOf A q d w) := by
  fin_cases q <;> (simp only [tdOf, res0, res1, res2]; infer_instance)

/-- What passes at each call: a SparseCore is handed what its tiles are. -/
def P : (K (F := F)).Pay (nD := nD) (Val := Elt F) (Name := ℕ) (U := UU) where
  st := fun q d c => bigSep Finset.univ fun i : Fin ((K (F := F)).nSub q) => goOf A q d (tno (F := F) q c i)
  dn := fun q d c => bigSep Finset.univ fun i : Fin ((K (F := F)).nSub q) => tdOf A q d (tno (F := F) q c i)
  go := fun q d c i => goOf A q d (tno (F := F) q c i)
  td := fun q d c i => tdOf A q d (tno (F := F) q c i)
  x := fun _ _ => iprop(emp)

instance P_storable : (P A).IsStorable where
  st q d c := (inferInstance : BI.Storable (upEmb : UEmb _ (MT nD τ sig (HIx 3) (Elt F) ℕ UU ℕ)) (bigSep Finset.univ fun i : Fin ((K (F := F)).nSub q) => goOf A q d (tno (F := F) q c i)))
  dn q d c := (inferInstance : BI.Storable (upEmb : UEmb _ (MT nD τ sig (HIx 3) (Elt F) ℕ UU ℕ)) (bigSep Finset.univ fun i : Fin ((K (F := F)).nSub q) => tdOf A q d (tno (F := F) q c i)))
  go q d c i := goOf_storable A q d _
  td q d c i := tdOf_storable A q d _

theorem split (q : Fin 3) : (K (F := F)).VecSplit' (P A) q := by
  intro d c
  show (bigSep Finset.univ fun i : Fin ((K (F := F)).nSub q) => goOf A q d (tno (F := F) q c i)) ⊢ |={Set.univ}=> iprop(
    (bigSep Finset.univ fun i : Fin ((K (F := F)).nSub q) => goOf A q d (tno (F := F) q c i))
      ∗ ((bigSep Finset.univ fun i : Fin ((K (F := F)).nSub q) => tdOf A q d (tno (F := F) q c i))
        -∗ (bigSep Finset.univ fun i : Fin ((K (F := F)).nSub q) => tdOf A q d (tno (F := F) q c i))))
  iintro H; imodintro
  isplitl [H]; · iexact H
  iintro H; iexact H

/-! ## Every tile's share of a call -/

/-- The indices the calls read name rows of the features. -/
def InRange : Prop :=
  (∀ d x, ((A 0 d (dr main_v9) : S4096.Idx → BitVec 32) x).toNat < 32768)
    ∧ (∀ d n (c : Fin 32), c.val < 24 → ((A 1 d (dr main_v20) : S4096x32.Idx → BitVec 32) (ix2 n c)).toNat < 32768)
    ∧ (∀ d n (c : Fin 32), c.val < 24 → ((A 2 d (dr main_v20) : S4096x32.Idx → BitVec 32) (ix2 n c)).toNat < 32768)

theorem obl_post {thr : Thread nD τ} {X Y Z : sProp (MT nD τ sig (HIx 3) (Elt F) ℕ UU ℕ)} {O : CellTallies nD τ sig (HIx 3)} {W : Waits sig (HIx 3)} {q : Fin 3} :
    iprop(X ∗ Y ∗ Z ∗ ∃ W', ⌜∀ p ∈ W', p ∈ W ∨ p.2 = none⌝ ∗ owes thr O W')
      ⊢ iprop(X ∗ Y ∗ Z ∗ ∃ W', ⌜∀ p ∈ W', p ∈ W ∨ p.2 = none ∨ p.2 = some q⌝ ∗ owes thr O W') := by
  iintro ⟨HX, HY, HZ, %W', %hW', HO⟩
  isplitl [HX]; · iexact HX
  isplitl [HY]; · iexact HY
  isplitl [HZ]; · iexact HZ
  iexists W'; isplitr
  · ipureintro; exact fun p hp => (hW' p hp).imp_right Or.inl
  · iexact HO

/-- The grid coordinates of tile `s` of SparseCore `c` in call 0. -/
def coords0 (c : Fin (grid0.bound 0)) (s : Fin (grid0.bound 1)) : grid0.Coords :=
  fun | 0 => c | 1 => s | ⟨_ + 2, h⟩ => absurd h (Nat.not_lt.2 (Nat.le_add_left _ _))

theorem task0 (c : Fin τ.nSC) (s : Fin τ.nSub) : defs₀ (F := F) (.scVector c s) 0 () = SparseCore.onTile hcore0 hsub0 (fun c s => cc0__k_sample (coords0 c s) (Memref.whole main_v0_scv) (Memref.isWhole_whole _) (Memref.whole main_v2_scv) (Memref.isWhole_whole _) (Memref.whole main_v9_scv) (Memref.isWhole_whole _) (Memref.whole main_v10_0_scv) (Memref.isWhole_whole _) (Memref.whole main_v10_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scoped0 cc0_scoped1 cc0_scoped2) ⟨⟩ c s := rfl

/-- The grid coordinates of tile `s` of SparseCore `c` in call 1. -/
def coords1 (c : Fin (grid1.bound 0)) (s : Fin (grid1.bound 1)) : grid1.Coords :=
  fun | 0 => c | 1 => s | ⟨_ + 2, h⟩ => absurd h (Nat.not_lt.2 (Nat.le_add_left _ _))

theorem task1 (c : Fin τ.nSC) (s : Fin τ.nSub) : defs₀ (F := F) (.scVector c s) 1 () = SparseCore.onTile hcore1 hsub1 (fun c s => cc1__k_stats (coords1 c s) (Memref.whole main_v0_scv) (Memref.isWhole_whole _) (Memref.whole main_v20_scv) (Memref.isWhole_whole _) (Memref.whole main_v10_0_scv) (Memref.isWhole_whole _) (Memref.whole main_v21_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) cc1_scratch7 cc1_scratch8 cc1_scratch9 cc1_scratch10 cc1_scratch11 cc1_scratch12 cc1_scratch13 cc1_scratch14 cc1_scoped0 cc1_scoped1 cc1_scoped2 cc1_scoped3 cc1_scoped4) ⟨⟩ c s := rfl

/-- The grid coordinates of tile `s` of SparseCore `c` in call 2. -/
def coords2 (c : Fin (grid2.bound 0)) (s : Fin (grid2.bound 1)) : grid2.Coords :=
  fun | 0 => c | 1 => s | ⟨_ + 2, h⟩ => absurd h (Nat.not_lt.2 (Nat.le_add_left _ _))

theorem task2 (c : Fin τ.nSC) (s : Fin τ.nSub) : defs₀ (F := F) (.scVector c s) 2 () = SparseCore.onTile hcore2 hsub2 (fun c s => cc2__k_output (coords2 c s) (Memref.whole main_v0_scv) (Memref.isWhole_whole _) (Memref.whole main_v20_scv) (Memref.isWhole_whole _) (Memref.whole main_v10_0_scv) (Memref.isWhole_whole _) (Memref.whole main_v41_scv) (Memref.isWhole_whole _) (Memref.whole main_v42_scv) (Memref.isWhole_whole _) (Memref.whole main_v40_scv) (Memref.isWhole_whole _) (Memref.whole main_v43_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _) (Memref.whole cc2_scratch7) (Memref.isWhole_whole _) (Memref.whole cc2_scratch8) (Memref.isWhole_whole _) (Memref.whole cc2_scratch9) (Memref.isWhole_whole _) (Memref.whole cc2_scratch10) (Memref.isWhole_whole _) (Memref.whole cc2_scratch11) (Memref.isWhole_whole _) cc2_scratch12 cc2_scratch13 cc2_scratch14 cc2_scratch15 cc2_scratch16 cc2_scratch17 cc2_scratch18 cc2_scratch19 cc2_scratch20 cc2_scratch21 cc2_scoped0 cc2_scoped1 cc2_scoped2 cc2_scoped3 cc2_scoped4 cc2_scoped5 cc2_scoped6) ⟨⟩ c s := rfl

set_option maxRecDepth 16384 in
/-- Every tile's share of call 0. -/
theorem obl0 (hA : InRange A) : (K (F := F)).TileObl (D (F := F)) 𝒱 (P A) v₀ 0 := by
  intro d c i O W hO _ _
  simp only [show (P A).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ()))  _
  refine BI.Entails.trans ?_ (Pipeline.wp_liftProg (D (F := F)) (Pipeline.defs_kernel pcfgs defs₀) 𝒱₀ _ Set.univ none _ _)
  rw [task0]; simp only [SparseCore.onTile, hci, and_self, ↓reduceDIte]
  exact (tile0 (coords0 ⟨_, hci.1⟩ ⟨_, hci.2⟩) d (A 0 d (dr main_v0)) (A 0 d (dr main_v2)) (A 0 d (dr main_v9)) (A 0 d (dr main_v10_0)) (A 0 d (dr main_v10_1)) (hA.1 d) O W hO).trans (wp_mono frame _ _ fun _ => obl_post)

set_option maxRecDepth 16384 in
/-- Every tile's share of call 1. -/
theorem obl1 (hA : InRange A) : (K (F := F)).TileObl (D (F := F)) 𝒱 (P A) v₀ 1 := by
  intro d c i O W hO _ _
  simp only [show (P A).ox = fun _ _ => 0 from rfl, add_zero]
  have hci : ((K (F := F)).core 1 c).val < grid1.bound 0 ∧ ((K (F := F)).sub 1 i).val < grid1.bound 1 := ⟨c.isLt, i.isLt⟩
  change _ ⊢ wp _ _ _ (Pipeline.liftProg (defs₀ (F := F) (.scVector ((K (F := F)).core 1 c) ((K (F := F)).sub 1 i)) 1 ()))  _
  refine BI.Entails.trans ?_ (Pipeline.wp_liftProg (D (F := F)) (Pipeline.defs_kernel pcfgs defs₀) 𝒱₀ _ Set.univ none _ _)
  rw [task1]; simp only [SparseCore.onTile, hci, and_self, ↓reduceDIte]
  exact (tile1 (coords1 ⟨_, hci.1⟩ ⟨_, hci.2⟩) d (A 1 d (dr main_v0)) (A 1 d (dr main_v20)) (A 1 d (dr main_v10_0)) (A 1 d (dr main_v21)) (hA.2.1 d) O W hO).trans (wp_mono frame _ _ fun _ => obl_post)

set_option maxRecDepth 16384 in
/-- Every tile's share of call 2. -/
theorem obl2 (hA : InRange A) : (K (F := F)).TileObl (D (F := F)) 𝒱 (P A) v₀ 2 := by
  intro d c i O W hO _ _
  simp only [show (P A).ox = fun _ _ => 0 from rfl, add_zero]
  have hci : ((K (F := F)).core 2 c).val < grid2.bound 0 ∧ ((K (F := F)).sub 2 i).val < grid2.bound 1 := ⟨c.isLt, i.isLt⟩
  change _ ⊢ wp _ _ _ (Pipeline.liftProg (defs₀ (F := F) (.scVector ((K (F := F)).core 2 c) ((K (F := F)).sub 2 i)) 2 ()))  _
  refine BI.Entails.trans ?_ (Pipeline.wp_liftProg (D (F := F)) (Pipeline.defs_kernel pcfgs defs₀) 𝒱₀ _ Set.univ none _ _)
  rw [task2]; simp only [SparseCore.onTile, hci, and_self, ↓reduceDIte]
  exact (tile2 (coords2 ⟨_, hci.1⟩ ⟨_, hci.2⟩) d (A 2 d (dr main_v0)) (A 2 d (dr main_v20)) (A 2 d (dr main_v10_0)) (A 2 d (dr main_v41)) (A 2 d (dr main_v42)) (A 2 d (dr main_v40)) (A 2 d (dr main_v43)) (hA.2.2 d) O W hO).trans (wp_mono frame _ _ fun _ => obl_post)

/-! ## The ghost state at the launch -/

def u₀ : UU := (initOf (K (F := F)).hsCells (K (F := F)).hsToks, 1)

theorem bigSep_nothing {I : Type} (s : Finset I) : (bigSep s fun _ => iprop(emp)) = (iprop(emp) : sProp (MT nD τ sig (HIx 3) (Elt F) ℕ UU ℕ)) := bigSep_emp_const s

theorem hu₀ : (ownU (u₀ (F := F)) : sProp (MT nD τ sig (HIx 3) (Elt F) ℕ UU ℕ))
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 3 => (P A).x q thr) := by
  unfold u₀
  iintro Hu
  ihave H := (ownU_pair (initOf (K (F := F)).hsCells (K (F := F)).hsToks) (1 : Counters)) $$ Hu
  icases H with ⟨HH, -⟩
  imodintro
  isplitl [HH]; · iexact HH
  rw [show (bigSep Finset.univ fun thr : Thread nD τ => bigSep Finset.univ fun q : Fin 3 => (P A).x q thr) = bigSep Finset.univ fun _ => iprop(emp) from
    bigSep_congr fun _ _ => bigSep_nothing _, bigSep_nothing, bigSep_nothing]
  isplitl <;> iempintro

/-! ## A call as a step of the host -/

theorem call_step (q : Fin 3) (κ : GSem nD τ sig → ℕ) (d : Dev nD) {B S : Finset (DevRef τ sig)} (hB : B ⊆ S)
    (V' : Valuation τ sig (Elt F))
    (hst : (StableHlo.held (T d : Thread nD τ) B (A q d) : sProp (MT nD τ sig (HIx 3) (Elt F) ℕ UU ℕ)) = bigSep Finset.univ (goOf A q d))
    (hdn : (StableHlo.held (T d : Thread nD τ) B V' : sProp (MT nD τ sig (HIx 3) (Elt F) ℕ UU ℕ)) = bigSep Finset.univ (tdOf A q d))
    (hV : ∀ b, b ∉ B → V' b = A q d b)
    (k : PUnit → Prog (TpuEff nD τ sig (Elt F) (SparseCore.Sig (ΛP (F := F)) 3) .tc) PUnit)
    (Q : PUnit → sProp (MT nD τ sig (HIx 3) (Elt F) ℕ UU ℕ)) :
    iprop((K (F := F)).ctx EH (P A) κ ∗ (K (F := F)).tcSt EH d q.val ∗ StableHlo.held (T d : Thread nD τ) S (A q d))
      ⊢ iprop((((K (F := F)).tcSt EH d (q.val + 1) ∗ StableHlo.held (T d : Thread nD τ) S V')
            -∗ wp frame (wpE ((K (F := F)).defs (D (F := F))) 𝒱 (SparseCore.T d) none) Set.univ (k ⟨⟩) Q)
          -∗ wp frame (wpE ((K (F := F)).defs (D (F := F))) 𝒱 (SparseCore.T d) none) Set.univ ((K (F := F)).run d q >>= k) Q) := by
  have hst' : (bigSep Finset.univ fun c : Fin ((K (F := F)).nCore q) => (P A).st q d c) = StableHlo.held (T d : Thread nD τ) B (A q d) :=
    (bigSep_tno q (goOf A q d)).trans hst.symm
  have hdn' : (bigSep Finset.univ fun c : Fin ((K (F := F)).nCore q) => (P A).dn q d c) = StableHlo.held (T d : Thread nD τ) B V' :=
    (bigSep_tno q (tdOf A q d)).trans hdn.symm
  rw [StableHlo.held_sub_split (T d : Thread nD τ) hB (A q d), StableHlo.held_sub_split (T d : Thread nD τ) hB V',
    StableHlo.held_congr (T d : Thread nD τ) (S := S \ B) (V := V') (V' := A q d) (fun b hb => hV b (Finset.mem_sdiff.1 hb).2), wp_bind]
  iintro ⟨#Hctx, Hst, Hin, Hrest⟩ Hk
  iapply ((K (F := F)).wp_run (D (F := F)) 𝒱 (EH := EH) (P := P A) κ d q) $$ [Hst Hin Hrest Hk]
  isplitr; · iexact Hctx
  isplitl [Hst]; · iexact Hst
  isplitl [Hin]
  · rw [hst']; iexact Hin
  iintro ⟨Hst, Hdn⟩
  ihave Hdn := (Entails.of_eq hdn') $$ Hdn
  iapply Hk
  isplitl [Hst]; · iexact Hst
  isplitl [Hdn] <;> iassumption

end Cert.Proof.Tiles

end
-- ==== Proof.Host.lean ====
/-
  The host's part of the program: the operations between the SparseCore calls as lists, the program as their sequence with
  the three calls between them, and what the arrays the calls read hold after each list.
-/
module

public import proofs.«01_k».proof.Proof.Base
@[expose] public section

noncomputable section

namespace Cert.Proof.Tiles

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 3) (Elt F) ℕ UU ℕ

variable [FloatOps F]

/-- The operations before the first call. -/
abbrev ops0 : List (HloOp τ sig (Elt F)) :=
  [StableHlo.reshape main_arg1 main_v0 (rfl : (.f32 : EltTy) = .f32) shapeCasts_S4x8192x384_S32768x384,
    StableHlo.nullary main_c (constantI S_ 32 0#32),
    StableHlo.TRef.unary (StableHlo.TRef.of (T := ⟨S_, .i32⟩) main_c) (StableHlo.TRef.of (T := ⟨S_, .f32⟩) main_call0_v0) (sitofp .f32),
    StableHlo.TRef.binary (StableHlo.TRef.of (T := ⟨S4x8192x3, .f32⟩) main_arg0) (StableHlo.TRef.of (T := ⟨S_, .f32⟩) main_call0_v0) (StableHlo.TRef.of (T := ⟨S4x8192x128, .f32⟩) main_v1) (fun x v => pad S4x8192x128 ![0, 0, 0] ![0, 0, 125] ![0, 0, 0] x v pads_S4x8192x3_S4x8192x128_000_000_01250 h_S_),
    StableHlo.reshape main_v1 main_v2 (rfl : (.f32 : EltTy) = .f32) shapeCasts_S4x8192x128_S32768x128,
    StableHlo.nullary main_v3 (iotaInDim S4 32 0),
    StableHlo.nullary main_c_0 (constantI S_ 32 8192#32),
    StableHlo.unary main_c_0 main_v4 (broadcastInDim S4 ![] bcast_S_S4 : (⟨S_, .i32⟩ : BufTy).Contents (Elt F) → (⟨S4, .i32⟩ : BufTy).Contents (Elt F)),
    StableHlo.binary main_v3 main_v4 main_v5 (muli : (⟨S4, .i32⟩ : BufTy).Contents (Elt F) → (⟨S4, .i32⟩ : BufTy).Contents (Elt F) → (⟨S4, .i32⟩ : BufTy).Contents (Elt F)),
    StableHlo.unary main_v5 main_v6 (broadcastInDim S4x1 ![0] bcast_S4_S4x1_0 : (⟨S4, .i32⟩ : BufTy).Contents (Elt F) → (⟨S4x1, .i32⟩ : BufTy).Contents (Elt F)),
    StableHlo.unary main_v6 main_v7 (broadcastInDim S4x1024 ![0, 1] bcast_S4x1_S4x1024_0_1 : (⟨S4x1, .i32⟩ : BufTy).Contents (Elt F) → (⟨S4x1024, .i32⟩ : BufTy).Contents (Elt F)),
    StableHlo.binary main_arg2 main_v7 main_v8 (addi : (⟨S4x1024, .i32⟩ : BufTy).Contents (Elt F) → (⟨S4x1024, .i32⟩ : BufTy).Contents (Elt F) → (⟨S4x1024, .i32⟩ : BufTy).Contents (Elt F)),
    StableHlo.reshape main_v8 main_v9 (rfl : (.i32 : EltTy) = .i32) shapeCasts_S4x1024_S4096]

/-- The operations before the second call. -/
abbrev ops1 : List (HloOp τ sig (Elt F)) :=
  [StableHlo.reshape main_v10_1 main_v11 (rfl : (.f32 : EltTy) = .f32) shapeCasts_S12288_S4x1024x3,
    StableHlo.reshape main_arg3 main_v12 (rfl : (.i32 : EltTy) = .i32) shapeCasts_S4x1024x24_S4096x24,
    StableHlo.nullary main_c_1 (constantI S_ 32 1073741824#32),
    StableHlo.TRef.unary (StableHlo.TRef.of (T := ⟨S_, .i32⟩) main_c_1) (StableHlo.TRef.of (T := ⟨S_, .i32⟩) main_call1_v0) id,
    StableHlo.TRef.binary (StableHlo.TRef.of (T := ⟨S4096x24, .i32⟩) main_v12) (StableHlo.TRef.of (T := ⟨S_, .i32⟩) main_call1_v0) (StableHlo.TRef.of (T := ⟨S4096x32, .i32⟩) main_v13) (fun x v => pad S4096x32 ![0, 0] ![0, 8] ![0, 0] x v pads_S4096x24_S4096x32_000_080 h_S_),
    StableHlo.nullary main_v14 (iotaInDim S4096 32 0),
    StableHlo.nullary main_c_2 (constantI S_ 32 1024#32),
    StableHlo.TRef.unary (StableHlo.TRef.of (T := ⟨S_, .i32⟩) main_c_2) (StableHlo.TRef.of (T := ⟨S_, .i32⟩) main_call2_v0) id,
    StableHlo.TRef.unary (StableHlo.TRef.of (T := ⟨S_, .i32⟩) main_call2_v0) (StableHlo.TRef.of (T := ⟨S4096, .i32⟩) main_call2_v1) (broadcastInDim S4096 ![] bcast_S_S4096),
    StableHlo.TRef.binary (StableHlo.TRef.of (T := ⟨S4096, .i32⟩) main_v14) (StableHlo.TRef.of (T := ⟨S4096, .i32⟩) main_call2_v1) (StableHlo.TRef.of (T := ⟨S4096, .i32⟩) main_call2_v2) Host.divsi,
    StableHlo.TRef.unary (StableHlo.TRef.of (T := ⟨S4096, .i32⟩) main_v14) (StableHlo.TRef.of (T := ⟨S4096, .i32⟩) main_call2_v3) signi,
    StableHlo.TRef.unary (StableHlo.TRef.of (T := ⟨S_, .i32⟩) main_call2_v0) (StableHlo.TRef.of (T := ⟨S_, .i32⟩) main_call2_v4) signi,
    StableHlo.TRef.unary (StableHlo.TRef.of (T := ⟨S_, .i32⟩) main_call2_v4) (StableHlo.TRef.of (T := ⟨S4096, .i32⟩) main_call2_v5) (broadcastInDim S4096 ![] bcast_S_S4096),
    StableHlo.TRef.binary (StableHlo.TRef.of (T := ⟨S4096, .i32⟩) main_call2_v3) (StableHlo.TRef.of (T := ⟨S4096, .i32⟩) main_call2_v5) (StableHlo.TRef.of (T := ⟨S4096, .i1⟩) main_call2_v6) (cmpi .ne),
    StableHlo.TRef.unary (StableHlo.TRef.of (T := ⟨S_, .i32⟩) main_call2_v0) (StableHlo.TRef.of (T := ⟨S4096, .i32⟩) main_call2_v7) (broadcastInDim S4096 ![] bcast_S_S4096),
    StableHlo.TRef.binary (StableHlo.TRef.of (T := ⟨S4096, .i32⟩) main_v14) (StableHlo.TRef.of (T := ⟨S4096, .i32⟩) main_call2_v7) (StableHlo.TRef.of (T := ⟨S4096, .i32⟩) main_call2_v8) Host.remsi,
    StableHlo.TRef.nullary (StableHlo.TRef.of (T := ⟨S_, .i32⟩) main_call2_c) (constantI S_ 32 0#32),
    StableHlo.TRef.unary (StableHlo.TRef.of (T := ⟨S_, .i32⟩) main_call2_c) (StableHlo.TRef.of (T := ⟨S4096, .i32⟩) main_call2_v9) (broadcastInDim S4096 ![] bcast_S_S4096),
    StableHlo.TRef.binary (StableHlo.TRef.of (T := ⟨S4096, .i32⟩) main_call2_v8) (StableHlo.TRef.of (T := ⟨S4096, .i32⟩) main_call2_v9) (StableHlo.TRef.of (T := ⟨S4096, .i1⟩) main_call2_v10) (cmpi .ne),
    StableHlo.TRef.binary (StableHlo.TRef.of (T := ⟨S4096, .i1⟩) main_call2_v6) (StableHlo.TRef.of (T := ⟨S4096, .i1⟩) main_call2_v10) (StableHlo.TRef.of (T := ⟨S4096, .i1⟩) main_call2_v11) andi,
    StableHlo.TRef.nullary (StableHlo.TRef.of (T := ⟨S_, .i32⟩) main_call2_c_0) (constantI S_ 32 1#32),
    StableHlo.TRef.unary (StableHlo.TRef.of (T := ⟨S_, .i32⟩) main_call2_c_0) (StableHlo.TRef.of (T := ⟨S4096, .i32⟩) main_call2_v12) (broadcastInDim S4096 ![] bcast_S_S4096),
    StableHlo.TRef.binary (StableHlo.TRef.of (T := ⟨S4096, .i32⟩) main_call2_v2) (StableHlo.TRef.of (T := ⟨S4096, .i32⟩) main_call2_v12) (StableHlo.TRef.of (T := ⟨S4096, .i32⟩) main_call2_v13) subi,
    StableHlo.TRef.ternary (StableHlo.TRef.of (T := ⟨S4096, .i1⟩) main_call2_v11) (StableHlo.TRef.of (T := ⟨S4096, .i32⟩) main_call2_v13) (StableHlo.TRef.of (T := ⟨S4096, .i32⟩) main_call2_v2) (StableHlo.TRef.of (T := ⟨S4096, .i32⟩) main_v15) select,
    StableHlo.nullary main_c_3 (constantI S_ 32 8192#32),
    StableHlo.unary main_c_3 main_v16 (broadcastInDim S4096 ![] bcast_S_S4096 : (⟨S_, .i32⟩ : BufTy).Contents (Elt F) → (⟨S4096, .i32⟩ : BufTy).Contents (Elt F)),
    StableHlo.binary main_v15 main_v16 main_v17 (muli : (⟨S4096, .i32⟩ : BufTy).Contents (Elt F) → (⟨S4096, .i32⟩ : BufTy).Contents (Elt F) → (⟨S4096, .i32⟩ : BufTy).Contents (Elt F)),
    StableHlo.unary main_v17 main_v18 (broadcastInDim S4096x1 ![0] bcast_S4096_S4096x1_0 : (⟨S4096, .i32⟩ : BufTy).Contents (Elt F) → (⟨S4096x1, .i32⟩ : BufTy).Contents (Elt F)),
    StableHlo.unary main_v18 main_v19 (broadcastInDim S4096x32 ![0, 1] bcast_S4096x1_S4096x32_0_1 : (⟨S4096x1, .i32⟩ : BufTy).Contents (Elt F) → (⟨S4096x32, .i32⟩ : BufTy).Contents (Elt F)),
    StableHlo.binary main_v13 main_v19 main_v20 (addi : (⟨S4096x32, .i32⟩ : BufTy).Contents (Elt F) → (⟨S4096x32, .i32⟩ : BufTy).Contents (Elt F) → (⟨S4096x32, .i32⟩ : BufTy).Contents (Elt F))]

/-- The operations before the third call. -/
abbrev ops2 : List (HloOp τ sig (Elt F)) :=
  [StableHlo.reshape main_v21 main_v22 (rfl : (.f32 : EltTy) = .f32) shapeCasts_S32x16_S4x8x16,
    StableHlo.unary main_v22 main_v23 ((extractStridedSlice S4x8x1 ![0, 0, 0] · slices_S4x8x16_S4x8x1_0_0_0) : (⟨S4x8x16, .f32⟩ : BufTy).Contents (Elt F) → (⟨S4x8x1, .f32⟩ : BufTy).Contents (Elt F)),
    StableHlo.reshape main_v23 main_v24 (rfl : (.f32 : EltTy) = .f32) shapeCasts_S4x8x1_S4x8,
    StableHlo.nullary main_cst (constant S_ .f32 0x00000000#32),
    StableHlo.binary main_v24 main_cst main_v25 ((fun x v => Host.reduceAdd x v reducesTo_S4x8_S4_d1 h_S_) : (⟨S4x8, .f32⟩ : BufTy).Contents (Elt F) → (⟨S_, .f32⟩ : BufTy).Contents (Elt F) → (⟨S4, .f32⟩ : BufTy).Contents (Elt F)),
    StableHlo.unary main_v22 main_v26 ((extractStridedSlice S4x8x1 ![0, 0, 1] · slices_S4x8x16_S4x8x1_0_0_1) : (⟨S4x8x16, .f32⟩ : BufTy).Contents (Elt F) → (⟨S4x8x1, .f32⟩ : BufTy).Contents (Elt F)),
    StableHlo.reshape main_v26 main_v27 (rfl : (.f32 : EltTy) = .f32) shapeCasts_S4x8x1_S4x8,
    StableHlo.nullary main_cst_4 (constant S_ .f32 0x00000000#32),
    StableHlo.binary main_v27 main_cst_4 main_v28 ((fun x v => Host.reduceAdd x v reducesTo_S4x8_S4_d1 h_S_) : (⟨S4x8, .f32⟩ : BufTy).Contents (Elt F) → (⟨S_, .f32⟩ : BufTy).Contents (Elt F) → (⟨S4, .f32⟩ : BufTy).Contents (Elt F)),
    StableHlo.binary main_v25 main_v25 main_v29 (mulf : (⟨S4, .f32⟩ : BufTy).Contents (Elt F) → (⟨S4, .f32⟩ : BufTy).Contents (Elt F) → (⟨S4, .f32⟩ : BufTy).Contents (Elt F)),
    StableHlo.nullary main_cst_5 (constant S_ .f32 0x4B100000#32),
    StableHlo.unary main_cst_5 main_v30 (broadcastInDim S4 ![] bcast_S_S4 : (⟨S_, .f32⟩ : BufTy).Contents (Elt F) → (⟨S4, .f32⟩ : BufTy).Contents (Elt F)),
    StableHlo.binary main_v29 main_v30 main_v31 (Host.divf : (⟨S4, .f32⟩ : BufTy).Contents (Elt F) → (⟨S4, .f32⟩ : BufTy).Contents (Elt F) → (⟨S4, .f32⟩ : BufTy).Contents (Elt F)),
    StableHlo.binary main_v28 main_v31 main_v32 (subf : (⟨S4, .f32⟩ : BufTy).Contents (Elt F) → (⟨S4, .f32⟩ : BufTy).Contents (Elt F) → (⟨S4, .f32⟩ : BufTy).Contents (Elt F)),
    StableHlo.nullary main_cst_6 (constant S_ .f32 0x4B0FFFFF#32),
    StableHlo.unary main_cst_6 main_v33 (broadcastInDim S4 ![] bcast_S_S4 : (⟨S_, .f32⟩ : BufTy).Contents (Elt F) → (⟨S4, .f32⟩ : BufTy).Contents (Elt F)),
    StableHlo.binary main_v32 main_v33 main_v34 (Host.divf : (⟨S4, .f32⟩ : BufTy).Contents (Elt F) → (⟨S4, .f32⟩ : BufTy).Contents (Elt F) → (⟨S4, .f32⟩ : BufTy).Contents (Elt F)),
    StableHlo.unary main_v34 main_v35 (Host.sqrt : (⟨S4, .f32⟩ : BufTy).Contents (Elt F) → (⟨S4, .f32⟩ : BufTy).Contents (Elt F)),
    StableHlo.nullary main_cst_7 (constant S_ .f32 0x3727C5AC#32),
    StableHlo.unary main_cst_7 main_v36 (broadcastInDim S4 ![] bcast_S_S4 : (⟨S_, .f32⟩ : BufTy).Contents (Elt F) → (⟨S4, .f32⟩ : BufTy).Contents (Elt F)),
    StableHlo.binary main_v35 main_v36 main_v37 (addf : (⟨S4, .f32⟩ : BufTy).Contents (Elt F) → (⟨S4, .f32⟩ : BufTy).Contents (Elt F) → (⟨S4, .f32⟩ : BufTy).Contents (Elt F)),
    StableHlo.nullary main_cst_8 (constant S_ .f32 0x3F800000#32),
    StableHlo.unary main_cst_8 main_v38 (broadcastInDim S4 ![] bcast_S_S4 : (⟨S_, .f32⟩ : BufTy).Contents (Elt F) → (⟨S4, .f32⟩ : BufTy).Contents (Elt F)),
    StableHlo.binary main_v38 main_v37 main_v39 (Host.divf : (⟨S4, .f32⟩ : BufTy).Contents (Elt F) → (⟨S4, .f32⟩ : BufTy).Contents (Elt F) → (⟨S4, .f32⟩ : BufTy).Contents (Elt F)),
    StableHlo.nullary main_c_9 (constantI S_ 32 0#32),
    StableHlo.TRef.unary (StableHlo.TRef.of (T := ⟨S_, .i32⟩) main_c_9) (StableHlo.TRef.of (T := ⟨S_, .f32⟩) main_call3_v0) (sitofp .f32),
    StableHlo.TRef.binary (StableHlo.TRef.of (T := ⟨S4, .f32⟩) main_v39) (StableHlo.TRef.of (T := ⟨S_, .f32⟩) main_call3_v0) (StableHlo.TRef.of (T := ⟨S16, .f32⟩) main_v40) (fun x v => pad S16 ![0] ![12] ![0] x v pads_S4_S16_0120 h_S_),
    StableHlo.reshape main_arg4 main_v41 (rfl : (.f32 : EltTy) = .f32) shapeCasts_S1x1x1x384_S384,
    StableHlo.reshape main_arg5 main_v42 (rfl : (.f32 : EltTy) = .f32) shapeCasts_S1x1x1x384_S384]

/-- The operations before the end. -/
abbrev ops3 : List (HloOp τ sig (Elt F)) :=
  [StableHlo.reshape main_v43 main_v44 (rfl : (.f32 : EltTy) = .f32) shapeCasts_S4096x24x768_S4x1024x24x768]

set_option maxRecDepth 8192 in
set_option maxHeartbeats 4000000 in
/-- The program: the lists and the calls in turn. -/
theorem main_eq (d : Dev nD) : main (F := F) d
    = (StableHlo.seq ops0 >>= fun _ => (K (F := F)).run d 0 >>= fun _ => StableHlo.seq ops1 >>= fun _ => (K (F := F)).run d 1 >>= fun _ =>
        StableHlo.seq ops2 >>= fun _ => (K (F := F)).run d 2 >>= fun _ => StableHlo.seq ops3 >>= fun _ => pure ⟨⟩) := rfl

set_option maxRecDepth 8192 in
theorem sub0 : (ops0 : List (HloOp τ sig (Elt F))).Forall fun op => op.bufs ⊆ StableHlo.tcRefs τ sig :=
  ⟨StableHlo.reshape_bufs_sub .., StableHlo.nullary_bufs_sub .., StableHlo.unary_bufs_sub .., StableHlo.binary_bufs_sub .., StableHlo.reshape_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.reshape_bufs_sub ..⟩
theorem fresh0 : ∀ op ∈ (ops0 : List (HloOp τ sig (Elt F))), op.fresh = ∅ := by
  intro op h; fin_cases h <;> rfl

set_option maxRecDepth 8192 in
theorem sub1 : (ops1 : List (HloOp τ sig (Elt F))).Forall fun op => op.bufs ⊆ StableHlo.tcRefs τ sig :=
  ⟨StableHlo.reshape_bufs_sub .., StableHlo.reshape_bufs_sub .., StableHlo.nullary_bufs_sub .., StableHlo.unary_bufs_sub .., StableHlo.binary_bufs_sub .., StableHlo.nullary_bufs_sub .., StableHlo.nullary_bufs_sub .., StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.unary_bufs_sub .., StableHlo.unary_bufs_sub .., StableHlo.binary_bufs_sub ..⟩
theorem fresh1 : ∀ op ∈ (ops1 : List (HloOp τ sig (Elt F))), op.fresh = ∅ := by
  intro op h; fin_cases h <;> rfl

set_option maxRecDepth 8192 in
theorem sub2 : (ops2 : List (HloOp τ sig (Elt F))).Forall fun op => op.bufs ⊆ StableHlo.tcRefs τ sig :=
  ⟨StableHlo.reshape_bufs_sub .., StableHlo.unary_bufs_sub .., StableHlo.reshape_bufs_sub .., StableHlo.nullary_bufs_sub .., StableHlo.binary_bufs_sub .., StableHlo.unary_bufs_sub .., StableHlo.reshape_bufs_sub .., StableHlo.nullary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.reshape_bufs_sub .., StableHlo.reshape_bufs_sub ..⟩
theorem fresh2 : ∀ op ∈ (ops2 : List (HloOp τ sig (Elt F))), op.fresh = ∅ := by
  intro op h; fin_cases h <;> rfl

set_option maxRecDepth 8192 in
theorem sub3 : (ops3 : List (HloOp τ sig (Elt F))).Forall fun op => op.bufs ⊆ StableHlo.tcRefs τ sig :=
  StableHlo.reshape_bufs_sub ..
theorem fresh3 : ∀ op ∈ (ops3 : List (HloOp τ sig (Elt F))), op.fresh = ∅ := by
  intro op h; fin_cases h <;> rfl

end Cert.Proof.Tiles

end
-- ==== Proof.Main.lean ====
/-
The program's run: the host's operations and the three calls in turn, from the launch memory to the final contents of
the device's arrays.
-/
module

public import proofs.«01_k».proof.Proof.Launch
public import proofs.«01_k».proof.Proof.Host

@[expose] public section

noncomputable section

namespace Cert.Proof.Tiles

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 3) (Elt F) ℕ UU ℕ

/-! ## What a call leaves alone -/

theorem after0_of_ne (V : Valuation τ sig (Elt F)) {b : DevRef τ sig} (h : b ≠ dr main_v10_0) (h' : b ≠ dr main_v10_1) : after0 V b = V b :=
  (Function.update_of_ne h' _ _).trans (Function.update_of_ne h _ _)

theorem after0_sf (V : Valuation τ sig (Elt F)) : after0 V (dr main_v10_0) = sfVal (V (dr main_v0)) (V (dr main_v9)) :=
  (Function.update_of_ne (show dr main_v10_0 ≠ dr main_v10_1 by decide) _ _).trans (Function.update_self _ _ _)

theorem after0_sp (V : Valuation τ sig (Elt F)) : after0 V (dr main_v10_1) = spVal (V (dr main_v2)) (V (dr main_v9)) := Function.update_self _ _ _

variable [FloatOps F]

theorem after1_of_ne (V : Valuation τ sig (Elt F)) {b : DevRef τ sig} (h : b ≠ dr main_v21) : after1 V b = V b := Function.update_of_ne h _ _

theorem after1_parts (V : Valuation τ sig (Elt F)) : after1 V (dr main_v21) = partsVal (V (dr main_v0)) (V (dr main_v20)) (V (dr main_v10_0)) :=
  Function.update_self _ _ _

theorem after2_of_ne (V : Valuation τ sig (Elt F)) {b : DevRef τ sig} (h : b ≠ dr main_v43) : after2 V b = V b := Function.update_of_ne h _ _

theorem after2_out (V : Valuation τ sig (Elt F)) :
    after2 V (dr main_v43) = outVal (V (dr main_v0)) (V (dr main_v20)) (V (dr main_v10_0)) (V (dr main_v41)) (V (dr main_v42)) (V (dr main_v40)) :=
  Function.update_self _ _ _

/-! ## The contents as the program goes on -/

variable (m : (ℓ : Loc nD τ sig) → Buf (Elt F) ℓ) (ρ : Dev nD → PrngReg)

def V0 (d : Dev nD) : Valuation τ sig (Elt F) := StableHlo.launchContents m d
def V1 (d : Dev nD) : Valuation τ sig (Elt F) := StableHlo.after ops0 (V0 m d)
def V2 (d : Dev nD) : Valuation τ sig (Elt F) := after0 (V1 m d)
def V3 (d : Dev nD) : Valuation τ sig (Elt F) := StableHlo.after ops1 (V2 m d)
def V4 (d : Dev nD) : Valuation τ sig (Elt F) := after1 (V3 m d)
def V5 (d : Dev nD) : Valuation τ sig (Elt F) := StableHlo.after ops2 (V4 m d)
def V6 (d : Dev nD) : Valuation τ sig (Elt F) := after2 (V5 m d)
def V7 (d : Dev nD) : Valuation τ sig (Elt F) := StableHlo.after ops3 (V6 m d)

/-- What the three calls find. -/
def found : Finds F := fun q => match q with | 0 => V1 m | 1 => V3 m | 2 => V5 m

theorem hst0 (d : Dev nD) : (StableHlo.held (T d : Thread nD τ) T0 (found m 0 d) : sProp (MT nD τ sig (HIx 3) (Elt F) ℕ UU ℕ)) = bigSep Finset.univ (goOf (found m) 0 d) :=
  held0_eq d _
theorem hst1 (d : Dev nD) : (StableHlo.held (T d : Thread nD τ) T1 (found m 1 d) : sProp (MT nD τ sig (HIx 3) (Elt F) ℕ UU ℕ)) = bigSep Finset.univ (goOf (found m) 1 d) :=
  held1_eq d _
theorem hst2 (d : Dev nD) : (StableHlo.held (T d : Thread nD τ) T2 (found m 2 d) : sProp (MT nD τ sig (HIx 3) (Elt F) ℕ UU ℕ)) = bigSep Finset.univ (goOf (found m) 2 d) :=
  held2_eq d _

theorem hdn0 (d : Dev nD) : (StableHlo.held (T d : Thread nD τ) T0 (V2 m d) : sProp (MT nD τ sig (HIx 3) (Elt F) ℕ UU ℕ)) = bigSep Finset.univ (tdOf (found m) 0 d) := by
  refine (held0_eq d _).trans ?_
  unfold V2
  rw [after0_sf, after0_sp, after0_of_ne _ (b := dr main_v0) (by decide) (by decide), after0_of_ne _ (b := dr main_v2) (by decide) (by decide),
    after0_of_ne _ (b := dr main_v9) (by decide) (by decide)]
  rfl
theorem hdn1 (d : Dev nD) : (StableHlo.held (T d : Thread nD τ) T1 (V4 m d) : sProp (MT nD τ sig (HIx 3) (Elt F) ℕ UU ℕ)) = bigSep Finset.univ (tdOf (found m) 1 d) := by
  refine (held1_eq d _).trans ?_
  unfold V4
  rw [after1_parts, after1_of_ne _ (b := dr main_v0) (by decide), after1_of_ne _ (b := dr main_v20) (by decide), after1_of_ne _ (b := dr main_v10_0) (by decide)]
  rfl
theorem hdn2 (d : Dev nD) : (StableHlo.held (T d : Thread nD τ) T2 (V6 m d) : sProp (MT nD τ sig (HIx 3) (Elt F) ℕ UU ℕ)) = bigSep Finset.univ (tdOf (found m) 2 d) := by
  refine (held2_eq d _).trans ?_
  unfold V6
  rw [after2_out, after2_of_ne _ (b := dr main_v0) (by decide), after2_of_ne _ (b := dr main_v20) (by decide), after2_of_ne _ (b := dr main_v10_0) (by decide),
    after2_of_ne _ (b := dr main_v41) (by decide), after2_of_ne _ (b := dr main_v42) (by decide), after2_of_ne _ (b := dr main_v40) (by decide)]
  rfl

theorem rest0 (d : Dev nD) (b : DevRef τ sig) (h : b ∉ T0) : V2 m d b = found m 0 d b :=
  after0_of_ne _ (fun e => h (by subst e; decide)) (fun e => h (by subst e; decide))
theorem rest1 (d : Dev nD) (b : DevRef τ sig) (h : b ∉ T1) : V4 m d b = found m 1 d b := after1_of_ne _ (fun e => h (by subst e; decide))
theorem rest2 (d : Dev nD) (b : DevRef τ sig) (h : b ∉ T2) : V6 m d b = found m 2 d b := after2_of_ne _ (fun e => h (by subst e; decide))

theorem sub0' : T0 ⊆ Pipeline.ucRefs τ sig := by decide
theorem sub1' : T1 ⊆ Pipeline.ucRefs τ sig := by decide
theorem sub2' : T2 ⊆ Pipeline.ucRefs τ sig := by decide

/-! ## The host -/

theorem uc (ops : List (HloOp τ sig (Elt F))) (h : ops.Forall fun op => op.bufs ⊆ StableHlo.tcRefs τ sig) : ∀ op ∈ ops, op.bufs ⊆ Pipeline.ucRefs τ sig :=
  fun op ho => Pipeline.sub_ucRefs op (List.forall_iff_forall_mem.1 h op ho)

abbrev FIN (d : Dev nD) : sProp (MT nD τ sig (HIx 3) (Elt F) ℕ UU ℕ) := StableHlo.held (T d : Thread nD τ) (Pipeline.ucRefs τ sig) (V7 m d)

/-- The host's run on a device: from the launch contents to the final ones. -/
theorem hmain (κ : GSem nD τ sig → ℕ) (d : Dev nD) :
    iprop((K (F := F)).ctx EH (P (found m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 3 ∗ FIN m d ∗ (K (F := F)).tcEnd d) := by
  unfold SparseCore.Cfg.tcRes SparseCore.Cfg.tcEnd
  rw [show (unscopedBufs d (fun b => m ((SparseCore.T d : Thread nD τ).loc b)) : sProp (MT nD τ sig (HIx 3) (Elt F) ℕ UU ℕ))
      = StableHlo.held (T d : Thread nD τ) (Pipeline.ucRefs τ sig) (V0 m d) from Pipeline.unscopedBufs_held d (V0 m d), main_eq]
  iintro ⟨#Hctx, Hst, ⟨Hb, Hm, Hts, -⟩, -⟩
  iapply (StableHlo.wp_seq 𝒱 none Set.univ d (Pipeline.ucRefs τ sig) _ ops0 (uc _ sub0) fresh0 (V0 m d)) $$ [Hb Hm]
  · isplitl [Hb] <;> iassumption
  iintro ⟨Hb, Hm⟩
  ihave Hm := (Entails.of_eq (show (StableHlo.held (T d : Thread nD τ) (Pipeline.ucRefs τ sig) (StableHlo.after ops0 (V0 m d)) : sProp (MT nD τ sig (HIx 3) (Elt F) ℕ UU ℕ))
    = StableHlo.held (T d : Thread nD τ) (Pipeline.ucRefs τ sig) (found m 0 d) from rfl)) $$ Hm
  ihave Hst := (Entails.of_eq (show ((K (F := F)).tcSt EH d 0 : sProp (MT nD τ sig (HIx 3) (Elt F) ℕ UU ℕ)) = (K (F := F)).tcSt EH d (0 : Fin 3).val from rfl)) $$ Hst
  iapply (call_step (found m) 0 κ d sub0' (V2 m d) (hst0 m d) (hdn0 m d) (rest0 m d) _ _) $$ [Hst Hm]
  · isplitr; · iexact Hctx
    isplitl [Hst] <;> iassumption
  iintro ⟨Hst, Hm⟩
  iapply (StableHlo.wp_seq 𝒱 none Set.univ d (Pipeline.ucRefs τ sig) _ ops1 (uc _ sub1) fresh1 (V2 m d)) $$ [Hb Hm]
  · isplitl [Hb] <;> iassumption
  iintro ⟨Hb, Hm⟩
  ihave Hm := (Entails.of_eq (show (StableHlo.held (T d : Thread nD τ) (Pipeline.ucRefs τ sig) (StableHlo.after ops1 (V2 m d)) : sProp (MT nD τ sig (HIx 3) (Elt F) ℕ UU ℕ))
    = StableHlo.held (T d : Thread nD τ) (Pipeline.ucRefs τ sig) (found m 1 d) from rfl)) $$ Hm
  ihave Hst := (Entails.of_eq (show ((K (F := F)).tcSt EH d ((0 : Fin 3).val + 1) : sProp (MT nD τ sig (HIx 3) (Elt F) ℕ UU ℕ)) = (K (F := F)).tcSt EH d (1 : Fin 3).val from rfl)) $$ Hst
  iapply (call_step (found m) 1 κ d sub1' (V4 m d) (hst1 m d) (hdn1 m d) (rest1 m d) _ _) $$ [Hst Hm]
  · isplitr; · iexact Hctx
    isplitl [Hst] <;> iassumption
  iintro ⟨Hst, Hm⟩
  iapply (StableHlo.wp_seq 𝒱 none Set.univ d (Pipeline.ucRefs τ sig) _ ops2 (uc _ sub2) fresh2 (V4 m d)) $$ [Hb Hm]
  · isplitl [Hb] <;> iassumption
  iintro ⟨Hb, Hm⟩
  ihave Hm := (Entails.of_eq (show (StableHlo.held (T d : Thread nD τ) (Pipeline.ucRefs τ sig) (StableHlo.after ops2 (V4 m d)) : sProp (MT nD τ sig (HIx 3) (Elt F) ℕ UU ℕ))
    = StableHlo.held (T d : Thread nD τ) (Pipeline.ucRefs τ sig) (found m 2 d) from rfl)) $$ Hm
  ihave Hst := (Entails.of_eq (show ((K (F := F)).tcSt EH d ((1 : Fin 3).val + 1) : sProp (MT nD τ sig (HIx 3) (Elt F) ℕ UU ℕ)) = (K (F := F)).tcSt EH d (2 : Fin 3).val from rfl)) $$ Hst
  iapply (call_step (found m) 2 κ d sub2' (V6 m d) (hst2 m d) (hdn2 m d) (rest2 m d) _ _) $$ [Hst Hm]
  · isplitr; · iexact Hctx
    isplitl [Hst] <;> iassumption
  iintro ⟨Hst, Hm⟩
  iapply (StableHlo.wp_seq 𝒱 none Set.univ d (Pipeline.ucRefs τ sig) _ ops3 (uc _ sub3) fresh3 (V6 m d)) $$ [Hb Hm]
  · isplitl [Hb] <;> iassumption
  iintro ⟨Hb, Hm⟩
  simp only [wp_pure]
  imodintro
  ihave Hst := (Entails.of_eq (show ((K (F := F)).tcSt EH d ((2 : Fin 3).val + 1) : sProp (MT nD τ sig (HIx 3) (Elt F) ℕ UU ℕ)) = (K (F := F)).tcSt EH d 3 from rfl)) $$ Hst
  isplitl [Hst]; · iexact Hst
  isplitl [Hm]; · iexact Hm
  isplitl [Hb] <;> iassumption

/-! ## The run -/

/-- The final contents of a device's arrays. -/
def fq (d : Dev nD) (s' : Phys nD τ sig (Elt F)) : Prop := ∀ b ∈ Pipeline.ucRefs τ sig, s'.mem.mem (d, b) = V7 m d b

theorem hfin (d : Dev nD) (s' : Phys nD τ sig (Elt F)) : iprop(FIN m d ∗ SI s') ⊢ (⌜fq m d s'⌝ : sProp (MT nD τ sig (HIx 3) (Elt F) ℕ UU ℕ)) := by
  unfold FIN StableHlo.held
  iintro ⟨H, HSI⟩
  ihave %h := (SI_pointsTo_bufs_agree (c := d) (qs := fun _ => fullShare) (F := V7 m d) (Pipeline.ucRefs τ sig)) $$ [HSI H]
  · isplitl [HSI]; · iexact HSI
    iexact H
  ipureintro
  exact h

def QC : PUnit × MemSt nD τ sig (Elt F) → Prop :=
  fun r => (∀ c : Dev nD, ∀ b ∈ Pipeline.ucRefs τ sig, r.2.mem (c, b) = V7 m c b) ∧ r.2.sem = fun _ => 0

/-- Every run of the program ends, with the final contents in the arrays and every counter at zero. -/
theorem run_main [∀ e, Nonempty (Elt F e)] (hA : InRange (found m)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (found m)) (A := ∅) facts v₀
    (fun q hq => match q with | 0 => nomatch hq | 1 => nomatch hq | 2 => nomatch hq)
    (fun q _ => match q with | 0 => obl0 (found m) hA | 1 => obl1 (found m) hA | 2 => obl2 (found m) hA)
    (fun q _ => SparseCore.Cfg.VecSplit.of_plain (split (found m) q))
    m ρ main (fun _ => iprop(emp)) (FIN m) (u₀ (F := F)) (sep_elim_left.trans (hu₀ (found m))) (hmain m ρ) (fq m) (hfin m) (QC m) (fun _ h hz => ⟨h, hz⟩)

end Cert.Proof.Tiles

end
-- ==== Proof.Reads.lean ====
/-
What the host's operations leave in the arrays the calls read and in the results, element by element.
-/
module

public import proofs.«01_k».proof.Proof.Main
public import Idealize.ShloMosaic.Lib.Pointwise
public import Idealize.ShloMosaic.Lib.Tactic.CleanTypes

@[expose] public section

noncomputable section

namespace Cert.Proof.Tiles

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 3) (Elt F) ℕ UU ℕ

variable [FloatOps F]

/-! ## What the operations leave alone -/

theorem keep0_arg0 (V : Valuation τ sig (Elt F)) : StableHlo.after ops0 V (dr main_arg0) = V (dr main_arg0) := by
  simp only [ops0, StableHlo.TRef.binary, StableHlo.TRef.nullary, StableHlo.TRef.ternary, StableHlo.TRef.unary, StableHlo.TRef.toBuf, StableHlo.TRef.ofBuf, cast_eq]; after_results_simp
theorem keep0_arg1 (V : Valuation τ sig (Elt F)) : StableHlo.after ops0 V (dr main_arg1) = V (dr main_arg1) := by
  simp only [ops0, StableHlo.TRef.binary, StableHlo.TRef.nullary, StableHlo.TRef.ternary, StableHlo.TRef.unary, StableHlo.TRef.toBuf, StableHlo.TRef.ofBuf, cast_eq]; after_results_simp
theorem keep0_arg2 (V : Valuation τ sig (Elt F)) : StableHlo.after ops0 V (dr main_arg2) = V (dr main_arg2) := by
  simp only [ops0, StableHlo.TRef.binary, StableHlo.TRef.nullary, StableHlo.TRef.ternary, StableHlo.TRef.unary, StableHlo.TRef.toBuf, StableHlo.TRef.ofBuf, cast_eq]; after_results_simp
theorem keep0_arg3 (V : Valuation τ sig (Elt F)) : StableHlo.after ops0 V (dr main_arg3) = V (dr main_arg3) := by
  simp only [ops0, StableHlo.TRef.binary, StableHlo.TRef.nullary, StableHlo.TRef.ternary, StableHlo.TRef.unary, StableHlo.TRef.toBuf, StableHlo.TRef.ofBuf, cast_eq]; after_results_simp
theorem keep0_arg4 (V : Valuation τ sig (Elt F)) : StableHlo.after ops0 V (dr main_arg4) = V (dr main_arg4) := by
  simp only [ops0, StableHlo.TRef.binary, StableHlo.TRef.nullary, StableHlo.TRef.ternary, StableHlo.TRef.unary, StableHlo.TRef.toBuf, StableHlo.TRef.ofBuf, cast_eq]; after_results_simp
theorem keep0_arg5 (V : Valuation τ sig (Elt F)) : StableHlo.after ops0 V (dr main_arg5) = V (dr main_arg5) := by
  simp only [ops0, StableHlo.TRef.binary, StableHlo.TRef.nullary, StableHlo.TRef.ternary, StableHlo.TRef.unary, StableHlo.TRef.toBuf, StableHlo.TRef.ofBuf, cast_eq]; after_results_simp
theorem keep1_arg0 (V : Valuation τ sig (Elt F)) : StableHlo.after ops1 V (dr main_arg0) = V (dr main_arg0) := by
  simp only [ops1, StableHlo.TRef.binary, StableHlo.TRef.nullary, StableHlo.TRef.ternary, StableHlo.TRef.unary, StableHlo.TRef.toBuf, StableHlo.TRef.ofBuf, cast_eq]; after_results_simp
theorem keep1_arg1 (V : Valuation τ sig (Elt F)) : StableHlo.after ops1 V (dr main_arg1) = V (dr main_arg1) := by
  simp only [ops1, StableHlo.TRef.binary, StableHlo.TRef.nullary, StableHlo.TRef.ternary, StableHlo.TRef.unary, StableHlo.TRef.toBuf, StableHlo.TRef.ofBuf, cast_eq]; after_results_simp
theorem keep1_arg2 (V : Valuation τ sig (Elt F)) : StableHlo.after ops1 V (dr main_arg2) = V (dr main_arg2) := by
  simp only [ops1, StableHlo.TRef.binary, StableHlo.TRef.nullary, StableHlo.TRef.ternary, StableHlo.TRef.unary, StableHlo.TRef.toBuf, StableHlo.TRef.ofBuf, cast_eq]; after_results_simp
theorem keep1_arg3 (V : Valuation τ sig (Elt F)) : StableHlo.after ops1 V (dr main_arg3) = V (dr main_arg3) := by
  simp only [ops1, StableHlo.TRef.binary, StableHlo.TRef.nullary, StableHlo.TRef.ternary, StableHlo.TRef.unary, StableHlo.TRef.toBuf, StableHlo.TRef.ofBuf, cast_eq]; after_results_simp
theorem keep1_arg4 (V : Valuation τ sig (Elt F)) : StableHlo.after ops1 V (dr main_arg4) = V (dr main_arg4) := by
  simp only [ops1, StableHlo.TRef.binary, StableHlo.TRef.nullary, StableHlo.TRef.ternary, StableHlo.TRef.unary, StableHlo.TRef.toBuf, StableHlo.TRef.ofBuf, cast_eq]; after_results_simp
theorem keep1_arg5 (V : Valuation τ sig (Elt F)) : StableHlo.after ops1 V (dr main_arg5) = V (dr main_arg5) := by
  simp only [ops1, StableHlo.TRef.binary, StableHlo.TRef.nullary, StableHlo.TRef.ternary, StableHlo.TRef.unary, StableHlo.TRef.toBuf, StableHlo.TRef.ofBuf, cast_eq]; after_results_simp
theorem keep1_v0 (V : Valuation τ sig (Elt F)) : StableHlo.after ops1 V (dr main_v0) = V (dr main_v0) := by
  simp only [ops1, StableHlo.TRef.binary, StableHlo.TRef.nullary, StableHlo.TRef.ternary, StableHlo.TRef.unary, StableHlo.TRef.toBuf, StableHlo.TRef.ofBuf, cast_eq]; after_results_simp
theorem keep1_v10_0 (V : Valuation τ sig (Elt F)) : StableHlo.after ops1 V (dr main_v10_0) = V (dr main_v10_0) := by
  simp only [ops1, StableHlo.TRef.binary, StableHlo.TRef.nullary, StableHlo.TRef.ternary, StableHlo.TRef.unary, StableHlo.TRef.toBuf, StableHlo.TRef.ofBuf, cast_eq]; after_results_simp
theorem keep2_arg0 (V : Valuation τ sig (Elt F)) : StableHlo.after ops2 V (dr main_arg0) = V (dr main_arg0) := by
  simp only [ops2, StableHlo.TRef.binary, StableHlo.TRef.nullary, StableHlo.TRef.ternary, StableHlo.TRef.unary, StableHlo.TRef.toBuf, StableHlo.TRef.ofBuf, cast_eq]; after_results_simp
theorem keep2_arg1 (V : Valuation τ sig (Elt F)) : StableHlo.after ops2 V (dr main_arg1) = V (dr main_arg1) := by
  simp only [ops2, StableHlo.TRef.binary, StableHlo.TRef.nullary, StableHlo.TRef.ternary, StableHlo.TRef.unary, StableHlo.TRef.toBuf, StableHlo.TRef.ofBuf, cast_eq]; after_results_simp
theorem keep2_arg2 (V : Valuation τ sig (Elt F)) : StableHlo.after ops2 V (dr main_arg2) = V (dr main_arg2) := by
  simp only [ops2, StableHlo.TRef.binary, StableHlo.TRef.nullary, StableHlo.TRef.ternary, StableHlo.TRef.unary, StableHlo.TRef.toBuf, StableHlo.TRef.ofBuf, cast_eq]; after_results_simp
theorem keep2_arg3 (V : Valuation τ sig (Elt F)) : StableHlo.after ops2 V (dr main_arg3) = V (dr main_arg3) := by
  simp only [ops2, StableHlo.TRef.binary, StableHlo.TRef.nullary, StableHlo.TRef.ternary, StableHlo.TRef.unary, StableHlo.TRef.toBuf, StableHlo.TRef.ofBuf, cast_eq]; after_results_simp
theorem keep2_arg4 (V : Valuation τ sig (Elt F)) : StableHlo.after ops2 V (dr main_arg4) = V (dr main_arg4) := by
  simp only [ops2, StableHlo.TRef.binary, StableHlo.TRef.nullary, StableHlo.TRef.ternary, StableHlo.TRef.unary, StableHlo.TRef.toBuf, StableHlo.TRef.ofBuf, cast_eq]; after_results_simp
theorem keep2_arg5 (V : Valuation τ sig (Elt F)) : StableHlo.after ops2 V (dr main_arg5) = V (dr main_arg5) := by
  simp only [ops2, StableHlo.TRef.binary, StableHlo.TRef.nullary, StableHlo.TRef.ternary, StableHlo.TRef.unary, StableHlo.TRef.toBuf, StableHlo.TRef.ofBuf, cast_eq]; after_results_simp
theorem keep2_v0 (V : Valuation τ sig (Elt F)) : StableHlo.after ops2 V (dr main_v0) = V (dr main_v0) := by
  simp only [ops2, StableHlo.TRef.binary, StableHlo.TRef.nullary, StableHlo.TRef.ternary, StableHlo.TRef.unary, StableHlo.TRef.toBuf, StableHlo.TRef.ofBuf, cast_eq]; after_results_simp
theorem keep2_v10_0 (V : Valuation τ sig (Elt F)) : StableHlo.after ops2 V (dr main_v10_0) = V (dr main_v10_0) := by
  simp only [ops2, StableHlo.TRef.binary, StableHlo.TRef.nullary, StableHlo.TRef.ternary, StableHlo.TRef.unary, StableHlo.TRef.toBuf, StableHlo.TRef.ofBuf, cast_eq]; after_results_simp
theorem keep2_v20 (V : Valuation τ sig (Elt F)) : StableHlo.after ops2 V (dr main_v20) = V (dr main_v20) := by
  simp only [ops2, StableHlo.TRef.binary, StableHlo.TRef.nullary, StableHlo.TRef.ternary, StableHlo.TRef.unary, StableHlo.TRef.toBuf, StableHlo.TRef.ofBuf, cast_eq]; after_results_simp
theorem keep2_v11 (V : Valuation τ sig (Elt F)) : StableHlo.after ops2 V (dr main_v11) = V (dr main_v11) := by
  simp only [ops2, StableHlo.TRef.binary, StableHlo.TRef.nullary, StableHlo.TRef.ternary, StableHlo.TRef.unary, StableHlo.TRef.toBuf, StableHlo.TRef.ofBuf, cast_eq]; after_results_simp
theorem keep3_arg0 (V : Valuation τ sig (Elt F)) : StableHlo.after ops3 V (dr main_arg0) = V (dr main_arg0) := by
  simp only [ops3, StableHlo.TRef.binary, StableHlo.TRef.nullary, StableHlo.TRef.ternary, StableHlo.TRef.unary, StableHlo.TRef.toBuf, StableHlo.TRef.ofBuf, cast_eq]; after_results_simp
theorem keep3_arg1 (V : Valuation τ sig (Elt F)) : StableHlo.after ops3 V (dr main_arg1) = V (dr main_arg1) := by
  simp only [ops3, StableHlo.TRef.binary, StableHlo.TRef.nullary, StableHlo.TRef.ternary, StableHlo.TRef.unary, StableHlo.TRef.toBuf, StableHlo.TRef.ofBuf, cast_eq]; after_results_simp
theorem keep3_arg2 (V : Valuation τ sig (Elt F)) : StableHlo.after ops3 V (dr main_arg2) = V (dr main_arg2) := by
  simp only [ops3, StableHlo.TRef.binary, StableHlo.TRef.nullary, StableHlo.TRef.ternary, StableHlo.TRef.unary, StableHlo.TRef.toBuf, StableHlo.TRef.ofBuf, cast_eq]; after_results_simp
theorem keep3_arg3 (V : Valuation τ sig (Elt F)) : StableHlo.after ops3 V (dr main_arg3) = V (dr main_arg3) := by
  simp only [ops3, StableHlo.TRef.binary, StableHlo.TRef.nullary, StableHlo.TRef.ternary, StableHlo.TRef.unary, StableHlo.TRef.toBuf, StableHlo.TRef.ofBuf, cast_eq]; after_results_simp
theorem keep3_arg4 (V : Valuation τ sig (Elt F)) : StableHlo.after ops3 V (dr main_arg4) = V (dr main_arg4) := by
  simp only [ops3, StableHlo.TRef.binary, StableHlo.TRef.nullary, StableHlo.TRef.ternary, StableHlo.TRef.unary, StableHlo.TRef.toBuf, StableHlo.TRef.ofBuf, cast_eq]; after_results_simp
theorem keep3_arg5 (V : Valuation τ sig (Elt F)) : StableHlo.after ops3 V (dr main_arg5) = V (dr main_arg5) := by
  simp only [ops3, StableHlo.TRef.binary, StableHlo.TRef.nullary, StableHlo.TRef.ternary, StableHlo.TRef.unary, StableHlo.TRef.toBuf, StableHlo.TRef.ofBuf, cast_eq]; after_results_simp
theorem keep3_v11 (V : Valuation τ sig (Elt F)) : StableHlo.after ops3 V (dr main_v11) = V (dr main_v11) := by
  simp only [ops3, StableHlo.TRef.binary, StableHlo.TRef.nullary, StableHlo.TRef.ternary, StableHlo.TRef.unary, StableHlo.TRef.toBuf, StableHlo.TRef.ofBuf, cast_eq]; after_results_simp

/-! ## What they write -/

/-- The sign of a word. -/
def signWord (n : BitVec 32) : BitVec 32 := if n = 0 then 0 else if n.msb then -1 else 1

/-- A query's batch, as the program divides: the quotient towards zero, less one where the signs differ and something remains. -/
def batchWord (n : BitVec 32) : BitVec 32 :=
  Scalar.select (IntOp.andi (IntOp.cmpi .ne (signWord n) (signWord 1024#32)) (IntOp.cmpi .ne (IntOp.remsi .host n 1024#32) 0#32))
    (IntOp.subi (IntOp.divsi .host n 1024#32) 1#32) (IntOp.divsi .host n 1024#32)

set_option maxRecDepth 65536 in
theorem batchWord_eq : ∀ n : Fin 4096, batchWord (BitVec.ofNat 32 n.val) = BitVec.ofNat 32 (n.val / 1024) := by decide +kernel

/-- Row `r` of the features is row `r % 8192` of batch `r / 8192`. -/
theorem feat_at (V : Valuation τ sig (Elt F)) (a : S4x8192x384.Idx → Elt F .f32) (ha : V (dr main_arg1) = a) (r : Fin 32768) (c : Fin 384) :
    (StableHlo.after ops0 V (dr main_v0) : S32768x384.Idx → Elt F .f32) (ix2 r c) = a (ix3 ⟨r.val / 8192, by omega⟩ ⟨r.val % 8192, by omega⟩ c) := by
  have e : StableHlo.after ops0 V (dr main_v0) = shapeCast S32768x384 a shapeCasts_S4x8192x384_S32768x384 := by
    rw [← ha]
    simp only [ops0, StableHlo.TRef.binary, StableHlo.TRef.nullary, StableHlo.TRef.ternary, StableHlo.TRef.unary, StableHlo.TRef.toBuf, StableHlo.TRef.ofBuf, cast_eq]; after_results_simp <;> rfl
  rw [e]
  pointwise

/-- Row `r` of the points, its first three columns. -/
theorem pts_at (V : Valuation τ sig (Elt F)) (a : S4x8192x3.Idx → Elt F .f32) (ha : V (dr main_arg0) = a) (r : Fin 32768) (c : Fin 128) (hc : c.val < 3) :
    (StableHlo.after ops0 V (dr main_v2) : S32768x128.Idx → Elt F .f32) (ix2 r c) = a (ix3 ⟨r.val / 8192, by omega⟩ ⟨r.val % 8192, by omega⟩ ⟨c.val, hc⟩) := by
  have e : StableHlo.after ops0 V (dr main_v2) = shapeCast S32768x128 (pad S4x8192x128 ![0, 0, 0] ![0, 0, 125] ![0, 0, 0] a
      (sitofp .f32 (constantI S_ 32 0#32)) pads_S4x8192x3_S4x8192x128_000_000_01250 h_S_) shapeCasts_S4x8192x128_S32768x128 := by
    rw [← ha]
    simp only [ops0, StableHlo.TRef.binary, StableHlo.TRef.nullary, StableHlo.TRef.ternary, StableHlo.TRef.unary, StableHlo.TRef.toBuf, StableHlo.TRef.ofBuf, cast_eq]; after_results_simp <;> rfl
  rw [e]
  pointwise
  rw [dif_pos ⟨by omega, by omega, hc⟩]

/-- The sampled query's row number: its place in its batch, moved to the batch's rows. -/
theorem idx_at (V : Valuation τ sig (Elt F)) (a : S4x1024.Idx → BitVec 32) (ha : V (dr main_arg2) = a) (n : Fin 4096) :
    (StableHlo.after ops0 V (dr main_v9) : S4096.Idx → BitVec 32) (ix1 n)
      = a (ix2 ⟨n.val / 1024, by omega⟩ ⟨n.val % 1024, by omega⟩) + BitVec.ofNat 32 (n.val / 1024) * 8192#32 := by
  have e : StableHlo.after ops0 V (dr main_v9) = shapeCast S4096 (addi (V (dr main_arg2) : S4x1024.Idx → BitVec 32)
      (broadcastInDim S4x1024 ![0, 1] bcast_S4x1_S4x1024_0_1 (broadcastInDim S4x1 ![0] bcast_S4_S4x1_0 (muli (iotaInDim S4 32 0) (broadcastInDim S4 ![] bcast_S_S4 (constantI S_ 32 8192#32)))))) shapeCasts_S4x1024_S4096 := by
    simp only [ops0, StableHlo.TRef.binary, StableHlo.TRef.nullary, StableHlo.TRef.ternary, StableHlo.TRef.unary, StableHlo.TRef.toBuf, StableHlo.TRef.ofBuf, cast_eq]; after_results_simp <;> rfl
  rw [e, ha]
  pointwise
  rfl

set_option maxRecDepth 65536 in
/-- The neighbours' row numbers, from the group indices and the batch. -/
theorem gidx_at (V : Valuation τ sig (Elt F)) (a : S4x1024x24.Idx → BitVec 32) (ha : V (dr main_arg3) = a) (n : Fin 4096) (c : Fin 32) (hc : c.val < 24) :
    (StableHlo.after ops1 V (dr main_v20) : S4096x32.Idx → BitVec 32) (ix2 n c)
      = a (ix3 ⟨n.val / 1024, by omega⟩ ⟨n.val % 1024, by omega⟩ ⟨c.val, hc⟩) + BitVec.ofNat 32 (n.val / 1024) * 8192#32 := by
  have e : (StableHlo.after ops1 V (dr main_v20) : S4096x32.Idx → BitVec 32) = addi (pad S4096x32 ![0, 0] ![0, 8] ![0, 0]
      (shapeCast S4096x24 a shapeCasts_S4x1024x24_S4096x24) (constantI S_ 32 1073741824#32) pads_S4096x24_S4096x32_000_080 h_S_)
      (broadcastInDim S4096x32 ![0, 1] bcast_S4096x1_S4096x32_0_1 (broadcastInDim S4096x1 ![0] bcast_S4096_S4096x1_0
        (muli (fun x => batchWord (iotaInDim S4096 32 0 x)) (broadcastInDim S4096 ![] bcast_S_S4096 (constantI S_ 32 8192#32))))) := by
    rw [← ha]
    simp only [ops1, StableHlo.TRef.binary, StableHlo.TRef.nullary, StableHlo.TRef.ternary, StableHlo.TRef.unary, StableHlo.TRef.toBuf, StableHlo.TRef.ofBuf, cast_eq]; after_results_simp <;> rfl
  rw [e]
  pointwise
  rw [dif_pos hc, batchWord_eq n]
  rfl

/-- The sampled points, of the second result's shape. -/
theorem pts_out_at (V : Valuation τ sig (Elt F)) (a : S12288.Idx → Elt F .f32) (ha : V (dr main_v10_1) = a) (b : Fin 4) (s : Fin 1024) (k : Fin 3) :
    (StableHlo.after ops1 V (dr main_v11) : S4x1024x3.Idx → Elt F .f32) (ix3 b s k) = a (ix1 ⟨b.val * 3072 + s.val * 3 + k.val, by omega⟩) := by
  have e : StableHlo.after ops1 V (dr main_v11) = shapeCast S4x1024x3 a shapeCasts_S12288_S4x1024x3 := by
    rw [← ha]
    simp only [ops1, StableHlo.TRef.binary, StableHlo.TRef.nullary, StableHlo.TRef.ternary, StableHlo.TRef.unary, StableHlo.TRef.toBuf, StableHlo.TRef.ofBuf, cast_eq]; after_results_simp <;> rfl
  rw [e]
  pointwise

/-- The scale and the shift, as vectors. -/
theorem al_at (V : Valuation τ sig (Elt F)) (a : S1x1x1x384.Idx → Elt F .f32) (ha : V (dr main_arg4) = a) (c : Fin 384) :
    (StableHlo.after ops2 V (dr main_v41) : S384.Idx → Elt F .f32) (ix1 c) = a (ix4 0 0 0 c) := by
  have e : StableHlo.after ops2 V (dr main_v41) = shapeCast S384 a shapeCasts_S1x1x1x384_S384 := by
    rw [← ha]
    simp only [ops2, StableHlo.TRef.binary, StableHlo.TRef.nullary, StableHlo.TRef.ternary, StableHlo.TRef.unary, StableHlo.TRef.toBuf, StableHlo.TRef.ofBuf, cast_eq]; after_results_simp <;> rfl
  rw [e]
  pointwise

theorem be_at (V : Valuation τ sig (Elt F)) (a : S1x1x1x384.Idx → Elt F .f32) (ha : V (dr main_arg5) = a) (c : Fin 384) :
    (StableHlo.after ops2 V (dr main_v42) : S384.Idx → Elt F .f32) (ix1 c) = a (ix4 0 0 0 c) := by
  have e : StableHlo.after ops2 V (dr main_v42) = shapeCast S384 a shapeCasts_S1x1x1x384_S384 := by
    rw [← ha]
    simp only [ops2, StableHlo.TRef.binary, StableHlo.TRef.nullary, StableHlo.TRef.ternary, StableHlo.TRef.unary, StableHlo.TRef.toBuf, StableHlo.TRef.ofBuf, cast_eq]; after_results_simp <;> rfl
  rw [e]
  pointwise

/-- The sum over a batch of one column of the tiles' partial sums. -/
def batchSums (parts : S32x16.Idx → Elt F .f32) : S4.Idx → Elt F .f32 :=
  Host.reduceAdd (shapeCast S4x8 (extractStridedSlice S4x8x1 ![0, 0, 0] (shapeCast S4x8x16 parts shapeCasts_S32x16_S4x8x16) slices_S4x8x16_S4x8x1_0_0_0) shapeCasts_S4x8x1_S4x8)
    (constant S_ .f32 0x00000000#32) reducesTo_S4x8_S4_d1 h_S_
def batchSquares (parts : S32x16.Idx → Elt F .f32) : S4.Idx → Elt F .f32 :=
  Host.reduceAdd (shapeCast S4x8 (extractStridedSlice S4x8x1 ![0, 0, 1] (shapeCast S4x8x16 parts shapeCasts_S32x16_S4x8x16) slices_S4x8x16_S4x8x1_0_0_1) shapeCasts_S4x8x1_S4x8)
    (constant S_ .f32 0x00000000#32) reducesTo_S4x8_S4_d1 h_S_

/-- One over a batch's standard deviation and the small constant, from the sum and the sum of squares. -/
def invOf (s q : Elt F .f32) : Elt F .f32 :=
  FloatOps.hostDivf (FloatOps.ofBits .f32 0x3F800000#32)
    (FloatOps.addf (FloatOps.hostUnary .sqrt (FloatOps.hostDivf (FloatOps.subf q (FloatOps.hostDivf (FloatOps.mulf s s) (FloatOps.ofBits .f32 0x4B100000#32))) (FloatOps.ofBits .f32 0x4B0FFFFF#32)))
      (FloatOps.ofBits .f32 0x3727C5AC#32))

/-- The inverse of a batch's standard deviation, from the tiles' partial sums. -/
theorem inv_at (V : Valuation τ sig (Elt F)) (parts : S32x16.Idx → Elt F .f32) (ha : V (dr main_v21) = parts) (b : Fin 16) (hb : b.val < 4) :
    (StableHlo.after ops2 V (dr main_v40) : S16.Idx → Elt F .f32) (ix1 b) = invOf (batchSums parts (ix1 ⟨b.val, hb⟩)) (batchSquares parts (ix1 ⟨b.val, hb⟩)) := by
  have e : StableHlo.after ops2 V (dr main_v40) = pad S16 ![0] ![12] ![0]
      (Host.divf (broadcastInDim S4 ![] bcast_S_S4 (constant S_ .f32 0x3F800000#32))
        (addf (Host.sqrt (Host.divf (subf (batchSquares parts) (Host.divf (mulf (batchSums parts) (batchSums parts)) (broadcastInDim S4 ![] bcast_S_S4 (constant S_ .f32 0x4B100000#32))))
          (broadcastInDim S4 ![] bcast_S_S4 (constant S_ .f32 0x4B0FFFFF#32)))) (broadcastInDim S4 ![] bcast_S_S4 (constant S_ .f32 0x3727C5AC#32))))
      (sitofp .f32 (constantI S_ 32 0#32)) pads_S4_S16_0120 h_S_ := by
    rw [← ha]
    simp only [ops2, StableHlo.TRef.binary, StableHlo.TRef.nullary, StableHlo.TRef.ternary, StableHlo.TRef.unary, StableHlo.TRef.toBuf, StableHlo.TRef.ofBuf, cast_eq]; after_results_simp <;> rfl
  rw [e]
  generalize batchSums parts = S
  generalize batchSquares parts = Q
  pointwise
  rw [dif_pos hb]
  rfl

/-- The third result, query by query. -/
theorem out_at (V : Valuation τ sig (Elt F)) (a : S4096x24x768.Idx → Elt F .f32) (ha : V (dr main_v43) = a) (b : Fin 4) (s : Fin 1024) (k : Fin 24) (c : Fin 768) :
    (StableHlo.after ops3 V (dr main_v44) : S4x1024x24x768.Idx → Elt F .f32) (ix4 b s k c) = a (ix3 ⟨b.val * 1024 + s.val, by omega⟩ k c) := by
  have e : StableHlo.after ops3 V (dr main_v44) = shapeCast S4x1024x24x768 a shapeCasts_S4096x24x768_S4x1024x24x768 := by
    rw [← ha]
    simp only [ops3, StableHlo.TRef.binary, StableHlo.TRef.nullary, StableHlo.TRef.ternary, StableHlo.TRef.unary, StableHlo.TRef.toBuf, StableHlo.TRef.ofBuf, cast_eq]; after_results_simp <;> rfl
  rw [e]
  pointwise

end Cert.Proof.Tiles

end
-- ==== Proof.Args.lean ====
/-
What the precondition says of the arguments: the indices name rows, the float arguments are finite.  From it, that every row a
tile is sent to exists; and that the arguments end as they began.
-/
module

public import proofs.«01_k».proof.Defs
public import proofs.«01_k».proof.Proof.Reads
public import Idealize.ShloMosaic.Lib.ReduceAll
public import Idealize.ShloMosaic.Lib.WordCmp

@[expose] public section

noncomputable section

namespace Cert.Proof.Tiles

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 3) (Elt F) ℕ UU ℕ

variable [FloatOps F]

/-! ## The precondition, read -/

theorem argsFacts : Cert.Pre_args_ok.Facts where
  bcast_S_S4x1024 := by decide
  reducesTo_S4x1024_S_d0_1 := by decide
  h_S_ := by decide
  bcast_S_S4x1024x24 := by decide
  reducesTo_S4x1024x24_S_d0_1_2 := by decide
  bcast_S_S4x8192x384 := by decide
  reducesTo_S4x8192x384_S_d0_1_2 := by decide
  bcast_S_S1x1x1x384 := by decide
  reducesTo_S1x1x1x384_S_d0_1_2_3 := by decide

attribute [local instance] argsFacts

/-- A float below infinity in absolute value, as the precondition tests it. -/
def Fin32 (x : F .f32) : Prop := FloatOps.cmpf .olt (FloatOps.hostAbsf x) (FloatOps.ofBits (F := F) .f32 0x7F800000#32) = 1#1

/-- A word that passes the precondition's two tests names one of 8192 rows. -/
theorem word_lt (v : BitVec 32) (e : IntOp.andi (IntOp.cmpi .sge v 0#32) (IntOp.cmpi .slt v 8192#32) = 1#1) : v.toNat < 8192 := by
  have h := WordCmp.andi_sge_zero_slt_ofNat (w := 32) (k := 8192) (by decide) v
  have h' : IntOp.andi (IntOp.cmpi .sge v 0#32) (IntOp.cmpi .slt v 8192#32) = BitVec.ofBool (decide (v.toNat < 8192)) := h
  rw [h'] at e
  by_contra hn
  rw [decide_eq_false hn] at e
  exact absurd e (by decide)

theorem args_ok_iff (a0 : FVec F S4x8192x3 .f32) (a1 : FVec F S4x8192x384 .f32) (a2 : IVec S4x1024 32) (a3 : IVec S4x1024x24 32)
    (a4 a5 : FVec F S1x1x1x384 .f32) (h : Cert.Pre_args_ok.fn a0 a1 a2 a3 a4 a5 = fun _ => 1#1) :
    (∀ i, (a2 i).toNat < 8192) ∧ (∀ i, (a3 i).toNat < 8192) ∧ (∀ i, Fin32 (a1 i)) ∧ (∀ i, Fin32 (a4 i)) := by
  have e := congrFun h ix0
  dsimp only [Cert.Pre_args_ok.fn, Cert.Pre_args_ok.fn_part1, andi] at e
  obtain ⟨e, h4⟩ := IntOp.andi_eq_one.1 e
  obtain ⟨e, h1⟩ := IntOp.andi_eq_one.1 e
  obtain ⟨h2, h3⟩ := IntOp.andi_eq_one.1 e
  haveI : Subsingleton Cert.Pre_args_ok.S_.Idx := ⟨fun a b => funext fun i => i.elim0⟩
  refine ⟨fun i => ?_, fun i => ?_, fun i => ?_, fun i => ?_⟩
  · exact word_lt _ (Host.reduce_andi_all _ _ _ _ _ h2 i)
  · exact word_lt _ (Host.reduce_andi_all _ _ _ _ _ h3 i)
  · exact Host.reduce_andi_all _ _ _ _ _ h1 i
  · exact Host.reduce_andi_all _ _ _ _ _ h4 i

/-! ## The rows the tiles are sent to -/

/-- A batch's first row and a row within it. -/
theorem row_lt (v : BitVec 32) (b : ℕ) (hv : v.toNat < 8192) (hb : b < 4) : (v + BitVec.ofNat 32 b * 8192#32).toNat = b * 8192 + v.toNat := by
  have : (BitVec.ofNat 32 b * 8192#32).toNat = b * 8192 := by
    rw [BitVec.toNat_mul, BitVec.toNat_ofNat, BitVec.toNat_ofNat]; omega
  rw [BitVec.toNat_add, this]; omega

variable (m : (ℓ : Loc nD τ sig) → Buf (Elt F) ℓ) (ρ : Dev nD → PrngReg)

theorem v20_eq (d : Dev nD) : (V5 m d (dr main_v20) : S4096x32.Idx → BitVec 32) = V3 m d (dr main_v20) := by
  unfold V5 V4
  rw [keep2_v20, after1_of_ne _ (by decide)]

theorem arg3_V2 (d : Dev nD) : (V2 m d (dr main_arg3) : S4x1024x24.Idx → BitVec 32) = m (d, dr main_arg3) := by
  unfold V2 V1
  rw [after0_of_ne _ (by decide) (by decide), keep0_arg3]
  rfl

/-- The list of the sampling call, element by element. -/
theorem idx_val (d : Dev nD) (n : Fin 4096) (h2 : ∀ i, ((m (d, dr main_arg2) : S4x1024.Idx → BitVec 32) i).toNat < 8192) :
    ((V1 m d (dr main_v9) : S4096.Idx → BitVec 32) (ix1 n)).toNat
      = n.val / 1024 * 8192 + ((m (d, dr main_arg2) : S4x1024.Idx → BitVec 32) (ix2 ⟨n.val / 1024, by omega⟩ ⟨n.val % 1024, by omega⟩)).toNat := by
  unfold V1
  rw [idx_at (V0 m d) (m (d, dr main_arg2)) rfl n]
  exact row_lt _ _ (h2 _) (by omega)

/-- The neighbour lists, element by element. -/
theorem gidx_val (d : Dev nD) (n : Fin 4096) (c : Fin 32) (hc : c.val < 24) (h3 : ∀ i, ((m (d, dr main_arg3) : S4x1024x24.Idx → BitVec 32) i).toNat < 8192) :
    ((V3 m d (dr main_v20) : S4096x32.Idx → BitVec 32) (ix2 n c)).toNat
      = n.val / 1024 * 8192 + ((m (d, dr main_arg3) : S4x1024x24.Idx → BitVec 32) (ix3 ⟨n.val / 1024, by omega⟩ ⟨n.val % 1024, by omega⟩ ⟨c.val, hc⟩)).toNat := by
  unfold V3
  rw [gidx_at (V2 m d) (m (d, dr main_arg3)) (arg3_V2 m d) n c hc]
  exact row_lt _ _ (h3 _) (by omega)

theorem inRange (h : ∀ d : Dev nD, (∀ i, ((m (d, dr main_arg2) : S4x1024.Idx → BitVec 32) i).toNat < 8192)
      ∧ (∀ i, ((m (d, dr main_arg3) : S4x1024x24.Idx → BitVec 32) i).toNat < 8192)) : InRange (found m) := by
  have h1 : ∀ (d : Dev nD) (n : Fin 4096) (c : Fin 32), c.val < 24 → ((V3 m d (dr main_v20) : S4096x32.Idx → BitVec 32) (ix2 n c)).toNat < 32768 := by
    intro d n c hc
    have e := gidx_val m d n c hc (h d).2
    have := (h d).2 (ix3 ⟨n.val / 1024, by omega⟩ ⟨n.val % 1024, by omega⟩ ⟨c.val, hc⟩)
    omega
  refine ⟨fun d x => ?_, h1, fun d n c hc => ?_⟩
  · idx_vars x
    have e := idx_val m d x0 (h d).1
    have := (h d).1 (ix2 ⟨x0.val / 1024, by omega⟩ ⟨x0.val % 1024, by omega⟩)
    show ((V1 m d (dr main_v9) : S4096.Idx → BitVec 32) (ix1 x0)).toNat < 32768
    omega
  · show ((V5 m d (dr main_v20) : S4096x32.Idx → BitVec 32) (ix2 n c)).toNat < 32768
    rw [v20_eq]
    exact h1 d n c hc

/-! ## The arguments end as they began -/

theorem V7_arg0 (d : Dev nD) : V7 m d (dr main_arg0) = m (d, dr main_arg0) := by
  unfold V7 V6 V5 V4 V3 V2 V1
  rw [keep3_arg0, after2_of_ne _ (by decide), keep2_arg0, after1_of_ne _ (by decide), keep1_arg0, after0_of_ne _ (by decide) (by decide), keep0_arg0]
  rfl
theorem V7_arg1 (d : Dev nD) : V7 m d (dr main_arg1) = m (d, dr main_arg1) := by
  unfold V7 V6 V5 V4 V3 V2 V1
  rw [keep3_arg1, after2_of_ne _ (by decide), keep2_arg1, after1_of_ne _ (by decide), keep1_arg1, after0_of_ne _ (by decide) (by decide), keep0_arg1]
  rfl
theorem V7_arg2 (d : Dev nD) : V7 m d (dr main_arg2) = m (d, dr main_arg2) := by
  unfold V7 V6 V5 V4 V3 V2 V1
  rw [keep3_arg2, after2_of_ne _ (by decide), keep2_arg2, after1_of_ne _ (by decide), keep1_arg2, after0_of_ne _ (by decide) (by decide), keep0_arg2]
  rfl
theorem V7_arg3 (d : Dev nD) : V7 m d (dr main_arg3) = m (d, dr main_arg3) := by
  unfold V7 V6 V5 V4 V3 V2 V1
  rw [keep3_arg3, after2_of_ne _ (by decide), keep2_arg3, after1_of_ne _ (by decide), keep1_arg3, after0_of_ne _ (by decide) (by decide), keep0_arg3]
  rfl
theorem V7_arg4 (d : Dev nD) : V7 m d (dr main_arg4) = m (d, dr main_arg4) := by
  unfold V7 V6 V5 V4 V3 V2 V1
  rw [keep3_arg4, after2_of_ne _ (by decide), keep2_arg4, after1_of_ne _ (by decide), keep1_arg4, after0_of_ne _ (by decide) (by decide), keep0_arg4]
  rfl
theorem V7_arg5 (d : Dev nD) : V7 m d (dr main_arg5) = m (d, dr main_arg5) := by
  unfold V7 V6 V5 V4 V3 V2 V1
  rw [keep3_arg5, after2_of_ne _ (by decide), keep2_arg5, after1_of_ne _ (by decide), keep1_arg5, after0_of_ne _ (by decide) (by decide), keep0_arg5]
  rfl

/-- The run under the precondition. -/
theorem run_args [∀ e, Nonempty (Elt F e)]
    (h : ∀ c : Dev nD, Cert.Pre_args_ok.fn (F := F) (m (c, dr main_arg0)) (m (c, dr main_arg1)) (m (c, dr main_arg2)) (m (c, dr main_arg3))
      (m (c, dr main_arg4)) (m (c, dr main_arg5)) = fun _ => 1#1) :
    θ_run (Cert.KernelIdeal.defs (F := F)) (Cert.KernelIdeal.threads (F := F)) ⟨m, fun _ => 0, ρ⟩ (QC m) :=
  run_main m ρ (inRange m fun d => ⟨(args_ok_iff _ _ _ _ _ _ (h d)).1, (args_ok_iff _ _ _ _ _ _ (h d)).2.1⟩)

theorem args_kept (r : PUnit × MemSt nD τ sig (Elt F)) (h : QC m r) (c : Dev nD) :
    r.2.mem (c, dr main_arg0) = m (c, dr main_arg0) ∧ r.2.mem (c, dr main_arg1) = m (c, dr main_arg1)
      ∧ r.2.mem (c, dr main_arg2) = m (c, dr main_arg2) ∧ r.2.mem (c, dr main_arg3) = m (c, dr main_arg3)
      ∧ r.2.mem (c, dr main_arg4) = m (c, dr main_arg4) ∧ r.2.mem (c, dr main_arg5) = m (c, dr main_arg5) :=
  ⟨(h.1 c _ (by decide)).trans (V7_arg0 m c), (h.1 c _ (by decide)).trans (V7_arg1 m c), (h.1 c _ (by decide)).trans (V7_arg2 m c),
    (h.1 c _ (by decide)).trans (V7_arg3 m c), (h.1 c _ (by decide)).trans (V7_arg4 m c), (h.1 c _ (by decide)).trans (V7_arg5 m c)⟩

end Cert.Proof.Tiles

end
-- ==== Proof.Algebra.lean ====
/-
Arithmetic over the extended reals: sums made in turn, sums taken in another order, and the two spellings of the variance and of the
scaled difference.
-/
module

public import Idealize.ShloMosaic.PureOps
public import Idealize.ShloMosaic.Lib.IdealHost
public import Mathlib.Data.EReal.Operations
public import Mathlib.Data.EReal.Inv
public import Mathlib.Algebra.BigOperators.Fin
public import Mathlib.Tactic.Ring
public import Mathlib.Tactic.FieldSimp

@[expose] public section

noncomputable section

namespace Cert.Proof.Algebra

open Idealize.ShloMosaic

/-! ## Sums -/

/-- A sum over `m * n` numbers, `n` at a time. -/
theorem sum_split {M : Type} [AddCommMonoid M] {m n N : ℕ} (h : m * n = N) (f : Fin N → M) :
    ∑ i : Fin N, f i = ∑ a : Fin m, ∑ b : Fin n, f ⟨n * a.val + b.val, by
      have := a.isLt; have := b.isLt
      calc n * a.val + b.val < n * a.val + n := by omega
        _ = n * (a.val + 1) := by ring
        _ ≤ n * m := Nat.mul_le_mul_left _ (by omega)
        _ = N := by rw [Nat.mul_comm, h]⟩ := by
  subst h
  rw [← Fintype.sum_prod_type', ← Equiv.sum_comp finProdFinEquiv]
  refine Finset.sum_congr rfl fun p _ => congrArg f (Fin.ext ?_)
  show p.2.val + n * p.1.val = n * p.1.val + p.2.val
  omega

/-- A finite sum of real numbers, over the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The squares of the distances from the mean, added up. -/
theorem sum_sq_dev {ι : Type} [Fintype ι] (f : ι → ℝ) (m : ℝ) (hm : (Fintype.card ι : ℝ) = m) (h0 : m ≠ 0) :
    ∑ i, (f i - (∑ j, f j) / m) * (f i - (∑ j, f j) / m) = ∑ i, f i * f i - (∑ i, f i) * (∑ i, f i) / m := by
  set S := ∑ j, f j with hS
  have e : ∀ i, (f i - S / m) * (f i - S / m) = f i * f i - 2 * (S / m) * f i + (S / m) * (S / m) := fun i => by ring
  rw [Finset.sum_congr rfl fun i _ => e i, Finset.sum_add_distrib, Finset.sum_sub_distrib, ← Finset.mul_sum, ← hS, Finset.sum_const,
    Finset.card_univ, nsmul_eq_mul, hm]
  field_simp
  ring

/-! ## The operations on finite values -/

theorem div_coe (x y : ℝ) (h : y ≠ 0) : Ideal.div (x : EReal) (y : EReal) = ((x / y : ℝ) : EReal) := by
  unfold Ideal.div
  rw [if_neg (fun e => h (EReal.coe_eq_zero.1 e)), ← EReal.coe_inv, ← EReal.coe_mul, div_eq_mul_inv]

theorem sqrt_coe (x : ℝ) (h : 0 ≤ x) : Ideal.sqrt (x : EReal) = (Real.sqrt x : EReal) := by
  show (if x < 0 then ⊥ else (Real.sqrt x : EReal)) = _
  rw [if_neg (not_lt.2 h)]

/-- A value whose absolute value is below infinity is a real number. -/
theorem real_of_abs_lt (x : Ideal .f32)
    (h : FloatOps.cmpf .olt (FloatOps.hostAbsf x) (FloatOps.ofBits (F := Ideal) .f32 0x7F800000#32) = 1#1) : ∃ r : ℝ, x = (r : EReal) := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  have hx : x ≠ ⊤ := fun e => by subst e; simp [Ideal.cmp] at h
  have hx' : x ≠ ⊥ := fun e => by subst e; simp [Ideal.cmp] at h
  exact ⟨EReal.toReal x, (EReal.coe_toReal hx hx').symm⟩

/-! ## The constants -/

theorem bits_m : Ideal.ofBits .f32 0x4B100000#32 = ((9437184 : ℝ) : EReal) := by
  simp [Ideal.ofBits, Ideal.ieee]
theorem bits_m1 : Ideal.ofBits .f32 0x4B0FFFFF#32 = ((9437183 : ℝ) : EReal) := by
  simp [Ideal.ofBits, Ideal.ieee]
/-- The small constant is a positive number. -/
theorem bits_eps : ∃ ε : ℝ, 0 < ε ∧ Ideal.ofBits .f32 0x3727C5AC#32 = (ε : EReal) := by
  refine ⟨(2 ^ 23 + 2606508 : ℕ) * (2 : ℝ) ^ (-40 : ℤ), by positivity, ?_⟩
  simp [Ideal.ofBits, Ideal.ieee]

/-! ## The inverse of the deviation, and the scaled difference -/

/-- `alpha` times the inverse, times the row, and `beta` less that times the row subtracted: the difference scaled and moved. -/
theorem scale_eq (a g n t : ℝ) (be : EReal) (ht : t ≠ 0) :
    ((a : EReal) * Ideal.div 1 (t : EReal)) * (g : EReal) + (be - ((a : EReal) * Ideal.div 1 (t : EReal)) * (n : EReal))
      = (a : EReal) * Ideal.div ((g : EReal) - (n : EReal)) (t : EReal) + be := by
  have e1 : Ideal.div 1 (t : EReal) = ((1 / t : ℝ) : EReal) := by rw [← div_coe _ _ ht]; rfl
  rw [e1, ← EReal.coe_sub, div_coe _ _ ht, ← EReal.coe_mul, ← EReal.coe_mul, ← EReal.coe_mul, ← EReal.coe_mul, sub_eq_add_neg, ← EReal.coe_neg,
    add_comm be, ← add_assoc, ← EReal.coe_add]
  congr 2
  field_simp
  ring

end Cert.Proof.Algebra

end
-- ==== Proof.Sums.lean ====
/-
The batches' sums of the differences and of their squares, over the extended reals: the order in which the tiles add is forgotten.
-/
module

public import proofs.«01_k».proof.Proof.Reads
public import proofs.«01_k».proof.Proof.Algebra
public import Mathlib.Tactic.Abel

@[expose] public section

noncomputable section

namespace Cert.Proof.Tiles

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

/-! ## Values made in turn, as sums -/

theorem upto_add_le {α M : Type} [AddCommMonoid M] {n : ℕ} (f : Fin n → α → α) (π : α → M) (u : Fin n → M)
    (h : ∀ i p, π (f i p) = π p + u i) (a : α) : ∀ (k : ℕ) (hk : k ≤ n), π (upto f a k) = π a + ∑ i : Fin k, u (i.castLE hk)
  | 0, _ => by simp [upto]
  | k + 1, hk => by
    rw [upto_succ f a ⟨k, hk⟩, h, upto_add_le f π u h a k (by omega), Fin.sum_univ_castSucc, add_assoc]
    rfl

/-- A part of a value to which each step adds. -/
theorem upto_add {α M : Type} [AddCommMonoid M] {n : ℕ} (f : Fin n → α → α) (π : α → M) (u : Fin n → M)
    (h : ∀ i p, π (f i p) = π p + u i) (a : α) : π (upto f a n) = π a + ∑ i, u i := upto_add_le f π u h a n le_rfl

variable (feat : S32768x384.Idx → EReal) (gidx : S4096x32.Idx → BitVec 32) (sf : S4096x384.Idx → EReal)

/-- A neighbour's row less the sampled row, at a column. -/
def devE (n : Fin 4096) (r : Fin 24) (c : Fin 384) : EReal := groupOf (F := Ideal) feat gidx n (ix2 r c) - sf (ix2 n c)

theorem devAt_eq (n : Fin 4096) (c r : Fin 24) (l : Fin 16) :
    devAt (F := Ideal) (groupOf (F := Ideal) feat gidx n) (meanOf (F := Ideal) sf n) c r (ix1 l) = devE feat gidx sf n r ⟨16 * c.val + l.val, by omega⟩ := rfl

/-- A lane of a tile's sums. -/
theorem sums_fst (w : Fin 32) (l : Fin 16) :
    ((sumsTo (F := Ideal) feat gidx sf w 128).1 (ix1 l) : EReal) = ∑ j : Fin 128, ∑ c : Fin 24, ∑ r : Fin 24, devE feat gidx sf (qNo w j) r ⟨16 * c.val + l.val, by omega⟩ := by
  unfold sumsTo
  refine (upto_add _ (fun p : FVec Ideal S16 .f32 × FVec Ideal S16 .f32 => (p.1 (ix1 l) : EReal))
    (fun j : Fin 128 => ∑ c : Fin 24, ∑ r : Fin 24, devE feat gidx sf (qNo w j) r ⟨16 * c.val + l.val, by omega⟩) (fun j p => ?_) _).trans ?_
  · refine upto_add _ (fun p : FVec Ideal S16 .f32 × FVec Ideal S16 .f32 => (p.1 (ix1 l) : EReal))
      (fun c : Fin 24 => ∑ r : Fin 24, devE feat gidx sf (qNo w j) r ⟨16 * c.val + l.val, by omega⟩) (fun c p => ?_) _
    exact upto_add _ (fun p : FVec Ideal S16 .f32 × FVec Ideal S16 .f32 => (p.1 (ix1 l) : EReal))
      (fun r : Fin 24 => devE feat gidx sf (qNo w j) r ⟨16 * c.val + l.val, by omega⟩) (fun r p => rfl) _
  · show (Ideal.ofBits .f32 0x00000000#32 : EReal) + _ = _
    rw [show Ideal.ofBits .f32 0x00000000#32 = 0 by simp [Ideal.ofBits, Ideal.ieee], zero_add]

/-- … of the squares. -/
theorem sums_snd (w : Fin 32) (l : Fin 16) :
    ((sumsTo (F := Ideal) feat gidx sf w 128).2 (ix1 l) : EReal) = ∑ j : Fin 128, ∑ c : Fin 24, ∑ r : Fin 24,
      devE feat gidx sf (qNo w j) r ⟨16 * c.val + l.val, by omega⟩ * devE feat gidx sf (qNo w j) r ⟨16 * c.val + l.val, by omega⟩ := by
  unfold sumsTo
  refine (upto_add _ (fun p : FVec Ideal S16 .f32 × FVec Ideal S16 .f32 => (p.2 (ix1 l) : EReal))
    (fun j : Fin 128 => ∑ c : Fin 24, ∑ r : Fin 24, devE feat gidx sf (qNo w j) r ⟨16 * c.val + l.val, by omega⟩ * devE feat gidx sf (qNo w j) r ⟨16 * c.val + l.val, by omega⟩) (fun j p => ?_) _).trans ?_
  · refine upto_add _ (fun p : FVec Ideal S16 .f32 × FVec Ideal S16 .f32 => (p.2 (ix1 l) : EReal))
      (fun c : Fin 24 => ∑ r : Fin 24, devE feat gidx sf (qNo w j) r ⟨16 * c.val + l.val, by omega⟩ * devE feat gidx sf (qNo w j) r ⟨16 * c.val + l.val, by omega⟩) (fun c p => ?_) _
    exact upto_add _ (fun p : FVec Ideal S16 .f32 × FVec Ideal S16 .f32 => (p.2 (ix1 l) : EReal))
      (fun r : Fin 24 => devE feat gidx sf (qNo w j) r ⟨16 * c.val + l.val, by omega⟩ * devE feat gidx sf (qNo w j) r ⟨16 * c.val + l.val, by omega⟩) (fun r p => rfl) _
  · show (Ideal.ofBits .f32 0x00000000#32 : EReal) + _ = _
    rw [show Ideal.ofBits .f32 0x00000000#32 = 0 by simp [Ideal.ofBits, Ideal.ieee], zero_add]

/-- The lanes added up, in lane 0 and in lane 1. -/
theorem allLanes_zero (v : S16.Idx → EReal) : (allLanes (F := Ideal) v (ix1 0) : EReal) = ∑ l : Fin 16, v (ix1 l) := by
  have e : (allLanes (F := Ideal) v (ix1 0) : EReal) =
    (((v (ix1 0) + v (ix1 8)) + (v (ix1 4) + v (ix1 12))) + ((v (ix1 2) + v (ix1 10)) + (v (ix1 6) + v (ix1 14))))
    + (((v (ix1 1) + v (ix1 9)) + (v (ix1 5) + v (ix1 13))) + ((v (ix1 3) + v (ix1 11)) + (v (ix1 7) + v (ix1 15)))) := rfl
  rw [e]
  simp only [Fin.sum_univ_succ, Fin.sum_univ_zero, Fin.isValue, Fin.reduceSucc]
  abel
theorem allLanes_one (v : S16.Idx → EReal) : (allLanes (F := Ideal) v (ix1 1) : EReal) = ∑ l : Fin 16, v (ix1 l) := by
  have e : (allLanes (F := Ideal) v (ix1 1) : EReal) =
    (((v (ix1 1) + v (ix1 9)) + (v (ix1 5) + v (ix1 13))) + ((v (ix1 3) + v (ix1 11)) + (v (ix1 7) + v (ix1 15))))
    + (((v (ix1 0) + v (ix1 8)) + (v (ix1 4) + v (ix1 12))) + ((v (ix1 2) + v (ix1 10)) + (v (ix1 6) + v (ix1 14)))) := rfl
  rw [e]
  simp only [Fin.sum_univ_succ, Fin.sum_univ_zero, Fin.isValue, Fin.reduceSucc]
  abel

/-- A batch's sum over its eight tiles. -/
theorem batchSums_at (parts : S32x16.Idx → EReal) (b : Fin 4) :
    (batchSums (F := Ideal) parts (ix1 b) : EReal) = ∑ t : Fin 8, parts (ix2 ⟨8 * b.val + t.val, by omega⟩ 0) := by
  unfold batchSums
  pointwise
  refine Finset.sum_congr rfl fun t _ => congrArg parts ?_
  congr 1
  exact Fin.ext (by show _ = 8 * b.val + t.val; dsimp only; omega)
theorem batchSquares_at (parts : S32x16.Idx → EReal) (b : Fin 4) :
    (batchSquares (F := Ideal) parts (ix1 b) : EReal) = ∑ t : Fin 8, parts (ix2 ⟨8 * b.val + t.val, by omega⟩ 1) := by
  unfold batchSquares
  pointwise
  refine Finset.sum_congr rfl fun t _ => congrArg parts ?_
  congr 1
  exact Fin.ext (by show _ = 8 * b.val + t.val; dsimp only; omega)

/-- The tiles' order, and the order by query, neighbour and column. -/
theorem reorder (X : Fin 1024 → Fin 24 → Fin 384 → EReal) :
    ∑ t : Fin 8, ∑ l : Fin 16, ∑ j : Fin 128, ∑ c : Fin 24, ∑ r : Fin 24, X ⟨128 * t.val + j.val, by omega⟩ r ⟨16 * c.val + l.val, by omega⟩
      = ∑ s : Fin 1024, ∑ k : Fin 24, ∑ c : Fin 384, X s k c := by
  rw [Algebra.sum_split (m := 8) (n := 128) (N := 1024) (by decide) (fun s => ∑ k : Fin 24, ∑ c : Fin 384, X s k c)]
  refine Finset.sum_congr rfl fun t _ => ?_
  rw [Finset.sum_comm]
  refine Finset.sum_congr rfl fun j _ => ?_
  calc ∑ l : Fin 16, ∑ c : Fin 24, ∑ r : Fin 24, X ⟨128 * t.val + j.val, by omega⟩ r ⟨16 * c.val + l.val, by omega⟩
      = ∑ c : Fin 24, ∑ l : Fin 16, ∑ r : Fin 24, X ⟨128 * t.val + j.val, by omega⟩ r ⟨16 * c.val + l.val, by omega⟩ := Finset.sum_comm
    _ = ∑ c : Fin 24, ∑ r : Fin 24, ∑ l : Fin 16, X ⟨128 * t.val + j.val, by omega⟩ r ⟨16 * c.val + l.val, by omega⟩ :=
        Finset.sum_congr rfl fun c _ => Finset.sum_comm
    _ = ∑ r : Fin 24, ∑ c : Fin 24, ∑ l : Fin 16, X ⟨128 * t.val + j.val, by omega⟩ r ⟨16 * c.val + l.val, by omega⟩ := Finset.sum_comm
    _ = _ := Finset.sum_congr rfl fun r _ => (Algebra.sum_split (m := 24) (n := 16) (by decide) (fun c : Fin 384 => X ⟨128 * t.val + j.val, by omega⟩ r c)).symm

/-- Query `s` of batch `b`. -/
def query (b : Fin 4) (s : Fin 1024) : Fin 4096 := ⟨1024 * b.val + s.val, by omega⟩

theorem qNo_eq (b : Fin 4) (t : Fin 8) (j : Fin 128) : qNo ⟨8 * b.val + t.val, by omega⟩ j = query b ⟨128 * t.val + j.val, by omega⟩ :=
  Fin.ext (by show 128 * (8 * b.val + t.val) + j.val = 1024 * b.val + (128 * t.val + j.val); omega)

/-- A batch's sum of the differences … -/
theorem batch_sum (b : Fin 4) : (batchSums (F := Ideal) (partsVal (F := Ideal) feat gidx sf) (ix1 b) : EReal)
    = ∑ s : Fin 1024, ∑ k : Fin 24, ∑ c : Fin 384, devE feat gidx sf (query b s) k c := by
  rw [batchSums_at, ← reorder]
  refine Finset.sum_congr rfl fun t _ => ?_
  refine (allLanes_zero (sumsTo (F := Ideal) feat gidx sf ⟨8 * b.val + t.val, by omega⟩ 128).1).trans ?_
  refine Finset.sum_congr rfl fun l _ => ?_
  rw [sums_fst]
  refine Finset.sum_congr rfl fun j _ => ?_
  rw [qNo_eq]

/-- … and of their squares. -/
theorem batch_square (b : Fin 4) : (batchSquares (F := Ideal) (partsVal (F := Ideal) feat gidx sf) (ix1 b) : EReal)
    = ∑ s : Fin 1024, ∑ k : Fin 24, ∑ c : Fin 384, devE feat gidx sf (query b s) k c * devE feat gidx sf (query b s) k c := by
  rw [batchSquares_at, ← reorder (fun s k c => devE feat gidx sf (query b s) k c * devE feat gidx sf (query b s) k c)]
  refine Finset.sum_congr rfl fun t _ => ?_
  refine (allLanes_one (sumsTo (F := Ideal) feat gidx sf ⟨8 * b.val + t.val, by omega⟩ 128).2).trans ?_
  refine Finset.sum_congr rfl fun l _ => ?_
  rw [sums_snd]
  refine Finset.sum_congr rfl fun j _ => ?_
  rw [qNo_eq]

end Cert.Proof.Tiles

end
-- ==== Proof.Ref.lean ====
/-
What the reference computes, element by element, for indices that name rows.
-/
module

public import proofs.«01_k».proof.Proof.Gen.ReferenceIdeal.Run
public import proofs.«01_k».proof.Proof.Algebra
public import Idealize.ShloMosaic.Lib.Pointwise
public import Idealize.ShloMosaic.Lib.ReduceAll
public import Idealize.ShloMosaic.Lib.WordCmp
public import Idealize.ShloMosaic.Lib.Tactic.CleanTypes

@[expose] public section

noncomputable section

namespace Cert.Proof.Ref

open Cert.ReferenceIdeal Cert.ReferenceIdeal.Gen
open Idealize.ShloMosaic

/-! ## Gathers, at an index -/

section Gathers
variable {α : Type}

theorem clamp_eq (w : BitVec 32) (n : ℕ) (h : w.toNat < n) (hn : n ≤ 2 ^ 31) : min w.toInt.toNat (n - 1) = w.toNat := by
  rw [BitVec.toInt_eq_toNat_of_lt (by omega)]
  omega

/-- How a gather of the points' rows reads. -/
abbrev pointsDims := gather_S4x8192x3_S4x1024x1_S4x1024x3_2_1_0_0_1_2_113

/-- How a gather of the features' rows reads. -/
abbrev rowsDims := gather_S4x8192x384_S4x1024x1_S4x1024x384_2_1_0_0_1_2_11384

/-- How a gather of the groups' rows reads. -/
abbrev groupsDims := gather_S4x8192x384_S4x1024x24x2_S4x1024x24x384_3_01_n_n_01_3_11384

/-- A row of every batch's own table: the points' rows. -/
theorem gather_points (x : S4x8192x3.Idx → α) (i : IVec S4x1024x1 32) (b : Fin 4) (s : Fin 1024) (c : Fin 3) (h : (i (ix3 b s 0)).toNat < 8192) :
    Host.gather pointsDims x i (ix3 b s c) = x (ix3 b ⟨(i (ix3 b s 0)).toNat, h⟩ c) := by
  have hB : (0 : Fin 3) ∈ pointsDims.operandBatchingDims := by show _ ∈ [_]; exact List.mem_singleton.mpr rfl
  have hC : (1 : Fin 3) ∈ pointsDims.collapsedSliceDims := by show _ ∈ [_]; exact List.mem_singleton.mpr rfl
  have hM : (1 : Fin 3) ∈ pointsDims.startIndexMap := by show _ ∈ [_]; exact List.mem_singleton.mpr rfl
  have nB1 : (1 : Fin 3) ∉ pointsDims.operandBatchingDims := by show _ ∉ [_]; decide
  have nB2 : (2 : Fin 3) ∉ pointsDims.operandBatchingDims := by show _ ∉ [_]; decide
  have nC2 : (2 : Fin 3) ∉ pointsDims.collapsedSliceDims := by show _ ∉ [_]; decide
  have nM2 : (2 : Fin 3) ∉ pointsDims.startIndexMap := by show _ ∉ [_]; decide
  have hK : (2 : Fin 3) ∈ pointsDims.sKept := (GatherDims.mem_sKept _ _).mpr ⟨nC2, nB2⟩
  unfold Host.gather
  congr 1
  funext a
  refine Fin.ext ?_
  show pointsDims.start (ix3 b s c) i a + pointsDims.batchCoord (ix3 b s c) a + pointsDims.offCoord (ix3 b s c) a = _
  match a with
  | ⟨0, _⟩ =>
    show pointsDims.start (ix3 b s c) i (0 : Fin 3) + pointsDims.batchCoord (ix3 b s c) (0 : Fin 3) + pointsDims.offCoord (ix3 b s c) (0 : Fin 3) = b.val
    rw [GatherDims.start_batching _ _ _ _ hB, GatherDims.offCoord_eq_zero _ _ _ (fun k => ((GatherDims.mem_sKept _ _).mp k).2 hB)]
    unfold GatherDims.batchCoord
    rw [dif_pos hB]
    simp only [Nat.zero_add, Nat.add_zero]
    rfl
  | ⟨1, _⟩ =>
    show pointsDims.start (ix3 b s c) i (1 : Fin 3) + pointsDims.batchCoord (ix3 b s c) (1 : Fin 3) + pointsDims.offCoord (ix3 b s c) (1 : Fin 3) = (i (ix3 b s 0)).toNat
    rw [GatherDims.batchCoord_eq_zero _ _ _ nB1, GatherDims.offCoord_eq_zero _ _ _ (fun k => ((GatherDims.mem_sKept _ _).mp k).1 hC)]
    unfold GatherDims.start
    have hsi : pointsDims.siIdx (ix3 b s c) ⟨List.idxOf (1 : Fin 3) pointsDims.startIndexMap, List.idxOf_lt_length_iff.2 hM⟩ = ix3 b s 0 := by
      funext t
      refine Fin.ext ?_
      match t with
      | ⟨0, _⟩ => rfl
      | ⟨1, _⟩ => rfl
      | ⟨2, _⟩ => rfl
    rw [dif_pos hM, hsi]
    simp only [Nat.add_zero]
    exact clamp_eq _ 8192 h (by decide)
  | ⟨2, _⟩ =>
    show pointsDims.start (ix3 b s c) i (2 : Fin 3) + pointsDims.batchCoord (ix3 b s c) (2 : Fin 3) + pointsDims.offCoord (ix3 b s c) (2 : Fin 3) = c.val
    rw [GatherDims.batchCoord_eq_zero _ _ _ nB2]
    unfold GatherDims.start GatherDims.offCoord
    rw [dif_neg nM2, dif_pos hK]
    simp only [Nat.zero_add]
    rfl

/-- … the features' rows. -/
theorem gather_rows (x : S4x8192x384.Idx → α) (i : IVec S4x1024x1 32) (b : Fin 4) (s : Fin 1024) (c : Fin 384) (h : (i (ix3 b s 0)).toNat < 8192) :
    Host.gather rowsDims x i (ix3 b s c) = x (ix3 b ⟨(i (ix3 b s 0)).toNat, h⟩ c) := by
  have hB : (0 : Fin 3) ∈ rowsDims.operandBatchingDims := by show _ ∈ [_]; exact List.mem_singleton.mpr rfl
  have hC : (1 : Fin 3) ∈ rowsDims.collapsedSliceDims := by show _ ∈ [_]; exact List.mem_singleton.mpr rfl
  have hM : (1 : Fin 3) ∈ rowsDims.startIndexMap := by show _ ∈ [_]; exact List.mem_singleton.mpr rfl
  have nB1 : (1 : Fin 3) ∉ rowsDims.operandBatchingDims := by show _ ∉ [_]; decide
  have nB2 : (2 : Fin 3) ∉ rowsDims.operandBatchingDims := by show _ ∉ [_]; decide
  have nC2 : (2 : Fin 3) ∉ rowsDims.collapsedSliceDims := by show _ ∉ [_]; decide
  have nM2 : (2 : Fin 3) ∉ rowsDims.startIndexMap := by show _ ∉ [_]; decide
  have hK : (2 : Fin 3) ∈ rowsDims.sKept := (GatherDims.mem_sKept _ _).mpr ⟨nC2, nB2⟩
  unfold Host.gather
  congr 1
  funext a
  refine Fin.ext ?_
  show rowsDims.start (ix3 b s c) i a + rowsDims.batchCoord (ix3 b s c) a + rowsDims.offCoord (ix3 b s c) a = _
  match a with
  | ⟨0, _⟩ =>
    show rowsDims.start (ix3 b s c) i (0 : Fin 3) + rowsDims.batchCoord (ix3 b s c) (0 : Fin 3) + rowsDims.offCoord (ix3 b s c) (0 : Fin 3) = b.val
    rw [GatherDims.start_batching _ _ _ _ hB, GatherDims.offCoord_eq_zero _ _ _ (fun k => ((GatherDims.mem_sKept _ _).mp k).2 hB)]
    unfold GatherDims.batchCoord
    rw [dif_pos hB]
    simp only [Nat.zero_add, Nat.add_zero]
    rfl
  | ⟨1, _⟩ =>
    show rowsDims.start (ix3 b s c) i (1 : Fin 3) + rowsDims.batchCoord (ix3 b s c) (1 : Fin 3) + rowsDims.offCoord (ix3 b s c) (1 : Fin 3) = (i (ix3 b s 0)).toNat
    rw [GatherDims.batchCoord_eq_zero _ _ _ nB1, GatherDims.offCoord_eq_zero _ _ _ (fun k => ((GatherDims.mem_sKept _ _).mp k).1 hC)]
    unfold GatherDims.start
    have hsi : rowsDims.siIdx (ix3 b s c) ⟨List.idxOf (1 : Fin 3) rowsDims.startIndexMap, List.idxOf_lt_length_iff.2 hM⟩ = ix3 b s 0 := by
      funext t
      refine Fin.ext ?_
      match t with
      | ⟨0, _⟩ => rfl
      | ⟨1, _⟩ => rfl
      | ⟨2, _⟩ => rfl
    rw [dif_pos hM, hsi]
    simp only [Nat.add_zero]
    exact clamp_eq _ 8192 h (by decide)
  | ⟨2, _⟩ =>
    show rowsDims.start (ix3 b s c) i (2 : Fin 3) + rowsDims.batchCoord (ix3 b s c) (2 : Fin 3) + rowsDims.offCoord (ix3 b s c) (2 : Fin 3) = c.val
    rw [GatherDims.batchCoord_eq_zero _ _ _ nB2]
    unfold GatherDims.start GatherDims.offCoord
    rw [dif_neg nM2, dif_pos hK]
    simp only [Nat.zero_add]
    rfl

/-- A row of the batch and the number that the two index words name. -/
theorem gather_groups (x : S4x8192x384.Idx → α) (i : IVec S4x1024x24x2 32) (b : Fin 4) (s : Fin 1024) (k : Fin 24) (c : Fin 384)
    (h0 : (i (ix4 b s k 0)).toNat = b.val) (h : (i (ix4 b s k 1)).toNat < 8192) :
    Host.gather groupsDims x i (ix4 b s k c) = x (ix3 b ⟨(i (ix4 b s k 1)).toNat, h⟩ c) := by
  have hC0 : (0 : Fin 3) ∈ groupsDims.collapsedSliceDims := by show _ ∈ [_, _]; decide
  have hC1 : (1 : Fin 3) ∈ groupsDims.collapsedSliceDims := by show _ ∈ [_, _]; decide
  have hM0 : (0 : Fin 3) ∈ groupsDims.startIndexMap := by show _ ∈ [_, _]; decide
  have hM1 : (1 : Fin 3) ∈ groupsDims.startIndexMap := by show _ ∈ [_, _]; decide
  have nC2 : (2 : Fin 3) ∉ groupsDims.collapsedSliceDims := by show _ ∉ [_, _]; decide
  have nM2 : (2 : Fin 3) ∉ groupsDims.startIndexMap := by show _ ∉ [_, _]; decide
  have nB : ∀ a : Fin 3, a ∉ groupsDims.operandBatchingDims := fun a => by show _ ∉ []; exact List.not_mem_nil
  have hK : (2 : Fin 3) ∈ groupsDims.sKept := (GatherDims.mem_sKept _ _).mpr ⟨nC2, nB _⟩
  unfold Host.gather
  congr 1
  funext a
  refine Fin.ext ?_
  show groupsDims.start (ix4 b s k c) i a + groupsDims.batchCoord (ix4 b s k c) a + groupsDims.offCoord (ix4 b s k c) a = _
  match a with
  | ⟨0, _⟩ =>
    show groupsDims.start (ix4 b s k c) i (0 : Fin 3) + groupsDims.batchCoord (ix4 b s k c) (0 : Fin 3) + groupsDims.offCoord (ix4 b s k c) (0 : Fin 3) = b.val
    rw [GatherDims.batchCoord_eq_zero _ _ _ (nB _), GatherDims.offCoord_eq_zero _ _ _ (fun k => ((GatherDims.mem_sKept _ _).mp k).1 hC0)]
    unfold GatherDims.start
    have hsi : groupsDims.siIdx (ix4 b s k c) ⟨List.idxOf (0 : Fin 3) groupsDims.startIndexMap, List.idxOf_lt_length_iff.2 hM0⟩ = ix4 b s k 0 := by
      funext t
      refine Fin.ext ?_
      match t with
      | ⟨0, _⟩ => rfl
      | ⟨1, _⟩ => rfl
      | ⟨2, _⟩ => rfl
      | ⟨3, _⟩ => rfl
    rw [dif_pos hM0, hsi]
    simp only [Nat.add_zero]
    exact (clamp_eq _ 4 (by rw [h0]; exact b.isLt) (by decide)).trans h0
  | ⟨1, _⟩ =>
    show groupsDims.start (ix4 b s k c) i (1 : Fin 3) + groupsDims.batchCoord (ix4 b s k c) (1 : Fin 3) + groupsDims.offCoord (ix4 b s k c) (1 : Fin 3) = (i (ix4 b s k 1)).toNat
    rw [GatherDims.batchCoord_eq_zero _ _ _ (nB _), GatherDims.offCoord_eq_zero _ _ _ (fun k => ((GatherDims.mem_sKept _ _).mp k).1 hC1)]
    unfold GatherDims.start
    have hsi : groupsDims.siIdx (ix4 b s k c) ⟨List.idxOf (1 : Fin 3) groupsDims.startIndexMap, List.idxOf_lt_length_iff.2 hM1⟩ = ix4 b s k 1 := by
      funext t
      refine Fin.ext ?_
      match t with
      | ⟨0, _⟩ => rfl
      | ⟨1, _⟩ => rfl
      | ⟨2, _⟩ => rfl
      | ⟨3, _⟩ => rfl
    rw [dif_pos hM1, hsi]
    simp only [Nat.add_zero]
    exact clamp_eq _ 8192 h (by decide)
  | ⟨2, _⟩ =>
    show groupsDims.start (ix4 b s k c) i (2 : Fin 3) + groupsDims.batchCoord (ix4 b s k c) (2 : Fin 3) + groupsDims.offCoord (ix4 b s k c) (2 : Fin 3) = c.val
    rw [GatherDims.batchCoord_eq_zero _ _ _ (nB _)]
    unfold GatherDims.start GatherDims.offCoord
    rw [dif_neg nM2, dif_pos hK]
    simp only [Nat.zero_add]
    rfl

end Gathers

/-! ## The parts of the reference -/

section Parts
variable {F : FTy → Type} [FloatOps F]

/-- The sampled queries' places, those below zero moved up by the number of points. -/
def wrapped (a2 : IVec S4x1024 32) : IVec S4x1024x1 32 :=
  select (cmpi .slt (broadcastInDim S4x1024x1 ![0, 1] bcast_S4x1024_S4x1024x1_0_1 a2) (broadcastInDim S4x1024x1 ![] bcast_S_S4x1024x1 (constantI S_ 32 0#32))) (addi (broadcastInDim S4x1024x1 ![0, 1] bcast_S4x1024_S4x1024x1_0_1 a2) (broadcastInDim S4x1024x1 ![] bcast_S_S4x1024x1 (constantI S_ 32 8192#32))) (broadcastInDim S4x1024x1 ![0, 1] bcast_S4x1024_S4x1024x1_0_1 a2)

/-- Which of them lie in the batch. -/
def inBatch (a2 : IVec S4x1024 32) : IVec S4x1024 1 :=
  Host.reduce IntOp.andi (andi (cmpi .sge (wrapped a2) (broadcastInDim S4x1024x1 ![] bcast_S_S4x1024x1 (constantI S_ 32 0#32)))
    (cmpi .sle (wrapped a2) (broadcastInDim S4x1024x1 ![0, 1, 2] bcast_S1x1x1_S4x1024x1_0_1_2 (broadcastInDim S1x1x1 ![2] bcast_S1_S1x1x1_2 (constantI S1 32 8191#32)))))
    (constantI S_ 1 1#1) reducesTo_S4x1024x1_S4x1024_d2 h_S_

/-- The sampled points. -/
def sampledPts (a0 : FVec F S4x8192x3 .f32) (a2 : IVec S4x1024 32) : FVec F S4x1024x3 .f32 :=
  select (broadcastInDim S4x1024x3 ![0, 1] bcast_S4x1024_S4x1024x3_0_1 (inBatch a2)) (Host.gather pointsDims a0 (wrapped a2))
    (broadcastInDim S4x1024x3 ![] bcast_S_S4x1024x3 (constant (F := F) S_ .f32 0x7FC00000#32))

/-- The sampled features. -/
def sampled (a1 : FVec F S4x8192x384 .f32) (a2 : IVec S4x1024 32) : FVec F S4x1024x384 .f32 :=
  select (broadcastInDim S4x1024x384 ![0, 1] bcast_S4x1024_S4x1024x384_0_1 (inBatch a2)) (Host.gather rowsDims a1 (wrapped a2))
    (broadcastInDim S4x1024x384 ![] bcast_S_S4x1024x384 (constant (F := F) S_ .f32 0x7FC00000#32))

/-- The batch and the place of every neighbour. -/
def groupWords (a3 : IVec S4x1024x24 32) : IVec S4x1024x24x2 32 :=
  concatenate S4x1024x24x2 3 [⟨S4x1024x24x1, (broadcastInDim S4x1024x24x1 ![0, 1, 2] bcast_S4x1024x24_S4x1024x24x1_0_1_2 (broadcastInDim S4x1024x24 ![0, 1, 2] bcast_S4x1x1_S4x1024x24_0_1_2
      (select (cmpi .slt (broadcastInDim S4x1x1 ![0] bcast_S4_S4x1x1_0 (iotaInDim S4 32 0)) (broadcastInDim S4x1x1 ![] bcast_S_S4x1x1 (constantI S_ 32 0#32))) (addi (broadcastInDim S4x1x1 ![0] bcast_S4_S4x1x1_0 (iotaInDim S4 32 0)) (broadcastInDim S4x1x1 ![] bcast_S_S4x1x1 (constantI S_ 32 4#32))) (broadcastInDim S4x1x1 ![0] bcast_S4_S4x1x1_0 (iotaInDim S4 32 0)))))⟩,
    ⟨S4x1024x24x1, (broadcastInDim S4x1024x24x1 ![0, 1, 2] bcast_S4x1024x24_S4x1024x24x1_0_1_2
      (select (cmpi .slt a3 (broadcastInDim S4x1024x24 ![] bcast_S_S4x1024x24 (constantI S_ 32 0#32))) (addi a3 (broadcastInDim S4x1024x24 ![] bcast_S_S4x1024x24 (constantI S_ 32 8192#32))) a3))⟩]
    concatenates_S4x1024x24x1_S4x1024x24x1_S4x1024x24x2_d3

/-- The sampled features, beside every neighbour. -/
def centres (a1 : FVec F S4x8192x384 .f32) (a2 : IVec S4x1024 32) : FVec F S4x1024x24x384 .f32 :=
  broadcastInDim S4x1024x24x384 ![0, 1, 2, 3] bcast_S4x1024x1x384_S4x1024x24x384_0_1_2_3 (broadcastInDim S4x1024x1x384 ![0, 1, 3] bcast_S4x1024x384_S4x1024x1x384_0_1_3 (sampled a1 a2))

/-- The neighbours' features less the sampled query's. -/
def diffs (a1 : FVec F S4x8192x384 .f32) (a2 : IVec S4x1024 32) (a3 : IVec S4x1024x24 32) : FVec F S4x1024x24x384 .f32 :=
  subf (Host.gather groupsDims a1 (groupWords a3)) (centres a1 a2)

/-- The mean of every batch's numbers. -/
def means (x : FVec F S4x9437184 .f32) : FVec F S4x1 .f32 :=
  Host.divf (broadcastInDim S4x1 ![0] bcast_S4_S4x1_0 (Host.reduceAdd x (constant S_ .f32 0x00000000#32) reducesTo_S4x9437184_S4_d1 h_S_))
    (broadcastInDim S4x1 ![] bcast_S_S4x1 (constant (F := F) S_ .f32 0x4B100000#32))

/-- Every number less its batch's mean. -/
def devs (x : FVec F S4x9437184 .f32) : FVec F S4x9437184 .f32 :=
  subf x (broadcastInDim S4x9437184 ![0, 1] bcast_S4x1_S4x9437184_0_1 (means x))

/-- Every batch's variance. -/
def variances (x : FVec F S4x9437184 .f32) : FVec F S4 .f32 :=
  select (broadcastInDim S4 ![] bcast_S_S4 (cmpf .ogt (subf (constant (F := F) S_ .f32 0x4B100000#32) (sitofp .f32 (constantI S_ 32 1#32))) (constant S_ .f32 0x00000000#32)))
    (Host.divf (Host.reduceAdd (mulf (devs x) (devs x)) (constant S_ .f32 0x00000000#32) reducesTo_S4x9437184_S4_d1 h_S_)
      (broadcastInDim S4 ![] bcast_S_S4 (subf (constant (F := F) S_ .f32 0x4B100000#32) (sitofp .f32 (constantI S_ 32 1#32)))))
    (broadcastInDim S4 ![] bcast_S_S4 (id (constant (F := F) S_ .f32 0x7FC00000#32)))

/-- The standard deviations and the small constant. -/
def scales (v : FVec F S4 .f32) : FVec F S4x1x1x1 .f32 :=
  addf (broadcastInDim S4x1x1x1 ![0] bcast_S4_S4x1x1x1_0 (Host.sqrt v)) (broadcastInDim S4x1x1x1 ![] bcast_S_S4x1x1x1 (constant (F := F) S_ .f32 0x3727C5AC#32))

/-- The third result. -/
def joined (a1 : FVec F S4x8192x384 .f32) (a2 : IVec S4x1024 32) (a3 : IVec S4x1024x24 32) (a4 a5 : FVec F S1x1x1x384 .f32) : FVec F S4x1024x24x768 .f32 :=
  concatenate S4x1024x24x768 3 [⟨S4x1024x24x384, (addf (mulf (broadcastInDim S4x1024x24x384 ![0, 1, 2, 3] bcast_S1x1x1x384_S4x1024x24x384_0_1_2_3 a4)
      (Host.divf (diffs a1 a2 a3) (broadcastInDim S4x1024x24x384 ![0, 1, 2, 3] bcast_S4x1x1x1_S4x1024x24x384_0_1_2_3
        (scales (variances (shapeCast _ (diffs a1 a2 a3) shapeCasts_S4x1024x24x384_S4x9437184))))))
      (broadcastInDim S4x1024x24x384 ![0, 1, 2, 3] bcast_S1x1x1x384_S4x1024x24x384_0_1_2_3 a5))⟩, ⟨S4x1024x24x384, centres a1 a2⟩]
    concatenates_S4x1024x24x384_S4x1024x24x384_S4x1024x24x768_d3

theorem res_eq (m : (ℓ : Loc nD τ sig) → Buf (Elt F) ℓ) (c : Dev nD) :
    Value.res_out2 m c = joined (F := F) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) := rfl

end Parts

/-! ## The parts, element by element -/

section Reads
variable {F : FTy → Type} [FloatOps F]

/-- A place in the batch is not moved. -/
theorem not_moved (w n : BitVec 32) (h : w.toNat < 2 ^ 31) : Scalar.select (IntOp.cmpi .slt w 0#32) (IntOp.addi w n) w = w := by
  have h' : IntOp.cmpi .slt w 0#32 = 0#1 := by
    rw [WordCmp.cmpi_slt_eq, BitVec.toInt_eq_toNat_of_lt (by omega)]
    rw [WordCmp.ofBool_decide_eq_zero_iff]
    simp
  rw [h']
  rfl

theorem wrapped_at (a2 : IVec S4x1024 32) (b : Fin 4) (s : Fin 1024) (k : Fin 1) (h : (a2 (ix2 b s)).toNat < 8192) :
    wrapped a2 (ix3 b s k) = a2 (ix2 b s) := by
  unfold wrapped
  pointwise
  exact not_moved _ _ (by omega)

theorem inBatch_at (a2 : IVec S4x1024 32) (h : ∀ i, (a2 i).toNat < 8192) (j : S4x1024.Idx) : inBatch a2 j = 1#1 := by
  unfold inBatch
  refine Host.reduce_andi_one _ _ _ _ _ rfl fun i => ?_
  idx_vars i
  show IntOp.andi (IntOp.cmpi .sge (wrapped a2 (ix3 i0 i1 i2)) 0#32) (IntOp.cmpi .sle (wrapped a2 (ix3 i0 i1 i2)) 8191#32) = 1#1
  rw [wrapped_at a2 i0 i1 i2 (h _)]
  have hw := h (ix2 i0 i1)
  have hi : (a2 (ix2 i0 i1)).toInt = ((a2 (ix2 i0 i1)).toNat : ℤ) := BitVec.toInt_eq_toNat_of_lt (by omega)
  have h0 : (0#32 : BitVec 32).toInt = 0 := by decide
  have h1 : (8191#32 : BitVec 32).toInt = 8191 := by decide
  rw [WordCmp.cmpi_sge_eq, WordCmp.cmpi_sle_eq, WordCmp.andi_ofBool, WordCmp.ofBool_eq_one_iff, hi, h0, h1, Bool.and_eq_true, decide_eq_true_iff, decide_eq_true_iff]
  omega

theorem sampledPts_at (a0 : FVec F S4x8192x3 .f32) (a2 : IVec S4x1024 32) (h : ∀ i, (a2 i).toNat < 8192) (b : Fin 4) (s : Fin 1024) (k : Fin 3) :
    sampledPts a0 a2 (ix3 b s k) = a0 (ix3 b ⟨(a2 (ix2 b s)).toNat, h _⟩ k) := by
  unfold sampledPts
  have e : Host.gather pointsDims a0 (wrapped a2) (ix3 b s k) = a0 (ix3 b ⟨(a2 (ix2 b s)).toNat, h _⟩ k) := by
    rw [gather_points a0 (wrapped a2) b s k (by rw [wrapped_at a2 b s 0 (h _)]; exact h _)]
    exact congrArg a0 (congrArg (fun n => ix3 b n k) (Fin.ext (congrArg BitVec.toNat (wrapped_at a2 b s 0 (h _)))))
  show Scalar.select (inBatch a2 _) (Host.gather pointsDims a0 (wrapped a2) (ix3 b s k)) _ = _
  rw [inBatch_at a2 h, e]
  rfl

theorem sampled_at (a1 : FVec F S4x8192x384 .f32) (a2 : IVec S4x1024 32) (h : ∀ i, (a2 i).toNat < 8192) (b : Fin 4) (s : Fin 1024) (c : Fin 384) :
    sampled a1 a2 (ix3 b s c) = a1 (ix3 b ⟨(a2 (ix2 b s)).toNat, h _⟩ c) := by
  unfold sampled
  have e : Host.gather rowsDims a1 (wrapped a2) (ix3 b s c) = a1 (ix3 b ⟨(a2 (ix2 b s)).toNat, h _⟩ c) := by
    rw [gather_rows a1 (wrapped a2) b s c (by rw [wrapped_at a2 b s 0 (h _)]; exact h _)]
    exact congrArg a1 (congrArg (fun n => ix3 b n c) (Fin.ext (congrArg BitVec.toNat (wrapped_at a2 b s 0 (h _)))))
  show Scalar.select (inBatch a2 _) (Host.gather rowsDims a1 (wrapped a2) (ix3 b s c)) _ = _
  rw [inBatch_at a2 h, e]
  rfl

theorem groupWords_batch (a3 : IVec S4x1024x24 32) (b : Fin 4) (s : Fin 1024) (k : Fin 24) : groupWords a3 (ix4 b s k 0) = BitVec.ofNat 32 b.val := by
  unfold groupWords
  pointwise
  exact not_moved _ _ (by rw [BitVec.toNat_ofNat]; omega)

theorem groupWords_place (a3 : IVec S4x1024x24 32) (b : Fin 4) (s : Fin 1024) (k : Fin 24) (h : (a3 (ix3 b s k)).toNat < 8192) :
    groupWords a3 (ix4 b s k 1) = a3 (ix3 b s k) := by
  unfold groupWords
  pointwise
  exact not_moved _ _ (by omega)

theorem centres_at (a1 : FVec F S4x8192x384 .f32) (a2 : IVec S4x1024 32) (h : ∀ i, (a2 i).toNat < 8192) (b : Fin 4) (s : Fin 1024) (k : Fin 24) (c : Fin 384) :
    centres a1 a2 (ix4 b s k c) = a1 (ix3 b ⟨(a2 (ix2 b s)).toNat, h _⟩ c) := by
  rw [← sampled_at a1 a2 h b s c]
  unfold centres
  generalize sampled a1 a2 = x
  pointwise

theorem diffs_at (a1 : FVec F S4x8192x384 .f32) (a2 : IVec S4x1024 32) (a3 : IVec S4x1024x24 32) (h : ∀ i, (a2 i).toNat < 8192) (h3 : ∀ i, (a3 i).toNat < 8192)
    (b : Fin 4) (s : Fin 1024) (k : Fin 24) (c : Fin 384) :
    diffs a1 a2 a3 (ix4 b s k c) = FloatOps.subf (a1 (ix3 b ⟨(a3 (ix3 b s k)).toNat, h3 _⟩ c)) (a1 (ix3 b ⟨(a2 (ix2 b s)).toNat, h _⟩ c)) := by
  have e1 : (groupWords a3 (ix4 b s k 1)) = a3 (ix3 b s k) := groupWords_place a3 b s k (h3 _)
  have e : Host.gather groupsDims a1 (groupWords a3) (ix4 b s k c) = a1 (ix3 b ⟨(a3 (ix3 b s k)).toNat, h3 _⟩ c) := by
    rw [gather_groups a1 (groupWords a3) b s k c (by rw [groupWords_batch, BitVec.toNat_ofNat]; omega) (by rw [e1]; exact h3 _)]
    exact congrArg a1 (congrArg (fun n => ix3 b n c) (Fin.ext (congrArg BitVec.toNat e1)))
  show FloatOps.subf (Host.gather groupsDims a1 (groupWords a3) (ix4 b s k c)) (centres a1 a2 (ix4 b s k c)) = _
  rw [e, centres_at a1 a2 h]

end Reads

/-! ## Over the extended reals -/

/-- The place of a difference among a batch's numbers. -/
def flat (s : Fin 1024) (k : Fin 24) (c : Fin 384) : Fin 9437184 := ⟨9216 * s.val + (384 * k.val + c.val), by omega⟩

theorem flat_at (x : FVec Ideal S4x1024x24x384 .f32) (b : Fin 4) (s : Fin 1024) (k : Fin 24) (c : Fin 384) :
    shapeCast S4x9437184 x shapeCasts_S4x1024x24x384_S4x9437184 (ix2 b (flat s k c)) = x (ix4 b s k c) := by
  generalize hn : flat s k c = n
  have hn' : n.val = 9216 * s.val + (384 * k.val + c.val) := by rw [← hn]; rfl
  pointwise
  refine congrArg x ?_
  have q1 : n.val / 9216 = s.val := by omega
  have q2 : n.val / 384 % 24 = k.val := by omega
  have q3 : n.val % 384 = c.val := by omega
  congr 1
  exacts [Fin.ext q1, Fin.ext q2, Fin.ext q3]

/-- A sum over a batch's numbers, by query, neighbour and column. -/
theorem sum_flat {M : Type} [AddCommMonoid M] (f : Fin 9437184 → M) : ∑ i, f i = ∑ s : Fin 1024, ∑ k : Fin 24, ∑ c : Fin 384, f (flat s k c) := by
  rw [Algebra.sum_split (m := 1024) (n := 9216) (by decide) f]
  refine Finset.sum_congr rfl fun s _ => ?_
  rw [Algebra.sum_split (m := 24) (n := 384) (by decide)]
  rfl

theorem means_at (x : FVec Ideal S4x9437184 .f32) (b : Fin 4) (k : Fin 1) :
    means x (ix2 b k) = Ideal.div (∑ i : Fin 9437184, x (ix2 b i)) (Ideal.ofBits .f32 0x4B100000#32) := by
  unfold means
  pointwise

theorem variances_at (x : FVec Ideal S4x9437184 .f32) (b : Fin 4) :
    variances x (ix1 b) = Ideal.div (∑ i : Fin 9437184, (x (ix2 b i) - means x (ix2 b 0)) * (x (ix2 b i) - means x (ix2 b 0)))
      (Ideal.ofBits .f32 0x4B100000#32 - ((1 : ℝ) : EReal)) := by
  unfold variances devs
  generalize means x = y
  pointwise
  have e1 : (FloatOps.sitofp .f32 (1#32) : Ideal .f32) = ((1 : ℝ) : EReal) := by
    show (((1#32 : BitVec 32).toInt : ℝ) : EReal) = _
    simp
  have hp : (0 : EReal) < Ideal.ofBits FTy.f32 0x4B100000#32 - ((1 : ℝ) : EReal) := by
    rw [Algebra.bits_m, ← EReal.coe_sub]
    exact EReal.coe_pos.2 (by norm_num)
  rw [e1, if_pos hp]

/-- Of real numbers the variance is a real number, from the sum and the sum of squares. -/
theorem variances_real (x : FVec Ideal S4x9437184 .f32) (b : Fin 4) (g : Fin 9437184 → ℝ) (h : ∀ i, x (ix2 b i) = (g i : EReal)) :
    variances x (ix1 b) = (((∑ i, g i * g i - (∑ i, g i) * (∑ i, g i) / 9437184) / 9437183 : ℝ) : EReal)
      ∧ 0 ≤ (∑ i, g i * g i - (∑ i, g i) * (∑ i, g i) / 9437184) / 9437183 := by
  have hv := Algebra.sum_sq_dev g 9437184 (by rw [Fintype.card_fin]; norm_num) (by norm_num)
  have hm : means x (ix2 b 0) = (((∑ i, g i) / 9437184 : ℝ) : EReal) := by
    have hs : ∑ i, x (ix2 b i) = ((∑ i, g i : ℝ) : EReal) := (Finset.sum_congr rfl fun i _ => h i).trans (Algebra.coe_sum _ _).symm
    rw [means_at, hs, Algebra.bits_m, Algebra.div_coe _ _ (by norm_num)]
  refine ⟨?_, ?_⟩
  · have hs : ∑ i, (x (ix2 b i) - means x (ix2 b 0)) * (x (ix2 b i) - means x (ix2 b 0))
        = ((∑ i, (g i - (∑ j, g j) / 9437184) * (g i - (∑ j, g j) / 9437184) : ℝ) : EReal) := by
      rw [Algebra.coe_sum]
      refine Finset.sum_congr rfl fun i _ => ?_
      rw [hm, h i, EReal.coe_mul, EReal.coe_sub]
    rw [variances_at, hs, Algebra.bits_m, ← EReal.coe_sub, hv, show (9437184 - 1 : ℝ) = 9437183 by norm_num, Algebra.div_coe _ _ (by norm_num)]
  · rw [← hv]
    exact div_nonneg (Finset.sum_nonneg fun i _ => mul_self_nonneg _) (by norm_num)

theorem scales_at (v : FVec Ideal S4 .f32) (b : Fin 4) : scales v (ix4 b 0 0 0) = Ideal.sqrt (v (ix1 b)) + Ideal.ofBits .f32 0x3727C5AC#32 := by
  unfold scales
  pointwise

theorem joined_left (a1 : FVec Ideal S4x8192x384 .f32) (a2 : IVec S4x1024 32) (a3 : IVec S4x1024x24 32) (a4 a5 : FVec Ideal S1x1x1x384 .f32)
    (b : Fin 4) (s : Fin 1024) (k : Fin 24) (c : Fin 768) (hc : c.val < 384) :
    joined a1 a2 a3 a4 a5 (ix4 b s k c) = a4 (ix4 0 0 0 ⟨c.val, hc⟩) * Ideal.div (diffs a1 a2 a3 (ix4 b s k ⟨c.val, hc⟩))
      (scales (variances (shapeCast _ (diffs a1 a2 a3) shapeCasts_S4x1024x24x384_S4x9437184)) (ix4 b 0 0 0)) + a5 (ix4 0 0 0 ⟨c.val, hc⟩) := by
  unfold joined
  generalize scales (variances (F := Ideal) _) = y
  generalize diffs a1 a2 a3 = d
  generalize centres a1 a2 = e
  pointwise
  rw [dif_pos hc]

theorem joined_right (a1 : FVec Ideal S4x8192x384 .f32) (a2 : IVec S4x1024 32) (a3 : IVec S4x1024x24 32) (a4 a5 : FVec Ideal S1x1x1x384 .f32)
    (b : Fin 4) (s : Fin 1024) (k : Fin 24) (c : Fin 768) (hc : ¬ c.val < 384) :
    joined a1 a2 a3 a4 a5 (ix4 b s k c) = centres a1 a2 (ix4 b s k ⟨c.val - 384, by omega⟩) := by
  unfold joined
  generalize scales (variances (F := Ideal) _) = y
  generalize diffs a1 a2 a3 = d
  generalize centres a1 a2 = e
  pointwise
  rw [dif_neg hc]

end Cert.Proof.Ref

end
-- ==== Proof.Values.lean ====
/-
The kernel's values beside the reference's, over the extended reals.
-/
module

public import proofs.«01_k».proof.Proof.Args
public import proofs.«01_k».proof.Proof.Sums
public import proofs.«01_k».proof.Proof.Ref

@[expose] public section

noncomputable section

namespace Cert.Proof.Tiles

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

/-! ## The arrays' elements, from the arguments -/

section Pure
variable (a1 : S4x8192x384.Idx → EReal) (a2 : S4x1024.Idx → BitVec 32) (a3 : S4x1024x24.Idx → BitVec 32) (a4 a5 : S1x1x1x384.Idx → EReal)
variable (feat : S32768x384.Idx → EReal) (idx : S4096.Idx → BitVec 32) (gidx : S4096x32.Idx → BitVec 32)
variable (h2 : ∀ i, (a2 i).toNat < 8192) (h3 : ∀ i, (a3 i).toNat < 8192)
variable (hfeat : ∀ (r : Fin 32768) (c : Fin 384), feat (ix2 r c) = a1 (ix3 ⟨r.val / 8192, by omega⟩ ⟨r.val % 8192, by omega⟩ c))
variable (hidx : ∀ n : Fin 4096, (idx (ix1 n)).toNat = n.val / 1024 * 8192 + (a2 (ix2 ⟨n.val / 1024, by omega⟩ ⟨n.val % 1024, by omega⟩)).toNat)
variable (hgidx : ∀ (n : Fin 4096) (c : Fin 32) (hc : c.val < 24),
  (gidx (ix2 n c)).toNat = n.val / 1024 * 8192 + (a3 (ix3 ⟨n.val / 1024, by omega⟩ ⟨n.val % 1024, by omega⟩ ⟨c.val, hc⟩)).toNat)

theorem query_batch (b : Fin 4) (s : Fin 1024) : (query b s).val / 1024 = b.val := by
  show (1024 * b.val + s.val) / 1024 = b.val
  omega
theorem query_place (b : Fin 4) (s : Fin 1024) : (query b s).val % 1024 = s.val := by
  show (1024 * b.val + s.val) % 1024 = s.val
  omega

include hidx in
theorem idx_query (b : Fin 4) (s : Fin 1024) : (idx (ix1 (query b s))).toNat = b.val * 8192 + (a2 (ix2 b s)).toNat := by
  have e := hidx (query b s)
  have e1 : (⟨(query b s).val / 1024, by omega⟩ : Fin 4) = b := Fin.ext (query_batch b s)
  have e2 : (⟨(query b s).val % 1024, by omega⟩ : Fin 1024) = s := Fin.ext (query_place b s)
  rw [e1, e2, query_batch] at e
  exact e

include hgidx in
theorem gidx_query (b : Fin 4) (s : Fin 1024) (k : Fin 24) : (gidx (ix2 (query b s) ⟨k.val, by omega⟩)).toNat = b.val * 8192 + (a3 (ix3 b s k)).toNat := by
  have e := hgidx (query b s) ⟨k.val, by omega⟩ k.isLt
  have e1 : (⟨(query b s).val / 1024, by omega⟩ : Fin 4) = b := Fin.ext (query_batch b s)
  have e2 : (⟨(query b s).val % 1024, by omega⟩ : Fin 1024) = s := Fin.ext (query_place b s)
  rw [e1, e2, query_batch] at e
  exact e

include hfeat in
theorem feat_row (w : BitVec 32) (b : Fin 4) (p : Fin 8192) (hw : w.toNat = b.val * 8192 + p.val) (c : Fin 384) :
    feat (ix2 (rowNo w) c) = a1 (ix3 b p c) := by
  have hr : (rowNo w).val = b.val * 8192 + p.val := (rowNo_val (by omega)).trans hw
  rw [hfeat]
  have e1 : (⟨(rowNo w).val / 8192, by omega⟩ : Fin 4) = b := Fin.ext (by show (rowNo w).val / 8192 = b.val; omega)
  have e2 : (⟨(rowNo w).val % 8192, by omega⟩ : Fin 8192) = p := Fin.ext (by show (rowNo w).val % 8192 = p.val; omega)
  rw [e1, e2]

include hfeat hidx in
theorem sf_query (b : Fin 4) (s : Fin 1024) (c : Fin 384) :
    sfVal (F := Ideal) feat idx (ix2 (query b s) c) = a1 (ix3 b ⟨(a2 (ix2 b s)).toNat, h2 _⟩ c) :=
  feat_row a1 feat hfeat _ b ⟨(a2 (ix2 b s)).toNat, h2 _⟩ (idx_query a2 idx hidx b s) c

include hfeat hgidx in
theorem group_query (b : Fin 4) (s : Fin 1024) (k : Fin 24) (c : Fin 384) :
    groupOf (F := Ideal) feat gidx (query b s) (ix2 k c) = a1 (ix3 b ⟨(a3 (ix3 b s k)).toNat, h3 _⟩ c) :=
  feat_row a1 feat hfeat _ b ⟨(a3 (ix3 b s k)).toNat, h3 _⟩ (gidx_query a3 gidx hgidx b s k) c

include h2 h3 hfeat hidx hgidx in
theorem dev_query (b : Fin 4) (s : Fin 1024) (k : Fin 24) (c : Fin 384) :
    devE feat gidx (sfVal (F := Ideal) feat idx) (query b s) k c = Ref.diffs (F := Ideal) a1 a2 a3 (ix4 b s k c) := by
  unfold devE
  rw [sf_query a1 a2 feat idx h2 hfeat hidx, group_query a1 a3 feat gidx h3 hfeat hgidx]
  exact (Ref.diffs_at (F := Ideal) a1 a2 a3 h2 h3 b s k c).symm

/-- The inverse of the deviation, of real sums. -/
theorem invOf_real (S Q ε : ℝ) (hε : Ideal.ofBits .f32 0x3727C5AC#32 = (ε : EReal)) (hv : 0 ≤ (Q - S * S / 9437184) / 9437183) :
    (invOf (F := Ideal) (S : EReal) (Q : EReal) : EReal) = Ideal.div 1 ((Real.sqrt ((Q - S * S / 9437184) / 9437183) + ε : ℝ) : EReal) := by
  show Ideal.div (Ideal.ofBits .f32 0x3F800000#32) (Ideal.sqrt (Ideal.div ((Q : EReal) - Ideal.div ((S : EReal) * (S : EReal)) (Ideal.ofBits .f32 0x4B100000#32))
    (Ideal.ofBits .f32 0x4B0FFFFF#32)) + Ideal.ofBits .f32 0x3727C5AC#32) = _
  have h1 : Ideal.ofBits .f32 0x3F800000#32 = 1 := by
    have e : Ideal.ofBits .f32 0x3F800000#32 = ((8388608 * (2 ^ 23)⁻¹ : ℝ) : EReal) := by simp [Ideal.ofBits, Ideal.ieee]
    rw [e, show (8388608 * (2 ^ 23)⁻¹ : ℝ) = 1 by norm_num, EReal.coe_one]
  rw [h1, Algebra.bits_m, Algebra.bits_m1, hε, ← EReal.coe_mul, Algebra.div_coe _ _ (by norm_num), ← EReal.coe_sub, Algebra.div_coe _ _ (by norm_num),
    Algebra.sqrt_coe _ hv, ← EReal.coe_add]

variable (al be : S384.Idx → EReal) (iv : S16.Idx → EReal)
variable (hr1 : ∀ i, ∃ r : ℝ, a1 i = (r : EReal)) (hr4 : ∀ i, ∃ r : ℝ, a4 i = (r : EReal))
variable (hal : ∀ c : Fin 384, al (ix1 c) = a4 (ix4 0 0 0 c)) (hbe : ∀ c : Fin 384, be (ix1 c) = a5 (ix4 0 0 0 c))
variable (hiv : ∀ (b : Fin 16) (hb : b.val < 4), iv (ix1 b)
  = invOf (F := Ideal) (batchSums (F := Ideal) (partsVal (F := Ideal) feat gidx (sfVal (F := Ideal) feat idx)) (ix1 ⟨b.val, hb⟩))
      (batchSquares (F := Ideal) (partsVal (F := Ideal) feat gidx (sfVal (F := Ideal) feat idx)) (ix1 ⟨b.val, hb⟩)))

include h2 h3 hfeat hidx hgidx hr1 hiv in
/-- A batch's deviation: the kernel's inverse is one over the reference's scale, a number that is not zero. -/
theorem scale_query (b : Fin 4) : ∃ t : ℝ, t ≠ 0 ∧ iv (ix1 ⟨b.val, by omega⟩) = Ideal.div 1 (t : EReal)
    ∧ Ref.scales (F := Ideal) (Ref.variances (shapeCast _ (Ref.diffs (F := Ideal) a1 a2 a3) Cert.ReferenceIdeal.Gen.shapeCasts_S4x1024x24x384_S4x9437184)) (ix4 b 0 0 0) = (t : EReal) := by
  have hd : ∀ j, ∃ r : ℝ, Ref.diffs (F := Ideal) a1 a2 a3 j = (r : EReal) := by
    intro j
    idx_vars j
    obtain ⟨x, hx⟩ := hr1 (ix3 j0 ⟨(a3 (ix3 j0 j1 j2)).toNat, h3 _⟩ j3)
    obtain ⟨y, hy⟩ := hr1 (ix3 j0 ⟨(a2 (ix2 j0 j1)).toNat, h2 _⟩ j3)
    refine ⟨x - y, ?_⟩
    refine (Ref.diffs_at (F := Ideal) a1 a2 a3 h2 h3 j0 j1 j2 j3).trans ?_
    show a1 _ - a1 _ = _
    rw [hx, hy, EReal.coe_sub]
  have hq : ∀ (s : Fin 1024) (k : Fin 24) (c : Fin 384), devE feat gidx (sfVal (F := Ideal) feat idx) (query b s) k c
      = shapeCast _ (Ref.diffs (F := Ideal) a1 a2 a3) Cert.ReferenceIdeal.Gen.shapeCasts_S4x1024x24x384_S4x9437184 (ix2 b (Ref.flat s k c)) := fun s k c =>
    (dev_query a1 a2 a3 feat idx gidx h2 h3 hfeat hidx hgidx b s k c).trans (Ref.flat_at _ b s k c).symm
  have hx : ∀ j, ∃ r : ℝ, shapeCast _ (Ref.diffs (F := Ideal) a1 a2 a3) Cert.ReferenceIdeal.Gen.shapeCasts_S4x1024x24x384_S4x9437184 j = (r : EReal) := fun j => hd _
  generalize hX : shapeCast _ (Ref.diffs (F := Ideal) a1 a2 a3) Cert.ReferenceIdeal.Gen.shapeCasts_S4x1024x24x384_S4x9437184 = X at hq hx ⊢
  choose g hg using fun i => hx (ix2 b i)
  obtain ⟨hv, hv0⟩ := Ref.variances_real X b g hg
  obtain ⟨ε, hε, eε⟩ := Algebra.bits_eps
  have hS : (batchSums (F := Ideal) (partsVal (F := Ideal) feat gidx (sfVal (F := Ideal) feat idx)) (ix1 b) : EReal) = ((∑ i, g i : ℝ) : EReal) := by
    rw [batch_sum, Algebra.coe_sum, Ref.sum_flat]
    exact Finset.sum_congr rfl fun s _ => Finset.sum_congr rfl fun k _ => Finset.sum_congr rfl fun c _ => (hq s k c).trans (hg _)
  have hQ : (batchSquares (F := Ideal) (partsVal (F := Ideal) feat gidx (sfVal (F := Ideal) feat idx)) (ix1 b) : EReal) = ((∑ i, g i * g i : ℝ) : EReal) := by
    rw [batch_square, Algebra.coe_sum, Ref.sum_flat]
    refine Finset.sum_congr rfl fun s _ => Finset.sum_congr rfl fun k _ => Finset.sum_congr rfl fun c _ => ?_
    rw [(hq s k c).trans (hg _), EReal.coe_mul]
  refine ⟨Real.sqrt ((∑ i, g i * g i - (∑ i, g i) * (∑ i, g i) / 9437184) / 9437183) + ε, (add_pos_of_nonneg_of_pos (Real.sqrt_nonneg _) hε).ne', ?_, ?_⟩
  · refine (hiv ⟨b.val, by omega⟩ b.isLt).trans ?_
    refine Eq.trans (congrArg₂ (invOf (F := Ideal)) hS hQ) ?_
    exact invOf_real _ _ ε eε hv0
  · rw [Ref.scales_at, hv, Algebra.sqrt_coe _ hv0, eε, ← EReal.coe_add]

include h2 h3 hfeat hidx hgidx hr1 hr4 hal hbe hiv in
/-- The block of a query is the reference's. -/
theorem block_query (b : Fin 4) (s : Fin 1024) (k : Fin 24) (c : Fin 768) :
    blkOf (F := Ideal) feat gidx (sfVal (F := Ideal) feat idx) al be iv (query b s) (ix2 k c) = Ref.joined (F := Ideal) a1 a2 a3 a4 a5 (ix4 b s k c) := by
  by_cases hc : c.val < 384
  · obtain ⟨t, ht, e1, e2⟩ := scale_query a1 a2 a3 feat idx gidx h2 h3 hfeat hidx hgidx iv hr1 hiv b
    have eb : batchOf (query b s) = (⟨b.val, by omega⟩ : Fin 16) := Fin.ext (query_batch b s)
    obtain ⟨x, hx⟩ := hr1 (ix3 b ⟨(a3 (ix3 b s k)).toNat, h3 _⟩ ⟨c.val, hc⟩)
    obtain ⟨y, hy⟩ := hr1 (ix3 b ⟨(a2 (ix2 b s)).toNat, h2 _⟩ ⟨c.val, hc⟩)
    obtain ⟨z, hz⟩ := hr4 (ix4 0 0 0 ⟨c.val, hc⟩)
    have hg := (group_query a1 a3 feat gidx h3 hfeat hgidx b s k ⟨c.val, hc⟩).trans hx
    have hm := (sf_query a1 a2 feat idx h2 hfeat hidx b s ⟨c.val, hc⟩).trans hy
    have hdf : (Ref.diffs (F := Ideal) a1 a2 a3 (ix4 b s k ⟨c.val, hc⟩) : EReal) = (x : EReal) - (y : EReal) := by
      refine (Ref.diffs_at (F := Ideal) a1 a2 a3 h2 h3 b s k ⟨c.val, hc⟩).trans ?_
      show a1 _ - a1 _ = _
      rw [hx, hy]
    refine Eq.trans ?_ (Ref.joined_left a1 a2 a3 a4 a5 b s k c hc).symm
    rw [e2, hdf, hz]
    unfold blkOf blk
    refine (dif_pos hc).trans ?_
    show ((al (ix1 ⟨c.val, hc⟩) * iv (ix1 (batchOf (query b s)))) * groupOf (F := Ideal) feat gidx (query b s) (ix2 k ⟨c.val, hc⟩)
      + (be (ix1 ⟨c.val, hc⟩) - (al (ix1 ⟨c.val, hc⟩) * iv (ix1 (batchOf (query b s)))) * sfVal (F := Ideal) feat idx (ix2 (query b s) ⟨c.val, hc⟩)) : EReal) = _
    rw [hg, hm, hal, hbe, hz, eb, e1]
    exact Algebra.scale_eq z x y t _ ht
  · refine Eq.trans ?_ (Ref.joined_right a1 a2 a3 a4 a5 b s k c hc).symm
    refine Eq.trans ?_ (Ref.centres_at (F := Ideal) a1 a2 h2 b s k ⟨c.val - 384, by omega⟩).symm
    unfold blkOf blk
    refine (dif_neg hc).trans ?_
    exact sf_query a1 a2 feat idx h2 hfeat hidx b s ⟨c.val - 384, by omega⟩

end Pure

/-! ## The results of a run -/

section Results
variable (m : (ℓ : Loc nD τ sig) → Buf (Elt Ideal) ℓ) (d : Dev nD)

theorem v0_V3 : V3 m d (dr main_v0) = V1 m d (dr main_v0) := by
  unfold V3 V2
  rw [keep1_v0, after0_of_ne _ (by decide) (by decide)]
theorem v0_V5 : V5 m d (dr main_v0) = V1 m d (dr main_v0) := by
  unfold V5 V4
  rw [keep2_v0, after1_of_ne _ (by decide), v0_V3]
theorem v10_V3 : V3 m d (dr main_v10_0) = sfVal (V1 m d (dr main_v0)) (V1 m d (dr main_v9)) := by
  unfold V3 V2
  rw [keep1_v10_0, after0_sf]
theorem v10_V5 : V5 m d (dr main_v10_0) = sfVal (V1 m d (dr main_v0)) (V1 m d (dr main_v9)) := by
  unfold V5 V4
  rw [keep2_v10_0, after1_of_ne _ (by decide), v10_V3]
theorem arg4_V4 : V4 m d (dr main_arg4) = m (d, dr main_arg4) := by
  unfold V4 V3 V2 V1
  rw [after1_of_ne _ (by decide), keep1_arg4, after0_of_ne _ (by decide) (by decide), keep0_arg4]
  rfl
theorem arg5_V4 : V4 m d (dr main_arg5) = m (d, dr main_arg5) := by
  unfold V4 V3 V2 V1
  rw [after1_of_ne _ (by decide), keep1_arg5, after0_of_ne _ (by decide) (by decide), keep0_arg5]
  rfl

/-- The sampled points. -/
theorem points_eq (h2 : ∀ i, ((m (d, dr main_arg2) : S4x1024.Idx → BitVec 32) i).toNat < 8192) :
    (V7 m d (dr main_v11) : S4x1024x3.Idx → EReal) = Ref.sampledPts (F := Ideal) (m (d, dr main_arg0)) (m (d, dr main_arg2)) := by
  funext i
  idx_vars i
  refine Eq.trans ?_ (Ref.sampledPts_at (F := Ideal) (m (d, dr main_arg0)) (m (d, dr main_arg2)) h2 i0 i1 i2).symm
  have e : (V7 m d (dr main_v11) : S4x1024x3.Idx → EReal) = V3 m d (dr main_v11) := by
    unfold V7 V6 V5 V4
    rw [keep3_v11, after2_of_ne _ (by decide), keep2_v11, after1_of_ne _ (by decide)]
  rw [e]
  refine (pts_out_at (F := Ideal) (V2 m d) _ (after0_sp (V1 m d)) i0 i1 i2).trans ?_
  have hn : (⟨(i0.val * 3072 + i1.val * 3 + i2.val) / 3, by omega⟩ : Fin 4096) = query i0 i1 :=
    Fin.ext (by show (i0.val * 3072 + i1.val * 3 + i2.val) / 3 = 1024 * i0.val + i1.val; omega)
  have hw := idx_query (m (d, dr main_arg2)) (V1 m d (dr main_v9)) (fun n => idx_val m d n h2) i0 i1
  have hl : ((m (d, dr main_arg2) : S4x1024.Idx → BitVec 32) (ix2 i0 i1)).toNat < 8192 := h2 _
  have hr : (rowNo ((V1 m d (dr main_v9) : S4096.Idx → BitVec 32) (ix1 (query i0 i1)))).val
      = i0.val * 8192 + ((m (d, dr main_arg2) : S4x1024.Idx → BitVec 32) (ix2 i0 i1)).toNat := (rowNo_val (by omega)).trans hw
  have hp := pts_at (F := Ideal) (V0 m d) (m (d, dr main_arg0)) rfl (rowNo ((V1 m d (dr main_v9) : S4096.Idx → BitVec 32) (ix1 (query i0 i1))))
    ⟨(i0.val * 3072 + i1.val * 3 + i2.val) % 3, by omega⟩ (by show (i0.val * 3072 + i1.val * 3 + i2.val) % 3 < 3; omega)
  show (V1 m d (dr main_v2) : S32768x128.Idx → EReal) (ix2 (rowNo ((V1 m d (dr main_v9) : S4096.Idx → BitVec 32)
    (ix1 (⟨(i0.val * 3072 + i1.val * 3 + i2.val) / 3, by omega⟩ : Fin 4096)))) ⟨(i0.val * 3072 + i1.val * 3 + i2.val) % 3, by omega⟩) = _
  rw [hn]
  refine hp.trans (congrArg (m (d, dr main_arg0) : S4x8192x3.Idx → EReal) ?_)
  congr 1
  · exact Fin.ext (by show (rowNo _).val / 8192 = i0.val; omega)
  · exact Fin.ext (by show (rowNo _).val % 8192 = BitVec.toNat _; omega)
  · exact Fin.ext (by show (i0.val * 3072 + i1.val * 3 + i2.val) % 3 = i2.val; omega)

/-- The third result. -/
theorem joined_eq (h2 : ∀ i, ((m (d, dr main_arg2) : S4x1024.Idx → BitVec 32) i).toNat < 8192)
    (h3 : ∀ i, ((m (d, dr main_arg3) : S4x1024x24.Idx → BitVec 32) i).toNat < 8192)
    (hr1 : ∀ i, ∃ r : ℝ, (m (d, dr main_arg1) : S4x8192x384.Idx → EReal) i = (r : EReal))
    (hr4 : ∀ i, ∃ r : ℝ, (m (d, dr main_arg4) : S1x1x1x384.Idx → EReal) i = (r : EReal)) :
    (V7 m d (dr main_v44) : S4x1024x24x768.Idx → EReal)
      = Ref.joined (F := Ideal) (m (d, dr main_arg1)) (m (d, dr main_arg2)) (m (d, dr main_arg3)) (m (d, dr main_arg4)) (m (d, dr main_arg5)) := by
  funext i
  idx_vars i
  refine (out_at (F := Ideal) (V6 m d) _ (after2_out (V5 m d)) i0 i1 i2 i3).trans ?_
  rw [v0_V5, v10_V5, show V5 m d (dr main_v20) = V3 m d (dr main_v20) from v20_eq m d]
  have hn : (⟨i0.val * 1024 + i1.val, by omega⟩ : Fin 4096) = query i0 i1 := Fin.ext (by show i0.val * 1024 + i1.val = 1024 * i0.val + i1.val; omega)
  rw [hn]
  exact block_query (m (d, dr main_arg1)) (m (d, dr main_arg2)) (m (d, dr main_arg3)) (m (d, dr main_arg4)) (m (d, dr main_arg5))
    (V1 m d (dr main_v0)) (V1 m d (dr main_v9)) (V3 m d (dr main_v20)) h2 h3
    (fun r c => feat_at (F := Ideal) (V0 m d) (m (d, dr main_arg1)) rfl r c) (fun n => idx_val m d n h2) (fun n c hc => gidx_val m d n c hc h3)
    (V5 m d (dr main_v41)) (V5 m d (dr main_v42)) (V5 m d (dr main_v40)) hr1 hr4
    (fun c => al_at (F := Ideal) (V4 m d) (m (d, dr main_arg4)) (arg4_V4 m d) c) (fun c => be_at (F := Ideal) (V4 m d) (m (d, dr main_arg5)) (arg5_V4 m d) c)
    (fun b hb => inv_at (F := Ideal) (V4 m d) _ ((after1_parts (V3 m d)).trans (by rw [v0_V3, v10_V3])) b hb) i0 i1 i2 i3

end Results

/-! ## The claim -/

attribute [local instance] argsFacts

set_option maxHeartbeats 4000000 in
/-- From equal arguments that the precondition admits, the program and the reference end with equal results. -/
theorem algebraic : Cert.algebraic_KernelIdeal_ReferenceIdeal := by
  intro m g m' g' hpre hm
  refine ⟨fun c => m (c, dr main_arg2), fun c => V7 m c (dr main_v11), fun c => V7 m c (dr main_v44), ?_, ?_⟩
  · refine (θ_run Cert.KernelIdeal.defs _ _).mono (fun r h c => ?_) (run_args (F := Ideal) m g hpre)
    obtain ⟨k0, k1, k2, k3, k4, k5⟩ := args_kept m r h c
    exact ⟨k2, h.1 c (dr main_v11) (by decide), h.1 c (dr main_v44) (by decide), k0, k1, k2, k3, k4, k5⟩
  · refine (θ_run Cert.ReferenceIdeal.defs _ _).mono (fun r h c => ?_) (Cert.ReferenceIdeal.Value.run (F := Ideal) m' g')
    obtain ⟨r2, r1, r37, k0, k1, k2, k3, k4, k5⟩ := h c
    obtain ⟨e0, e1, e2, e3, e4, e5⟩ := hm c
    obtain ⟨h2, h3, f1, f4⟩ := args_ok_iff (F := Ideal) _ _ _ _ _ _ (hpre c)
    refine ⟨r2.trans e2, r1.trans ?_, r37.trans ?_, k0, k1, k2, k3, k4, k5⟩
    · rw [e0, e2]
      exact (points_eq m c h2).symm
    · refine (Ref.res_eq m' c).trans ?_
      rw [e1, e2, e3, e4, e5]
      exact (joined_eq m c h2 h3 (fun i => Algebra.real_of_abs_lt _ (f1 i)) (fun i => Algebra.real_of_abs_lt _ (f4 i))).symm

end Cert.Proof.Tiles

end
-- ==== Proof.Squares.lean ====
/-
`_pallas_sq` at the point set, 8192 points a batch, against the sums of squares that the reference takes.
-/
module

public import proofs.«01_k».proof.Defs
public import proofs.«01_k».proof.Proof.Gen.SquaresIdeal.Value
public import proofs.«01_k».proof.Proof.Gen.SquaresReferenceIdeal.Run
public import Idealize.ShloMosaic.Lib.Pointwise

@[expose] public section

noncomputable section

open Idealize.ShloMosaic Idealize.ShloMosaic.TcCoe Idealize.SL.Sem

namespace Cert.Proof.PointSquares

open Cert.SquaresReferenceIdeal Cert.SquaresReferenceIdeal.Facts₀ Cert.SquaresReferenceIdeal.Facts

/-- The reference's array, at an index. -/
theorem reference_apply (x : FVec Ideal S4x8192x3 .f32) (b : Fin 4) (n : Fin 8192) :
    (shapeCast _ (Host.reduceAdd (mulf x x) (constant S_ .f32 0x00000000#32) reducesTo_S4x8192x3_S4x8192_d2 h_S_)
        shapeCasts_S4x8192_S4x1x8192 : FVec Ideal S4x1x8192 .f32) (ix3 b 0 n) = ∑ k : Fin 3, x (ix3 b n k) * x (ix3 b n k) := by
  pointwise

end Cert.Proof.PointSquares

namespace Cert.Proof.PointSquares

open Cert.SquaresIdeal Cert.SquaresIdeal.Gen

variable (m : (ℓ : Loc nD τ sig) → Buf (Elt Ideal) ℓ)

/-- The argument: every point's three coordinates. -/
abbrev pts (c : Dev nD) : FVec Ideal S4x8192x3 .f32 := m ((c : Thread nD τ).loc main_arg0)

/-- Grid point `t` reads and writes batch `t`. -/
theorem index_eq : ∀ t : Fin cfg0.N, win0_0.index t = ![t.val, 0, 0] ∧ win0_1.index t = ![t.val, 0, 0] :=
  (by decide +kernel : ∀ t : Fin grid0.N, win0_0.index t = ![t.val, 0, 0] ∧ win0_1.index t = ![t.val, 0, 0])

/-- The array the call reads is the argument with its last two axes exchanged. -/
theorem entry_eq (c : Dev nD) :
    V m c main_v0 = transpose S4x3x8192 [0, 2, 1] (pts m c) transposes_S4x8192x3_S4x3x8192_0_2_1 := by
  unfold V
  after_results <;> rfl

/-- Row `k` of the block of batch `b`, at place `n`, is coordinate `k` of point `n`. -/
theorem read_row (c : Dev nD) (t : Fin cfg0.N) (b : Fin 4) (hb : t.val = b.val) (k : Fin 3) (n : Fin 8192) :
    iblk m c 0 t (ix3 0 k n) = pts m c (ix3 b n k) := by
  show V m c main_v0 (((cfg0.win 0).blk t).view.emb (ix3 0 k n)) = _
  have e : ((cfg0.win 0).blk t).view.emb (ix3 0 k n) = (ix3 b k n : S4x3x8192.Idx) := by
    funext a
    refine Fin.ext ?_
    have h := (index_eq t).1
    match a with
    | ⟨0, _⟩ => show win0_0.index t (0 : Fin 3) * 1 + 1 * 0 = b.val; rw [h]; show t.val * 1 + 1 * 0 = b.val; omega
    | ⟨1, _⟩ => show win0_0.index t (1 : Fin 3) * 3 + 1 * k.val = k.val; rw [h]; show 0 * 3 + 1 * k.val = k.val; omega
    | ⟨2, _⟩ => show win0_0.index t (2 : Fin 3) * 8192 + 1 * n.val = n.val; rw [h]; show 0 * 8192 + 1 * n.val = n.val; omega
  rw [e, entry_eq]
  pointwise

/-- The place of the result that grid point `t` writes from place `n` of its block. -/
theorem write_place (t : Fin cfg0.N) (b : Fin 4) (hb : t.val = b.val) (n : Fin 8192) :
    ((cfg0.win 1).blk t).view.emb (ix3 0 0 n) = (ix3 b 0 n : S4x1x8192.Idx) := by
  funext a
  refine Fin.ext ?_
  have h := (index_eq t).2
  match a with
  | ⟨0, _⟩ => show win0_1.index t (0 : Fin 3) * 1 + 1 * 0 = b.val; rw [h]; show t.val * 1 + 1 * 0 = b.val; omega
  | ⟨1, _⟩ => show win0_1.index t (1 : Fin 3) * 1 + 1 * 0 = 0; rw [h]; rfl
  | ⟨2, _⟩ => show win0_1.index t (2 : Fin 3) * 8192 + 1 * n.val = n.val; rw [h]; show 0 * 8192 + 1 * n.val = n.val; omega

/-- What a grid point leaves in its block, at an index. -/
theorem block_apply (c : Dev nD) (t : Fin cfg0.N) (b : Fin 4) (hb : t.val = b.val) (n : Fin 8192) :
    (out0_1 (iblk m c 0 t) : FVec Ideal S1x1x8192 .f32) (ix3 0 0 n) = ∑ k : Fin 3, pts m c (ix3 b n k) * pts m c (ix3 b n k) := by
  unfold out0_1
  rw [Cert.SquaresIdeal.Value.canon1_eq]
  have r0 : (View.ld (iblk m c 0 t) r0_0 : FVec Ideal S1x1x8192 .f32) (ix3 0 0 n) = pts m c (ix3 b n 0) :=
    (congrArg (iblk m c 0 t) (by pointwise)).trans (read_row m c t b hb 0 n)
  have r1 : (View.ld (iblk m c 0 t) r0_1 : FVec Ideal S1x1x8192 .f32) (ix3 0 0 n) = pts m c (ix3 b n 1) :=
    (congrArg (iblk m c 0 t) (by pointwise)).trans (read_row m c t b hb 1 n)
  have r2 : (View.ld (iblk m c 0 t) r0_2 : FVec Ideal S1x1x8192 .f32) (ix3 0 0 n) = pts m c (ix3 b n 2) :=
    (congrArg (iblk m c 0 t) (by pointwise)).trans (read_row m c t b hb 2 n)
  rw [Fin.sum_univ_three, ← r0, ← r1, ← r2]
  pointwise [Cert.SquaresIdeal.Value.E1]

/-- A grid point writes its whole block back. -/
theorem cut_apply (t : Fin cfg0.N) (X : FVec Ideal S1x1x8192 .f32) (y : S1x1x8192.Idx) : (cfg0.win 1).cut (grid0.coords t) X y = X y := rfl

/-- Block `t` of an array, read at an index. -/
theorem read_apply (t : Fin cfg0.N) (X : FVec Ideal S4x1x8192 .f32) (y : S1x1x8192.Idx) :
    ((cfg0.win 1).blk t).view.read (Elt Ideal) X y = X (((cfg0.win 1).blk t).view.emb y) := rfl

/-- The array the call leaves, at an index. -/
theorem result_apply (c : Dev nD) (t : Fin cfg0.N) (b : Fin 4) (hb : t.val = b.val) (n : Fin 8192) :
    ((dats m 0 c).arrAt 1 cfg0.N : FVec Ideal S4x1x8192 .f32) (ix3 b 0 n) = ∑ k : Fin 3, pts m c (ix3 b n k) * pts m c (ix3 b n k) := by
  have h := congrFun ((Cert.SquaresIdeal.Value.blocks1 m c t (flush0_1 t)).trans (Cert.SquaresIdeal.Value.flushed1 m c t)) (ix3 (0 : Fin 1) (0 : Fin 1) n : S1x1x8192.Idx)
  rw [cut_apply, block_apply m c t b hb n, read_apply, write_place t b hb n] at h
  exact h

/-- `_pallas_sq` at the point set: the kernel's array is the reference's. -/
theorem algebraic : Cert.algebraic_SquaresIdeal_SquaresReferenceIdeal := fun m g m' g' _ hargs =>
  ⟨fun c => (dats m 0 c).arrAt 1 cfg0.N, Cert.SquaresIdeal.Value.run_blocks m g,
    (θ_run Cert.SquaresReferenceIdeal.defs _ _).mono (fun r h c => ⟨(h c).1.trans (by
      rw [hargs c]
      funext i
      obtain ⟨b, z, n, rfl⟩ : ∃ (b : Fin 4) (z : Fin 1) (n : Fin 8192), i = ix3 b z n :=
        ⟨i 0, i 1, i 2, funext fun a => match a with | ⟨0, _⟩ => rfl | ⟨1, _⟩ => rfl | ⟨2, _⟩ => rfl⟩
      obtain rfl : z = 0 := Subsingleton.elim _ _
      exact (reference_apply (pts m c) b n).trans (result_apply m c ⟨b.val, b.isLt⟩ b rfl n).symm), (h c).2⟩)
      (Cert.SquaresReferenceIdeal.Value.run m' g')⟩

end Cert.Proof.PointSquares

end
-- ==== Proof.SquaresSampled.lean ====
/-
`_pallas_sq` at the sampled set, 1024 points a batch, against the sums of squares that the reference takes.
-/
module

public import proofs.«01_k».proof.Defs
public import proofs.«01_k».proof.Proof.Gen.SquaresSampledIdeal.Value
public import proofs.«01_k».proof.Proof.Gen.SquaresSampledReferenceIdeal.Run
public import Idealize.ShloMosaic.Lib.Pointwise

@[expose] public section

noncomputable section

open Idealize.ShloMosaic Idealize.ShloMosaic.TcCoe Idealize.SL.Sem

namespace Cert.Proof.SampledSquares

open Cert.SquaresSampledReferenceIdeal Cert.SquaresSampledReferenceIdeal.Facts₀ Cert.SquaresSampledReferenceIdeal.Facts

/-- The reference's array, at an index. -/
theorem reference_apply (x : FVec Ideal S4x1024x3 .f32) (b : Fin 4) (n : Fin 1024) :
    (shapeCast _ (Host.reduceAdd (mulf x x) (constant S_ .f32 0x00000000#32) reducesTo_S4x1024x3_S4x1024_d2 h_S_)
        shapeCasts_S4x1024_S4x1x1024 : FVec Ideal S4x1x1024 .f32) (ix3 b 0 n) = ∑ k : Fin 3, x (ix3 b n k) * x (ix3 b n k) := by
  pointwise

end Cert.Proof.SampledSquares

namespace Cert.Proof.SampledSquares

open Cert.SquaresSampledIdeal Cert.SquaresSampledIdeal.Gen

variable (m : (ℓ : Loc nD τ sig) → Buf (Elt Ideal) ℓ)

/-- The argument: every point's three coordinates. -/
abbrev pts (c : Dev nD) : FVec Ideal S4x1024x3 .f32 := m ((c : Thread nD τ).loc main_arg0)

/-- Grid point `t` reads and writes batch `t`. -/
theorem index_eq : ∀ t : Fin cfg0.N, win0_0.index t = ![t.val, 0, 0] ∧ win0_1.index t = ![t.val, 0, 0] :=
  (by decide +kernel : ∀ t : Fin grid0.N, win0_0.index t = ![t.val, 0, 0] ∧ win0_1.index t = ![t.val, 0, 0])

/-- The array the call reads is the argument with its last two axes exchanged. -/
theorem entry_eq (c : Dev nD) :
    V m c main_v0 = transpose S4x3x1024 [0, 2, 1] (pts m c) transposes_S4x1024x3_S4x3x1024_0_2_1 := by
  unfold V
  after_results <;> rfl

/-- Row `k` of the block of batch `b`, at place `n`, is coordinate `k` of point `n`. -/
theorem read_row (c : Dev nD) (t : Fin cfg0.N) (b : Fin 4) (hb : t.val = b.val) (k : Fin 3) (n : Fin 1024) :
    iblk m c 0 t (ix3 0 k n) = pts m c (ix3 b n k) := by
  show V m c main_v0 (((cfg0.win 0).blk t).view.emb (ix3 0 k n)) = _
  have e : ((cfg0.win 0).blk t).view.emb (ix3 0 k n) = (ix3 b k n : S4x3x1024.Idx) := by
    funext a
    refine Fin.ext ?_
    have h := (index_eq t).1
    match a with
    | ⟨0, _⟩ => show win0_0.index t (0 : Fin 3) * 1 + 1 * 0 = b.val; rw [h]; show t.val * 1 + 1 * 0 = b.val; omega
    | ⟨1, _⟩ => show win0_0.index t (1 : Fin 3) * 3 + 1 * k.val = k.val; rw [h]; show 0 * 3 + 1 * k.val = k.val; omega
    | ⟨2, _⟩ => show win0_0.index t (2 : Fin 3) * 1024 + 1 * n.val = n.val; rw [h]; show 0 * 1024 + 1 * n.val = n.val; omega
  rw [e, entry_eq]
  pointwise

/-- The place of the result that grid point `t` writes from place `n` of its block. -/
theorem write_place (t : Fin cfg0.N) (b : Fin 4) (hb : t.val = b.val) (n : Fin 1024) :
    ((cfg0.win 1).blk t).view.emb (ix3 0 0 n) = (ix3 b 0 n : S4x1x1024.Idx) := by
  funext a
  refine Fin.ext ?_
  have h := (index_eq t).2
  match a with
  | ⟨0, _⟩ => show win0_1.index t (0 : Fin 3) * 1 + 1 * 0 = b.val; rw [h]; show t.val * 1 + 1 * 0 = b.val; omega
  | ⟨1, _⟩ => show win0_1.index t (1 : Fin 3) * 1 + 1 * 0 = 0; rw [h]; rfl
  | ⟨2, _⟩ => show win0_1.index t (2 : Fin 3) * 1024 + 1 * n.val = n.val; rw [h]; show 0 * 1024 + 1 * n.val = n.val; omega

/-- What a grid point leaves in its block, at an index. -/
theorem block_apply (c : Dev nD) (t : Fin cfg0.N) (b : Fin 4) (hb : t.val = b.val) (n : Fin 1024) :
    (out0_1 (iblk m c 0 t) : FVec Ideal S1x1x1024 .f32) (ix3 0 0 n) = ∑ k : Fin 3, pts m c (ix3 b n k) * pts m c (ix3 b n k) := by
  unfold out0_1
  rw [Cert.SquaresSampledIdeal.Value.canon1_eq]
  have r0 : (View.ld (iblk m c 0 t) r0_0 : FVec Ideal S1x1x1024 .f32) (ix3 0 0 n) = pts m c (ix3 b n 0) :=
    (congrArg (iblk m c 0 t) (by pointwise)).trans (read_row m c t b hb 0 n)
  have r1 : (View.ld (iblk m c 0 t) r0_1 : FVec Ideal S1x1x1024 .f32) (ix3 0 0 n) = pts m c (ix3 b n 1) :=
    (congrArg (iblk m c 0 t) (by pointwise)).trans (read_row m c t b hb 1 n)
  have r2 : (View.ld (iblk m c 0 t) r0_2 : FVec Ideal S1x1x1024 .f32) (ix3 0 0 n) = pts m c (ix3 b n 2) :=
    (congrArg (iblk m c 0 t) (by pointwise)).trans (read_row m c t b hb 2 n)
  rw [Fin.sum_univ_three, ← r0, ← r1, ← r2]
  pointwise [Cert.SquaresSampledIdeal.Value.E1]

/-- A grid point writes its whole block back. -/
theorem cut_apply (t : Fin cfg0.N) (X : FVec Ideal S1x1x1024 .f32) (y : S1x1x1024.Idx) : (cfg0.win 1).cut (grid0.coords t) X y = X y := rfl

/-- Block `t` of an array, read at an index. -/
theorem read_apply (t : Fin cfg0.N) (X : FVec Ideal S4x1x1024 .f32) (y : S1x1x1024.Idx) :
    ((cfg0.win 1).blk t).view.read (Elt Ideal) X y = X (((cfg0.win 1).blk t).view.emb y) := rfl

/-- The array the call leaves, at an index. -/
theorem result_apply (c : Dev nD) (t : Fin cfg0.N) (b : Fin 4) (hb : t.val = b.val) (n : Fin 1024) :
    ((dats m 0 c).arrAt 1 cfg0.N : FVec Ideal S4x1x1024 .f32) (ix3 b 0 n) = ∑ k : Fin 3, pts m c (ix3 b n k) * pts m c (ix3 b n k) := by
  have h := congrFun ((Cert.SquaresSampledIdeal.Value.blocks1 m c t (flush0_1 t)).trans (Cert.SquaresSampledIdeal.Value.flushed1 m c t)) (ix3 (0 : Fin 1) (0 : Fin 1) n : S1x1x1024.Idx)
  rw [cut_apply, block_apply m c t b hb n, read_apply, write_place t b hb n] at h
  exact h

/-- `_pallas_sq` at the sampled set: the kernel's array is the reference's. -/
theorem algebraic : Cert.algebraic_SquaresSampledIdeal_SquaresSampledReferenceIdeal := fun m g m' g' _ hargs =>
  ⟨fun c => (dats m 0 c).arrAt 1 cfg0.N, Cert.SquaresSampledIdeal.Value.run_blocks m g,
    (θ_run Cert.SquaresSampledReferenceIdeal.defs _ _).mono (fun r h c => ⟨(h c).1.trans (by
      rw [hargs c]
      funext i
      obtain ⟨b, z, n, rfl⟩ : ∃ (b : Fin 4) (z : Fin 1) (n : Fin 1024), i = ix3 b z n :=
        ⟨i 0, i 1, i 2, funext fun a => match a with | ⟨0, _⟩ => rfl | ⟨1, _⟩ => rfl | ⟨2, _⟩ => rfl⟩
      obtain rfl : z = 0 := Subsingleton.elim _ _
      exact (reference_apply (pts m c) b n).trans (result_apply m c ⟨b.val, b.isLt⟩ b rfl n).symm), (h c).2⟩)
      (Cert.SquaresSampledReferenceIdeal.Value.run m' g')⟩

end Cert.Proof.SampledSquares

end
-- ==== Proof.Distances.lean ====
/-
`_pallas_dist`, the squared distances from every sampled point to every point of its batch, against the reference's.
-/
module

public import proofs.«01_k».proof.Defs
public import proofs.«01_k».proof.Proof.Gen.DistancesIdeal.Value
public import proofs.«01_k».proof.Proof.Gen.DistancesReferenceIdeal.Run
public import Idealize.ShloMosaic.Lib.Pointwise

@[expose] public section

noncomputable section

open Idealize.ShloMosaic Idealize.ShloMosaic.TcCoe Idealize.SL.Sem

namespace Cert.Proof.PairDistances

open Cert.DistancesReferenceIdeal Cert.DistancesReferenceIdeal.Facts₀ Cert.DistancesReferenceIdeal.Facts

/-- What both compute: the two squares added, less twice the product of the coordinates. -/
def distance (s : FVec Ideal S4x1024x3 .f32) (x : FVec Ideal S4x8192x3 .f32) (d1 : FVec Ideal S4x1x8192 .f32)
    (d2 : FVec Ideal S4x1024x1 .f32) (b : Fin 4) (p : Fin 1024) (j : Fin 8192) : EReal :=
  d1 (ix3 b 0 j) + d2 (ix3 b p 0) - Ideal.ofBits .f32 0x40000000#32 * ∑ k : Fin 3, s (ix3 b p k) * x (ix3 b j k)

/-- The reference's array, at an index. -/
theorem reference_apply (s : FVec Ideal S4x1024x3 .f32) (x : FVec Ideal S4x8192x3 .f32) (d1 : FVec Ideal S4x1x8192 .f32)
    (d2 : FVec Ideal S4x1024x1 .f32) (b : Fin 4) (p : Fin 1024) (j : Fin 8192) :
    (subf (addf (broadcastInDim S4x1024x8192 ![0, 1, 2] bcast_S4x1x8192_S4x1024x8192_0_1_2 d1)
        (broadcastInDim S4x1024x8192 ![0, 1, 2] bcast_S4x1024x1_S4x1024x8192_0_1_2 d2))
      (mulf (broadcastInDim S4x1024x8192 ![] bcast_S_S4x1024x8192 (constant S_ .f32 0x40000000#32))
        (Host.dotGeneral dot_S4x1024x3_S4x3x8192_S4x1024x8192_2_1_1_2_0_0 none s
          (transpose S4x3x8192 [0, 2, 1] x transposes_S4x8192x3_S4x3x8192_0_2_1))) : FVec Ideal S4x1024x8192 .f32) (ix3 b p j)
      = distance s x d1 d2 b p j := by
  pointwise [distance]

end Cert.Proof.PairDistances

namespace Cert.Proof.PairDistances

open Cert.DistancesIdeal Cert.DistancesIdeal.Gen

variable (m : (ℓ : Loc nD τ sig) → Buf (Elt Ideal) ℓ)

/-- The arguments: the sampled points, the points, and the squares of each. -/
abbrev sampled (c : Dev nD) : FVec Ideal S4x1024x3 .f32 := m ((c : Thread nD τ).loc main_arg0)
@[inherit_doc sampled] abbrev pts (c : Dev nD) : FVec Ideal S4x8192x3 .f32 := m ((c : Thread nD τ).loc main_arg1)
@[inherit_doc sampled] abbrev sq (c : Dev nD) : FVec Ideal S4x1x8192 .f32 := m ((c : Thread nD τ).loc main_arg2)
@[inherit_doc sampled] abbrev sqSampled (c : Dev nD) : FVec Ideal S4x1024x1 .f32 := m ((c : Thread nD τ).loc main_arg3)

/-- Grid point `t` is batch `t / 16`, the rows' block `t / 4 % 4` and the columns' block `t % 4`. -/
theorem index_eq : ∀ t : Fin cfg0.N, win0_0.index t = ![t.val / 16, t.val / 4 % 4, 0] ∧ win0_1.index t = ![t.val / 16, 0, t.val % 4]
    ∧ win0_2.index t = ![t.val / 16, 0, t.val % 4] ∧ win0_3.index t = ![t.val / 16, t.val / 4 % 4, 0]
    ∧ win0_4.index t = ![t.val / 16, t.val / 4 % 4, t.val % 4] :=
  (by decide +kernel : ∀ t : Fin grid0.N, win0_0.index t = ![t.val / 16, t.val / 4 % 4, 0] ∧ win0_1.index t = ![t.val / 16, 0, t.val % 4]
    ∧ win0_2.index t = ![t.val / 16, 0, t.val % 4] ∧ win0_3.index t = ![t.val / 16, t.val / 4 % 4, 0]
    ∧ win0_4.index t = ![t.val / 16, t.val / 4 % 4, t.val % 4])

/-- The points reach the call with their last two axes exchanged. -/
theorem entry_eq (c : Dev nD) : V m c main_v0 = transpose S4x3x8192 [0, 2, 1] (pts m c) transposes_S4x8192x3_S4x3x8192_0_2_1 := by
  unfold V
  after_results <;> rfl

section Blocks

variable (c : Dev nD) (t : Fin cfg0.N) (b : Fin 4) (p : Fin 1024) (j : Fin 8192) (r : Fin 256) (l : Fin 2048)
variable (hb : t.val / 16 = b.val) (hp : t.val / 4 % 4 * 256 + r.val = p.val) (hj : t.val % 4 * 2048 + l.val = j.val)

include hb hp in
/-- The block of sampled points, read at row `r`. -/
theorem read_sampled (k : Fin 3) : iblk m c 0 t (ix3 0 r k) = sampled m c (ix3 b p k) := by
  show V m c main_arg0 (((cfg0.win 0).blk t).view.emb (ix3 0 r k)) = _
  have e : ((cfg0.win 0).blk t).view.emb (ix3 0 r k) = (ix3 b p k : S4x1024x3.Idx) := by
    funext a
    refine Fin.ext ?_
    have h := (index_eq t).1
    match a with
    | ⟨0, _⟩ => show win0_0.index t (0 : Fin 3) * 1 + 1 * 0 = b.val; rw [h]; show t.val / 16 * 1 + 1 * 0 = b.val; omega
    | ⟨1, _⟩ => show win0_0.index t (1 : Fin 3) * 256 + 1 * r.val = p.val; rw [h]; show t.val / 4 % 4 * 256 + 1 * r.val = p.val; omega
    | ⟨2, _⟩ => show win0_0.index t (2 : Fin 3) * 3 + 1 * k.val = k.val; rw [h]; show 0 * 3 + 1 * k.val = k.val; omega
  rw [e, V_main_arg0]

include hb hj in
/-- The block of points, read at column `l`. -/
theorem read_pts (k : Fin 3) : iblk m c 1 t (ix3 0 k l) = pts m c (ix3 b j k) := by
  show V m c main_v0 (((cfg0.win 1).blk t).view.emb (ix3 0 k l)) = _
  have e : ((cfg0.win 1).blk t).view.emb (ix3 0 k l) = (ix3 b k j : S4x3x8192.Idx) := by
    funext a
    refine Fin.ext ?_
    have h := (index_eq t).2.1
    match a with
    | ⟨0, _⟩ => show win0_1.index t (0 : Fin 3) * 1 + 1 * 0 = b.val; rw [h]; show t.val / 16 * 1 + 1 * 0 = b.val; omega
    | ⟨1, _⟩ => show win0_1.index t (1 : Fin 3) * 3 + 1 * k.val = k.val; rw [h]; show 0 * 3 + 1 * k.val = k.val; omega
    | ⟨2, _⟩ => show win0_1.index t (2 : Fin 3) * 2048 + 1 * l.val = j.val; rw [h]; show t.val % 4 * 2048 + 1 * l.val = j.val; omega
  rw [e, entry_eq]
  pointwise

include hb hj in
/-- The block of the points' squares, read at column `l`. -/
theorem read_sq : iblk m c 2 t (ix3 0 0 l) = sq m c (ix3 b 0 j) := by
  show V m c main_arg2 (((cfg0.win 2).blk t).view.emb (ix3 0 0 l)) = _
  have e : ((cfg0.win 2).blk t).view.emb (ix3 0 0 l) = (ix3 b 0 j : S4x1x8192.Idx) := by
    funext a
    refine Fin.ext ?_
    have h := (index_eq t).2.2.1
    match a with
    | ⟨0, _⟩ => show win0_2.index t (0 : Fin 3) * 1 + 1 * 0 = b.val; rw [h]; show t.val / 16 * 1 + 1 * 0 = b.val; omega
    | ⟨1, _⟩ => show win0_2.index t (1 : Fin 3) * 1 + 1 * 0 = 0; rw [h]; rfl
    | ⟨2, _⟩ => show win0_2.index t (2 : Fin 3) * 2048 + 1 * l.val = j.val; rw [h]; show t.val % 4 * 2048 + 1 * l.val = j.val; omega
  rw [e, V_main_arg2]

include hb hp in
/-- The block of the sampled points' squares, read at row `r`. -/
theorem read_sqSampled : iblk m c 3 t (ix3 0 r 0) = sqSampled m c (ix3 b p 0) := by
  show V m c main_arg3 (((cfg0.win 3).blk t).view.emb (ix3 0 r 0)) = _
  have e : ((cfg0.win 3).blk t).view.emb (ix3 0 r 0) = (ix3 b p 0 : S4x1024x1.Idx) := by
    funext a
    refine Fin.ext ?_
    have h := (index_eq t).2.2.2.1
    match a with
    | ⟨0, _⟩ => show win0_3.index t (0 : Fin 3) * 1 + 1 * 0 = b.val; rw [h]; show t.val / 16 * 1 + 1 * 0 = b.val; omega
    | ⟨1, _⟩ => show win0_3.index t (1 : Fin 3) * 256 + 1 * r.val = p.val; rw [h]; show t.val / 4 % 4 * 256 + 1 * r.val = p.val; omega
    | ⟨2, _⟩ => show win0_3.index t (2 : Fin 3) * 1 + 1 * 0 = 0; rw [h]; rfl
  rw [e, V_main_arg3]

include hb hp hj in
/-- The place of the result that grid point `t` writes from row `r` and column `l` of its block. -/
theorem write_place : ((cfg0.win 4).blk t).view.emb (ix3 0 r l) = (ix3 b p j : S4x1024x8192.Idx) := by
  funext a
  refine Fin.ext ?_
  have h := (index_eq t).2.2.2.2
  match a with
  | ⟨0, _⟩ => show win0_4.index t (0 : Fin 3) * 1 + 1 * 0 = b.val; rw [h]; show t.val / 16 * 1 + 1 * 0 = b.val; omega
  | ⟨1, _⟩ => show win0_4.index t (1 : Fin 3) * 256 + 1 * r.val = p.val; rw [h]; show t.val / 4 % 4 * 256 + 1 * r.val = p.val; omega
  | ⟨2, _⟩ => show win0_4.index t (2 : Fin 3) * 2048 + 1 * l.val = j.val; rw [h]; show t.val % 4 * 2048 + 1 * l.val = j.val; omega

/-- What the body stores, at an index, from the four blocks it loads. -/
theorem body_apply (x0 : FVec Ideal S1x256x3 .f32) (x1 : FVec Ideal S1x3x2048 .f32) (x2 : FVec Ideal S1x1x2048 .f32)
    (x3 : FVec Ideal S1x256x1 .f32) :
    k0_pay1 x0 x1 x2 x3 (ix3 0 r l) = x2 (ix3 0 0 l) + x3 (ix3 0 r 0)
      - Ideal.ofBits .f32 0x40000000#32 * ∑ k : Fin 3, x0 (ix3 0 r k) * x1 (ix3 0 k l) := by
  pointwise [k0_pay1]

/-- The offsets of a whole block. -/
theorem zeros : (![0, 0, 0] : Fin 3 → Nat) = fun _ => 0 := funext fun a => by fin_cases a <;> rfl

include hb hp hj in
/-- What a grid point leaves in its block, at an index. -/
theorem block_apply : (out0_4 (iblk m c 0 t) (iblk m c 1 t) (iblk m c 2 t) (iblk m c 3 t) : FVec Ideal S1x256x2048 .f32) (ix3 0 r l)
    = distance (sampled m c) (pts m c) (sq m c) (sqSampled m c) b p j := by
  unfold out0_4
  rw [View.canon_unit_zero zeros, View.ld_unit_zero zeros, View.ld_unit_zero zeros, View.ld_unit_zero zeros, View.ld_unit_zero zeros]
  rw [body_apply]
  unfold distance
  rw [read_sq m c t b j l hb hj, read_sqSampled m c t b p r hb hp]
  simp only [read_sampled m c t b p r hb hp, read_pts m c t b j l hb hj]

/-- A grid point writes its whole block back. -/
theorem cut_apply (X : FVec Ideal S1x256x2048 .f32) (y : S1x256x2048.Idx) : (cfg0.win 4).cut (grid0.coords t) X y = X y := rfl

/-- Block `t` of an array, read at an index. -/
theorem read_apply (X : FVec Ideal S4x1024x8192 .f32) (y : S1x256x2048.Idx) :
    ((cfg0.win 4).blk t).view.read (Elt Ideal) X y = X (((cfg0.win 4).blk t).view.emb y) := rfl

include hb hp hj in
/-- The array the call leaves, at an index of a grid point's block. -/
theorem result_at : ((dats m 0 c).arrAt 4 cfg0.N : FVec Ideal S4x1024x8192 .f32) (ix3 b p j)
    = distance (sampled m c) (pts m c) (sq m c) (sqSampled m c) b p j := by
  have h := congrFun ((Cert.DistancesIdeal.Value.blocks4 m c t (flush0_4 t)).trans (Cert.DistancesIdeal.Value.flushed4 m c t))
    (ix3 (0 : Fin 1) r l : S1x256x2048.Idx)
  rw [cut_apply, block_apply m c t b p j r l hb hp hj, read_apply, write_place t b p j r l hb hp hj] at h
  exact h

end Blocks

/-- The array the call leaves, at an index: every index is in some grid point's block. -/
theorem result_apply (c : Dev nD) (b : Fin 4) (p : Fin 1024) (j : Fin 8192) :
    ((dats m 0 c).arrAt 4 cfg0.N : FVec Ideal S4x1024x8192 .f32) (ix3 b p j)
      = distance (sampled m c) (pts m c) (sq m c) (sqSampled m c) b p j := by
  have h0 := b.isLt
  have h1 := p.isLt
  have h2 := j.isLt
  have ht : b.val * 16 + p.val / 256 * 4 + j.val / 2048 < 64 := by omega
  exact result_at m c ⟨b.val * 16 + p.val / 256 * 4 + j.val / 2048, ht⟩ b p j ⟨p.val % 256, by omega⟩ ⟨j.val % 2048, by omega⟩
    (by show (b.val * 16 + p.val / 256 * 4 + j.val / 2048) / 16 = b.val; omega)
    (by show (b.val * 16 + p.val / 256 * 4 + j.val / 2048) / 4 % 4 * 256 + p.val % 256 = p.val; omega)
    (by show (b.val * 16 + p.val / 256 * 4 + j.val / 2048) % 4 * 2048 + j.val % 2048 = j.val; omega)

/-- `_pallas_dist`: the kernel's array is the reference's. -/
theorem algebraic : Cert.algebraic_DistancesIdeal_DistancesReferenceIdeal := fun m g m' g' _ hargs =>
  ⟨fun c => (dats m 0 c).arrAt 4 cfg0.N, Cert.DistancesIdeal.Value.run_blocks m g,
    (θ_run Cert.DistancesReferenceIdeal.defs _ _).mono (fun r h c => ⟨(h c).1.trans (by
      rw [(hargs c).1, (hargs c).2.1, (hargs c).2.2.1, (hargs c).2.2.2]
      funext i
      obtain ⟨b, p, j, rfl⟩ : ∃ (b : Fin 4) (p : Fin 1024) (j : Fin 8192), i = ix3 b p j :=
        ⟨i 0, i 1, i 2, funext fun a => match a with | ⟨0, _⟩ => rfl | ⟨1, _⟩ => rfl | ⟨2, _⟩ => rfl⟩
      exact (reference_apply (sampled m c) (pts m c) (sq m c) (sqSampled m c) b p j).trans (result_apply m c b p j).symm), (h c).2⟩)
      (Cert.DistancesReferenceIdeal.Value.run m' g')⟩

end Cert.Proof.PairDistances

end
-- ==== Proof.lean ====
/-
The proof of `Cert.Claim`.  The run of the SparseCore program is proved once, over any floats, in Proof/Main.lean; the precondition is read
in Proof/Args.lean; the values are compared in Proof/Values.lean.  The TensorCore calls' values are compared in Proof/Squares.lean,
Proof/SquaresSampled.lean and Proof/Distances.lean.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Args
public import proofs.«01_k».proof.Proof.Values
public import proofs.«01_k».proof.Proof.Gen.Squares.Frame
public import proofs.«01_k».proof.Proof.Gen.SquaresSampled.Frame
public import proofs.«01_k».proof.Proof.Gen.Distances.Frame
public import proofs.«01_k».proof.Proof.Squares
public import proofs.«01_k».proof.Proof.SquaresSampled
public import proofs.«01_k».proof.Proof.Distances

@[expose] public section

noncomputable section

namespace Cert.Proof

open Idealize.ShloMosaic Idealize.SL.Sem Cert.Kernel

attribute [local instance] Tiles.argsFacts

set_option maxHeartbeats 4000000 in
/-- The kernel over the machine's floats. -/
theorem frame_kernel : Cert.quiescent_Kernel := fun m ρ hpre =>
  (θ_run Cert.KernelIdeal.defs _ _).mono (fun r h => ⟨fun c => Tiles.args_kept m r h c, h.2⟩) (Tiles.run_args (F := Bits) m ρ hpre)

/-- The kernel over the extended reals. -/
theorem frame_ideal : Cert.quiescent_KernelIdeal := fun m ρ hpre =>
  (θ_run Cert.KernelIdeal.defs _ _).mono (fun r h => ⟨fun c => Tiles.args_kept m r h c, h.2⟩) (Tiles.run_args (F := Ideal) m ρ hpre)

/-- The reference: its generated run; it declares no semaphore. -/
theorem frame_reference : Cert.quiescent_ReferenceIdeal := fun m ρ _ =>
  (θ_run Cert.ReferenceIdeal.defs _ _).mono (fun r h => ⟨fun c => (h c).2.2.2, sem_eq_zero_of_no_sems (by decide) r.2⟩) (Cert.ReferenceIdeal.Value.run m ρ)

/-- The reference for `Squares`: its generated run; it declares no semaphore. -/
theorem frame_SquaresReference : Cert.quiescent_SquaresReferenceIdeal := fun m ρ _ =>
  (θ_run Cert.SquaresReferenceIdeal.defs _ _).mono (fun r h => ⟨fun c => (h c).2, sem_eq_zero_of_no_sems (by decide) r.2⟩)
    (Cert.SquaresReferenceIdeal.Value.run m ρ)

/-- The reference for `SquaresSampled`: its generated run; it declares no semaphore. -/
theorem frame_SquaresSampledReference : Cert.quiescent_SquaresSampledReferenceIdeal := fun m ρ _ =>
  (θ_run Cert.SquaresSampledReferenceIdeal.defs _ _).mono (fun r h => ⟨fun c => (h c).2, sem_eq_zero_of_no_sems (by decide) r.2⟩)
    (Cert.SquaresSampledReferenceIdeal.Value.run m ρ)

/-- The reference for `Distances`: its generated run; it declares no semaphore. -/
theorem frame_DistancesReference : Cert.quiescent_DistancesReferenceIdeal := fun m ρ _ =>
  (θ_run Cert.DistancesReferenceIdeal.defs _ _).mono (fun r h => ⟨fun c => (h c).2, sem_eq_zero_of_no_sems (by decide) r.2⟩)
    (Cert.DistancesReferenceIdeal.Value.run m ρ)

theorem claim : Cert.Claim := ⟨Cert.Kernel.Gen.facts, Cert.KernelIdeal.Gen.facts, Cert.ReferenceIdeal.Gen.facts,
  Cert.Squares.Gen.facts, Cert.SquaresIdeal.Gen.facts, Cert.SquaresReferenceIdeal.Gen.facts,
  Cert.SquaresSampled.Gen.facts, Cert.SquaresSampledIdeal.Gen.facts, Cert.SquaresSampledReferenceIdeal.Gen.facts,
  Cert.Distances.Gen.facts, Cert.DistancesIdeal.Gen.facts, Cert.DistancesReferenceIdeal.Gen.facts,
  Tiles.argsFacts,
  frame_kernel, frame_ideal, frame_reference, fun m ρ _ => frame_reference m ρ trivial,
  fun m ρ _ => Cert.Squares.Gen.frame m ρ, fun m ρ _ => Cert.SquaresIdeal.Gen.frame m ρ, frame_SquaresReference,
  fun m ρ _ => Cert.SquaresSampled.Gen.frame m ρ, fun m ρ _ => Cert.SquaresSampledIdeal.Gen.frame m ρ, frame_SquaresSampledReference,
  fun m ρ _ => Cert.Distances.Gen.frame m ρ, fun m ρ _ => Cert.DistancesIdeal.Gen.frame m ρ, frame_DistancesReference,
  trivial, Tiles.algebraic, trivial, PointSquares.algebraic, trivial, SampledSquares.algebraic, trivial, PairDistances.algebraic⟩

end Cert.Proof

end
